-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v5_0)) (v2 : (c : Dev Cert.Kernel2Ideal.nD) → Buf (Elt Ideal) ((c.tc : Thread Cert.Kernel2Ideal.nD Cert.Kernel2Ideal.τ).loc Cert.Kernel2Ideal.main_v5_4)) (v3 : (c : Dev Cert.Kernel2Ideal.nD) → Buf (Elt Ideal) ((c.tc : Thread Cert.Kernel2Ideal.nD Cert.Kernel2Ideal.τ).loc Cert.Kernel2Ideal.main_v5_5)) (v4 : (c : Dev Cert.Kernel2Ideal.nD) → Buf (Elt Ideal) ((c.tc : Thread Cert.Kernel2Ideal.nD Cert.Kernel2Ideal.τ).loc Cert.Kernel2Ideal.main_v6)) (v5 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v5_0) = v1 c
          ∧ r.2.mem ((c.tc : Thread Cert.Kernel2Ideal.nD Cert.Kernel2Ideal.τ).loc Cert.Kernel2Ideal.main_v5_4) = v2 c
          ∧ r.2.mem ((c.tc : Thread Cert.Kernel2Ideal.nD Cert.Kernel2Ideal.τ).loc Cert.Kernel2Ideal.main_v5_5) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_v7) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v67) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_1)) (v1 : (c : Dev Cert.Kernel3Ideal.nD) → Buf (Elt Ideal) ((c.tc : Thread Cert.Kernel3Ideal.nD Cert.Kernel3Ideal.τ).loc Cert.Kernel3Ideal.main_v8)) (v2 : (c : Dev Cert.Kernel3Ideal.nD) → Buf (Elt Ideal) ((c.tc : Thread Cert.Kernel3Ideal.nD Cert.Kernel3Ideal.τ).loc Cert.Kernel3Ideal.main_v9)) (v3 : (c : Dev Cert.Kernel3Ideal.nD) → Buf (Elt Ideal) ((c.tc : Thread Cert.Kernel3Ideal.nD Cert.Kernel3Ideal.τ).loc Cert.Kernel3Ideal.main_v10)) (v4 : (c : Dev Cert.Kernel3Ideal.nD) → Buf (Elt Ideal) ((c.tc : Thread Cert.Kernel3Ideal.nD Cert.Kernel3Ideal.τ).loc Cert.Kernel3Ideal.main_v4_5)) (v5 : (c : Dev Cert.Kernel3Ideal.nD) → Buf (Elt Ideal) ((c.tc : Thread Cert.Kernel3Ideal.nD Cert.Kernel3Ideal.τ).loc Cert.Kernel3Ideal.main_v4_6)) (v6 : (c : Dev Cert.Kernel3Ideal.nD) → Buf (Elt Ideal) ((c.tc : Thread Cert.Kernel3Ideal.nD Cert.Kernel3Ideal.τ).loc Cert.Kernel3Ideal.main_v4_7)) (v7 : (c : Dev Cert.Kernel3Ideal.nD) → Buf (Elt Ideal) ((c.tc : Thread Cert.Kernel3Ideal.nD Cert.Kernel3Ideal.τ).loc Cert.Kernel3Ideal.main_v4_8)) (v8 : (c : Dev Cert.Kernel3Ideal.nD) → Buf (Elt Ideal) ((c.tc : Thread Cert.Kernel3Ideal.nD Cert.Kernel3Ideal.τ).loc Cert.Kernel3Ideal.main_v7_0)) (v9 : (c : Dev Cert.Kernel3Ideal.nD) → Buf (Elt Ideal) ((c.tc : Thread Cert.Kernel3Ideal.nD Cert.Kernel3Ideal.τ).loc Cert.Kernel3Ideal.main_v7_1)) (v10 : (c : Dev Cert.Kernel3Ideal.nD) → Buf (Elt Ideal) ((c.tc : Thread Cert.Kernel3Ideal.nD Cert.Kernel3Ideal.τ).loc Cert.Kernel3Ideal.main_v11)) (v11 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_1) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_v9) = v2 c
          ∧ r.2.mem ((c.tc : Thread Cert.Kernel3Ideal.nD Cert.Kernel3Ideal.τ).loc Cert.Kernel3Ideal.main_v10) = v3 c
          ∧ r.2.mem ((c.tc : Thread Cert.Kernel3Ideal.nD Cert.Kernel3Ideal.τ).loc Cert.Kernel3Ideal.main_v4_5) = v4 c
          ∧ r.2.mem ((c.tc : Thread Cert.Kernel3Ideal.nD Cert.Kernel3Ideal.τ).loc Cert.Kernel3Ideal.main_v4_6) = v5 c
          ∧ r.2.mem ((c.tc : Thread Cert.Kernel3Ideal.nD Cert.Kernel3Ideal.τ).loc Cert.Kernel3Ideal.main_v4_7) = v6 c
          ∧ r.2.mem ((c.tc : Thread Cert.Kernel3Ideal.nD Cert.Kernel3Ideal.τ).loc Cert.Kernel3Ideal.main_v4_8) = v7 c
          ∧ r.2.mem ((c.tc : Thread Cert.Kernel3Ideal.nD Cert.Kernel3Ideal.τ).loc Cert.Kernel3Ideal.main_v7_0) = v8 c
          ∧ r.2.mem ((c.tc : Thread Cert.Kernel3Ideal.nD Cert.Kernel3Ideal.τ).loc Cert.Kernel3Ideal.main_v7_1) = v9 c
          ∧ r.2.mem ((c.tc : Thread Cert.Kernel3Ideal.nD Cert.Kernel3Ideal.τ).loc Cert.Kernel3Ideal.main_v11) = v10 c
          ∧ r.2.mem ((c.tc : Thread Cert.Kernel3Ideal.nD Cert.Kernel3Ideal.τ).loc Cert.Kernel3Ideal.main_v12) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_v21) = v4 c
          ∧ r.2.mem ((c.tc : Thread Cert.Reference3Ideal.nD Cert.Reference3Ideal.τ).loc Cert.Reference3Ideal.main_v22) = v5 c
          ∧ r.2.mem ((c.tc : Thread Cert.Reference3Ideal.nD Cert.Reference3Ideal.τ).loc Cert.Reference3Ideal.main_v23) = v6 c
          ∧ r.2.mem ((c.tc : Thread Cert.Reference3Ideal.nD Cert.Reference3Ideal.τ).loc Cert.Reference3Ideal.main_v31) = v7 c
          ∧ r.2.mem ((c.tc : Thread Cert.Reference3Ideal.nD Cert.Reference3Ideal.τ).loc Cert.Reference3Ideal.main_v58) = v8 c
          ∧ r.2.mem ((c.tc : Thread Cert.Reference3Ideal.nD Cert.Reference3Ideal.τ).loc Cert.Reference3Ideal.main_v41) = v9 c
          ∧ r.2.mem ((c.tc : Thread Cert.Reference3Ideal.nD Cert.Reference3Ideal.τ).loc Cert.Reference3Ideal.main_v36) = v10 c
          ∧ r.2.mem ((c.tc : Thread Cert.Reference3Ideal.nD Cert.Reference3Ideal.τ).loc Cert.Reference3Ideal.main_v33) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) (main_arg3 : FVec F S16384x512 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : IVec S16384x512 1 := andi main_v6 main_v9
  let main_v11 : FVec F S16384x512 .f32 := Host.absf main_arg3
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_v14 : IVec S16384x512 1 := andi main_v10 main_v13
  main_v14
-- ==== Pre_finite_scores.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  main_v6
-- ==== Kernel.lean ====
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x64x256 : Shape := ⟨4, ![8, 16384, 64, 256]⟩
abbrev S8x16384x128 : Shape := ⟨3, ![8, 16384, 128]⟩
abbrev S64x256x8x64 : Shape := ⟨4, ![64, 256, 8, 64]⟩
abbrev S8x64x64x256 : Shape := ⟨4, ![8, 64, 64, 256]⟩
abbrev S8x64x256x64 : Shape := ⟨4, ![8, 64, 256, 64]⟩
abbrev S1x256x64 : Shape := ⟨3, ![1, 256, 64]⟩
abbrev S1x1x64x256 : Shape := ⟨4, ![1, 1, 64, 256]⟩
abbrev S1x64x64x256 : Shape := ⟨4, ![1, 64, 64, 256]⟩
abbrev S1x64x256x64 : Shape := ⟨4, ![1, 64, 256, 64]⟩
abbrev S1x256x128 : Shape := ⟨3, ![1, 256, 128]⟩
abbrev S256x64 : Shape := ⟨2, ![256, 64]⟩
abbrev S64x256 : Shape := ⟨2, ![64, 256]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x1x256x64 : Shape := ⟨4, ![1, 1, 256, 64]⟩

abbrev nBuf : Space → Nat
  | .hbm => 75
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8x64, .f32⟩
  | .hbm, ⟨5, _⟩ => ⟨S8x16384x64, .f32⟩
  | .hbm, ⟨6, _⟩ => ⟨S16384x8x64, .f32⟩
  | .hbm, ⟨7, _⟩ => ⟨S8x16384x64, .f32⟩
  | .hbm, ⟨8, _⟩ => ⟨S8x16384x16384, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S8x16384x16384, .f32⟩
  | .hbm, ⟨20, _⟩ => ⟨S8x16384x16384, .f32⟩
  | .hbm, ⟨21, _⟩ => ⟨S_, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S8x16384x16384, .i1⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S_, .f32⟩
  | .hbm, ⟨38, _⟩ => ⟨S8x16384x16384, .i1⟩
  | .hbm, ⟨39, _⟩ => ⟨S8x16384x16384, .f32⟩
  | .hbm, ⟨40, _⟩ => ⟨S8x16384x16384, .f32⟩
  | .hbm, ⟨41, _⟩ => ⟨S8x16384x64x256, .f32⟩
  | .hbm, ⟨42, _⟩ => ⟨S_, .f32⟩
  | .hbm, ⟨43, _⟩ => ⟨S8x16384x64, .f32⟩
  | .hbm, ⟨44, _⟩ => ⟨S_, .f32⟩
  | .hbm, ⟨45, _⟩ => ⟨S_, .f32⟩
  | .hbm, ⟨46, _⟩ => ⟨S8x16384x64, .f32⟩
  | .hbm, ⟨47, _⟩ => ⟨S8x16384x64, .f32⟩
  | .hbm, ⟨48, _⟩ => ⟨S_, .i32⟩
  | .hbm, ⟨49, _⟩ => ⟨S_, .f32⟩
  | .hbm, ⟨50, _⟩ => ⟨S8x16384x128, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .bf16⟩
  | .hbm, ⟨55, _⟩ => ⟨S16384x512, .bf16⟩
  | .hbm, ⟨56, _⟩ => ⟨S16384x512, .bf16⟩
  | .hbm, ⟨57, _⟩ => ⟨S16384x512, .bf16⟩
  | .hbm, ⟨58, _⟩ => ⟨S16384x8x64, .bf16⟩
  | .hbm, ⟨59, _⟩ => ⟨S8x16384x64, .bf16⟩
  | .hbm, ⟨60, _⟩ => ⟨S64x256x8x64, .bf16⟩
  | .hbm, ⟨61, _⟩ => ⟨S8x64x64x256, .bf16⟩
  | .hbm, ⟨62, _⟩ => ⟨S16384x8x64, .bf16⟩
  | .hbm, ⟨63, _⟩ => ⟨S8x16384x64, .bf16⟩
  | .hbm, ⟨64, _⟩ => ⟨S64x256x8x64, .bf16⟩
  | .hbm, ⟨65, _⟩ => ⟨S8x64x64x256, .bf16⟩
  | .hbm, ⟨66, _⟩ => ⟨S64x256x8x64, .bf16⟩
  | .hbm, ⟨67, _⟩ => ⟨S8x64x64x256, .bf16⟩
  | .hbm, ⟨68, _⟩ => ⟨S64x256x8x64, .bf16⟩
  | .hbm, ⟨69, _⟩ => ⟨S8x64x256x64, .bf16⟩
  | .hbm, ⟨70, _⟩ => ⟨S64x256x8x64, .bf16⟩
  | .hbm, ⟨71, _⟩ => ⟨S8x64x64x256, .bf16⟩
  | .hbm, ⟨72, _⟩ => ⟨S8x16384x64, .f32⟩
  | .hbm, ⟨73, _⟩ => ⟨S8x64x64x256, .f32⟩
  | .hbm, ⟨74, _⟩ => ⟨S8x64x64x256, .f32⟩
  | .local _ .vmem, ⟨0, _⟩ => ⟨S1x256x64, .bf16⟩
  | .local _ .vmem, ⟨1, _⟩ => ⟨S1x256x64, .bf16⟩
  | .local _ .vmem, ⟨2, _⟩ => ⟨S1x1x64x256, .bf16⟩
  | .local _ .vmem, ⟨3, _⟩ => ⟨S1x1x64x256, .bf16⟩
  | .local _ .vmem, ⟨4, _⟩ => ⟨S1x256x64, .bf16⟩
  | .local _ .vmem, ⟨5, _⟩ => ⟨S1x256x64, .bf16⟩
  | .local _ .vmem, ⟨6, _⟩ => ⟨S1x1x64x256, .bf16⟩
  | .local _ .vmem, ⟨7, _⟩ => ⟨S1x1x64x256, .bf16⟩
  | .local _ .vmem, ⟨8, _⟩ => ⟨S1x64x64x256, .bf16⟩
  | .local _ .vmem, ⟨9, _⟩ => ⟨S1x64x64x256, .bf16⟩
  | .local _ .vmem, ⟨10, _⟩ => ⟨S1x64x256x64, .bf16⟩
  | .local _ .vmem, ⟨11, _⟩ => ⟨S1x64x256x64, .bf16⟩
  | .local _ .vmem, ⟨12, _⟩ => ⟨S1x64x64x256, .bf16⟩
  | .local _ .vmem, ⟨13, _⟩ => ⟨S1x64x64x256, .bf16⟩
  | .local _ .vmem, ⟨14, _⟩ => ⟨S1x256x128, .f32⟩
  | .local _ .vmem, ⟨15, _⟩ => ⟨S1x256x128, .f32⟩
  | .local _ .vmem, ⟨16, _⟩ => ⟨S1x256x64, .f32⟩
  | .local _ .vmem, ⟨17, _⟩ => ⟨S1x256x64, .f32⟩
  | .local _ .vmem, ⟨18, _⟩ => ⟨S1x64x64x256, .f32⟩
  | .local _ .vmem, ⟨19, _⟩ => ⟨S1x64x64x256, .f32⟩
  | .local _ .vmem, ⟨20, _⟩ => ⟨S1x64x64x256, .f32⟩
  | .local _ .vmem, ⟨21, _⟩ => ⟨S1x64x64x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_call2_cst : Ref sig .tc := ⟨.hbm, 44, rfl⟩
abbrev main_call2_v0 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_call3_v0 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_v42_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 64], ![false, false]⟩

@[reducible] def k0_t1_loop (i : grid0.Coords) : Scf.Loop 32 :=
  let c0_i32_23 : BitVec 32 := 0#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_25 : BitVec 32 := 1#32
  ⟨c0_i32_23, v48, c1_i32_25⟩
def k0_off1 (i : grid0.Coords) (k0_t1 : Fin (k0_t1_loop i).trips) (c0_i32_94 : BitVec 32) : Fin 4 → Nat :=
  let c0_100 : Index := 0#32
  let c4_i32_93 : BitVec 32 := 4#32
  let c0_i32_23 : BitVec 32 := 0#32
  let c1_i32_25 : BitVec 32 := 1#32
  let arg13 : BitVec 32 := Scf.iv c0_i32_23 c1_i32_25 k0_t1
  let v177 : BitVec 32 := Scalar.muli c4_i32_93 arg13
  let v178 : BitVec 32 := Scalar.addi v177 c0_i32_94
  let v185 : Index := Scalar.indexCast v178
  let c0_101 : Index := 0#32
  let c0_102 : Index := 0#32
  ![0, v185.toNat, 0, 0]
def k0_off2 (i : grid0.Coords) (k0_t1 : Fin (k0_t1_loop i).trips) (c0_i32_94 : BitVec 32) : Fin 4 → Nat :=
  let c0_175 : Index := 0#32
  let c4_i32_93 : BitVec 32 := 4#32
  let c0_i32_23 : BitVec 32 := 0#32
  let c1_i32_25 : BitVec 32 := 1#32
  let arg13 : BitVec 32 := Scf.iv c0_i32_23 c1_i32_25 k0_t1
  let v177 : BitVec 32 := Scalar.muli c4_i32_93 arg13
  let v178 : BitVec 32 := Scalar.addi v177 c0_i32_94
  let v349 : Index := Scalar.indexCast v178
  let c0_176 : Index := 0#32
  let c0_177 : Index := 0#32
  ![0, v349.toNat, 0, 0]
@[reducible] def k0_t2_loop (i : grid0.Coords) : Scf.Loop 32 :=
  let c0_i32_23 : BitVec 32 := 0#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let v45 : BitVec 32 := Scalar.addi c0_i32_23 v44
  let c1_i32_26 : BitVec 32 := 1#32
  ⟨v48, v45, c1_i32_26⟩
def k0_off3 (i : grid0.Coords) (k0_t2 : Fin (k0_t2_loop i).trips) (c0_i32_94 : BitVec 32) : Fin 4 → Nat :=
  let c0_100 : Index := 0#32
  let c4_i32_93 : BitVec 32 := 4#32
  let c0_i32_23 : BitVec 32 := 0#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg13 : BitVec 32 := Scf.iv v48 c1_i32_26 k0_t2
  let v177 : BitVec 32 := Scalar.muli c4_i32_93 arg13
  let v178 : BitVec 32 := Scalar.addi v177 c0_i32_94
  let v185 : Index := Scalar.indexCast v178
  let c0_101 : Index := 0#32
  let c0_102 : Index := 0#32
  ![0, v185.toNat, 0, 0]
def k0_off4 (i : grid0.Coords) (k0_t2 : Fin (k0_t2_loop i).trips) (c0_i32_94 : BitVec 32) : Fin 4 → Nat :=
  let c0_175 : Index := 0#32
  let c4_i32_93 : BitVec 32 := 4#32
  let c0_i32_23 : BitVec 32 := 0#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v44 : BitVec 32 := Scalar.subi v43 c0_i32_23
  let c1_i32_24 : BitVec 32 := 1#32
  let v46 : BitVec 32 := Scalar.divsi v44 c1_i32_24
  let v47 : BitVec 32 := Scalar.muli v46 c1_i32_24
  let v48 : BitVec 32 := Scalar.addi c0_i32_23 v47
  let c1_i32_26 : BitVec 32 := 1#32
  let arg13 : BitVec 32 := Scf.iv v48 c1_i32_26 k0_t2
  let v177 : BitVec 32 := Scalar.muli c4_i32_93 arg13
  let v178 : BitVec 32 := Scalar.addi v177 c0_i32_94
  let v349 : Index := Scalar.indexCast v178
  let c0_176 : Index := 0#32
  let c0_177 : Index := 0#32
  ![0, v349.toNat, 0, 0]
@[reducible] def k0_t3_loop (i : grid0.Coords) : Scf.Loop 32 :=
  let c0_i32_39 : BitVec 32 := 0#32
  let arg1 : BitVec 32 := BitVec.ofNat 32 (i 1).val
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c0_i32_33 : BitVec 32 := 0#32
  let v62 : BitVec 1 := Scalar.cmpi .sgt v60 c0_i32_33
  let v63 : BitVec 32 := Scalar.extui v62
  let c0_i32_34 : BitVec 32 := 0#32
  let v64 : BitVec 1 := Scalar.cmpi .slt v60 c0_i32_34
  let v65 : BitVec 32 := Scalar.extui v64
  let v66 : BitVec 32 := Scalar.subi v63 v65
  let c2_i32 : BitVec 32 := 2#32
  let c0_i32_35 : BitVec 32 := 0#32
  let v67 : BitVec 1 := Scalar.cmpi .sgt c2_i32 c0_i32_35
  let v68 : BitVec 32 := Scalar.extui v67
  let c0_i32_36 : BitVec 32 := 0#32
  let v69 : BitVec 1 := Scalar.cmpi .slt c2_i32 c0_i32_36
  let v70 : BitVec 32 := Scalar.extui v69
  let v71 : BitVec 32 := Scalar.subi v68 v70
  let v72 : BitVec 1 := Scalar.cmpi .ne v66 v71
  let v73 : BitVec 32 := Scalar.remsi v60 c2_i32
  let c0_i32_37 : BitVec 32 := 0#32
  let v74 : BitVec 1 := Scalar.cmpi .ne v73 c0_i32_37
  let v75 : BitVec 1 := Scalar.andi v72 v74
  let v61 : BitVec 32 := Scalar.divsi v60 c2_i32
  let c1_i32_38 : BitVec 32 := 1#32
  let v76 : BitVec 32 := Scalar.subi v61 c1_i32_38
  let v77 : BitVec 32 := Scalar.select v75 v76 v61
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_41 : BitVec 32 := 1#32
  ⟨c0_i32_39, v82, c1_i32_41⟩
def k0_off5 (i : grid0.Coords) (k0_t3 : Fin (k0_t3_loop i).trips) (c0_i32_95 : BitVec 32) : Fin 4 → Nat :=
  let c0_99 : Index := 0#32
  let c4_i32_93 : BitVec 32 := 4#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v177 : BitVec 32 := Scalar.muli c4_i32_93 v43
  let c2_i32_94 : BitVec 32 := 2#32
  let c0_i32_39 : BitVec 32 := 0#32
  let c1_i32_41 : BitVec 32 := 1#32
  let arg13 : BitVec 32 := Scf.iv c0_i32_39 c1_i32_41 k0_t3
  let v178 : BitVec 32 := Scalar.muli c2_i32_94 arg13
  let v179 : BitVec 32 := Scalar.addi v177 v178
  let v180 : BitVec 32 := Scalar.addi v179 c0_i32_95
  let v185 : Index := Scalar.indexCast v180
  let c0_100 : Index := 0#32
  let c0_101 : Index := 0#32
  ![0, v185.toNat, 0, 0]
def k0_off6 (i : grid0.Coords) (k0_t3 : Fin (k0_t3_loop i).trips) (c0_i32_95 : BitVec 32) : Fin 4 → Nat :=
  let c0_144 : Index := 0#32
  let c4_i32_93 : BitVec 32 := 4#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v177 : BitVec 32 := Scalar.muli c4_i32_93 v43
  let c2_i32_94 : BitVec 32 := 2#32
  let c0_i32_39 : BitVec 32 := 0#32
  let c1_i32_41 : BitVec 32 := 1#32
  let arg13 : BitVec 32 := Scf.iv c0_i32_39 c1_i32_41 k0_t3
  let v178 : BitVec 32 := Scalar.muli c2_i32_94 arg13
  let v179 : BitVec 32 := Scalar.addi v177 v178
  let v180 : BitVec 32 := Scalar.addi v179 c0_i32_95
  let v281 : Index := Scalar.indexCast v180
  let c0_145 : Index := 0#32
  let c0_146 : Index := 0#32
  ![0, v281.toNat, 0, 0]
@[reducible] def k0_t4_loop (i : grid0.Coords) : Scf.Loop 32 :=
  let c0_i32_39 : BitVec 32 := 0#32
  let arg1 : BitVec 32 := BitVec.ofNat 32 (i 1).val
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c0_i32_33 : BitVec 32 := 0#32
  let v62 : BitVec 1 := Scalar.cmpi .sgt v60 c0_i32_33
  let v63 : BitVec 32 := Scalar.extui v62
  let c0_i32_34 : BitVec 32 := 0#32
  let v64 : BitVec 1 := Scalar.cmpi .slt v60 c0_i32_34
  let v65 : BitVec 32 := Scalar.extui v64
  let v66 : BitVec 32 := Scalar.subi v63 v65
  let c2_i32 : BitVec 32 := 2#32
  let c0_i32_35 : BitVec 32 := 0#32
  let v67 : BitVec 1 := Scalar.cmpi .sgt c2_i32 c0_i32_35
  let v68 : BitVec 32 := Scalar.extui v67
  let c0_i32_36 : BitVec 32 := 0#32
  let v69 : BitVec 1 := Scalar.cmpi .slt c2_i32 c0_i32_36
  let v70 : BitVec 32 := Scalar.extui v69
  let v71 : BitVec 32 := Scalar.subi v68 v70
  let v72 : BitVec 1 := Scalar.cmpi .ne v66 v71
  let v73 : BitVec 32 := Scalar.remsi v60 c2_i32
  let c0_i32_37 : BitVec 32 := 0#32
  let v74 : BitVec 1 := Scalar.cmpi .ne v73 c0_i32_37
  let v75 : BitVec 1 := Scalar.andi v72 v74
  let v61 : BitVec 32 := Scalar.divsi v60 c2_i32
  let c1_i32_38 : BitVec 32 := 1#32
  let v76 : BitVec 32 := Scalar.subi v61 c1_i32_38
  let v77 : BitVec 32 := Scalar.select v75 v76 v61
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let v79 : BitVec 32 := Scalar.addi c0_i32_39 v78
  let c1_i32_42 : BitVec 32 := 1#32
  ⟨v82, v79, c1_i32_42⟩
def k0_off7 (i : grid0.Coords) (k0_t4 : Fin (k0_t4_loop i).trips) (c0_i32_95 : BitVec 32) : Fin 4 → Nat :=
  let c0_99 : Index := 0#32
  let c4_i32_93 : BitVec 32 := 4#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v177 : BitVec 32 := Scalar.muli c4_i32_93 v43
  let c2_i32_94 : BitVec 32 := 2#32
  let c0_i32_39 : BitVec 32 := 0#32
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c0_i32_33 : BitVec 32 := 0#32
  let v62 : BitVec 1 := Scalar.cmpi .sgt v60 c0_i32_33
  let v63 : BitVec 32 := Scalar.extui v62
  let c0_i32_34 : BitVec 32 := 0#32
  let v64 : BitVec 1 := Scalar.cmpi .slt v60 c0_i32_34
  let v65 : BitVec 32 := Scalar.extui v64
  let v66 : BitVec 32 := Scalar.subi v63 v65
  let c2_i32 : BitVec 32 := 2#32
  let c0_i32_35 : BitVec 32 := 0#32
  let v67 : BitVec 1 := Scalar.cmpi .sgt c2_i32 c0_i32_35
  let v68 : BitVec 32 := Scalar.extui v67
  let c0_i32_36 : BitVec 32 := 0#32
  let v69 : BitVec 1 := Scalar.cmpi .slt c2_i32 c0_i32_36
  let v70 : BitVec 32 := Scalar.extui v69
  let v71 : BitVec 32 := Scalar.subi v68 v70
  let v72 : BitVec 1 := Scalar.cmpi .ne v66 v71
  let v73 : BitVec 32 := Scalar.remsi v60 c2_i32
  let c0_i32_37 : BitVec 32 := 0#32
  let v74 : BitVec 1 := Scalar.cmpi .ne v73 c0_i32_37
  let v75 : BitVec 1 := Scalar.andi v72 v74
  let v61 : BitVec 32 := Scalar.divsi v60 c2_i32
  let c1_i32_38 : BitVec 32 := 1#32
  let v76 : BitVec 32 := Scalar.subi v61 c1_i32_38
  let v77 : BitVec 32 := Scalar.select v75 v76 v61
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg13 : BitVec 32 := Scf.iv v82 c1_i32_42 k0_t4
  let v178 : BitVec 32 := Scalar.muli c2_i32_94 arg13
  let v179 : BitVec 32 := Scalar.addi v177 v178
  let v180 : BitVec 32 := Scalar.addi v179 c0_i32_95
  let v185 : Index := Scalar.indexCast v180
  let c0_100 : Index := 0#32
  let c0_101 : Index := 0#32
  ![0, v185.toNat, 0, 0]
def k0_off8 (i : grid0.Coords) (k0_t4 : Fin (k0_t4_loop i).trips) (c0_i32_95 : BitVec 32) : Fin 4 → Nat :=
  let c0_144 : Index := 0#32
  let c4_i32_93 : BitVec 32 := 4#32
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .slt arg1 c0_i32_19
  let v31 : BitVec 32 := Scalar.extui v30
  let v32 : BitVec 32 := Scalar.subi v29 v31
  let c4_i32 : BitVec 32 := 4#32
  let c0_i32_20 : BitVec 32 := 0#32
  let v33 : BitVec 1 := Scalar.cmpi .sgt c4_i32 c0_i32_20
  let v34 : BitVec 32 := Scalar.extui v33
  let c0_i32_21 : BitVec 32 := 0#32
  let v35 : BitVec 1 := Scalar.cmpi .slt c4_i32 c0_i32_21
  let v36 : BitVec 32 := Scalar.extui v35
  let v37 : BitVec 32 := Scalar.subi v34 v36
  let v38 : BitVec 1 := Scalar.cmpi .ne v32 v37
  let v39 : BitVec 32 := Scalar.remsi arg1 c4_i32
  let c0_i32_22 : BitVec 32 := 0#32
  let v40 : BitVec 1 := Scalar.cmpi .ne v39 c0_i32_22
  let v41 : BitVec 1 := Scalar.andi v38 v40
  let v27 : BitVec 32 := Scalar.divsi arg1 c4_i32
  let c1_i32 : BitVec 32 := 1#32
  let v42 : BitVec 32 := Scalar.subi v27 c1_i32
  let v43 : BitVec 32 := Scalar.select v41 v42 v27
  let v177 : BitVec 32 := Scalar.muli c4_i32_93 v43
  let c2_i32_94 : BitVec 32 := 2#32
  let c0_i32_39 : BitVec 32 := 0#32
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c0_i32_33 : BitVec 32 := 0#32
  let v62 : BitVec 1 := Scalar.cmpi .sgt v60 c0_i32_33
  let v63 : BitVec 32 := Scalar.extui v62
  let c0_i32_34 : BitVec 32 := 0#32
  let v64 : BitVec 1 := Scalar.cmpi .slt v60 c0_i32_34
  let v65 : BitVec 32 := Scalar.extui v64
  let v66 : BitVec 32 := Scalar.subi v63 v65
  let c2_i32 : BitVec 32 := 2#32
  let c0_i32_35 : BitVec 32 := 0#32
  let v67 : BitVec 1 := Scalar.cmpi .sgt c2_i32 c0_i32_35
  let v68 : BitVec 32 := Scalar.extui v67
  let c0_i32_36 : BitVec 32 := 0#32
  let v69 : BitVec 1 := Scalar.cmpi .slt c2_i32 c0_i32_36
  let v70 : BitVec 32 := Scalar.extui v69
  let v71 : BitVec 32 := Scalar.subi v68 v70
  let v72 : BitVec 1 := Scalar.cmpi .ne v66 v71
  let v73 : BitVec 32 := Scalar.remsi v60 c2_i32
  let c0_i32_37 : BitVec 32 := 0#32
  let v74 : BitVec 1 := Scalar.cmpi .ne v73 c0_i32_37
  let v75 : BitVec 1 := Scalar.andi v72 v74
  let v61 : BitVec 32 := Scalar.divsi v60 c2_i32
  let c1_i32_38 : BitVec 32 := 1#32
  let v76 : BitVec 32 := Scalar.subi v61 c1_i32_38
  let v77 : BitVec 32 := Scalar.select v75 v76 v61
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg13 : BitVec 32 := Scf.iv v82 c1_i32_42 k0_t4
  let v178 : BitVec 32 := Scalar.muli c2_i32_94 arg13
  let v179 : BitVec 32 := Scalar.addi v177 v178
  let v180 : BitVec 32 := Scalar.addi v179 c0_i32_95
  let v281 : Index := Scalar.indexCast v180
  let c0_145 : Index := 0#32
  let c0_146 : Index := 0#32
  ![0, v281.toNat, 0, 0]
@[reducible] def k0_t5_loop (i : grid0.Coords) : Scf.Loop 32 :=
  let c0_i32_49 : BitVec 32 := 0#32
  let arg1 : BitVec 32 := BitVec.ofNat 32 (i 1).val
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c2_i32_43 : BitVec 32 := 2#32
  let c0_i32_44 : BitVec 32 := 0#32
  let v85 : BitVec 1 := Scalar.cmpi .eq c2_i32_43 c0_i32_44
  let c1_i32_45 : BitVec 32 := 1#32
  let v86 : BitVec 32 := Scalar.select v85 c1_i32_45 c2_i32_43
  let v87 : BitVec 32 := Scalar.remsi v60 v86
  let c0_i32_47 : BitVec 32 := 0#32
  let v89 : BitVec 1 := Scalar.cmpi .slt v87 c0_i32_47
  let c0_i32_48 : BitVec 32 := 0#32
  let v90 : BitVec 1 := Scalar.cmpi .slt v86 c0_i32_48
  let v91 : BitVec 1 := Scalar.xori v89 v90
  let c0_i32_46 : BitVec 32 := 0#32
  let v88 : BitVec 1 := Scalar.cmpi .ne v87 c0_i32_46
  let v92 : BitVec 1 := Scalar.andi v91 v88
  let v93 : BitVec 32 := Scalar.addi v87 v86
  let v94 : BitVec 32 := Scalar.select v92 v93 v87
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_51 : BitVec 32 := 1#32
  ⟨c0_i32_49, v99, c1_i32_51⟩
def k0_off9 (i : grid0.Coords) : Fin 4 → Nat :=
  let c0_94 : Index := 0#32
  let arg1 : BitVec 32 := BitVec.ofNat 32 (i 1).val
  let c1_i32_93 : BitVec 32 := 1#32
  let v177 : BitVec 32 := Scalar.subi arg1 c1_i32_93
  let v178 : Index := Scalar.indexCast v177
  let c0_95 : Index := 0#32
  let c0_96 : Index := 0#32
  ![0, v178.toNat, 0, 0]
def k0_off10 (i : grid0.Coords) : Fin 4 → Nat :=
  let c0_124 : Index := 0#32
  let arg1 : BitVec 32 := BitVec.ofNat 32 (i 1).val
  let c1_i32_93 : BitVec 32 := 1#32
  let v177 : BitVec 32 := Scalar.subi arg1 c1_i32_93
  let v240 : Index := Scalar.indexCast v177
  let c0_125 : Index := 0#32
  let c0_126 : Index := 0#32
  ![0, v240.toNat, 0, 0]
@[reducible] def k0_t6_loop (i : grid0.Coords) : Scf.Loop 32 :=
  let c0_i32_49 : BitVec 32 := 0#32
  let arg1 : BitVec 32 := BitVec.ofNat 32 (i 1).val
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi arg1 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c2_i32_43 : BitVec 32 := 2#32
  let c0_i32_44 : BitVec 32 := 0#32
  let v85 : BitVec 1 := Scalar.cmpi .eq c2_i32_43 c0_i32_44
  let c1_i32_45 : BitVec 32 := 1#32
  let v86 : BitVec 32 := Scalar.select v85 c1_i32_45 c2_i32_43
  let v87 : BitVec 32 := Scalar.remsi v60 v86
  let c0_i32_47 : BitVec 32 := 0#32
  let v89 : BitVec 1 := Scalar.cmpi .slt v87 c0_i32_47
  let c0_i32_48 : BitVec 32 := 0#32
  let v90 : BitVec 1 := Scalar.cmpi .slt v86 c0_i32_48
  let v91 : BitVec 1 := Scalar.xori v89 v90
  let c0_i32_46 : BitVec 32 := 0#32
  let v88 : BitVec 1 := Scalar.cmpi .ne v87 c0_i32_46
  let v92 : BitVec 1 := Scalar.andi v91 v88
  let v93 : BitVec 32 := Scalar.addi v87 v86
  let v94 : BitVec 32 := Scalar.select v92 v93 v87
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let v96 : BitVec 32 := Scalar.addi c0_i32_49 v95
  let c1_i32_52 : BitVec 32 := 1#32
  ⟨v99, v96, c1_i32_52⟩
def k0_off11 (i : grid0.Coords) : Fin 4 → Nat :=
  let c0_94 : Index := 0#32
  let arg1 : BitVec 32 := BitVec.ofNat 32 (i 1).val
  let c1_i32_93 : BitVec 32 := 1#32
  let v177 : BitVec 32 := Scalar.subi arg1 c1_i32_93
  let v178 : Index := Scalar.indexCast v177
  let c0_95 : Index := 0#32
  let c0_96 : Index := 0#32
  ![0, v178.toNat, 0, 0]
def k0_off12 (i : grid0.Coords) : Fin 4 → Nat :=
  let c0_124 : Index := 0#32
  let arg1 : BitVec 32 := BitVec.ofNat 32 (i 1).val
  let c1_i32_93 : BitVec 32 := 1#32
  let v177 : BitVec 32 := Scalar.subi arg1 c1_i32_93
  let v240 : Index := Scalar.indexCast v177
  let c0_125 : Index := 0#32
  let c0_126 : Index := 0#32
  ![0, v240.toNat, 0, 0]
def k0_off13 (i : grid0.Coords) : Fin 4 → Nat :=
  let c0_53 : Index := 0#32
  let arg1 : BitVec 32 := BitVec.ofNat 32 (i 1).val
  let v102 : Index := Scalar.indexCast arg1
  let c0_54 : Index := 0#32
  let c0_55 : Index := 0#32
  ![0, v102.toNat, 0, 0]
def k0_off14 (i : grid0.Coords) : Fin 4 → Nat :=
  let c0_85 : Index := 0#32
  let arg1 : BitVec 32 := BitVec.ofNat 32 (i 1).val
  let v167 : Index := Scalar.indexCast arg1
  let c0_86 : Index := 0#32
  let c0_87 : Index := 0#32
  ![0, v167.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S64x256x8x64 : Shape := ⟨4, ![64, 256, 8, 64]⟩
abbrev S8x64x64x256 : Shape := ⟨4, ![8, 64, 64, 256]⟩

abbrev nBuf : Space → Nat
  | .hbm => 183
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x8x64, .f32⟩
  | 5 => ⟨S8x16384x64, .f32⟩
  | 6 => ⟨S16384x8x64, .f32⟩
  | 7 => ⟨S8x16384x64, .f32⟩
  | 8 => ⟨S8x16384x16384, .f32⟩
  | 9 => ⟨S_, .f32⟩
  | 10 => ⟨S8x16384x16384, .f32⟩
  | 11 => ⟨S8x16384x16384, .f32⟩
  | 12 => ⟨S16384, .i32⟩
  | 13 => ⟨S1x16384, .i32⟩
  | 14 => ⟨S16384, .i32⟩
  | 15 => ⟨S16384x1, .i32⟩
  | 16 => ⟨S16384x16384, .i32⟩
  | 17 => ⟨S16384x16384, .i32⟩
  | 18 => ⟨S16384x16384, .i1⟩
  | 19 => ⟨S8x16384x16384, .f32⟩
  | 20 => ⟨S8x16384x16384, .f32⟩
  | 21 => ⟨S_, .f32⟩
  | 22 => ⟨S8x16384x16384, .f32⟩
  | 23 => ⟨S8x16384x16384, .f32⟩
  | 24 => ⟨S8x16384x16384, .f32⟩
  | 25 => ⟨S8x16384x16384, .f32⟩
  | 26 => ⟨S8x16384x16384, .i1⟩
  | 27 => ⟨S8x16384x16384, .f32⟩
  | 28 => ⟨S8x16384x16384, .f32⟩
  | 29 => ⟨S8x16384x16384, .f32⟩
  | 30 => ⟨S8x16384x16384, .f32⟩
  | 31 => ⟨S8x16384x16384, .f32⟩
  | 32 => ⟨S8x16384x16384, .f32⟩
  | 33 => ⟨S8x16384x16384, .f32⟩
  | 34 => ⟨S8x16384x16384, .f32⟩
  | 35 => ⟨S_, .f32⟩
  | 36 => ⟨S8x16384x16384, .f32⟩
  | 37 => ⟨S8x16384x16384, .i1⟩
  | 38 => ⟨S_, .f32⟩
  | 39 => ⟨S8x16384x16384, .f32⟩
  | 40 => ⟨S8x16384x16384, .f32⟩
  | 41 => ⟨S_, .f32⟩
  | 42 => ⟨S8x16384x16384, .f32⟩
  | 43 => ⟨S8x16384x16384, .i1⟩
  | 44 => ⟨S_, .f32⟩
  | 45 => ⟨S8x16384x16384, .f32⟩
  | 46 => ⟨S8x16384x16384, .f32⟩
  | 47 => ⟨S8x16384x16384, .f32⟩
  | 48 => ⟨S8x16384x16384, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x16384x16384, .f32⟩
  | 57 => ⟨S8x16384x16384, .i1⟩
  | 58 => ⟨S_, .f32⟩
  | 59 => ⟨S8x16384x16384, .f32⟩
  | 60 => ⟨S8x16384x16384, .f32⟩
  | 61 => ⟨S8x16384x16384, .f32⟩
  | 62 => ⟨S8x16384x16384, .f32⟩
  | 63 => ⟨S8x16384x16384, .f32⟩
  | 64 => ⟨S_, .f32⟩
  | 65 => ⟨S8x16384x16384, .f32⟩
  | 66 => ⟨S8x16384x16384, .f32⟩
  | 67 => ⟨S8x16384x16384, .f32⟩
  | 68 => ⟨S_, .f32⟩
  | 69 => ⟨S_, .f32⟩
  | 70 => ⟨S8x16384x16384, .i1⟩
  | 71 => ⟨S8x16384x16384, .f32⟩
  | 72 => ⟨S8x16384x16384, .f32⟩
  | 73 => ⟨S_, .f32⟩
  | 74 => ⟨S8x16384x16384, .f32⟩
  | 75 => ⟨S_, .f32⟩
  | 76 => ⟨S_, .f32⟩
  | 77 => ⟨S8x16384x16384, .f32⟩
  | 78 => ⟨S8x16384x16384, .f32⟩
  | 79 => ⟨S8x16384x16384, .f32⟩
  | 80 => ⟨S_, .f32⟩
  | 81 => ⟨S8x16384x16384, .f32⟩
  | 82 => ⟨S8x16384x16384, .f32⟩
  | 83 => ⟨S8x16384x16384, .f32⟩
  | 84 => ⟨S8x16384x16384, .f32⟩
  | 85 => ⟨S8x16384x16384, .i1⟩
  | 86 => ⟨S8x16384x16384, .f32⟩
  | 87 => ⟨S8x16384x16384, .f32⟩
  | 88 => ⟨S8x16384x16384, .f32⟩
  | 89 => ⟨S8x16384x16384, .f32⟩
  | 90 => ⟨S8x16384x16384, .f32⟩
  | 91 => ⟨S8x16384x16384, .f32⟩
  | 92 => ⟨S8x16384x16384, .f32⟩
  | 93 => ⟨S8x16384x16384, .f32⟩
  | 94 => ⟨S_, .f32⟩
  | 95 => ⟨S8x16384x16384, .f32⟩
  | 96 => ⟨S8x16384x16384, .i1⟩
  | 97 => ⟨S_, .f32⟩
  | 98 => ⟨S8x16384x16384, .f32⟩
  | 99 => ⟨S8x16384x16384, .f32⟩
  | 100 => ⟨S_, .f32⟩
  | 101 => ⟨S8x16384x16384, .f32⟩
  | 102 => ⟨S8x16384x16384, .i1⟩
  | 103 => ⟨S_, .f32⟩
  | 104 => ⟨S8x16384x16384, .f32⟩
  | 105 => ⟨S8x16384x16384, .f32⟩
  | 106 => ⟨S8x16384x16384, .f32⟩
  | 107 => ⟨S8x16384x16384, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S8x16384x16384, .f32⟩
  | 116 => ⟨S8x16384x16384, .i1⟩
  | 117 => ⟨S_, .f32⟩
  | 118 => ⟨S8x16384x16384, .f32⟩
  | 119 => ⟨S8x16384x16384, .f32⟩
  | 120 => ⟨S8x16384x16384, .f32⟩
  | 121 => ⟨S8x16384x16384, .f32⟩
  | 122 => ⟨S8x16384x16384, .f32⟩
  | 123 => ⟨S_, .f32⟩
  | 124 => ⟨S8x16384x16384, .f32⟩
  | 125 => ⟨S8x16384x16384, .f32⟩
  | 126 => ⟨S8x16384x16384, .f32⟩
  | 127 => ⟨S8x16384x16384, .f32⟩
  | _ => ⟨S16384x512, .f32⟩

abbrev hbmTy0_1 (i : Nat) : BufTy := match i % 128 with
  | 0 => ⟨S8x16384x16384, .f32⟩
  | 1 => ⟨S_, .f32⟩
  | 2 => ⟨S_, .f32⟩
  | 3 => ⟨S8x16384x16384, .i1⟩
  | 4 => ⟨S8x16384x16384, .f32⟩
  | 5 => ⟨S8x16384x16384, .f32⟩
  | 6 => ⟨S_, .f32⟩
  | 7 => ⟨S8x16384x16384, .f32⟩
  | 8 => ⟨S16384x8x64, .f32⟩
  | 9 => ⟨S8x16384x64, .f32⟩
  | 10 => ⟨S8x16384x64, .f32⟩
  | 11 => ⟨S16384x8x64, .f32⟩
  | 12 => ⟨S16384x512, .f32⟩
  | 13 => ⟨S16384x8x64, .f32⟩
  | 14 => ⟨S8x16384x64, .f32⟩
  | 15 => ⟨S8x64x16384, .f32⟩
  | 16 => ⟨S8x16384x64, .f32⟩
  | 17 => ⟨S8x16384x16384, .f32⟩
  | 18 => ⟨S16384x8x64, .f32⟩
  | 19 => ⟨S16384x512, .f32⟩
  | 20 => ⟨S_, .f32⟩
  | 21 => ⟨S8x16384x16384, .f32⟩
  | 22 => ⟨S8x16384x16384, .f32⟩
  | 23 => ⟨S8x16384x16384, .f32⟩
  | 24 => ⟨S8x16384x16384, .f32⟩
  | 25 => ⟨S8x16384x16384, .f32⟩
  | 26 => ⟨S8x16384x16384, .f32⟩
  | 27 => ⟨S8x16384x16384, .f32⟩
  | 28 => ⟨S_, .f32⟩
  | 29 => ⟨S_, .f32⟩
  | 30 => ⟨S8x16384x16384, .f32⟩
  | 31 => ⟨S8x16384x16384, .f32⟩
  | 32 => ⟨S_, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S_, .f32⟩
  | 41 => ⟨S8x16384x16384, .f32⟩
  | 42 => ⟨S8x16384x16384, .f32⟩
  | 43 => ⟨S8x16384x64, .f32⟩
  | 44 => ⟨S8x16384x64, .f32⟩
  | 45 => ⟨S16384x8x64, .f32⟩
  | 46 => ⟨S16384x512, .f32⟩
  | 47 => ⟨S16384x8x64, .f32⟩
  | 48 => ⟨S16384x512, .f32⟩
  | 49 => ⟨S16384x8x64, .f32⟩
  | 50 => ⟨S8x16384x64, .f32⟩
  | 51 => ⟨S64x256x8x64, .f32⟩
  | 52 => ⟨S8x64x64x256, .f32⟩
  | 53 => ⟨S64x256x8x64, .f32⟩
  | 54 => ⟨S8x64x64x256, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v15_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v15_2 : Ref sig .tc := ⟨.hbm, 66, rfl⟩
abbrev main_v15_0 : Ref sig .tc := ⟨.hbm, 67, rfl⟩
abbrev main_cst_0 : Ref sig .tc := ⟨.hbm, 68, rfl⟩
abbrev main_call1_v0 : Ref sig .tc := ⟨.hbm, 69, rfl⟩
abbrev main_v16_1 : Ref sig .tc := ⟨.hbm, 70, rfl⟩
abbrev main_call1_v2 : Ref sig .tc := ⟨.hbm, 71, rfl⟩
abbrev main_v16_0 : Ref sig .tc := ⟨.hbm, 72, rfl⟩
abbrev main_call1_cst : Ref sig .tc := ⟨.hbm, 73, rfl⟩
abbrev main_v16_2 : Ref sig .tc := ⟨.hbm, 74, rfl⟩
abbrev main_call2_cst : Ref sig .tc := ⟨.hbm, 75, rfl⟩
abbrev main_call2_v0 : Ref sig .tc := ⟨.hbm, 76, rfl⟩
abbrev main_v17 : Ref sig .tc := ⟨.hbm, 77, rfl⟩
abbrev main_v18 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v19_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v19_2 : Ref sig .tc := ⟨.hbm, 125, rfl⟩
abbrev main_v19_0 : Ref sig .tc := ⟨.hbm, 126, rfl⟩
abbrev main_v20 : Ref sig .tc := ⟨.hbm, 127, rfl⟩
abbrev main_v21 : Ref sig .tc := ⟨.hbm, 128, rfl⟩
abbrev main_cst_1 : Ref sig .tc := ⟨.hbm, 129, rfl⟩
abbrev main_call4_v0 : Ref sig .tc := ⟨.hbm, 130, rfl⟩
abbrev main_v22_1 : Ref sig .tc := ⟨.hbm, 131, rfl⟩
abbrev main_call4_v2 : Ref sig .tc := ⟨.hbm, 132, rfl⟩
abbrev main_v22_0 : Ref sig .tc := ⟨.hbm, 133, rfl⟩
abbrev main_call4_cst : Ref sig .tc := ⟨.hbm, 134, rfl⟩
abbrev main_v22_2 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call5_cst : Ref sig .tc := ⟨.hbm, 148, rfl⟩
abbrev main_call5_v0 : Ref sig .tc := ⟨.hbm, 149, rfl⟩
abbrev main_v35 : Ref sig .tc := ⟨.hbm, 150, rfl⟩
abbrev main_v36 : Ref sig .tc := ⟨.hbm, 151, rfl⟩
abbrev main_call6_v0 : Ref sig .tc := ⟨.hbm, 152, rfl⟩
abbrev main_call6_v1 : Ref sig .tc := ⟨.hbm, 153, rfl⟩
abbrev main_v37 : Ref sig .tc := ⟨.hbm, 154, rfl⟩
abbrev main_v38 : Ref sig .tc := ⟨.hbm, 155, rfl⟩
abbrev main_call7_cst : Ref sig .tc := ⟨.hbm, 156, rfl⟩
abbrev main_call7_v0 : Ref sig .tc := ⟨.hbm, 157, rfl⟩
abbrev main_v39 : Ref sig .tc := ⟨.hbm, 158, rfl⟩
abbrev main_v40 : Ref sig .tc := ⟨.hbm, 159, rfl⟩
abbrev main_call8_cst : Ref sig .tc := ⟨.hbm, 160, rfl⟩
abbrev main_call8_v0 : Ref sig .tc := ⟨.hbm, 161, rfl⟩
abbrev main_v41 : Ref sig .tc := ⟨.hbm, 162, rfl⟩
abbrev main_call9_v0 : Ref sig .tc := ⟨.hbm, 163, rfl⟩
abbrev main_call9_v1 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S16384x4096 : Shape := ⟨2, ![16384, 4096]⟩
abbrev S1024 : Shape := ⟨1, ![1024]⟩
abbrev S1024x1024 : Shape := ⟨2, ![1024, 1024]⟩

abbrev nBuf : Space → Nat
  | .hbm => 21
  | .vmem => 47
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S4096x1024, .bf16⟩
  | .hbm, ⟨12, _⟩ => ⟨S1024x4096, .bf16⟩
  | .hbm, ⟨13, _⟩ => ⟨S16384x1024, .f32⟩
  | .hbm, ⟨14, _⟩ => ⟨S16384x4096, .bf16⟩
  | .hbm, ⟨15, _⟩ => ⟨S16384x4096, .bf16⟩
  | .hbm, ⟨16, _⟩ => ⟨S16384x1024, .bf16⟩
  | .hbm, ⟨17, _⟩ => ⟨S1x1024, .f32⟩
  | .hbm, ⟨18, _⟩ => ⟨S1x1024, .f32⟩
  | .hbm, ⟨19, _⟩ => ⟨S1024x4096, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1024x4096, .bf16⟩
  | .local _ .vmem, ⟨25, _⟩ => ⟨S256x1024, .f32⟩
  | .local _ .vmem, ⟨26, _⟩ => ⟨S256x1024, .f32⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S256x4096, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S1x1024, .f32⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x1024, .bf16⟩
  | .local _ .vmem, ⟨45, _⟩ => ⟨S1024x1024, .f32⟩
  | .local _ .vmem, ⟨46, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg14_0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem14_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x4096 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨3, ![1, 4, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .i1⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S1024x4096, .f32⟩
  | .hbm, ⟨84, _⟩ => ⟨S4096x1024, .f32⟩
  | .hbm, ⟨85, _⟩ => ⟨S16384x4096, .f32⟩
  | .hbm, ⟨86, _⟩ => ⟨S16384x4096, .f32⟩
  | .hbm, ⟨87, _⟩ => ⟨S_, .f32⟩
  | .hbm, ⟨88, _⟩ => ⟨S16384x4096, .f32⟩
  | .hbm, ⟨89, _⟩ => ⟨S16384x4096, .f32⟩
  | .hbm, ⟨90, _⟩ => ⟨S4096x1024, .f32⟩
  | .hbm, ⟨91, _⟩ => ⟨S1024x4096, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S_, .f32⟩
  | .hbm, ⟨111, _⟩ => ⟨S16384, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_17 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2560 : Shape := ⟨2, ![1024, 2560]⟩
abbrev S1024x3072 : Shape := ⟨2, ![1024, 3072]⟩
abbrev S1x3072 : Shape := ⟨2, ![1, 3072]⟩
abbrev S16384x2560 : Shape := ⟨2, ![16384, 2560]⟩
abbrev S16384x3072 : Shape := ⟨2, ![16384, 3072]⟩
abbrev S16384x256 : Shape := ⟨2, ![16384, 256]⟩
abbrev S16384x512 : Shape := ⟨2, ![16384, 512]⟩
abbrev S256x1024 : Shape := ⟨2, ![256, 1024]⟩
abbrev S256x256 : Shape := ⟨2, ![256, 256]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S256x2560 : Shape := ⟨2, ![256, 2560]⟩
abbrev S2560x1024 : Shape := ⟨2, ![2560, 1024]⟩
abbrev S3072x1024 : Shape := ⟨2, ![3072, 1024]⟩
abbrev S1024 : Shape := ⟨1, ![1024]⟩
abbrev S1024x1024 : Shape := ⟨2, ![1024, 1024]⟩
abbrev S1024x512 : Shape := ⟨2, ![1024, 512]⟩

abbrev nBuf : Space → Nat
  | .hbm => 30
  | .vmem => 50
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S1024x3072, .f32⟩
  | .hbm, ⟨4, _⟩ => ⟨S1x3072, .f32⟩
  | .hbm, ⟨5, _⟩ => ⟨S16384x2560, .f32⟩
  | .hbm, ⟨6, _⟩ => ⟨S16384x3072, .f32⟩
  | .hbm, ⟨7, _⟩ => ⟨S16384x1024, .f32⟩
  | .hbm, ⟨8, _⟩ => ⟨S1024x2560, .bf16⟩
  | .hbm, ⟨9, _⟩ => ⟨S1024x3072, .bf16⟩
  | .hbm, ⟨10, _⟩ => ⟨S16384x2560, .bf16⟩
  | .hbm, ⟨11, _⟩ => ⟨S16384x3072, .bf16⟩
  | .hbm, ⟨12, _⟩ => ⟨S16384x1024, .bf16⟩
  | .hbm, ⟨13, _⟩ => ⟨S16384x256, .f32⟩
  | .hbm, ⟨14, _⟩ => ⟨S16384x512, .bf16⟩
  | .hbm, ⟨15, _⟩ => ⟨S16384x512, .bf16⟩
  | .hbm, ⟨16, _⟩ => ⟨S16384x512, .bf16⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x3072, .f32⟩
  | .hbm, ⟨21, _⟩ => ⟨S2560x1024, .bf16⟩
  | .hbm, ⟨22, _⟩ => ⟨S3072x1024, .bf16⟩
  | .hbm, ⟨23, _⟩ => ⟨S16384x1024, .f32⟩
  | .hbm, ⟨24, _⟩ => ⟨S1x1024, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1024x2560, .f32⟩
  | .hbm, ⟨29, _⟩ => ⟨S1024x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2560, .bf16⟩
  | .local _ .vmem, ⟨4, _⟩ => ⟨S1024x3072, .bf16⟩
  | .local _ .vmem, ⟨5, _⟩ => ⟨S1x3072, .f32⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x3072, .f32⟩
  | .local _ .vmem, ⟨23, _⟩ => ⟨S256x3072, .f32⟩
  | .local _ .vmem, ⟨24, _⟩ => ⟨S256x2560, .bf16⟩
  | .local _ .vmem, ⟨25, _⟩ => ⟨S256x2560, .bf16⟩
  | .local _ .vmem, ⟨26, _⟩ => ⟨S256x3072, .bf16⟩
  | .local _ .vmem, ⟨27, _⟩ => ⟨S256x3072, .bf16⟩
  | .local _ .vmem, ⟨28, _⟩ => ⟨S2560x1024, .bf16⟩
  | .local _ .vmem, ⟨29, _⟩ => ⟨S3072x1024, .bf16⟩
  | .local _ .vmem, ⟨30, _⟩ => ⟨S256x1024, .f32⟩
  | .local _ .vmem, ⟨31, _⟩ => ⟨S256x1024, .f32⟩
  | .local _ .vmem, ⟨32, _⟩ => ⟨S1x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S1x1024, .f32⟩
  | .local _ .vmem, ⟨38, _⟩ => ⟨S1024x1024, .bf16⟩
  | .local _ .vmem, ⟨39, _⟩ => ⟨S1024x1024, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .f32⟩
  | .local _ .vmem, ⟨43, _⟩ => ⟨S1024x512, .f32⟩
  | .local _ .vmem, ⟨44, _⟩ => ⟨S1024x1024, .bf16⟩
  | .local _ .vmem, ⟨45, _⟩ => ⟨S1024x1024, .bf16⟩
  | .local _ .vmem, ⟨46, _⟩ => ⟨S1024x1024, .bf16⟩
  | .local _ .vmem, ⟨47, _⟩ => ⟨S1024x1024, .bf16⟩
  | .local _ .vmem, ⟨48, _⟩ => ⟨S1024x1024, .f32⟩
  | .local _ .vmem, ⟨49, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg6_1 : Ref sig .tc := ⟨.vmem, 34, rfl⟩
abbrev cc1_stg7_0 : Ref sig .tc := ⟨.vmem, 35, rfl⟩
abbrev cc1_stg7_1 : Ref sig .tc := ⟨.vmem, 36, rfl⟩
abbrev cc1_stg8_0 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem6_1 : DmaSem sig := 34
abbrev cc1_sem7_0 : DmaSem sig := 35
abbrev cc1_sem7_1 : DmaSem sig := 36
abbrev cc1_sem8_0 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2560x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨3, ![1, 5, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 3, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference3Ideal.lean ====
abbrev S16384x1024 : Shape := ⟨2, ![16384, 1024]⟩
abbrev S1x1024 : Shape := ⟨2, ![1, 1024]⟩
abbrev S1024x2560 : Shape := ⟨2, ![1024, 2560]⟩
abbrev S1024x3072 : Shape := ⟨2, ![1024, 3072]⟩
abbrev S1x3072 : Shape := ⟨2, ![1, 3072]⟩
abbrev S16384x2560 : Shape := ⟨2, ![16384, 2560]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S16384x256 : Shape := ⟨2, ![16384, 256]⟩
abbrev S16384x512 : Shape := ⟨2, ![16384, 512]⟩
abbrev S3072x1024 : Shape := ⟨2, ![3072, 1024]⟩
abbrev S2560x1024 : Shape := ⟨2, ![2560, 1024]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S1024x3072, .f32⟩
  | .hbm, ⟨4, _⟩ => ⟨S1x3072, .f32⟩
  | .hbm, ⟨5, _⟩ => ⟨S16384x2560, .f32⟩
  | .hbm, ⟨6, _⟩ => ⟨S16384x3072, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x2560, .f32⟩
  | .hbm, ⟨28, _⟩ => ⟨S16384x3072, .f32⟩
  | .hbm, ⟨29, _⟩ => ⟨S16384x256, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x3072, .f32⟩
  | .hbm, ⟨37, _⟩ => ⟨S16384x3072, .f32⟩
  | .hbm, ⟨38, _⟩ => ⟨S16384x3072, .f32⟩
  | .hbm, ⟨39, _⟩ => ⟨S16384x3072, .f32⟩
  | .hbm, ⟨40, _⟩ => ⟨S_, .f32⟩
  | .hbm, ⟨41, _⟩ => ⟨S16384x3072, .f32⟩
  | .hbm, ⟨42, _⟩ => ⟨S16384x3072, .f32⟩
  | .hbm, ⟨43, _⟩ => ⟨S_, .f32⟩
  | .hbm, ⟨44, _⟩ => ⟨S16384x3072, .f32⟩
  | .hbm, ⟨45, _⟩ => ⟨S16384x3072, .f32⟩
  | .hbm, ⟨46, _⟩ => ⟨S3072x1024, .f32⟩
  | .hbm, ⟨47, _⟩ => ⟨S1024x3072, .f32⟩
  | .hbm, ⟨48, _⟩ => ⟨S16384x1024, .f32⟩
  | .hbm, ⟨49, _⟩ => ⟨S2560x1024, .f32⟩
  | .hbm, ⟨50, _⟩ => ⟨S1024x2560, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel4.lean ====
abbrev S16384x512 : Shape := ⟨2, ![16384, 512]⟩
abbrev S_ : Shape := ⟨0, ![]⟩
abbrev S16384x8x64 : Shape := ⟨3, ![16384, 8, 64]⟩
abbrev S8x16384x64 : Shape := ⟨3, ![8, 16384, 64]⟩
abbrev S64x256x8x64 : Shape := ⟨4, ![64, 256, 8, 64]⟩
abbrev S8x64x64x256 : Shape := ⟨4, ![8, 64, 64, 256]⟩
abbrev S8x64x256x64 : Shape := ⟨4, ![8, 64, 256, 64]⟩
abbrev S8x16384x128 : Shape := ⟨3, ![8, 16384, 128]⟩
abbrev S1x256x64 : Shape := ⟨3, ![1, 256, 64]⟩
abbrev S1x64x64x256 : Shape := ⟨4, ![1, 64, 64, 256]⟩
abbrev S1x64x256x64 : Shape := ⟨4, ![1, 64, 256, 64]⟩
abbrev S1x256x128 : Shape := ⟨3, ![1, 256, 128]⟩
abbrev S256x64 : Shape := ⟨2, ![256, 64]⟩
abbrev S256x256 : Shape := ⟨2, ![256, 256]⟩
abbrev S256x128 : Shape := ⟨2, ![256, 128]⟩
abbrev S256x1 : Shape := ⟨2, ![256, 1]⟩
abbrev S1x1x64x256 : Shape := ⟨4, ![1, 1, 64, 256]⟩
abbrev S64x256 : Shape := ⟨2, ![64, 256]⟩
abbrev S256 : Shape := ⟨1, ![256]⟩
abbrev S1x1x256x64 : Shape := ⟨4, ![1, 1, 256, 64]⟩

abbrev nBuf : Space → Nat
  | .hbm => 17
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384x512, .f32⟩
  | .hbm, ⟨5, _⟩ => ⟨S16384x512, .f32⟩
  | .hbm, ⟨6, _⟩ => ⟨S16384x512, .bf16⟩
  | .hbm, ⟨7, _⟩ => ⟨S16384x512, .bf16⟩
  | .hbm, ⟨8, _⟩ => ⟨S16384x512, .bf16⟩
  | .hbm, ⟨9, _⟩ => ⟨S16384x8x64, .bf16⟩
  | .hbm, ⟨10, _⟩ => ⟨S8x16384x64, .bf16⟩
  | .hbm, ⟨11, _⟩ => ⟨S64x256x8x64, .bf16⟩
  | .hbm, ⟨12, _⟩ => ⟨S8x64x64x256, .bf16⟩
  | .hbm, ⟨13, _⟩ => ⟨S64x256x8x64, .bf16⟩
  | .hbm, ⟨14, _⟩ => ⟨S8x64x256x64, .bf16⟩
  | .hbm, ⟨15, _⟩ => ⟨S8x16384x64, .f32⟩
  | .hbm, ⟨16, _⟩ => ⟨S8x16384x128, .f32⟩
  | .local _ .vmem, ⟨0, _⟩ => ⟨S1x256x64, .bf16⟩
  | .local _ .vmem, ⟨1, _⟩ => ⟨S1x256x64, .bf16⟩
  | .local _ .vmem, ⟨2, _⟩ => ⟨S1x64x64x256, .bf16⟩
  | .local _ .vmem, ⟨3, _⟩ => ⟨S1x64x64x256, .bf16⟩
  | .local _ .vmem, ⟨4, _⟩ => ⟨S1x64x256x64, .bf16⟩
  | .local _ .vmem, ⟨5, _⟩ => ⟨S1x64x256x64, .bf16⟩
  | .local _ .vmem, ⟨6, _⟩ => ⟨S1x256x64, .f32⟩
  | .local _ .vmem, ⟨7, _⟩ => ⟨S1x256x64, .f32⟩
  | .local _ .vmem, ⟨8, _⟩ => ⟨S1x256x128, .f32⟩
  | .local _ .vmem, ⟨9, _⟩ => ⟨S1x256x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def k0_off1 (i : grid0.Coords) : Fin 4 → Nat :=
  let c0_4 : Index := 0#32
  let arg1 : BitVec 32 := BitVec.ofNat 32 (i 1).val
  let v13 : Index := Scalar.indexCast arg1
  let c0_5 : Index := 0#32
  let c0_6 : Index := 0#32
  ![0, v13.toNat, 0, 0]
def k0_off2 (i : grid0.Coords) : Fin 4 → Nat :=
  let c0_15 : Index := 0#32
  let arg1 : BitVec 32 := BitVec.ofNat 32 (i 1).val
  let v41 : Index := Scalar.indexCast arg1
  let c0_16 : Index := 0#32
  let c0_17 : Index := 0#32
  ![0, v41.toNat, 0, 0]
@[reducible] def k0_t1_loop (i : grid0.Coords) : Scf.Loop 32 :=
  let c0_i32_27 : BitVec 32 := 0#32
  let arg1 : BitVec 32 := BitVec.ofNat 32 (i 1).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32 : BitVec 32 := 2#32
  let c0_i32_22 : BitVec 32 := 0#32
  let v61 : BitVec 1 := Scalar.cmpi .eq c2_i32 c0_i32_22
  let c1_i32_23 : BitVec 32 := 1#32
  let v62 : BitVec 32 := Scalar.select v61 c1_i32_23 c2_i32
  let v63 : BitVec 32 := Scalar.remsi v60 v62
  let c0_i32_25 : BitVec 32 := 0#32
  let v65 : BitVec 1 := Scalar.cmpi .slt v63 c0_i32_25
  let c0_i32_26 : BitVec 32 := 0#32
  let v66 : BitVec 1 := Scalar.cmpi .slt v62 c0_i32_26
  let v67 : BitVec 1 := Scalar.xori v65 v66
  let c0_i32_24 : BitVec 32 := 0#32
  let v64 : BitVec 1 := Scalar.cmpi .ne v63 c0_i32_24
  let v68 : BitVec 1 := Scalar.andi v67 v64
  let v69 : BitVec 32 := Scalar.addi v63 v62
  let v70 : BitVec 32 := Scalar.select v68 v69 v63
  let v71 : BitVec 32 := Scalar.subi v70 c0_i32_27
  let c1_i32_28 : BitVec 32 := 1#32
  let v73 : BitVec 32 := Scalar.divsi v71 c1_i32_28
  let v74 : BitVec 32 := Scalar.muli v73 c1_i32_28
  let v75 : BitVec 32 := Scalar.addi c0_i32_27 v74
  let c1_i32_29 : BitVec 32 := 1#32
  ⟨c0_i32_27, v75, c1_i32_29⟩
def k0_off3 (i : grid0.Coords) : Fin 4 → Nat :=
  let c0_60 : Index := 0#32
  let arg1 : BitVec 32 := BitVec.ofNat 32 (i 1).val
  let c1_i32_59 : BitVec 32 := 1#32
  let v132 : BitVec 32 := Scalar.subi arg1 c1_i32_59
  let v133 : Index := Scalar.indexCast v132
  let c0_61 : Index := 0#32
  let c0_62 : Index := 0#32
  ![0, v133.toNat, 0, 0]
def k0_off4 (i : grid0.Coords) : Fin 4 → Nat :=
  let c0_69 : Index := 0#32
  let arg1 : BitVec 32 := BitVec.ofNat 32 (i 1).val
  let c1_i32_59 : BitVec 32 := 1#32
  let v132 : BitVec 32 := Scalar.subi arg1 c1_i32_59
  let v157 : Index := Scalar.indexCast v132
  let c0_70 : Index := 0#32
  let c0_71 : Index := 0#32
  ![0, v157.toNat, 0, 0]
@[reducible] def k0_t2_loop (i : grid0.Coords) : Scf.Loop 32 :=
  let c0_i32_27 : BitVec 32 := 0#32
  let arg1 : BitVec 32 := BitVec.ofNat 32 (i 1).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32 : BitVec 32 := 2#32
  let c0_i32_22 : BitVec 32 := 0#32
  let v61 : BitVec 1 := Scalar.cmpi .eq c2_i32 c0_i32_22
  let c1_i32_23 : BitVec 32 := 1#32
  let v62 : BitVec 32 := Scalar.select v61 c1_i32_23 c2_i32
  let v63 : BitVec 32 := Scalar.remsi v60 v62
  let c0_i32_25 : BitVec 32 := 0#32
  let v65 : BitVec 1 := Scalar.cmpi .slt v63 c0_i32_25
  let c0_i32_26 : BitVec 32 := 0#32
  let v66 : BitVec 1 := Scalar.cmpi .slt v62 c0_i32_26
  let v67 : BitVec 1 := Scalar.xori v65 v66
  let c0_i32_24 : BitVec 32 := 0#32
  let v64 : BitVec 1 := Scalar.cmpi .ne v63 c0_i32_24
  let v68 : BitVec 1 := Scalar.andi v67 v64
  let v69 : BitVec 32 := Scalar.addi v63 v62
  let v70 : BitVec 32 := Scalar.select v68 v69 v63
  let v71 : BitVec 32 := Scalar.subi v70 c0_i32_27
  let c1_i32_28 : BitVec 32 := 1#32
  let v73 : BitVec 32 := Scalar.divsi v71 c1_i32_28
  let v74 : BitVec 32 := Scalar.muli v73 c1_i32_28
  let v75 : BitVec 32 := Scalar.addi c0_i32_27 v74
  let v72 : BitVec 32 := Scalar.addi c0_i32_27 v71
  let c1_i32_30 : BitVec 32 := 1#32
  ⟨v75, v72, c1_i32_30⟩
def k0_off5 (i : grid0.Coords) : Fin 4 → Nat :=
  let c0_60 : Index := 0#32
  let arg1 : BitVec 32 := BitVec.ofNat 32 (i 1).val
  let c1_i32_59 : BitVec 32 := 1#32
  let v132 : BitVec 32 := Scalar.subi arg1 c1_i32_59
  let v133 : Index := Scalar.indexCast v132
  let c0_61 : Index := 0#32
  let c0_62 : Index := 0#32
  ![0, v133.toNat, 0, 0]
def k0_off6 (i : grid0.Coords) : Fin 4 → Nat :=
  let c0_69 : Index := 0#32
  let arg1 : BitVec 32 := BitVec.ofNat 32 (i 1).val
  let c1_i32_59 : BitVec 32 := 1#32
  let v132 : BitVec 32 := Scalar.subi arg1 c1_i32_59
  let v157 : Index := Scalar.indexCast v132
  let c0_70 : Index := 0#32
  let c0_71 : Index := 0#32
  ![0, v157.toNat, 0, 0]
@[reducible] def k0_t3_loop (i : grid0.Coords) : Scf.Loop 32 :=
  let c0_i32_38 : BitVec 32 := 0#32
  let arg1 : BitVec 32 := BitVec.ofNat 32 (i 1).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c0_i32_32 : BitVec 32 := 0#32
  let v79 : BitVec 1 := Scalar.cmpi .sgt v60 c0_i32_32
  let v80 : BitVec 32 := Scalar.extui v79
  let c0_i32_33 : BitVec 32 := 0#32
  let v81 : BitVec 1 := Scalar.cmpi .slt v60 c0_i32_33
  let v82 : BitVec 32 := Scalar.extui v81
  let v83 : BitVec 32 := Scalar.subi v80 v82
  let c2_i32_31 : BitVec 32 := 2#32
  let c0_i32_34 : BitVec 32 := 0#32
  let v84 : BitVec 1 := Scalar.cmpi .sgt c2_i32_31 c0_i32_34
  let v85 : BitVec 32 := Scalar.extui v84
  let c0_i32_35 : BitVec 32 := 0#32
  let v86 : BitVec 1 := Scalar.cmpi .slt c2_i32_31 c0_i32_35
  let v87 : BitVec 32 := Scalar.extui v86
  let v88 : BitVec 32 := Scalar.subi v85 v87
  let v89 : BitVec 1 := Scalar.cmpi .ne v83 v88
  let v90 : BitVec 32 := Scalar.remsi v60 c2_i32_31
  let c0_i32_36 : BitVec 32 := 0#32
  let v91 : BitVec 1 := Scalar.cmpi .ne v90 c0_i32_36
  let v92 : BitVec 1 := Scalar.andi v89 v91
  let v78 : BitVec 32 := Scalar.divsi v60 c2_i32_31
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_40 : BitVec 32 := 1#32
  ⟨c0_i32_38, v99, c1_i32_40⟩
def k0_off7 (i : grid0.Coords) (k0_t3 : Fin (k0_t3_loop i).trips) (c0_i32_67 : BitVec 32) : Fin 4 → Nat :=
  let c0_77 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32_60 : BitVec 32 := 2#32
  let c0_i32_61 : BitVec 32 := 0#32
  let v133 : BitVec 1 := Scalar.cmpi .eq c2_i32_60 c0_i32_61
  let c1_i32_62 : BitVec 32 := 1#32
  let v134 : BitVec 32 := Scalar.select v133 c1_i32_62 c2_i32_60
  let v135 : BitVec 32 := Scalar.remsi v60 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let v143 : BitVec 32 := Scalar.subi v132 v142
  let c2_i32_66 : BitVec 32 := 2#32
  let c0_i32_38 : BitVec 32 := 0#32
  let c1_i32_40 : BitVec 32 := 1#32
  let arg7 : BitVec 32 := Scf.iv c0_i32_38 c1_i32_40 k0_t3
  let v144 : BitVec 32 := Scalar.muli c2_i32_66 arg7
  let v145 : BitVec 32 := Scalar.subi v143 v144
  let v146 : BitVec 32 := Scalar.subi v145 c0_i32_67
  let v162 : Index := Scalar.indexCast v146
  let c0_78 : Index := 0#32
  let c0_79 : Index := 0#32
  ![0, v162.toNat, 0, 0]
def k0_off8 (i : grid0.Coords) (k0_t3 : Fin (k0_t3_loop i).trips) (c0_i32_67 : BitVec 32) : Fin 4 → Nat :=
  let c0_95 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32_60 : BitVec 32 := 2#32
  let c0_i32_61 : BitVec 32 := 0#32
  let v133 : BitVec 1 := Scalar.cmpi .eq c2_i32_60 c0_i32_61
  let c1_i32_62 : BitVec 32 := 1#32
  let v134 : BitVec 32 := Scalar.select v133 c1_i32_62 c2_i32_60
  let v135 : BitVec 32 := Scalar.remsi v60 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let v143 : BitVec 32 := Scalar.subi v132 v142
  let c2_i32_66 : BitVec 32 := 2#32
  let c0_i32_38 : BitVec 32 := 0#32
  let c1_i32_40 : BitVec 32 := 1#32
  let arg7 : BitVec 32 := Scf.iv c0_i32_38 c1_i32_40 k0_t3
  let v144 : BitVec 32 := Scalar.muli c2_i32_66 arg7
  let v145 : BitVec 32 := Scalar.subi v143 v144
  let v146 : BitVec 32 := Scalar.subi v145 c0_i32_67
  let v209 : Index := Scalar.indexCast v146
  let c0_96 : Index := 0#32
  let c0_97 : Index := 0#32
  ![0, v209.toNat, 0, 0]
@[reducible] def k0_t4_loop (i : grid0.Coords) : Scf.Loop 32 :=
  let c0_i32_38 : BitVec 32 := 0#32
  let arg1 : BitVec 32 := BitVec.ofNat 32 (i 1).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c0_i32_32 : BitVec 32 := 0#32
  let v79 : BitVec 1 := Scalar.cmpi .sgt v60 c0_i32_32
  let v80 : BitVec 32 := Scalar.extui v79
  let c0_i32_33 : BitVec 32 := 0#32
  let v81 : BitVec 1 := Scalar.cmpi .slt v60 c0_i32_33
  let v82 : BitVec 32 := Scalar.extui v81
  let v83 : BitVec 32 := Scalar.subi v80 v82
  let c2_i32_31 : BitVec 32 := 2#32
  let c0_i32_34 : BitVec 32 := 0#32
  let v84 : BitVec 1 := Scalar.cmpi .sgt c2_i32_31 c0_i32_34
  let v85 : BitVec 32 := Scalar.extui v84
  let c0_i32_35 : BitVec 32 := 0#32
  let v86 : BitVec 1 := Scalar.cmpi .slt c2_i32_31 c0_i32_35
  let v87 : BitVec 32 := Scalar.extui v86
  let v88 : BitVec 32 := Scalar.subi v85 v87
  let v89 : BitVec 1 := Scalar.cmpi .ne v83 v88
  let v90 : BitVec 32 := Scalar.remsi v60 c2_i32_31
  let c0_i32_36 : BitVec 32 := 0#32
  let v91 : BitVec 1 := Scalar.cmpi .ne v90 c0_i32_36
  let v92 : BitVec 1 := Scalar.andi v89 v91
  let v78 : BitVec 32 := Scalar.divsi v60 c2_i32_31
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let v96 : BitVec 32 := Scalar.addi c0_i32_38 v95
  let c1_i32_41 : BitVec 32 := 1#32
  ⟨v99, v96, c1_i32_41⟩
def k0_off9 (i : grid0.Coords) (k0_t4 : Fin (k0_t4_loop i).trips) (c0_i32_67 : BitVec 32) : Fin 4 → Nat :=
  let c0_77 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32_60 : BitVec 32 := 2#32
  let c0_i32_61 : BitVec 32 := 0#32
  let v133 : BitVec 1 := Scalar.cmpi .eq c2_i32_60 c0_i32_61
  let c1_i32_62 : BitVec 32 := 1#32
  let v134 : BitVec 32 := Scalar.select v133 c1_i32_62 c2_i32_60
  let v135 : BitVec 32 := Scalar.remsi v60 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let v143 : BitVec 32 := Scalar.subi v132 v142
  let c2_i32_66 : BitVec 32 := 2#32
  let c0_i32_38 : BitVec 32 := 0#32
  let c0_i32_32 : BitVec 32 := 0#32
  let v79 : BitVec 1 := Scalar.cmpi .sgt v60 c0_i32_32
  let v80 : BitVec 32 := Scalar.extui v79
  let c0_i32_33 : BitVec 32 := 0#32
  let v81 : BitVec 1 := Scalar.cmpi .slt v60 c0_i32_33
  let v82 : BitVec 32 := Scalar.extui v81
  let v83 : BitVec 32 := Scalar.subi v80 v82
  let c2_i32_31 : BitVec 32 := 2#32
  let c0_i32_34 : BitVec 32 := 0#32
  let v84 : BitVec 1 := Scalar.cmpi .sgt c2_i32_31 c0_i32_34
  let v85 : BitVec 32 := Scalar.extui v84
  let c0_i32_35 : BitVec 32 := 0#32
  let v86 : BitVec 1 := Scalar.cmpi .slt c2_i32_31 c0_i32_35
  let v87 : BitVec 32 := Scalar.extui v86
  let v88 : BitVec 32 := Scalar.subi v85 v87
  let v89 : BitVec 1 := Scalar.cmpi .ne v83 v88
  let v90 : BitVec 32 := Scalar.remsi v60 c2_i32_31
  let c0_i32_36 : BitVec 32 := 0#32
  let v91 : BitVec 1 := Scalar.cmpi .ne v90 c0_i32_36
  let v92 : BitVec 1 := Scalar.andi v89 v91
  let v78 : BitVec 32 := Scalar.divsi v60 c2_i32_31
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg7 : BitVec 32 := Scf.iv v99 c1_i32_41 k0_t4
  let v144 : BitVec 32 := Scalar.muli c2_i32_66 arg7
  let v145 : BitVec 32 := Scalar.subi v143 v144
  let v146 : BitVec 32 := Scalar.subi v145 c0_i32_67
  let v162 : Index := Scalar.indexCast v146
  let c0_78 : Index := 0#32
  let c0_79 : Index := 0#32
  ![0, v162.toNat, 0, 0]
def k0_off10 (i : grid0.Coords) (k0_t4 : Fin (k0_t4_loop i).trips) (c0_i32_67 : BitVec 32) : Fin 4 → Nat :=
  let c0_95 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let c2_i32_60 : BitVec 32 := 2#32
  let c0_i32_61 : BitVec 32 := 0#32
  let v133 : BitVec 1 := Scalar.cmpi .eq c2_i32_60 c0_i32_61
  let c1_i32_62 : BitVec 32 := 1#32
  let v134 : BitVec 32 := Scalar.select v133 c1_i32_62 c2_i32_60
  let v135 : BitVec 32 := Scalar.remsi v60 v134
  let c0_i32_64 : BitVec 32 := 0#32
  let v137 : BitVec 1 := Scalar.cmpi .slt v135 c0_i32_64
  let c0_i32_65 : BitVec 32 := 0#32
  let v138 : BitVec 1 := Scalar.cmpi .slt v134 c0_i32_65
  let v139 : BitVec 1 := Scalar.xori v137 v138
  let c0_i32_63 : BitVec 32 := 0#32
  let v136 : BitVec 1 := Scalar.cmpi .ne v135 c0_i32_63
  let v140 : BitVec 1 := Scalar.andi v139 v136
  let v141 : BitVec 32 := Scalar.addi v135 v134
  let v142 : BitVec 32 := Scalar.select v140 v141 v135
  let v143 : BitVec 32 := Scalar.subi v132 v142
  let c2_i32_66 : BitVec 32 := 2#32
  let c0_i32_38 : BitVec 32 := 0#32
  let c0_i32_32 : BitVec 32 := 0#32
  let v79 : BitVec 1 := Scalar.cmpi .sgt v60 c0_i32_32
  let v80 : BitVec 32 := Scalar.extui v79
  let c0_i32_33 : BitVec 32 := 0#32
  let v81 : BitVec 1 := Scalar.cmpi .slt v60 c0_i32_33
  let v82 : BitVec 32 := Scalar.extui v81
  let v83 : BitVec 32 := Scalar.subi v80 v82
  let c2_i32_31 : BitVec 32 := 2#32
  let c0_i32_34 : BitVec 32 := 0#32
  let v84 : BitVec 1 := Scalar.cmpi .sgt c2_i32_31 c0_i32_34
  let v85 : BitVec 32 := Scalar.extui v84
  let c0_i32_35 : BitVec 32 := 0#32
  let v86 : BitVec 1 := Scalar.cmpi .slt c2_i32_31 c0_i32_35
  let v87 : BitVec 32 := Scalar.extui v86
  let v88 : BitVec 32 := Scalar.subi v85 v87
  let v89 : BitVec 1 := Scalar.cmpi .ne v83 v88
  let v90 : BitVec 32 := Scalar.remsi v60 c2_i32_31
  let c0_i32_36 : BitVec 32 := 0#32
  let v91 : BitVec 1 := Scalar.cmpi .ne v90 c0_i32_36
  let v92 : BitVec 1 := Scalar.andi v89 v91
  let v78 : BitVec 32 := Scalar.divsi v60 c2_i32_31
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg7 : BitVec 32 := Scf.iv v99 c1_i32_41 k0_t4
  let v144 : BitVec 32 := Scalar.muli c2_i32_66 arg7
  let v145 : BitVec 32 := Scalar.subi v143 v144
  let v146 : BitVec 32 := Scalar.subi v145 c0_i32_67
  let v209 : Index := Scalar.indexCast v146
  let c0_96 : Index := 0#32
  let c0_97 : Index := 0#32
  ![0, v209.toNat, 0, 0]
@[reducible] def k0_t5_loop (i : grid0.Coords) : Scf.Loop 32 :=
  let c0_i32_49 : BitVec 32 := 0#32
  let arg1 : BitVec 32 := BitVec.ofNat 32 (i 1).val
  let c0_i32_43 : BitVec 32 := 0#32
  let v103 : BitVec 1 := Scalar.cmpi .sgt arg1 c0_i32_43
  let v104 : BitVec 32 := Scalar.extui v103
  let c0_i32_44 : BitVec 32 := 0#32
  let v105 : BitVec 1 := Scalar.cmpi .slt arg1 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi arg1 c4_i32_42
  let c0_i32_47 : BitVec 32 := 0#32
  let v115 : BitVec 1 := Scalar.cmpi .ne v114 c0_i32_47
  let v116 : BitVec 1 := Scalar.andi v113 v115
  let v102 : BitVec 32 := Scalar.divsi arg1 c4_i32_42
  let c1_i32_48 : BitVec 32 := 1#32
  let v117 : BitVec 32 := Scalar.subi v102 c1_i32_48
  let v118 : BitVec 32 := Scalar.select v116 v117 v102
  let v119 : BitVec 32 := Scalar.subi v118 c0_i32_49
  let c1_i32_50 : BitVec 32 := 1#32
  let v121 : BitVec 32 := Scalar.divsi v119 c1_i32_50
  let v122 : BitVec 32 := Scalar.muli v121 c1_i32_50
  let v123 : BitVec 32 := Scalar.addi c0_i32_49 v122
  let c1_i32_51 : BitVec 32 := 1#32
  ⟨c0_i32_49, v123, c1_i32_51⟩
def k0_off11 (i : grid0.Coords) (k0_t5 : Fin (k0_t5_loop i).trips) (c0_i32_61 : BitVec 32) : Fin 4 → Nat :=
  let c0_70 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let v133 : BitVec 32 := Scalar.subi v132 v60
  let c4_i32_60 : BitVec 32 := 4#32
  let c0_i32_49 : BitVec 32 := 0#32
  let c1_i32_51 : BitVec 32 := 1#32
  let arg7 : BitVec 32 := Scf.iv c0_i32_49 c1_i32_51 k0_t5
  let v134 : BitVec 32 := Scalar.muli c4_i32_60 arg7
  let v135 : BitVec 32 := Scalar.subi v133 v134
  let v136 : BitVec 32 := Scalar.subi v135 c0_i32_61
  let v152 : Index := Scalar.indexCast v136
  let c0_71 : Index := 0#32
  let c0_72 : Index := 0#32
  ![0, v152.toNat, 0, 0]
def k0_off12 (i : grid0.Coords) (k0_t5 : Fin (k0_t5_loop i).trips) (c0_i32_61 : BitVec 32) : Fin 4 → Nat :=
  let c0_106 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let v133 : BitVec 32 := Scalar.subi v132 v60
  let c4_i32_60 : BitVec 32 := 4#32
  let c0_i32_49 : BitVec 32 := 0#32
  let c1_i32_51 : BitVec 32 := 1#32
  let arg7 : BitVec 32 := Scf.iv c0_i32_49 c1_i32_51 k0_t5
  let v134 : BitVec 32 := Scalar.muli c4_i32_60 arg7
  let v135 : BitVec 32 := Scalar.subi v133 v134
  let v136 : BitVec 32 := Scalar.subi v135 c0_i32_61
  let v245 : Index := Scalar.indexCast v136
  let c0_107 : Index := 0#32
  let c0_108 : Index := 0#32
  ![0, v245.toNat, 0, 0]
@[reducible] def k0_t6_loop (i : grid0.Coords) : Scf.Loop 32 :=
  let c0_i32_49 : BitVec 32 := 0#32
  let arg1 : BitVec 32 := BitVec.ofNat 32 (i 1).val
  let c0_i32_43 : BitVec 32 := 0#32
  let v103 : BitVec 1 := Scalar.cmpi .sgt arg1 c0_i32_43
  let v104 : BitVec 32 := Scalar.extui v103
  let c0_i32_44 : BitVec 32 := 0#32
  let v105 : BitVec 1 := Scalar.cmpi .slt arg1 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi arg1 c4_i32_42
  let c0_i32_47 : BitVec 32 := 0#32
  let v115 : BitVec 1 := Scalar.cmpi .ne v114 c0_i32_47
  let v116 : BitVec 1 := Scalar.andi v113 v115
  let v102 : BitVec 32 := Scalar.divsi arg1 c4_i32_42
  let c1_i32_48 : BitVec 32 := 1#32
  let v117 : BitVec 32 := Scalar.subi v102 c1_i32_48
  let v118 : BitVec 32 := Scalar.select v116 v117 v102
  let v119 : BitVec 32 := Scalar.subi v118 c0_i32_49
  let c1_i32_50 : BitVec 32 := 1#32
  let v121 : BitVec 32 := Scalar.divsi v119 c1_i32_50
  let v122 : BitVec 32 := Scalar.muli v121 c1_i32_50
  let v123 : BitVec 32 := Scalar.addi c0_i32_49 v122
  let v120 : BitVec 32 := Scalar.addi c0_i32_49 v119
  let c1_i32_52 : BitVec 32 := 1#32
  ⟨v123, v120, c1_i32_52⟩
def k0_off13 (i : grid0.Coords) (k0_t6 : Fin (k0_t6_loop i).trips) (c0_i32_61 : BitVec 32) : Fin 4 → Nat :=
  let c0_70 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let v133 : BitVec 32 := Scalar.subi v132 v60
  let c4_i32_60 : BitVec 32 := 4#32
  let c0_i32_49 : BitVec 32 := 0#32
  let c0_i32_43 : BitVec 32 := 0#32
  let v103 : BitVec 1 := Scalar.cmpi .sgt arg1 c0_i32_43
  let v104 : BitVec 32 := Scalar.extui v103
  let c0_i32_44 : BitVec 32 := 0#32
  let v105 : BitVec 1 := Scalar.cmpi .slt arg1 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi arg1 c4_i32_42
  let c0_i32_47 : BitVec 32 := 0#32
  let v115 : BitVec 1 := Scalar.cmpi .ne v114 c0_i32_47
  let v116 : BitVec 1 := Scalar.andi v113 v115
  let v102 : BitVec 32 := Scalar.divsi arg1 c4_i32_42
  let c1_i32_48 : BitVec 32 := 1#32
  let v117 : BitVec 32 := Scalar.subi v102 c1_i32_48
  let v118 : BitVec 32 := Scalar.select v116 v117 v102
  let v119 : BitVec 32 := Scalar.subi v118 c0_i32_49
  let c1_i32_50 : BitVec 32 := 1#32
  let v121 : BitVec 32 := Scalar.divsi v119 c1_i32_50
  let v122 : BitVec 32 := Scalar.muli v121 c1_i32_50
  let v123 : BitVec 32 := Scalar.addi c0_i32_49 v122
  let c1_i32_52 : BitVec 32 := 1#32
  let arg7 : BitVec 32 := Scf.iv v123 c1_i32_52 k0_t6
  let v134 : BitVec 32 := Scalar.muli c4_i32_60 arg7
  let v135 : BitVec 32 := Scalar.subi v133 v134
  let v136 : BitVec 32 := Scalar.subi v135 c0_i32_61
  let v152 : Index := Scalar.indexCast v136
  let c0_71 : Index := 0#32
  let c0_72 : Index := 0#32
  ![0, v152.toNat, 0, 0]
def k0_off14 (i : grid0.Coords) (k0_t6 : Fin (k0_t6_loop i).trips) (c0_i32_61 : BitVec 32) : Fin 4 → Nat :=
  let c0_106 : Index := 0#32
  let arg1 : BitVec 32 := BitVec.ofNat 32 (i 1).val
  let c1_i32_59 : BitVec 32 := 1#32
  let v132 : BitVec 32 := Scalar.subi arg1 c1_i32_59
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg1 v52
  let c0_i32_20 : BitVec 32 := 0#32
  let v55 : BitVec 1 := Scalar.cmpi .slt v53 c0_i32_20
  let c0_i32_21 : BitVec 32 := 0#32
  let v56 : BitVec 1 := Scalar.cmpi .slt v52 c0_i32_21
  let v57 : BitVec 1 := Scalar.xori v55 v56
  let c0_i32_19 : BitVec 32 := 0#32
  let v54 : BitVec 1 := Scalar.cmpi .ne v53 c0_i32_19
  let v58 : BitVec 1 := Scalar.andi v57 v54
  let v59 : BitVec 32 := Scalar.addi v53 v52
  let v60 : BitVec 32 := Scalar.select v58 v59 v53
  let v133 : BitVec 32 := Scalar.subi v132 v60
  let c4_i32_60 : BitVec 32 := 4#32
  let c0_i32_49 : BitVec 32 := 0#32
  let c0_i32_43 : BitVec 32 := 0#32
  let v103 : BitVec 1 := Scalar.cmpi .sgt arg1 c0_i32_43
  let v104 : BitVec 32 := Scalar.extui v103
  let c0_i32_44 : BitVec 32 := 0#32
  let v105 : BitVec 1 := Scalar.cmpi .slt arg1 c0_i32_44
  let v106 : BitVec 32 := Scalar.extui v105
  let v107 : BitVec 32 := Scalar.subi v104 v106
  let c4_i32_42 : BitVec 32 := 4#32
  let c0_i32_45 : BitVec 32 := 0#32
  let v108 : BitVec 1 := Scalar.cmpi .sgt c4_i32_42 c0_i32_45
  let v109 : BitVec 32 := Scalar.extui v108
  let c0_i32_46 : BitVec 32 := 0#32
  let v110 : BitVec 1 := Scalar.cmpi .slt c4_i32_42 c0_i32_46
  let v111 : BitVec 32 := Scalar.extui v110
  let v112 : BitVec 32 := Scalar.subi v109 v111
  let v113 : BitVec 1 := Scalar.cmpi .ne v107 v112
  let v114 : BitVec 32 := Scalar.remsi arg1 c4_i32_42
  let c0_i32_47 : BitVec 32 := 0#32
  let v115 : BitVec 1 := Scalar.cmpi .ne v114 c0_i32_47
  let v116 : BitVec 1 := Scalar.andi v113 v115
  let v102 : BitVec 32 := Scalar.divsi arg1 c4_i32_42
  let c1_i32_48 : BitVec 32 := 1#32
  let v117 : BitVec 32 := Scalar.subi v102 c1_i32_48
  let v118 : BitVec 32 := Scalar.select v116 v117 v102
  let v119 : BitVec 32 := Scalar.subi v118 c0_i32_49
  let c1_i32_50 : BitVec 32 := 1#32
  let v121 : BitVec 32 := Scalar.divsi v119 c1_i32_50
  let v122 : BitVec 32 := Scalar.muli v121 c1_i32_50
  let v123 : BitVec 32 := Scalar.addi c0_i32_49 v122
  let c1_i32_52 : BitVec 32 := 1#32
  let arg7 : BitVec 32 := Scf.iv v123 c1_i32_52 k0_t6
  let v134 : BitVec 32 := Scalar.muli c4_i32_60 arg7
  let v135 : BitVec 32 := Scalar.subi v133 v134
  let v136 : BitVec 32 := Scalar.subi v135 c0_i32_61
  let v245 : Index := Scalar.indexCast v136
  let c0_107 : Index := 0#32
  let c0_108 : Index := 0#32
  ![0, v245.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8x64, .f32⟩
  | .hbm, ⟨4, _⟩ => ⟨S8x16384x64, .f32⟩
  | .hbm, ⟨5, _⟩ => ⟨S16384x8x64, .f32⟩
  | .hbm, ⟨6, _⟩ => ⟨S8x16384x64, .f32⟩
  | .hbm, ⟨7, _⟩ => ⟨S8x16384x16384, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S16384, .i32⟩
  | .hbm, ⟨12, _⟩ => ⟨S1x16384, .i32⟩
  | .hbm, ⟨13, _⟩ => ⟨S16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S_, .f32⟩
  | .hbm, ⟨37, _⟩ => ⟨S8x16384x16384, .i1⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S_, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x16384x16384, .i1⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S_, .f32⟩
  | .hbm, ⟨63, _⟩ => ⟨S_, .f32⟩
  | .hbm, ⟨64, _⟩ => ⟨S8x16384x16384, .i1⟩
  | .hbm, ⟨65, _⟩ => ⟨S8x16384x16384, .f32⟩
  | .hbm, ⟨66, _⟩ => ⟨S8x16384x16384, .f32⟩
  | .hbm, ⟨67, _⟩ => ⟨S16384x8x64, .f32⟩
  | .hbm, ⟨68, _⟩ => ⟨S8x16384x64, .f32⟩
  | .hbm, ⟨69, _⟩ => ⟨S8x16384x64, .f32⟩
  | .hbm, ⟨70, _⟩ => ⟨S16384x8x64, .f32⟩
  | .hbm, ⟨71, _⟩ => ⟨S16384x512, .f32⟩
  | .hbm, ⟨72, _⟩ => ⟨S16384x8x64, .f32⟩
  | .hbm, ⟨73, _⟩ => ⟨S8x16384x64, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩

abbrev nD : Nat := 1
abbrev τ : Topo := Topo.v7x

variable {F : FTy → Type} [FloatOps F]
-- ==== Kernel5.lean ====
abbrev S16384x256 : Shape := ⟨2, ![16384, 256]⟩
abbrev S3x256 : Shape := ⟨2, ![3, 256]⟩
abbrev S8x256 : Shape := ⟨2, ![8, 256]⟩
abbrev S256x256 : Shape := ⟨2, ![256, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S3x256, .f32⟩
  | .hbm, ⟨4, _⟩ => ⟨S16384x256, .f32⟩
  | .hbm, ⟨5, _⟩ => ⟨S16384x256, .f32⟩
  | .hbm, ⟨6, _⟩ => ⟨S8x256, .f32⟩
  | .local _ .vmem, ⟨0, _⟩ => ⟨S256x256, .f32⟩
  | .local _ .vmem, ⟨1, _⟩ => ⟨S256x256, .f32⟩
  | .local _ .vmem, ⟨2, _⟩ => ⟨S8x256, .f32⟩
  | .local _ .vmem, ⟨3, _⟩ => ⟨S8x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S8x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S16384x256 : Shape := ⟨2, ![16384, 256]⟩
abbrev S3x256 : Shape := ⟨2, ![3, 256]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S256 : Shape := ⟨1, ![256]⟩
abbrev S8x256 : Shape := ⟨2, ![8, 256]⟩

abbrev nBuf : Space → Nat
  | .hbm => 82
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S3x256, .f32⟩
  | .hbm, ⟨4, _⟩ => ⟨S_, .f32⟩
  | .hbm, ⟨5, _⟩ => ⟨S2x256, .f32⟩
  | .hbm, ⟨6, _⟩ => ⟨S16384x256, .f32⟩
  | .hbm, ⟨7, _⟩ => ⟨S16386x256, .f32⟩
  | .hbm, ⟨8, _⟩ => ⟨S_, .f32⟩
  | .hbm, ⟨9, _⟩ => ⟨S2x256, .f32⟩
  | .hbm, ⟨10, _⟩ => ⟨S1x256, .f32⟩
  | .hbm, ⟨11, _⟩ => ⟨S256, .f32⟩
  | .hbm, ⟨12, _⟩ => ⟨S16384x256, .f32⟩
  | .hbm, ⟨13, _⟩ => ⟨S1x256, .f32⟩
  | .hbm, ⟨14, _⟩ => ⟨S16384x256, .f32⟩
  | .hbm, ⟨15, _⟩ => ⟨S16384x256, .f32⟩
  | .hbm, ⟨16, _⟩ => ⟨S1x256, .f32⟩
  | .hbm, ⟨17, _⟩ => ⟨S256, .f32⟩
  | .hbm, ⟨18, _⟩ => ⟨S16384x256, .f32⟩
  | .hbm, ⟨19, _⟩ => ⟨S1x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S1x256, .f32⟩
  | .hbm, ⟨24, _⟩ => ⟨S256, .f32⟩
  | .hbm, ⟨25, _⟩ => ⟨S16384x256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S16386x256, .f32⟩
  | .hbm, ⟨42, _⟩ => ⟨S1x256, .f32⟩
  | .hbm, ⟨43, _⟩ => ⟨S_, .f32⟩
  | .hbm, ⟨44, _⟩ => ⟨S3x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S16386x256, .f32⟩
  | .hbm, ⟨55, _⟩ => ⟨S16386x256, .f32⟩
  | .hbm, ⟨56, _⟩ => ⟨S1x256, .f32⟩
  | .hbm, ⟨57, _⟩ => ⟨S_, .f32⟩
  | .hbm, ⟨58, _⟩ => ⟨S3x256, .f32⟩
  | .hbm, ⟨59, _⟩ => ⟨S3x256, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S_, .f32⟩
  | .hbm, ⟨64, _⟩ => ⟨S256, .f32⟩
  | .hbm, ⟨65, _⟩ => ⟨S1x256, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S16386x256, .f32⟩
  | .hbm, ⟨70, _⟩ => ⟨S16386x256, .f32⟩
  | .hbm, ⟨71, _⟩ => ⟨S1x256, .f32⟩
  | .hbm, ⟨72, _⟩ => ⟨S_, .f32⟩
  | .hbm, ⟨73, _⟩ => ⟨S3x256, .f32⟩
  | .hbm, ⟨74, _⟩ => ⟨S3x256, .f32⟩
  | .hbm, ⟨75, _⟩ => ⟨S2x256, .f32⟩
  | .hbm, ⟨76, _⟩ => ⟨S16384x256, .f32⟩
  | .hbm, ⟨77, _⟩ => ⟨S16384x256, .f32⟩
  | .hbm, ⟨78, _⟩ => ⟨S16384x256, .f32⟩
  | .hbm, ⟨79, _⟩ => ⟨S_, .i32⟩
  | .hbm, ⟨80, _⟩ => ⟨S_, .f32⟩
  | .hbm, ⟨81, _⟩ => ⟨S8x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c : Ref sig .tc := ⟨.hbm, 79, rfl⟩
abbrev main_call0_v0 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel6.lean ====
abbrev S16384x1024 : Shape := ⟨2, ![16384, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference6Ideal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Trips.lean ====
/- The trip counts of the body's loops and the offsets of its loads and stores, in closed form. -/
module

public import proofs.«01_k».proof.Proof.Gen.KernelIdeal.Loops
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

theorem row_lt (i : grid0.Coords) : (i 1).val < 64 := (i 1).isLt

/-! ## Trip counts -/

theorem trips_t1 : ∀ i : grid0.Coords, (k0_t1_loop i).trips = (i 1).val / 4 := by decide +kernel
theorem trips_t2 (i : grid0.Coords) : (k0_t2_loop i).trips = 0 := Nat.le_zero.mp (k0_t2_abs i).2.1
theorem trips_t3 : ∀ i : grid0.Coords, (k0_t3_loop i).trips = (i 1).val % 4 / 2 := by decide +kernel
theorem trips_t4 (i : grid0.Coords) : (k0_t4_loop i).trips = 0 := Nat.le_zero.mp (k0_t4_abs i).2.1
theorem trips_t5 : ∀ i : grid0.Coords, (k0_t5_loop i).trips = (i 1).val % 2 := by decide +kernel
theorem trips_t6 (i : grid0.Coords) : (k0_t6_loop i).trips = 0 := Nat.le_zero.mp (k0_t6_abs i).2.1

/-! ## Offsets -/

theorem off1_0 : ∀ (i : grid0.Coords) (k), k0_off1 i k 0#32 = ![0, 4 * k.val, 0, 0] := by decide +kernel
theorem off1_1 : ∀ (i : grid0.Coords) (k), k0_off1 i k 1#32 = ![0, 4 * k.val + 1, 0, 0] := by decide +kernel
theorem off1_2 : ∀ (i : grid0.Coords) (k), k0_off1 i k 2#32 = ![0, 4 * k.val + 2, 0, 0] := by decide +kernel
theorem off1_3 : ∀ (i : grid0.Coords) (k), k0_off1 i k 3#32 = ![0, 4 * k.val + 3, 0, 0] := by decide +kernel
theorem off2_0 : ∀ (i : grid0.Coords) (k), k0_off2 i k 0#32 = ![0, 4 * k.val, 0, 0] := off1_0
theorem off2_1 : ∀ (i : grid0.Coords) (k), k0_off2 i k 1#32 = ![0, 4 * k.val + 1, 0, 0] := off1_1
theorem off2_2 : ∀ (i : grid0.Coords) (k), k0_off2 i k 2#32 = ![0, 4 * k.val + 2, 0, 0] := off1_2
theorem off2_3 : ∀ (i : grid0.Coords) (k), k0_off2 i k 3#32 = ![0, 4 * k.val + 3, 0, 0] := off1_3
theorem off5_0 : ∀ (i : grid0.Coords) (k), k0_off5 i k 0#32 = ![0, 4 * ((i 1).val / 4) + 2 * k.val, 0, 0] := by decide +kernel
theorem off5_1 : ∀ (i : grid0.Coords) (k), k0_off5 i k 1#32 = ![0, 4 * ((i 1).val / 4) + 2 * k.val + 1, 0, 0] := by decide +kernel
theorem off6_0 : ∀ (i : grid0.Coords) (k), k0_off6 i k 0#32 = ![0, 4 * ((i 1).val / 4) + 2 * k.val, 0, 0] := off5_0
theorem off6_1 : ∀ (i : grid0.Coords) (k), k0_off6 i k 1#32 = ![0, 4 * ((i 1).val / 4) + 2 * k.val + 1, 0, 0] := off5_1

instance closed1_0 (i : grid0.Coords) (k) : ClosedOff (k0_off1 i k 0#32) := ⟨_, off1_0 i k⟩
instance closed1_1 (i : grid0.Coords) (k) : ClosedOff (k0_off1 i k 1#32) := ⟨_, off1_1 i k⟩
instance closed1_2 (i : grid0.Coords) (k) : ClosedOff (k0_off1 i k 2#32) := ⟨_, off1_2 i k⟩
instance closed1_3 (i : grid0.Coords) (k) : ClosedOff (k0_off1 i k 3#32) := ⟨_, off1_3 i k⟩
instance closed2_0 (i : grid0.Coords) (k) : ClosedOff (k0_off2 i k 0#32) := ⟨_, off2_0 i k⟩
instance closed2_1 (i : grid0.Coords) (k) : ClosedOff (k0_off2 i k 1#32) := ⟨_, off2_1 i k⟩
instance closed2_2 (i : grid0.Coords) (k) : ClosedOff (k0_off2 i k 2#32) := ⟨_, off2_2 i k⟩
instance closed2_3 (i : grid0.Coords) (k) : ClosedOff (k0_off2 i k 3#32) := ⟨_, off2_3 i k⟩
instance closed5_0 (i : grid0.Coords) (k) : ClosedOff (k0_off5 i k 0#32) := ⟨_, off5_0 i k⟩
instance closed5_1 (i : grid0.Coords) (k) : ClosedOff (k0_off5 i k 1#32) := ⟨_, off5_1 i k⟩
instance closed6_0 (i : grid0.Coords) (k) : ClosedOff (k0_off6 i k 0#32) := ⟨_, off6_0 i k⟩
instance closed6_1 (i : grid0.Coords) (k) : ClosedOff (k0_off6 i k 1#32) := ⟨_, off6_1 i k⟩

end Cert.KernelIdeal.Hand

end
-- ==== Proof.Model.lean ====
/- What one call of the body computes, as pure functions of the blocks it is handed: the running sums over the blocks
   of positions before the row block, then the block on the diagonal. -/
module

public import proofs.«01_k».proof.Proof.Trips

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The block `n` of a head's `64` transposed blocks (the last one for a number past them). -/
def offB (n : ℕ) : Fin 4 → ℕ := ![0, min n 63, 0, 0]

theorem offB_inbT (n : ℕ) : ∀ a, offB n a + S1x1x64x256.size a ≤ S1x64x64x256.size a := by
  intro a; fin_cases a <;> simp [offB, S1x1x64x256, S1x64x64x256] <;> omega
theorem offB_inbR (n : ℕ) : ∀ a, offB n a + S1x1x256x64.size a ≤ S1x64x256x64.size a := by
  intro a; fin_cases a <;> simp [offB, S1x1x256x64, S1x64x256x64] <;> omega

theorem offB_eq {n : ℕ} (h : n < 64) : ![0, n, 0, 0] = offB n := by
  unfold offB; rw [Nat.min_eq_left (by omega)]

def blkT {e : EltTy} (x : Vec F S1x64x64x256 e) (n : ℕ) : Vec F S1x1x64x256 e :=
  VecWindow.window x (offB n) S1x1x64x256.size (offB_inbT n)
def blkR {e : EltTy} (x : Vec F S1x64x256x64 e) (n : ℕ) : Vec F S1x1x256x64 e :=
  VecWindow.window x (offB n) S1x1x256x64.size (offB_inbR n)
def putT {e : EltTy} (x : Vec F S1x64x64x256 e) (n : ℕ) (w : Vec F S1x1x64x256 e) : Vec F S1x64x64x256 e :=
  VecWindow.put x (offB n) S1x1x64x256.size w

/-- What a call reads: the row block's queries (scaled, negated) and output gradients, both also transposed, the head's
    keys and values, the table of the later blocks' sums, and the three constant matrices. -/
structure Inp (F : FTy → Type) [FloatOps F] where
  q : FVec F S256x64 .bf16
  qt : FVec F S64x256 .bf16
  g : FVec F S256x64 .bf16
  gt : FVec F S64x256 .bf16
  r : FVec F S256x128 .f32
  incl : FVec F S256x256 .bf16
  lower : FVec F S256x256 .bf16
  lane : IVec S256x128 32
  kt : Vec F S1x64x64x256 .bf16
  kr : Vec F S1x64x256x64 .bf16
  vt : Vec F S1x64x64x256 .bf16

namespace Inp

variable (I : Inp F)

/-- The negated scores of the rows against one block. -/
def nz (n : ℕ) : FVec F S256x256 .f32 :=
  matmul dot_S256x64_S64x256_S256x256_1_0_0_1_n_n none I.q (shapeCast S64x256 (blkT I.kt n) shapeCasts_S1x1x64x256_S64x256)
    (constant S256x256 .f32 0x00000000#32)

/-- `log (1 - beta)` of negated scores. -/
def logOneMinus (x : FVec F S256x256 .f32) : FVec F S256x256 .f32 :=
  subf (minimumf x (broadcast S256x256 (Scalar.ofBits .f32 0x00000000#32)))
    (log (addf (broadcast S256x256 (Scalar.ofBits .f32 0x3F800000#32))
      (exp (subf (broadcast S256x256 (Scalar.ofBits .f32 0x00000000#32)) (absf x)))))

def b (n : ℕ) : FVec F S256x256 .f32 := logOneMinus (I.nz n)

/-- Column `n` of the table of the later blocks' sums. -/
def later (n : ℕ) : FVec F S256x1 .f32 :=
  shapeCast S256x1 (multiReduction .add [1] S256
    (select (cmpi .eq I.lane (broadcast S256x128 (BitVec.ofNat 32 n))) I.r (broadcast S256x128 (Scalar.ofBits .f32 0x00000000#32)))
    0x00000000#32 reduces_S256x128_S256 (.inl rfl) rfl) shapeCasts_S256_S256x1

/-- The attention weights from the scores and `log (1 - beta)`. -/
def weights (n : ℕ) (x y : FVec F S256x256 .f32) : FVec F S256x256 .f32 :=
  exp (subf (addf (broadcastTo S256x256 (I.later n) broadcasts_S256x1_S256x256)
    (matmul dot_S256x256_S256x256_S256x256_1_0_0_1_n_n none (truncf .bf16 y bitsLt_bf16_f32) I.incl (constant S256x256 .f32 0x00000000#32))) x)

def w (n : ℕ) : FVec F S256x256 .f32 := I.weights n (I.nz n) (I.b n)

/-- The products of the output gradients with the values of one block. -/
def gv (n : ℕ) : FVec F S256x256 .f32 :=
  matmul dot_S256x64_S64x256_S256x256_1_0_0_1_n_n none I.g (shapeCast S64x256 (blkT I.vt n) shapeCasts_S1x1x64x256_S64x256)
    (constant S256x256 .f32 0x00000000#32)

def e (n : ℕ) : FVec F S256x256 .f32 := mulf (I.w n) (I.gv n)

/-- The sums of the rows of a block. -/
def rowsum (x : FVec F S256x256 .f32) : FVec F S256x1 .f32 :=
  shapeCast S256x1 (multiReduction .add [1] S256 x 0x00000000#32 reduces_S256x256_S256 (.inl rfl) rfl) shapeCasts_S256_S256x1

/-- The sums of `e` over the positions before each one. -/
def before (p : FVec F S256x1 .f32) (x : FVec F S256x256 .f32) : FVec F S256x256 .f32 :=
  addf (broadcastTo S256x256 p broadcasts_S256x1_S256x256)
    (matmul dot_S256x256_S256x256_S256x256_1_0_0_1_n_n none (truncf .bf16 x bitsLt_bf16_f32) I.lower (constant S256x256 .f32 0x00000000#32))

/-- The gradient of the scores. -/
def dzOf (p : FVec F S256x1 .f32) (x y : FVec F S256x256 .f32) : FVec F S256x256 .f32 :=
  subf (mulf (addf x (I.before p x)) (exp y)) (I.before p x)

/-- One block's term of the gradient of the values, added. -/
def addV (w : FVec F S256x256 .f32) (x : Vec F S1x1x64x256 .f32) : Vec F S1x1x64x256 .f32 :=
  shapeCast S1x1x64x256 (addf (shapeCast S64x256 x shapeCasts_S1x1x64x256_S64x256)
    (matmul dot_S64x256_S256x256_S64x256_1_0_0_1_n_n none I.gt (truncf .bf16 w bitsLt_bf16_f32) (constant S64x256 .f32 0x00000000#32)))
    shapeCasts_S64x256_S1x1x64x256

/-- One block's term of the gradient of the keys, subtracted. -/
def subK (z : FVec F S256x256 .bf16) (x : Vec F S1x1x64x256 .f32) : Vec F S1x1x64x256 .f32 :=
  shapeCast S1x1x64x256 (subf (shapeCast S64x256 x shapeCasts_S1x1x64x256_S64x256)
    (matmul dot_S64x256_S256x256_S64x256_1_0_0_1_n_n none I.qt z (constant S64x256 .f32 0x00000000#32)))
    shapeCasts_S64x256_S1x1x64x256

/-- One block's term of the gradient of the queries, added. -/
def addQ (z : FVec F S256x256 .bf16) (n : ℕ) (x : FVec F S256x64 .f32) : FVec F S256x64 .f32 :=
  addf x (matmul dot_S256x256_S256x64_S256x64_1_0_0_1_n_n none z (shapeCast S256x64 (blkR I.kr n) shapeCasts_S1x1x256x64_S256x64)
    (constant S256x64 .f32 0x00000000#32))

/-- The sum of `e` over the first `n` blocks. -/
def p : ℕ → FVec F S256x1 .f32
  | 0 => broadcast S256x1 (Scalar.ofBits .f32 0x00000000#32)
  | n + 1 => addf (p n) (rowsum (I.e n))

def dz (n : ℕ) : FVec F S256x256 .bf16 := truncf .bf16 (I.dzOf (I.p n) (I.e n) (I.b n)) bitsLt_bf16_f32

def dq : ℕ → FVec F S256x64 .f32
  | 0 => broadcast S256x64 (Scalar.ofBits .f32 0x00000000#32)
  | n + 1 => I.addQ (I.dz n) n (dq n)

def dv (x : Vec F S1x64x64x256 .f32) : ℕ → Vec F S1x64x64x256 .f32
  | 0 => x
  | n + 1 => putT (dv x n) n (I.addV (I.w n) (blkT (dv x n) n))

def dk (x : Vec F S1x64x64x256 .f32) : ℕ → Vec F S1x64x64x256 .f32
  | 0 => x
  | n + 1 => putT (dk x n) n (I.subK (I.dz n) (blkT (dk x n) n))

/-! The block on the diagonal, under its mask. -/

variable (tri : IVec S256x256 1) (i : ℕ)

def bD : FVec F S256x256 .f32 := select tri (I.b i) (broadcast S256x256 (Scalar.ofBits .f32 0x00000000#32))
def wD : FVec F S256x256 .f32 :=
  select tri (I.weights i (I.nz i) (I.bD tri i)) (broadcast S256x256 (Scalar.ofBits .f32 0x00000000#32))
def eD : FVec F S256x256 .f32 := mulf (I.wD tri i) (I.gv i)
def dzD : FVec F S256x256 .bf16 :=
  truncf .bf16 (select tri (I.dzOf (I.p i) (I.eD tri i) (I.bD tri i)) (broadcast S256x256 (Scalar.ofBits .f32 0x00000000#32))) bitsLt_bf16_f32

/-- What the body leaves: the gradient of the row block's queries, -/
def outQ : Vec F S1x256x64 .f32 :=
  shapeCast S1x256x64 (mulf (I.addQ (I.dzD tri i) i (I.dq i)) (broadcast S256x64 (Scalar.ofBits .f32 0x3E000000#32))) shapeCasts_S256x64_S1x256x64
/-- the sums of the gradients of the keys, -/
def outK (x : Vec F S1x64x64x256 .f32) : Vec F S1x64x64x256 .f32 :=
  putT (I.dk x i) i (I.subK (I.dzD tri i) (blkT (I.dk x i) i))
/-- and of the values. -/
def outV (x : Vec F S1x64x64x256 .f32) : Vec F S1x64x64x256 .f32 :=
  putT (I.dv x i) i (I.addV (I.wD tri i) (blkT (I.dv x i) i))

end Inp

/-! Reading past the blocks already written. -/

theorem blkT_putT_ne {e : EltTy} (x : Vec F S1x64x64x256 e) {n n' : ℕ} (w : Vec F S1x1x64x256 e) (h : n < 64) (h' : n' < 64) (hn : n ≠ n') :
    blkT (putT x n w) n' = blkT x n' :=
  VecWindow.window_put_of_disjoint x (offB n) S1x1x64x256.size (offB n') S1x1x64x256.size (offB_inbT n') w 1 (by
    simp only [offB, S1x1x64x256, Matrix.cons_val_one, Matrix.cons_val_zero]; omega)

theorem dv_get (I : Inp F) (x : Vec F S1x64x64x256 .f32) {n j : ℕ} (h : n ≤ j) (hj : j < 64) : blkT (I.dv x n) j = blkT x j := by
  induction n with
  | zero => rfl
  | succ n ih => exact (blkT_putT_ne _ _ (by omega) hj (by omega)).trans (ih (by omega))

theorem dk_get (I : Inp F) (x : Vec F S1x64x64x256 .f32) {n j : ℕ} (h : n ≤ j) (hj : j < 64) : blkT (I.dk x n) j = blkT x j := by
  induction n with
  | zero => rfl
  | succ n ih => exact (blkT_putT_ne _ _ (by omega) hj (by omega)).trans (ih (by omega))

end Cert.KernelIdeal.Hand

end
-- ==== Proof.Reads.lean ====
/- What the body's loads and its running block numbers are, in closed form. -/
module

public import proofs.«01_k».proof.Proof.Model

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

theorem read_blkT {e : EltTy} (m : Memref sig .tc .vmem S1x64x64x256 e) (f : m.view.ty.Contents (Elt F)) {off : Fin 4 → ℕ}
    (inb : ∀ a, off a + S1x1x64x256.size a ≤ S1x64x64x256.size a) (x : Vec F S1x64x64x256 e) (hf : m.view.read (Elt F) f = x)
    {n : ℕ} (h : off = ![0, n, 0, 0]) (hn : n < 64) :
    m.view.readAt (Elt F) (Rect.unit (s := S1x64x64x256) off S1x1x64x256.size inb).toLoadRect f = blkT x n := by
  rw [View.readAt_unit m.view f inb (h.trans (offB_eq hn)) (offB_inbT n), hf]; rfl

theorem read_blkR {e : EltTy} (m : Memref sig .tc .vmem S1x64x256x64 e) (f : m.view.ty.Contents (Elt F)) {off : Fin 4 → ℕ}
    (inb : ∀ a, off a + S1x1x256x64.size a ≤ S1x64x256x64.size a) (x : Vec F S1x64x256x64 e) (hf : m.view.read (Elt F) f = x)
    {n : ℕ} (h : off = ![0, n, 0, 0]) (hn : n < 64) :
    m.view.readAt (Elt F) (Rect.unit (s := S1x64x256x64) off S1x1x256x64.size inb).toLoadRect f = blkR x n := by
  rw [View.readAt_unit m.view f inb (h.trans (offB_eq hn)) (offB_inbR n), hf]; rfl

theorem word1 (n r : ℕ) : Scalar.addi (Scalar.muli 4#32 (Scf.iv 0#32 1#32 n)) (BitVec.ofNat 32 r) = BitVec.ofNat 32 (4 * n + r) := by
  unfold Scalar.addi Scalar.muli Scf.iv IntOp.addi IntOp.muli
  apply BitVec.eq_of_toNat_eq
  simp [BitVec.toNat_add, BitVec.toNat_mul]

theorem word3 (a n r : ℕ) : Scalar.addi (Scalar.addi (Scalar.muli 4#32 (BitVec.ofNat 32 a)) (Scalar.muli 2#32 (Scf.iv 0#32 1#32 n))) (BitVec.ofNat 32 r)
    = BitVec.ofNat 32 (4 * a + 2 * n + r) := by
  unfold Scalar.addi Scalar.muli Scf.iv IntOp.addi IntOp.muli
  apply BitVec.eq_of_toNat_eq
  simp [BitVec.toNat_add, BitVec.toNat_mul]

theorem word5 (n : ℕ) (h : 0 < n) : Scalar.subi (BitVec.ofNat 32 n) 1#32 = BitVec.ofNat 32 (n - 1) := by
  obtain ⟨n, rfl⟩ : ∃ m, n = m + 1 := ⟨n - 1, by omega⟩
  unfold Scalar.subi IntOp.subi
  rw [Nat.add_sub_cancel, BitVec.ofNat_add]
  exact BitVec.add_sub_cancel _ _

theorem off9_eq (i : grid0.Coords) (h : 0 < (i 1).val) : k0_off9 i = ![0, (i 1).val - 1, 0, 0] := by
  unfold k0_off9
  have hi := row_lt i
  dsimp only
  rw [word5 _ h]
  unfold Scalar.indexCast
  have : (BitVec.ofNat 32 ((i 1).val - 1)).toNat = (i 1).val - 1 := by rw [BitVec.toNat_ofNat]; exact Nat.mod_eq_of_lt (by omega)
  exact congrArg (fun n => ![0, n, 0, 0]) this
theorem off10_eq (i : grid0.Coords) (h : 0 < (i 1).val) : k0_off10 i = ![0, (i 1).val - 1, 0, 0] := off9_eq i h

/-- After storing block `n` of the gradient of the keys, over blocks whose reads were taken earlier. -/
theorem dk_cons (I : Inp F) (x : Vec F S1x64x64x256 .f32) (m : Memref sig .tc .vmem S1x64x64x256 .f32) (f : m.view.ty.Contents (Elt F))
    (L : List (View.Piece (Elt F) S1x64x64x256 .f32)) {off : Fin 4 → ℕ} (inb : ∀ a, off a + S1x1x64x256.size a ≤ S1x64x64x256.size a)
    (w : Vec F S1x1x64x256 .f32) {n n0 : ℕ} (h : off = ![0, n, 0, 0]) (hn : n < 64) (h0 : n0 ≤ n)
    (hw : w = I.subK (I.dz n) (blkT (I.dk x n0) n)) (hL : m.view.read (Elt F) (m.view.writes (Elt F) f L) = I.dk x n) :
    m.view.read (Elt F) (m.view.writes (Elt F) f (⟨Rect.unit (s := S1x64x64x256) off S1x1x64x256.size inb, w⟩ :: L)) = I.dk x (n + 1) := by
  rw [View.read_writes_cons_put m.view f inb w L (h.trans (offB_eq hn)), hL, hw, dk_get I x h0 hn, ← dk_get I x (le_refl n) hn]
  rfl

/-- After storing block `n` of the gradient of the values, over blocks whose reads were taken earlier. -/
theorem dv_cons (I : Inp F) (x : Vec F S1x64x64x256 .f32) (m : Memref sig .tc .vmem S1x64x64x256 .f32) (f : m.view.ty.Contents (Elt F))
    (L : List (View.Piece (Elt F) S1x64x64x256 .f32)) {off : Fin 4 → ℕ} (inb : ∀ a, off a + S1x1x64x256.size a ≤ S1x64x64x256.size a)
    (w : Vec F S1x1x64x256 .f32) {n n0 : ℕ} (h : off = ![0, n, 0, 0]) (hn : n < 64) (h0 : n0 ≤ n)
    (hw : w = I.addV (I.w n) (blkT (I.dv x n0) n)) (hL : m.view.read (Elt F) (m.view.writes (Elt F) f L) = I.dv x n) :
    m.view.read (Elt F) (m.view.writes (Elt F) f (⟨Rect.unit (s := S1x64x64x256) off S1x1x64x256.size inb, w⟩ :: L)) = I.dv x (n + 1) := by
  rw [View.read_writes_cons_put m.view f inb w L (h.trans (offB_eq hn)), hL, hw, dv_get I x h0 hn, ← dv_get I x (le_refl n) hn]
  rfl

end Cert.KernelIdeal.Hand

end
-- ==== Proof.Trip1.lean ====
/- One trip of the first loop: four blocks. -/
module

public import proofs.«01_k».proof.Proof.Reads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole) (arg1 : BitVec 32) (v4 : FVec F S256x64 .bf16) (v6 : FVec F S64x256 .bf16) (v8 : FVec F S256x64 .bf16) (v10 : FVec F S64x256 .bf16) (v12 : FVec F S256x128 .f32) (v19 v23 : FVec F S256x256 .bf16) (v24 : IVec S256x128 32)
  (v25 : FVec F S256x1 .f32) (v26 : FVec F S256x64 .f32) (c4_i32 v27 v32 : BitVec 32)
  (kt : Vec F S1x64x64x256 .bf16) (kr : Vec F S1x64x256x64 .bf16) (vt : Vec F S1x64x64x256 .bf16) (x11 x12 : Vec F S1x64x64x256 .f32)

/-- Before trip `k` of the first loop the first `4 k` blocks are done. -/
def inv1 (n : ℕ) (acc : FVec F S256x1 .f32 × FVec F S256x64 .f32) : sProp 𝕄 :=
  iprop(⌜acc = ((⟨v4, v6, v8, v10, v12, v19, v23, v24, kt, kr, vt⟩ : Inp F).p (4 * n), (⟨v4, v6, v8, v10, v12, v19, v23, v24, kt, kr, vt⟩ : Inp F).dq (4 * n))⌝
      ∗ (arg6.view.loc (c : Thread nD τ) ↦[arg6.view.set]{fullShare} harg6.unread kt)
      ∗ (arg7.view.loc (c : Thread nD τ) ↦[arg7.view.set]{fullShare} harg7.unread kr)
      ∗ (arg8.view.loc (c : Thread nD τ) ↦[arg8.view.set]{fullShare} harg8.unread vt)
      ∗ (∃ f, (arg11.view.loc (c : Thread nD τ) ↦[arg11.view.set]{fullShare} f) ∗ ⌜arg11.view.read (Elt F) f = (⟨v4, v6, v8, v10, v12, v19, v23, v24, kt, kr, vt⟩ : Inp F).dk x11 (4 * n)⌝)
      ∗ (∃ f, (arg12.view.loc (c : Thread nD τ) ↦[arg12.view.set]{fullShare} f) ∗ ⌜arg12.view.read (Elt F) f = (⟨v4, v6, v8, v10, v12, v19, v23, v24, kt, kr, vt⟩ : Inp F).dv x12 (4 * n)⌝))

set_option maxHeartbeats 8000000 in
theorem trip1 (k : Fin (k0_t1_loop i).trips) (acc : FVec F S256x1 .f32 × FVec F S256x64 .f32) :
    inv1 c arg6 harg6 arg7 harg7 arg8 harg8 arg11 arg12 v4 v6 v8 v10 v12 v19 v23 v24 kt kr vt x11 x12 k.val acc
      ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 arg11 harg11 arg12 harg12 arg1 v4 v6 v8 v10 v12 v19 v23 v24 v25 v26 c4_i32 v27 v32 k acc)
        (inv1 c arg6 harg6 arg7 harg7 arg8 harg8 arg11 arg12 v4 v6 v8 v10 v12 v19 v23 v24 kt kr vt x11 x12 (k.val + 1)) := by
  unfold inv1 k0_t1_body
  simp only [k0_part1_eq_skeleton, k0_part2_eq_skeleton, k0_part3_eq_skeleton, k0_part4_eq_skeleton, k0_part5_eq_skeleton, k0_part6_eq_skeleton, k0_part7_eq_skeleton]
  iintro ⟨%ha, H6, H7, H8, ⟨%f11, H11, %h11⟩, ⟨%f12, H12, %h12⟩⟩
  subst ha
  have hk : 4 * k.val + 3 < 64 := by
    have := k.isLt; have := trips_t1 i; have := row_lt i; omega
  have hr6_0 : arg6.view.readAt (Elt F) (Rect.unit (s := S1x64x64x256) (k0_off1 i k 0#32) S1x1x64x256.size (k0_off1_inb i k 0)).toLoadRect (harg6.unread kt) = blkT kt (4 * k.val) :=
    read_blkT arg6 _ _ _ (harg6.read_unread _) (off1_0 i k) (by omega)
  have hr8_0 : arg8.view.readAt (Elt F) (Rect.unit (s := S1x64x64x256) (k0_off1 i k 0#32) S1x1x64x256.size (k0_off1_inb i k 0)).toLoadRect (harg8.unread vt) = blkT vt (4 * k.val) :=
    read_blkT arg8 _ _ _ (harg8.read_unread _) (off1_0 i k) (by omega)
  have hr7_0 : arg7.view.readAt (Elt F) (Rect.unit (s := S1x64x256x64) (k0_off2 i k 0#32) S1x1x256x64.size (k0_off2_inb i k 0)).toLoadRect (harg7.unread kr) = blkR kr (4 * k.val) :=
    read_blkR arg7 _ _ _ (harg7.read_unread _) (off2_0 i k) (by omega)
  have hr11_0 : arg11.view.readAt (Elt F) (Rect.unit (s := S1x64x64x256) (k0_off1 i k 0#32) S1x1x64x256.size (k0_off1_inb i k 0)).toLoadRect f11 = blkT ((⟨v4, v6, v8, v10, v12, v19, v23, v24, kt, kr, vt⟩ : Inp F).dk x11 (4 * k.val)) (4 * k.val) :=
    read_blkT arg11 _ _ _ h11 (off1_0 i k) (by omega)
  have hr12_0 : arg12.view.readAt (Elt F) (Rect.unit (s := S1x64x64x256) (k0_off1 i k 0#32) S1x1x64x256.size (k0_off1_inb i k 0)).toLoadRect f12 = blkT ((⟨v4, v6, v8, v10, v12, v19, v23, v24, kt, kr, vt⟩ : Inp F).dv x12 (4 * k.val)) (4 * k.val) :=
    read_blkT arg12 _ _ _ h12 (off1_0 i k) (by omega)
  have hw_0 : Scalar.addi (Scalar.muli 4#32 (Scf.iv 0#32 1#32 k.val)) 0#32 = BitVec.ofNat 32 (4 * k.val) := word1 _ 0
  have hr6_1 : arg6.view.readAt (Elt F) (Rect.unit (s := S1x64x64x256) (k0_off1 i k 1#32) S1x1x64x256.size (k0_off1_inb i k 1)).toLoadRect (harg6.unread kt) = blkT kt (4 * k.val + 1) :=
    read_blkT arg6 _ _ _ (harg6.read_unread _) (off1_1 i k) (by omega)
  have hr8_1 : arg8.view.readAt (Elt F) (Rect.unit (s := S1x64x64x256) (k0_off1 i k 1#32) S1x1x64x256.size (k0_off1_inb i k 1)).toLoadRect (harg8.unread vt) = blkT vt (4 * k.val + 1) :=
    read_blkT arg8 _ _ _ (harg8.read_unread _) (off1_1 i k) (by omega)
  have hr7_1 : arg7.view.readAt (Elt F) (Rect.unit (s := S1x64x256x64) (k0_off2 i k 1#32) S1x1x256x64.size (k0_off2_inb i k 1)).toLoadRect (harg7.unread kr) = blkR kr (4 * k.val + 1) :=
    read_blkR arg7 _ _ _ (harg7.read_unread _) (off2_1 i k) (by omega)
  have hr11_1 : arg11.view.readAt (Elt F) (Rect.unit (s := S1x64x64x256) (k0_off1 i k 1#32) S1x1x64x256.size (k0_off1_inb i k 1)).toLoadRect f11 = blkT ((⟨v4, v6, v8, v10, v12, v19, v23, v24, kt, kr, vt⟩ : Inp F).dk x11 (4 * k.val)) (4 * k.val + 1) :=
    read_blkT arg11 _ _ _ h11 (off1_1 i k) (by omega)
  have hr12_1 : arg12.view.readAt (Elt F) (Rect.unit (s := S1x64x64x256) (k0_off1 i k 1#32) S1x1x64x256.size (k0_off1_inb i k 1)).toLoadRect f12 = blkT ((⟨v4, v6, v8, v10, v12, v19, v23, v24, kt, kr, vt⟩ : Inp F).dv x12 (4 * k.val)) (4 * k.val + 1) :=
    read_blkT arg12 _ _ _ h12 (off1_1 i k) (by omega)
  have hw_1 : Scalar.addi (Scalar.muli 4#32 (Scf.iv 0#32 1#32 k.val)) 1#32 = BitVec.ofNat 32 (4 * k.val + 1) := word1 _ 1
  have hr6_2 : arg6.view.readAt (Elt F) (Rect.unit (s := S1x64x64x256) (k0_off1 i k 2#32) S1x1x64x256.size (k0_off1_inb i k 2)).toLoadRect (harg6.unread kt) = blkT kt (4 * k.val + 2) :=
    read_blkT arg6 _ _ _ (harg6.read_unread _) (off1_2 i k) (by omega)
  have hr8_2 : arg8.view.readAt (Elt F) (Rect.unit (s := S1x64x64x256) (k0_off1 i k 2#32) S1x1x64x256.size (k0_off1_inb i k 2)).toLoadRect (harg8.unread vt) = blkT vt (4 * k.val + 2) :=
    read_blkT arg8 _ _ _ (harg8.read_unread _) (off1_2 i k) (by omega)
  have hr7_2 : arg7.view.readAt (Elt F) (Rect.unit (s := S1x64x256x64) (k0_off2 i k 2#32) S1x1x256x64.size (k0_off2_inb i k 2)).toLoadRect (harg7.unread kr) = blkR kr (4 * k.val + 2) :=
    read_blkR arg7 _ _ _ (harg7.read_unread _) (off2_2 i k) (by omega)
  have hr11_2 : arg11.view.readAt (Elt F) (Rect.unit (s := S1x64x64x256) (k0_off1 i k 2#32) S1x1x64x256.size (k0_off1_inb i k 2)).toLoadRect f11 = blkT ((⟨v4, v6, v8, v10, v12, v19, v23, v24, kt, kr, vt⟩ : Inp F).dk x11 (4 * k.val)) (4 * k.val + 2) :=
    read_blkT arg11 _ _ _ h11 (off1_2 i k) (by omega)
  have hr12_2 : arg12.view.readAt (Elt F) (Rect.unit (s := S1x64x64x256) (k0_off1 i k 2#32) S1x1x64x256.size (k0_off1_inb i k 2)).toLoadRect f12 = blkT ((⟨v4, v6, v8, v10, v12, v19, v23, v24, kt, kr, vt⟩ : Inp F).dv x12 (4 * k.val)) (4 * k.val + 2) :=
    read_blkT arg12 _ _ _ h12 (off1_2 i k) (by omega)
  have hw_2 : Scalar.addi (Scalar.muli 4#32 (Scf.iv 0#32 1#32 k.val)) 2#32 = BitVec.ofNat 32 (4 * k.val + 2) := word1 _ 2
  have hr6_3 : arg6.view.readAt (Elt F) (Rect.unit (s := S1x64x64x256) (k0_off1 i k 3#32) S1x1x64x256.size (k0_off1_inb i k 3)).toLoadRect (harg6.unread kt) = blkT kt (4 * k.val + 3) :=
    read_blkT arg6 _ _ _ (harg6.read_unread _) (off1_3 i k) (by omega)
  have hr8_3 : arg8.view.readAt (Elt F) (Rect.unit (s := S1x64x64x256) (k0_off1 i k 3#32) S1x1x64x256.size (k0_off1_inb i k 3)).toLoadRect (harg8.unread vt) = blkT vt (4 * k.val + 3) :=
    read_blkT arg8 _ _ _ (harg8.read_unread _) (off1_3 i k) (by omega)
  have hr7_3 : arg7.view.readAt (Elt F) (Rect.unit (s := S1x64x256x64) (k0_off2 i k 3#32) S1x1x256x64.size (k0_off2_inb i k 3)).toLoadRect (harg7.unread kr) = blkR kr (4 * k.val + 3) :=
    read_blkR arg7 _ _ _ (harg7.read_unread _) (off2_3 i k) (by omega)
  have hr11_3 : arg11.view.readAt (Elt F) (Rect.unit (s := S1x64x64x256) (k0_off1 i k 3#32) S1x1x64x256.size (k0_off1_inb i k 3)).toLoadRect f11 = blkT ((⟨v4, v6, v8, v10, v12, v19, v23, v24, kt, kr, vt⟩ : Inp F).dk x11 (4 * k.val)) (4 * k.val + 3) :=
    read_blkT arg11 _ _ _ h11 (off1_3 i k) (by omega)
  have hr12_3 : arg12.view.readAt (Elt F) (Rect.unit (s := S1x64x64x256) (k0_off1 i k 3#32) S1x1x64x256.size (k0_off1_inb i k 3)).toLoadRect f12 = blkT ((⟨v4, v6, v8, v10, v12, v19, v23, v24, kt, kr, vt⟩ : Inp F).dv x12 (4 * k.val)) (4 * k.val + 3) :=
    read_blkT arg12 _ _ _ h12 (off1_3 i k) (by omega)
  have hw_3 : Scalar.addi (Scalar.muli 4#32 (Scf.iv 0#32 1#32 k.val)) 3#32 = BitVec.ofNat 32 (4 * k.val + 3) := word1 _ 3
  sl_exec
  sl_step
  rw [show 4 * (k.val + 1) = 4 * k.val + 1 + 1 + 1 + 1 from rfl]
  isplitr
  · ipureintro
    delta trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30 trip1.sl.r_31 trip1.sl.arg13 trip1.sl.v177 trip1.sl.v180 trip1.sl.v182 trip1.sl.v184
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay146, hr6_0, hr7_0, hr8_0, hr11_0, hr12_0, hw_0, hr6_1, hr7_1, hr8_1, hr11_1, hr12_1, hw_1, hr6_2, hr7_2, hr8_2, hr11_2, hr12_2, hw_2, hr6_3, hr7_3, hr8_3, hr11_3, hr12_3, hw_3]
    rfl
  isplitl [H6]; · iexact H6
  isplitl [H7]; · iexact H7
  isplitl [H8]; · iexact H8
  isplitl [H11]
  · iexists _; isplitl [H11]; · iexact H11
    ipureintro
    refine dk_cons (n0 := 4 * k.val) _ _ _ _ _ _ _ (off1_3 i k) (by omega) (by omega) ?_ <| dk_cons (n0 := 4 * k.val) _ _ _ _ _ _ _ (off1_2 i k) (by omega) (by omega) ?_ <|
      dk_cons (n0 := 4 * k.val) _ _ _ _ _ _ _ (off1_1 i k) (by omega) (by omega) ?_ <| dk_cons (n0 := 4 * k.val) _ _ _ _ _ _ _ (off1_0 i k) (by omega) (by omega) ?_ h11
    all_goals
      delta trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30 trip1.sl.r_31 trip1.sl.arg13 trip1.sl.v177 trip1.sl.v180 trip1.sl.v182 trip1.sl.v184
      simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay146, hr6_0, hr7_0, hr8_0, hr11_0, hr12_0, hw_0, hr6_1, hr7_1, hr8_1, hr11_1, hr12_1, hw_1, hr6_2, hr7_2, hr8_2, hr11_2, hr12_2, hw_2, hr6_3, hr7_3, hr8_3, hr11_3, hr12_3, hw_3]
      rfl
  · iexists _; isplitl [H12]; · iexact H12
    ipureintro
    refine dv_cons (n0 := 4 * k.val) _ _ _ _ _ _ _ (off1_3 i k) (by omega) (by omega) ?_ <| dv_cons (n0 := 4 * k.val) _ _ _ _ _ _ _ (off1_2 i k) (by omega) (by omega) ?_ <|
      dv_cons (n0 := 4 * k.val) _ _ _ _ _ _ _ (off1_1 i k) (by omega) (by omega) ?_ <| dv_cons (n0 := 4 * k.val) _ _ _ _ _ _ _ (off1_0 i k) (by omega) (by omega) ?_ h12
    all_goals
      delta trip1.sl.r trip1.sl.r_1 trip1.sl.r_2 trip1.sl.r_3 trip1.sl.r_4 trip1.sl.r_5 trip1.sl.r_6 trip1.sl.r_7 trip1.sl.r_8 trip1.sl.r_9 trip1.sl.r_10 trip1.sl.r_11 trip1.sl.r_12 trip1.sl.r_13 trip1.sl.r_14 trip1.sl.r_15 trip1.sl.r_16 trip1.sl.r_17 trip1.sl.r_18 trip1.sl.r_19 trip1.sl.r_20 trip1.sl.r_21 trip1.sl.r_22 trip1.sl.r_23 trip1.sl.r_24 trip1.sl.r_25 trip1.sl.r_26 trip1.sl.r_27 trip1.sl.r_28 trip1.sl.r_29 trip1.sl.r_30 trip1.sl.r_31 trip1.sl.arg13 trip1.sl.v177 trip1.sl.v180 trip1.sl.v182 trip1.sl.v184
      simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay146, hr6_0, hr7_0, hr8_0, hr11_0, hr12_0, hw_0, hr6_1, hr7_1, hr8_1, hr11_1, hr12_1, hw_1, hr6_2, hr7_2, hr8_2, hr11_2, hr12_2, hw_2, hr6_3, hr7_3, hr8_3, hr11_3, hr12_3, hw_3]
      rfl

end Cert.KernelIdeal.Hand

end
-- ==== Proof.Trip3.lean ====
/- One trip of the loop over two blocks. -/
module

public import proofs.«01_k».proof.Proof.Reads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole) (arg1 : BitVec 32) (v4 : FVec F S256x64 .bf16) (v6 : FVec F S64x256 .bf16) (v8 : FVec F S256x64 .bf16) (v10 : FVec F S64x256 .bf16) (v12 : FVec F S256x128 .f32) (v19 v23 : FVec F S256x256 .bf16) (v24 : IVec S256x128 32)
  (v43 : BitVec 32) (v50_0 : FVec F S256x1 .f32) (v50_1 : FVec F S256x64 .f32) (v60 v61 : BitVec 32) (v72 : BitVec 1) (v73 : BitVec 32)
  (kt : Vec F S1x64x64x256 .bf16) (kr : Vec F S1x64x256x64 .bf16) (vt : Vec F S1x64x64x256 .bf16) (x11 x12 : Vec F S1x64x64x256 .f32)

/-- Before trip `n` of the second loop. -/
def inv3 (n : ℕ) (acc : FVec F S256x1 .f32 × FVec F S256x64 .f32) : sProp 𝕄 :=
  iprop(⌜acc = ((⟨v4, v6, v8, v10, v12, v19, v23, v24, kt, kr, vt⟩ : Inp F).p (4 * ((i 1).val / 4) + 2 * n), (⟨v4, v6, v8, v10, v12, v19, v23, v24, kt, kr, vt⟩ : Inp F).dq (4 * ((i 1).val / 4) + 2 * n))⌝
      ∗ (arg6.view.loc (c : Thread nD τ) ↦[arg6.view.set]{fullShare} harg6.unread kt)
      ∗ (arg7.view.loc (c : Thread nD τ) ↦[arg7.view.set]{fullShare} harg7.unread kr)
      ∗ (arg8.view.loc (c : Thread nD τ) ↦[arg8.view.set]{fullShare} harg8.unread vt)
      ∗ (∃ f, (arg11.view.loc (c : Thread nD τ) ↦[arg11.view.set]{fullShare} f) ∗ ⌜arg11.view.read (Elt F) f = (⟨v4, v6, v8, v10, v12, v19, v23, v24, kt, kr, vt⟩ : Inp F).dk x11 (4 * ((i 1).val / 4) + 2 * n)⌝)
      ∗ (∃ f, (arg12.view.loc (c : Thread nD τ) ↦[arg12.view.set]{fullShare} f) ∗ ⌜arg12.view.read (Elt F) f = (⟨v4, v6, v8, v10, v12, v19, v23, v24, kt, kr, vt⟩ : Inp F).dv x12 (4 * ((i 1).val / 4) + 2 * n)⌝))

set_option maxHeartbeats 8000000 in
theorem trip3 (k : Fin (k0_t3_loop i).trips) (acc : FVec F S256x1 .f32 × FVec F S256x64 .f32)
    (hv43 : v43 = BitVec.ofNat 32 ((i 1).val / 4)) :
    inv3 c i arg6 harg6 arg7 harg7 arg8 harg8 arg11 arg12 v4 v6 v8 v10 v12 v19 v23 v24 kt kr vt x11 x12 k.val acc
      ⊢ wp frame (wpE (defs₀ (F := F)) Variants.none c none) Set.univ
        (k0_t3_body (F := F) i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73 k acc)
        (inv3 c i arg6 harg6 arg7 harg7 arg8 harg8 arg11 arg12 v4 v6 v8 v10 v12 v19 v23 v24 kt kr vt x11 x12 (k.val + 1)) := by
  unfold inv3 k0_t3_body
  simp only [k0_part15_eq_skeleton, k0_part16_eq_skeleton, k0_part17_eq_skeleton]
  iintro ⟨%ha, H6, H7, H8, ⟨%f11, H11, %h11⟩, ⟨%f12, H12, %h12⟩⟩
  subst ha
  have hk : 4 * ((i 1).val / 4) + 2 * k.val + 1 < 64 := by
    have := k.isLt; have := trips_t3 i; have := row_lt i; omega
  have hr6_0 : arg6.view.readAt (Elt F) (Rect.unit (s := S1x64x64x256) (k0_off5 i k 0#32) S1x1x64x256.size (k0_off5_inb i k 0)).toLoadRect (harg6.unread kt) = blkT kt (4 * ((i 1).val / 4) + 2 * k.val) :=
    read_blkT arg6 _ _ _ (harg6.read_unread _) (off5_0 i k) (by omega)
  have hr8_0 : arg8.view.readAt (Elt F) (Rect.unit (s := S1x64x64x256) (k0_off5 i k 0#32) S1x1x64x256.size (k0_off5_inb i k 0)).toLoadRect (harg8.unread vt) = blkT vt (4 * ((i 1).val / 4) + 2 * k.val) :=
    read_blkT arg8 _ _ _ (harg8.read_unread _) (off5_0 i k) (by omega)
  have hr7_0 : arg7.view.readAt (Elt F) (Rect.unit (s := S1x64x256x64) (k0_off6 i k 0#32) S1x1x256x64.size (k0_off6_inb i k 0)).toLoadRect (harg7.unread kr) = blkR kr (4 * ((i 1).val / 4) + 2 * k.val) :=
    read_blkR arg7 _ _ _ (harg7.read_unread _) (off6_0 i k) (by omega)
  have hr11_0 : arg11.view.readAt (Elt F) (Rect.unit (s := S1x64x64x256) (k0_off5 i k 0#32) S1x1x64x256.size (k0_off5_inb i k 0)).toLoadRect f11 = blkT ((⟨v4, v6, v8, v10, v12, v19, v23, v24, kt, kr, vt⟩ : Inp F).dk x11 (4 * ((i 1).val / 4) + 2 * k.val)) (4 * ((i 1).val / 4) + 2 * k.val) :=
    read_blkT arg11 _ _ _ h11 (off5_0 i k) (by omega)
  have hr12_0 : arg12.view.readAt (Elt F) (Rect.unit (s := S1x64x64x256) (k0_off5 i k 0#32) S1x1x64x256.size (k0_off5_inb i k 0)).toLoadRect f12 = blkT ((⟨v4, v6, v8, v10, v12, v19, v23, v24, kt, kr, vt⟩ : Inp F).dv x12 (4 * ((i 1).val / 4) + 2 * k.val)) (4 * ((i 1).val / 4) + 2 * k.val) :=
    read_blkT arg12 _ _ _ h12 (off5_0 i k) (by omega)
  have hw_0 : Scalar.addi (Scalar.addi (Scalar.muli 4#32 v43) (Scalar.muli 2#32 (Scf.iv 0#32 1#32 k.val))) 0#32 = BitVec.ofNat 32 (4 * ((i 1).val / 4) + 2 * k.val) := hv43 ▸ word3 _ _ 0
  have hr6_1 : arg6.view.readAt (Elt F) (Rect.unit (s := S1x64x64x256) (k0_off5 i k 1#32) S1x1x64x256.size (k0_off5_inb i k 1)).toLoadRect (harg6.unread kt) = blkT kt (4 * ((i 1).val / 4) + 2 * k.val + 1) :=
    read_blkT arg6 _ _ _ (harg6.read_unread _) (off5_1 i k) (by omega)
  have hr8_1 : arg8.view.readAt (Elt F) (Rect.unit (s := S1x64x64x256) (k0_off5 i k 1#32) S1x1x64x256.size (k0_off5_inb i k 1)).toLoadRect (harg8.unread vt) = blkT vt (4 * ((i 1).val / 4) + 2 * k.val + 1) :=
    read_blkT arg8 _ _ _ (harg8.read_unread _) (off5_1 i k) (by omega)
  have hr7_1 : arg7.view.readAt (Elt F) (Rect.unit (s := S1x64x256x64) (k0_off6 i k 1#32) S1x1x256x64.size (k0_off6_inb i k 1)).toLoadRect (harg7.unread kr) = blkR kr (4 * ((i 1).val / 4) + 2 * k.val + 1) :=
    read_blkR arg7 _ _ _ (harg7.read_unread _) (off6_1 i k) (by omega)
  have hr11_1 : arg11.view.readAt (Elt F) (Rect.unit (s := S1x64x64x256) (k0_off5 i k 1#32) S1x1x64x256.size (k0_off5_inb i k 1)).toLoadRect f11 = blkT ((⟨v4, v6, v8, v10, v12, v19, v23, v24, kt, kr, vt⟩ : Inp F).dk x11 (4 * ((i 1).val / 4) + 2 * k.val)) (4 * ((i 1).val / 4) + 2 * k.val + 1) :=
    read_blkT arg11 _ _ _ h11 (off5_1 i k) (by omega)
  have hr12_1 : arg12.view.readAt (Elt F) (Rect.unit (s := S1x64x64x256) (k0_off5 i k 1#32) S1x1x64x256.size (k0_off5_inb i k 1)).toLoadRect f12 = blkT ((⟨v4, v6, v8, v10, v12, v19, v23, v24, kt, kr, vt⟩ : Inp F).dv x12 (4 * ((i 1).val / 4) + 2 * k.val)) (4 * ((i 1).val / 4) + 2 * k.val + 1) :=
    read_blkT arg12 _ _ _ h12 (off5_1 i k) (by omega)
  have hw_1 : Scalar.addi (Scalar.addi (Scalar.muli 4#32 v43) (Scalar.muli 2#32 (Scf.iv 0#32 1#32 k.val))) 1#32 = BitVec.ofNat 32 (4 * ((i 1).val / 4) + 2 * k.val + 1) := hv43 ▸ word3 _ _ 1
  sl_exec
  sl_step
  rw [show 4 * ((i 1).val / 4) + 2 * (k.val + 1) = 4 * ((i 1).val / 4) + 2 * k.val + 1 + 1 from rfl]
  isplitr
  · ipureintro
    first | rfl | skip
    delta trip3.sl.r trip3.sl.r_1 trip3.sl.r_2 trip3.sl.r_3 trip3.sl.r_4 trip3.sl.r_5 trip3.sl.r_6 trip3.sl.r_7 trip3.sl.r_8 trip3.sl.r_9 trip3.sl.r_10 trip3.sl.r_11 trip3.sl.r_12 trip3.sl.v184 trip3.sl.v179 trip3.sl.v177 trip3.sl.v178 trip3.sl.arg13
    simp only [k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay148, k0_pay149, k0_pay150, hr6_0, hr7_0, hr8_0, hr11_0, hr12_0, hw_0, hr6_1, hr7_1, hr8_1, hr11_1, hr12_1, hw_1]
    rfl
  isplitl [H6]; · iexact H6
  isplitl [H7]; · iexact H7
  isplitl [H8]; · iexact H8
  isplitl [H11]
  · iexists _; isplitl [H11]; · iexact H11
    ipureintro
    refine dk_cons (n0 := 4 * ((i 1).val / 4) + 2 * k.val) _ _ _ _ _ _ _ (off5_1 i k) (by omega) (by omega) ?_ <| dk_cons (n0 := 4 * ((i 1).val / 4) + 2 * k.val) _ _ _ _ _ _ _ (off5_0 i k) (by omega) (by omega) ?_ h11
    all_goals
      delta trip3.sl.r trip3.sl.r_1 trip3.sl.r_2 trip3.sl.r_3 trip3.sl.r_4 trip3.sl.r_5 trip3.sl.r_6 trip3.sl.r_7 trip3.sl.r_8 trip3.sl.r_9 trip3.sl.r_10 trip3.sl.r_11 trip3.sl.r_12 trip3.sl.v184 trip3.sl.v179 trip3.sl.v177 trip3.sl.v178 trip3.sl.arg13
      simp only [k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay148, k0_pay149, k0_pay150, hr6_0, hr7_0, hr8_0, hr11_0, hr12_0, hw_0, hr6_1, hr7_1, hr8_1, hr11_1, hr12_1, hw_1]
      rfl
  · iexists _; isplitl [H12]; · iexact H12
    ipureintro
    refine dv_cons (n0 := 4 * ((i 1).val / 4) + 2 * k.val) _ _ _ _ _ _ _ (off5_1 i k) (by omega) (by omega) ?_ <| dv_cons (n0 := 4 * ((i 1).val / 4) + 2 * k.val) _ _ _ _ _ _ _ (off5_0 i k) (by omega) (by omega) ?_ h12
    all_goals
      delta trip3.sl.r trip3.sl.r_1 trip3.sl.r_2 trip3.sl.r_3 trip3.sl.r_4 trip3.sl.r_5 trip3.sl.r_6 trip3.sl.r_7 trip3.sl.r_8 trip3.sl.r_9 trip3.sl.r_10 trip3.sl.r_11 trip3.sl.r_12 trip3.sl.v184 trip3.sl.v179 trip3.sl.v177 trip3.sl.v178 trip3.sl.arg13
      simp only [k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay148, k0_pay149, k0_pay150, hr6_0, hr7_0, hr8_0, hr11_0, hr12_0, hw_0, hr6_1, hr7_1, hr8_1, hr11_1, hr12_1, hw_1]
      rfl

end Cert.KernelIdeal.Hand

end
-- ==== Proof.Trip5.lean ====
/- One trip of the loop over one block. -/
module

public import proofs.«01_k».proof.Proof.Reads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole) (arg1 : BitVec 32) (v4 : FVec F S256x64 .bf16) (v6 : FVec F S64x256 .bf16) (v8 : FVec F S256x64 .bf16) (v10 : FVec F S64x256 .bf16) (v12 : FVec F S256x128 .f32) (v19 v23 : FVec F S256x256 .bf16) (v24 : IVec S256x128 32)
  (v43 : BitVec 32) (v50_0 : FVec F S256x1 .f32) (v50_1 : FVec F S256x64 .f32) (v60 v61 : BitVec 32) (v72 : BitVec 1) (v73 : BitVec 32)
  (kt : Vec F S1x64x64x256 .bf16) (kr : Vec F S1x64x256x64 .bf16) (vt : Vec F S1x64x64x256 .bf16) (x11 x12 : Vec F S1x64x64x256 .f32)

/-- Before trip `n` of the third loop. -/
def inv5 (n : ℕ) (acc : FVec F S256x1 .f32 × FVec F S256x64 .f32) : sProp 𝕄 :=
  iprop(⌜acc = ((⟨v4, v6, v8, v10, v12, v19, v23, v24, kt, kr, vt⟩ : Inp F).p (4 * ((i 1).val / 4) + 2 * ((i 1).val % 4 / 2) + n), (⟨v4, v6, v8, v10, v12, v19, v23, v24, kt, kr, vt⟩ : Inp F).dq (4 * ((i 1).val / 4) + 2 * ((i 1).val % 4 / 2) + n))⌝
      ∗ (arg6.view.loc (c : Thread nD τ) ↦[arg6.view.set]{fullShare} harg6.unread kt)
      ∗ (arg7.view.loc (c : Thread nD τ) ↦[arg7.view.set]{fullShare} harg7.unread kr)
      ∗ (arg8.view.loc (c : Thread nD τ) ↦[arg8.view.set]{fullShare} harg8.unread vt)
      ∗ (∃ f, (arg11.view.loc (c : Thread nD τ) ↦[arg11.view.set]{fullShare} f) ∗ ⌜arg11.view.read (Elt F) f = (⟨v4, v6, v8, v10, v12, v19, v23, v24, kt, kr, vt⟩ : Inp F).dk x11 (4 * ((i 1).val / 4) + 2 * ((i 1).val % 4 / 2) + n)⌝)
      ∗ (∃ f, (arg12.view.loc (c : Thread nD τ) ↦[arg12.view.set]{fullShare} f) ∗ ⌜arg12.view.read (Elt F) f = (⟨v4, v6, v8, v10, v12, v19, v23, v24, kt, kr, vt⟩ : Inp F).dv x12 (4 * ((i 1).val / 4) + 2 * ((i 1).val % 4 / 2) + n)⌝))

set_option maxHeartbeats 8000000 in
theorem trip5 (k : Fin (k0_t5_loop i).trips) (acc : FVec F S256x1 .f32 × FVec F S256x64 .f32)
    (hv1 : arg1 = BitVec.ofNat 32 (i 1).val) :
    inv5 c i arg6 harg6 arg7 harg7 arg8 harg8 arg11 arg12 v4 v6 v8 v10 v12 v19 v23 v24 kt kr vt x11 x12 k.val acc
      ⊢ wp frame (wpE (defs₀ (F := F)) Variants.none c none) Set.univ
        (k0_t5_body (F := F) i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73 k acc)
        (inv5 c i arg6 harg6 arg7 harg7 arg8 harg8 arg11 arg12 v4 v6 v8 v10 v12 v19 v23 v24 kt kr vt x11 x12 (k.val + 1)) := by
  unfold inv5 k0_t5_body
  simp only [k0_part21_eq_skeleton]
  iintro ⟨%ha, H6, H7, H8, ⟨%f11, H11, %h11⟩, ⟨%f12, H12, %h12⟩⟩
  subst ha
  have hk : k.val = 0 ∧ 0 < (i 1).val ∧ 4 * ((i 1).val / 4) + 2 * ((i 1).val % 4 / 2) + k.val = (i 1).val - 1 := by
    have := k.isLt; have := trips_t5 i; have := row_lt i; omega
  have hi := row_lt i
  have hp := hk.2.1
  rw [hk.2.2] at h11 h12 ⊢
  have hv := off9_eq i hp
  have hv' := off10_eq i hp
  have hr6_0 : arg6.view.readAt (Elt F) (Rect.unit (s := S1x64x64x256) (k0_off9 i) S1x1x64x256.size (k0_off9_inb i k)).toLoadRect (harg6.unread kt) = blkT kt ((i 1).val - 1) :=
    read_blkT arg6 _ _ _ (harg6.read_unread _) (hv) (by omega)
  have hr8_0 : arg8.view.readAt (Elt F) (Rect.unit (s := S1x64x64x256) (k0_off9 i) S1x1x64x256.size (k0_off9_inb i k)).toLoadRect (harg8.unread vt) = blkT vt ((i 1).val - 1) :=
    read_blkT arg8 _ _ _ (harg8.read_unread _) (hv) (by omega)
  have hr7_0 : arg7.view.readAt (Elt F) (Rect.unit (s := S1x64x256x64) (k0_off10 i) S1x1x256x64.size (k0_off10_inb i k)).toLoadRect (harg7.unread kr) = blkR kr ((i 1).val - 1) :=
    read_blkR arg7 _ _ _ (harg7.read_unread _) (hv') (by omega)
  have hr11_0 : arg11.view.readAt (Elt F) (Rect.unit (s := S1x64x64x256) (k0_off9 i) S1x1x64x256.size (k0_off9_inb i k)).toLoadRect f11 = blkT ((⟨v4, v6, v8, v10, v12, v19, v23, v24, kt, kr, vt⟩ : Inp F).dk x11 ((i 1).val - 1)) ((i 1).val - 1) :=
    read_blkT arg11 _ _ _ h11 (hv) (by omega)
  have hr12_0 : arg12.view.readAt (Elt F) (Rect.unit (s := S1x64x64x256) (k0_off9 i) S1x1x64x256.size (k0_off9_inb i k)).toLoadRect f12 = blkT ((⟨v4, v6, v8, v10, v12, v19, v23, v24, kt, kr, vt⟩ : Inp F).dv x12 ((i 1).val - 1)) ((i 1).val - 1) :=
    read_blkT arg12 _ _ _ h12 (hv) (by omega)
  have hw_0 : Scalar.subi arg1 1#32 = BitVec.ofNat 32 ((i 1).val - 1) := hv1 ▸ word5 _ hp
  sl_exec
  sl_step
  rw [show 4 * ((i 1).val / 4) + 2 * ((i 1).val % 4 / 2) + (k.val + 1) = (i 1).val - 1 + 1 by omega]
  isplitr
  · ipureintro
    first | rfl | skip
    delta trip5.sl.r trip5.sl.r_1 trip5.sl.r_2 trip5.sl.r_3
    simp only [k0_pay118, k0_pay119, k0_pay120, k0_pay121, k0_pay122, k0_pay123, k0_pay124, k0_pay125, k0_pay126, k0_pay127, k0_pay128, k0_pay129, k0_pay130, k0_pay131, k0_pay132, k0_pay133, k0_pay155, k0_pay156, k0_pay157, k0_pay158, hr6_0, hr7_0, hr8_0, hr11_0, hr12_0, hw_0]
    rfl
  isplitl [H6]; · iexact H6
  isplitl [H7]; · iexact H7
  isplitl [H8]; · iexact H8
  isplitl [H11]
  · iexists _; isplitl [H11]; · iexact H11
    ipureintro
    refine dk_cons (n0 := (i 1).val - 1) _ _ _ _ _ _ _ (hv) (by omega) (by omega) ?_ h11
    all_goals
      delta trip5.sl.r trip5.sl.r_1 trip5.sl.r_2 trip5.sl.r_3
      simp only [k0_pay118, k0_pay119, k0_pay120, k0_pay121, k0_pay122, k0_pay123, k0_pay124, k0_pay125, k0_pay126, k0_pay127, k0_pay128, k0_pay129, k0_pay130, k0_pay131, k0_pay132, k0_pay133, k0_pay155, k0_pay156, k0_pay157, k0_pay158, hr6_0, hr7_0, hr8_0, hr11_0, hr12_0, hw_0]
      rfl
  · iexists _; isplitl [H12]; · iexact H12
    ipureintro
    refine dv_cons (n0 := (i 1).val - 1) _ _ _ _ _ _ _ (hv) (by omega) (by omega) ?_ h12
    all_goals
      delta trip5.sl.r trip5.sl.r_1 trip5.sl.r_2 trip5.sl.r_3
      simp only [k0_pay118, k0_pay119, k0_pay120, k0_pay121, k0_pay122, k0_pay123, k0_pay124, k0_pay125, k0_pay126, k0_pay127, k0_pay128, k0_pay129, k0_pay130, k0_pay131, k0_pay132, k0_pay133, k0_pay155, k0_pay156, k0_pay157, k0_pay158, hr6_0, hr7_0, hr8_0, hr11_0, hr12_0, hw_0]
      rfl

end Cert.KernelIdeal.Hand

end
-- ==== Proof.Parts.lean ====
/- The three loops over the blocks before the diagonal one, run one after the other. -/
module

public import proofs.«01_k».proof.Proof.Trip1
public import proofs.«01_k».proof.Proof.Trip3
public import proofs.«01_k».proof.Proof.Trip5

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole) (arg1 : BitVec 32) (v4 : FVec F S256x64 .bf16) (v6 : FVec F S64x256 .bf16) (v8 : FVec F S256x64 .bf16) (v10 : FVec F S64x256 .bf16) (v12 : FVec F S256x128 .f32) (v19 v23 : FVec F S256x256 .bf16) (v24 : IVec S256x128 32)
  (v25 : FVec F S256x1 .f32) (v26 : FVec F S256x64 .f32) (v27 v32 : BitVec 32)
  (v43 : BitVec 32) (v50_0 : FVec F S256x1 .f32) (v50_1 : FVec F S256x64 .f32) (v60 v61 : BitVec 32) (v72 : BitVec 1) (v73 : BitVec 32)
  (kt : Vec F S1x64x64x256 .bf16) (kr : Vec F S1x64x256x64 .bf16) (vt : Vec F S1x64x64x256 .bf16) (x11 x12 : Vec F S1x64x64x256 .f32)

/-- The sign of the row block's number, as the kernel's floor division takes it. -/
def signOf (a : BitVec 32) : BitVec 32 := Scalar.subi (Scalar.extui (Scalar.cmpi .sgt a 0#32)) (Scalar.extui (Scalar.cmpi .slt a 0#32))

/-- The kernel's floor division of the row block's number by four. -/
theorem quarter : ∀ i : grid0.Coords,
    Scalar.select (Scalar.andi (Scalar.cmpi .ne (signOf (BitVec.ofNat 32 (i 1).val)) (signOf 4#32))
      (Scalar.cmpi .ne (Scalar.remsi (BitVec.ofNat 32 (i 1).val) 4#32) 0#32))
      (Scalar.subi (Scalar.divsi (BitVec.ofNat 32 (i 1).val) 4#32) 1#32) (Scalar.divsi (BitVec.ofNat 32 (i 1).val) 4#32)
    = BitVec.ofNat 32 ((i 1).val / 4) := by decide +kernel

set_option maxHeartbeats 4000000 in
theorem part24_run (hv1 : arg1 = BitVec.ofNat 32 (i 1).val) (hv27 : v27 = Scalar.divsi arg1 4#32) (hv32 : v32 = signOf arg1) :
    inv1 c arg6 harg6 arg7 harg7 arg8 harg8 arg11 arg12 v4 v6 v8 v10 v12 v19 v23 v24 kt kr vt x11 x12 0 (v25, v26)
      ⊢ wp frame (wpE (defs₀ (F := F)) Variants.none c none) Set.univ
        (k0_part24 (F := F) i arg2 harg2 arg3 harg3 arg4 harg4 arg5 harg5 arg6 harg6 arg7 harg7 arg8 harg8 arg9 harg9 arg10 harg10 arg11 harg11 arg12 harg12 arg1 v4 v6 v8 v10 v12 v19 v23 v24 v25 v26 4#32 v27 v32)
        (fun r => iprop(⌜r.1 = BitVec.ofNat 32 ((i 1).val / 4)⌝ ∗ inv1 c arg6 harg6 arg7 harg7 arg8 harg8 arg11 arg12 v4 v6 v8 v10 v12 v19 v23 v24 kt kr vt x11 x12 ((i 1).val / 4) (r.2.1, r.2.2.1))) := by
  let L1 : LoopInvTy_k0_t1 Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v4 v6 v8 v10 v12 v19 v23 v24 v25 v26 4#32 v27 v32 (v25, v26) :=
    ⟨inv1 c arg6 harg6 arg7 harg7 arg8 harg8 arg11 arg12 v4 v6 v8 v10 v12 v19 v23 v24 kt kr vt x11 x12, trip1 c i arg2 harg2 arg3 harg3 arg4 harg4 arg5 harg5 arg6 harg6 arg7 harg7 arg8 harg8 arg9 harg9 arg10 harg10 arg11 harg11 arg12 harg12 arg1 v4 v6 v8 v10 v12 v19 v23 v24 v25 v26 4#32 v27 v32 kt kr vt x11 x12⟩
  have htr := trips_t2 i
  simp only [k0_part24_eq_skeleton]; unfold k0_part24_skel
  unfold inv1
  iintro ⟨%ha, H6, H7, H8, ⟨%f11, H11, %h11⟩, ⟨%f12, H12, %h12⟩⟩
  sl_exec
  sl_step
  rw [show Scf.trips (k0_t1_loop i).lb (k0_t1_loop i).ub (k0_t1_loop i).st = (i 1).val / 4 from trips_t1 i] at *
  isplitr
  · ipureintro; dsimp only; subst hv27 hv32 hv1; delta part24_run.sl.v43; exact quarter i
  isplitr
  · ipureintro; rfl
  isplitl [H6]; · iexact H6
  isplitl [H7]; · iexact H7
  isplitl [H8]; · iexact H8
  isplitl [H11]
  · iexists _; isplitl [H11]; · iexact H11
    ipureintro; assumption
  · iexists _; isplitl [H12]; · iexact H12
    ipureintro; assumption

set_option maxHeartbeats 4000000 in
theorem part25_run (hv1 : arg1 = BitVec.ofNat 32 (i 1).val) (hv43 : v43 = BitVec.ofNat 32 ((i 1).val / 4)) :
    inv3 c i arg6 harg6 arg7 harg7 arg8 harg8 arg11 arg12 v4 v6 v8 v10 v12 v19 v23 v24 kt kr vt x11 x12 0 (v50_0, v50_1)
      ⊢ wp frame (wpE (defs₀ (F := F)) Variants.none c none) Set.univ
        (k0_part25 (F := F) i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73)
        (fun r => iprop(⌜r.2.2 = ⟨k0_pay162 v4 (blkT kt (i 1).val), k0_pay163 v4 (blkT kt (i 1).val), k0_pay164 v4 (blkT kt (i 1).val)⟩⌝
          ∗ inv5 c i arg6 harg6 arg7 harg7 arg8 harg8 arg11 arg12 v4 v6 v8 v10 v12 v19 v23 v24 kt kr vt x11 x12 ((i 1).val % 2) (r.1, r.2.1))) := by
  let L3 : LoopInvTy_k0_t3 Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73 (v50_0, v50_1) :=
    ⟨inv3 c i arg6 harg6 arg7 harg7 arg8 harg8 arg11 arg12 v4 v6 v8 v10 v12 v19 v23 v24 kt kr vt x11 x12, fun k acc => trip3 c i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73 kt kr vt x11 x12 k acc hv43⟩
  have h3 : (k0_t3_loop i).trips = (i 1).val % 4 / 2 := trips_t3 i
  have htr4 := trips_t4 i
  have htr6 := trips_t6 i
  have hr13 : arg6.view.readAt (Elt F) (Rect.unit (s := S1x64x64x256) (k0_off13 i) S1x1x64x256.size (k0_off13_inb i)).toLoadRect (harg6.unread kt)
      = blkT kt (i 1).val := read_blkT arg6 _ _ _ (harg6.read_unread _) (k0_off13_eq i) (row_lt i)
  simp only [k0_part25_eq_skeleton]; unfold k0_part25_skel
  unfold inv3
  iintro ⟨%ha, H6, H7, H8, ⟨%f11, H11, %h11⟩, ⟨%f12, H12, %h12⟩⟩
  let L5 : LoopInvTy_k0_t5 Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73
      ((⟨v4, v6, v8, v10, v12, v19, v23, v24, kt, kr, vt⟩ : Inp F).p (4 * ((i 1).val / 4) + 2 * Scf.trips (k0_t3_loop i).lb (k0_t3_loop i).ub (k0_t3_loop i).st),
       (⟨v4, v6, v8, v10, v12, v19, v23, v24, kt, kr, vt⟩ : Inp F).dq (4 * ((i 1).val / 4) + 2 * Scf.trips (k0_t3_loop i).lb (k0_t3_loop i).ub (k0_t3_loop i).st)) :=
    ⟨fun n acc => iprop(⌜acc = ((⟨v4, v6, v8, v10, v12, v19, v23, v24, kt, kr, vt⟩ : Inp F).p (4 * ((i 1).val / 4) + 2 * Scf.trips (k0_t3_loop i).lb (k0_t3_loop i).ub (k0_t3_loop i).st + n), (⟨v4, v6, v8, v10, v12, v19, v23, v24, kt, kr, vt⟩ : Inp F).dq (4 * ((i 1).val / 4) + 2 * Scf.trips (k0_t3_loop i).lb (k0_t3_loop i).ub (k0_t3_loop i).st + n))⌝
      ∗ (arg6.view.loc (c : Thread nD τ) ↦[arg6.view.set]{fullShare} harg6.unread kt)
      ∗ (arg7.view.loc (c : Thread nD τ) ↦[arg7.view.set]{fullShare} harg7.unread kr)
      ∗ (arg8.view.loc (c : Thread nD τ) ↦[arg8.view.set]{fullShare} harg8.unread vt)
      ∗ (∃ f, (arg11.view.loc (c : Thread nD τ) ↦[arg11.view.set]{fullShare} f) ∗ ⌜arg11.view.read (Elt F) f = (⟨v4, v6, v8, v10, v12, v19, v23, v24, kt, kr, vt⟩ : Inp F).dk x11 (4 * ((i 1).val / 4) + 2 * Scf.trips (k0_t3_loop i).lb (k0_t3_loop i).ub (k0_t3_loop i).st + n)⌝)
      ∗ (∃ f, (arg12.view.loc (c : Thread nD τ) ↦[arg12.view.set]{fullShare} f) ∗ ⌜arg12.view.read (Elt F) f = (⟨v4, v6, v8, v10, v12, v19, v23, v24, kt, kr, vt⟩ : Inp F).dv x12 (4 * ((i 1).val / 4) + 2 * Scf.trips (k0_t3_loop i).lb (k0_t3_loop i).ub (k0_t3_loop i).st + n)⌝)), fun k acc => by
      have hT : Scf.trips (k0_t3_loop i).lb (k0_t3_loop i).ub (k0_t3_loop i).st = (i 1).val % 4 / 2 := h3
      rw [hT]
      exact trip5 c i arg2 harg2 arg3 harg3 arg4 harg4 arg5 harg5 arg6 harg6 arg7 harg7 arg8 harg8 arg9 harg9 arg10 harg10 arg11 harg11 arg12 harg12 arg1 v4 v6 v8 v10 v12 v19 v23 v24 v43 v50_0 v50_1 v60 v61 v72 v73 kt kr vt x11 x12 k acc hv1⟩
  sl_exec
  sl_step
  have e6 : Scf.trips (k0_t6_loop i).lb (k0_t6_loop i).ub (k0_t6_loop i).st = 0 := htr6
  have e3 : Scf.trips (k0_t3_loop i).lb (k0_t3_loop i).ub (k0_t3_loop i).st = (i 1).val % 4 / 2 := h3
  have e5 : Scf.trips (k0_t5_loop i).lb (k0_t5_loop i).ub (k0_t5_loop i).st = (i 1).val % 2 := trips_t5 i
  isplitr
  · ipureintro; rfl
  unfold inv5
  rw [← e3, ← e5]
  isplitr
  · ipureintro; rw [e6]; rfl
  isplitl [H6]; · iexact H6
  isplitl [H7]; · iexact H7
  isplitl [H8]; · iexact H8
  isplitl [H11]
  · iexists _; isplitl [H11]; · iexact H11
    ipureintro; rw [e6]; assumption
  · iexists _; isplitl [H12]; · iexact H12
    ipureintro; rw [e6]; assumption

end Cert.KernelIdeal.Hand

end
-- ==== Proof.Head.lean ====
/- The beginning of a call of the body: the constants, the row block's operands, and the zero fill at the first row block. -/
module

public import proofs.«01_k».proof.Proof.Parts

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole)
  (x2 : Vec F S1x256x64 .bf16) (x3 : Vec F S1x1x64x256 .bf16) (x4 : Vec F S1x256x64 .bf16) (x5 : Vec F S1x1x64x256 .bf16) (x9 : Vec F S1x256x128 .f32) (kt : Vec F S1x64x64x256 .bf16) (kr : Vec F S1x64x256x64 .bf16) (vt : Vec F S1x64x64x256 .bf16) (x11 x12 : Vec F S1x64x64x256 .f32)

/-- The first row block of a head. -/
abbrev first0 (i : grid0.Coords) : Prop :=
  (Scalar.cmpi .ne (Scalar.extui (Scalar.cmpi .eq (BitVec.ofNat 32 (i 1).val) 0#32)) 0#32) = 1#1

/-- What the beginning of the body hands on. -/
abbrev Head (F : FTy → Type) [FloatOps F] := Σ' (arg1 : BitVec 32) (v4 : FVec F S256x64 .bf16) (v6 : FVec F S64x256 .bf16) (v8 : FVec F S256x64 .bf16) (v10 : FVec F S64x256 .bf16) (v12 : FVec F S256x128 .f32) (v15 : IVec S256x256 1) (v19 : FVec F S256x256 .bf16) (v23 : FVec F S256x256 .bf16) (v24 : IVec S256x128 32) (v25 : FVec F S256x1 .f32) (v26 : FVec F S256x64 .f32) (c4_i32 : BitVec 32) (v27 : BitVec 32), BitVec 32

set_option maxHeartbeats 4000000 in
theorem head_first (hc : first0 i) :
    (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg9.view.loc (c : Thread nD τ) ↦[arg9.view.set]{fullShare} harg9.unread x9) ∗ (∃ f, (arg11.view.loc (c : Thread nD τ) ↦[arg11.view.set]{fullShare} f) ∗ ⌜arg11.view.read (Elt F) f = x11⌝) ∗ (∃ f, (arg12.view.loc (c : Thread nD τ) ↦[arg12.view.set]{fullShare} f) ∗ ⌜arg12.view.read (Elt F) f = x12⌝)) : sProp 𝕄)
      ⊢ wp frame (wpE (defs₀ (F := F)) Variants.none c none) Set.univ (k0_part23 (F := F) i arg2 harg2 arg3 harg3 arg4 harg4 arg5 harg5 arg6 harg6 arg7 harg7 arg8 harg8 arg9 harg9 arg10 harg10 arg11 harg11 arg12 harg12) (fun r => iprop(⌜r = (⟨BitVec.ofNat 32 (i 1).val, k0_pay136 x2, k0_pay137 x3, k0_pay138 x4, k0_pay139 x5, k0_pay140 x9, k0_pay141, k0_pay142 (F := F), k0_pay143 (F := F), iota .tc S256x128 32 [1] iota_S256x128_d1_w32, k0_pay144 (F := F), k0_pay145 (F := F), 4#32, Scalar.divsi (BitVec.ofNat 32 (i 1).val) 4#32, signOf (BitVec.ofNat 32 (i 1).val)⟩ : Head F)⌝ ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg9.view.loc (c : Thread nD τ) ↦[arg9.view.set]{fullShare} harg9.unread x9) ∗ (∃ f, (arg11.view.loc (c : Thread nD τ) ↦[arg11.view.set]{fullShare} f) ∗ ⌜arg11.view.read (Elt F) f = k0_pay134⌝) ∗ (∃ f, (arg12.view.loc (c : Thread nD τ) ↦[arg12.view.set]{fullShare} f) ∗ ⌜arg12.view.read (Elt F) f = k0_pay134⌝))) := by
  simp only [k0_part23_eq_skeleton]; unfold k0_part23_skel
  have hr2 : arg2.view.readAt (Elt F) (Rect.unit (s := S1x256x64) ![0, 0, 0] S1x256x64.size inb_S1x256x64_S1x256x64_0_0_0).toLoadRect (harg2.unread x2) = x2 :=
    (View.readAt_full arg2.view _ _).trans (harg2.read_unread _)
  have hr3 : arg3.view.readAt (Elt F) (Rect.unit (s := S1x1x64x256) ![0, 0, 0, 0] S1x1x64x256.size inb_S1x1x64x256_S1x1x64x256_0_0_0_0).toLoadRect (harg3.unread x3) = x3 :=
    (View.readAt_full arg3.view _ _).trans (harg3.read_unread _)
  have hr4 : arg4.view.readAt (Elt F) (Rect.unit (s := S1x256x64) ![0, 0, 0] S1x256x64.size inb_S1x256x64_S1x256x64_0_0_0).toLoadRect (harg4.unread x4) = x4 :=
    (View.readAt_full arg4.view _ _).trans (harg4.read_unread _)
  have hr5 : arg5.view.readAt (Elt F) (Rect.unit (s := S1x1x64x256) ![0, 0, 0, 0] S1x1x64x256.size inb_S1x1x64x256_S1x1x64x256_0_0_0_0).toLoadRect (harg5.unread x5) = x5 :=
    (View.readAt_full arg5.view _ _).trans (harg5.read_unread _)
  have hr9 : arg9.view.readAt (Elt F) (Rect.unit (s := S1x256x128) ![0, 0, 0] S1x256x128.size inb_S1x256x128_S1x256x128_0_0_0).toLoadRect (harg9.unread x9) = x9 :=
    (View.readAt_full arg9.view _ _).trans (harg9.read_unread _)
  iintro ⟨H2, H3, H4, H5, H9, ⟨%f11, H11, %h11⟩, ⟨%f12, H12, %h12⟩⟩
  sl_exec (disch := first | sl_exact hc)
  sl_step
  isplitr
  · ipureintro; rfl
  isplitl [H2]; · iexact H2
  isplitl [H3]; · iexact H3
  isplitl [H4]; · iexact H4
  isplitl [H5]; · iexact H5
  isplitl [H9]; · iexact H9
  isplitl [H11]
  · iexists _; isplitl [H11]; · iexact H11
    ipureintro; exact View.read_writes_full _ _ _ _ _
  · iexists _; isplitl [H12]; · iexact H12
    ipureintro; exact View.read_writes_full _ _ _ _ _

set_option maxHeartbeats 4000000 in
theorem head_later (hc : ¬ first0 i) :
    (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg9.view.loc (c : Thread nD τ) ↦[arg9.view.set]{fullShare} harg9.unread x9) ∗ (∃ f, (arg11.view.loc (c : Thread nD τ) ↦[arg11.view.set]{fullShare} f) ∗ ⌜arg11.view.read (Elt F) f = x11⌝) ∗ (∃ f, (arg12.view.loc (c : Thread nD τ) ↦[arg12.view.set]{fullShare} f) ∗ ⌜arg12.view.read (Elt F) f = x12⌝)) : sProp 𝕄)
      ⊢ wp frame (wpE (defs₀ (F := F)) Variants.none c none) Set.univ (k0_part23 (F := F) i arg2 harg2 arg3 harg3 arg4 harg4 arg5 harg5 arg6 harg6 arg7 harg7 arg8 harg8 arg9 harg9 arg10 harg10 arg11 harg11 arg12 harg12) (fun r => iprop(⌜r = (⟨BitVec.ofNat 32 (i 1).val, k0_pay136 x2, k0_pay137 x3, k0_pay138 x4, k0_pay139 x5, k0_pay140 x9, k0_pay141, k0_pay142 (F := F), k0_pay143 (F := F), iota .tc S256x128 32 [1] iota_S256x128_d1_w32, k0_pay144 (F := F), k0_pay145 (F := F), 4#32, Scalar.divsi (BitVec.ofNat 32 (i 1).val) 4#32, signOf (BitVec.ofNat 32 (i 1).val)⟩ : Head F)⌝ ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg9.view.loc (c : Thread nD τ) ↦[arg9.view.set]{fullShare} harg9.unread x9) ∗ (∃ f, (arg11.view.loc (c : Thread nD τ) ↦[arg11.view.set]{fullShare} f) ∗ ⌜arg11.view.read (Elt F) f = x11⌝) ∗ (∃ f, (arg12.view.loc (c : Thread nD τ) ↦[arg12.view.set]{fullShare} f) ∗ ⌜arg12.view.read (Elt F) f = x12⌝))) := by
  simp only [k0_part23_eq_skeleton]; unfold k0_part23_skel
  have hr2 : arg2.view.readAt (Elt F) (Rect.unit (s := S1x256x64) ![0, 0, 0] S1x256x64.size inb_S1x256x64_S1x256x64_0_0_0).toLoadRect (harg2.unread x2) = x2 :=
    (View.readAt_full arg2.view _ _).trans (harg2.read_unread _)
  have hr3 : arg3.view.readAt (Elt F) (Rect.unit (s := S1x1x64x256) ![0, 0, 0, 0] S1x1x64x256.size inb_S1x1x64x256_S1x1x64x256_0_0_0_0).toLoadRect (harg3.unread x3) = x3 :=
    (View.readAt_full arg3.view _ _).trans (harg3.read_unread _)
  have hr4 : arg4.view.readAt (Elt F) (Rect.unit (s := S1x256x64) ![0, 0, 0] S1x256x64.size inb_S1x256x64_S1x256x64_0_0_0).toLoadRect (harg4.unread x4) = x4 :=
    (View.readAt_full arg4.view _ _).trans (harg4.read_unread _)
  have hr5 : arg5.view.readAt (Elt F) (Rect.unit (s := S1x1x64x256) ![0, 0, 0, 0] S1x1x64x256.size inb_S1x1x64x256_S1x1x64x256_0_0_0_0).toLoadRect (harg5.unread x5) = x5 :=
    (View.readAt_full arg5.view _ _).trans (harg5.read_unread _)
  have hr9 : arg9.view.readAt (Elt F) (Rect.unit (s := S1x256x128) ![0, 0, 0] S1x256x128.size inb_S1x256x128_S1x256x128_0_0_0).toLoadRect (harg9.unread x9) = x9 :=
    (View.readAt_full arg9.view _ _).trans (harg9.read_unread _)
  iintro ⟨H2, H3, H4, H5, H9, ⟨%f11, H11, %h11⟩, ⟨%f12, H12, %h12⟩⟩
  sl_exec (disch := first | sl_exact hc)
  sl_step
  isplitr
  · ipureintro; rfl
  isplitl [H2]; · iexact H2
  isplitl [H3]; · iexact H3
  isplitl [H4]; · iexact H4
  isplitl [H5]; · iexact H5
  isplitl [H9]; · iexact H9
  isplitl [H11]
  · iexists _; isplitl [H11]; · iexact H11
    ipureintro; exact h11
  · iexists _; isplitl [H12]; · iexact H12
    ipureintro; exact h12

end Cert.KernelIdeal.Hand

end
-- ==== Proof.Body.lean ====
/- One whole call of the body. -/
module

public import proofs.«01_k».proof.Proof.Head

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole)
  (x2 : Vec F S1x256x64 .bf16) (x3 : Vec F S1x1x64x256 .bf16) (x4 : Vec F S1x256x64 .bf16) (x5 : Vec F S1x1x64x256 .bf16) (x9 : Vec F S1x256x128 .f32) (kt : Vec F S1x64x64x256 .bf16) (kr : Vec F S1x64x256x64 .bf16) (vt : Vec F S1x64x64x256 .bf16) (x11 x12 : Vec F S1x64x64x256 .f32)

/-- What a call reads, from the blocks it is handed. -/
def inpOf (x2 : Vec F S1x256x64 .bf16) (x3 : Vec F S1x1x64x256 .bf16) (x4 : Vec F S1x256x64 .bf16) (x5 : Vec F S1x1x64x256 .bf16) (x9 : Vec F S1x256x128 .f32) (kt : Vec F S1x64x64x256 .bf16) (kr : Vec F S1x64x256x64 .bf16) (vt : Vec F S1x64x64x256 .bf16) : Inp F :=
  ⟨k0_pay136 x2, k0_pay137 x3, k0_pay138 x4, k0_pay139 x5, k0_pay140 x9, k0_pay142 (F := F), k0_pay143 (F := F), iota .tc S256x128 32 [1] iota_S256x128_d1_w32, kt, kr, vt⟩

theorem put_last (m : Memref sig .tc .vmem S1x64x64x256 .f32) (f : m.view.ty.Contents (Elt F)) {off : Fin 4 → ℕ}
    (inb : ∀ a, off a + S1x1x64x256.size a ≤ S1x64x64x256.size a) (w : Vec F S1x1x64x256 .f32) {w' : Vec F S1x1x64x256 .f32}
    {x : Vec F S1x64x64x256 .f32} (hx : m.view.read (Elt F) f = x) {n : ℕ} (h : off = ![0, n, 0, 0]) (hn : n < 64) (hw : w = w') :
    m.view.read (Elt F) (m.view.writes (Elt F) f [⟨Rect.unit (s := S1x64x64x256) off S1x1x64x256.size inb, w⟩]) = putT x n w' := by
  rw [View.read_writes_cons_put m.view f inb w [] (h.trans (offB_eq hn)), hw, View.writes_nil, hx]
  rfl

set_option maxHeartbeats 8000000 in
theorem body_run (R : sProp 𝕄) (hhead : R ⊢ wp frame (wpE (defs₀ (F := F)) Variants.none c none) Set.univ (k0_part23 (F := F) i arg2 harg2 arg3 harg3 arg4 harg4 arg5 harg5 arg6 harg6 arg7 harg7 arg8 harg8 arg9 harg9 arg10 harg10 arg11 harg11 arg12 harg12) (fun r => iprop(⌜r = (⟨BitVec.ofNat 32 (i 1).val, k0_pay136 x2, k0_pay137 x3, k0_pay138 x4, k0_pay139 x5, k0_pay140 x9, k0_pay141, k0_pay142 (F := F), k0_pay143 (F := F), iota .tc S256x128 32 [1] iota_S256x128_d1_w32, k0_pay144 (F := F), k0_pay145 (F := F), 4#32, Scalar.divsi (BitVec.ofNat 32 (i 1).val) 4#32, signOf (BitVec.ofNat 32 (i 1).val)⟩ : Head F)⌝ ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg9.view.loc (c : Thread nD τ) ↦[arg9.view.set]{fullShare} harg9.unread x9) ∗ (∃ f, (arg11.view.loc (c : Thread nD τ) ↦[arg11.view.set]{fullShare} f) ∗ ⌜arg11.view.read (Elt F) f = x11⌝) ∗ (∃ f, (arg12.view.loc (c : Thread nD τ) ↦[arg12.view.set]{fullShare} f) ∗ ⌜arg12.view.read (Elt F) f = x12⌝)))) (K : PUnit → sProp 𝕄) :
    iprop(R ∗ (arg6.view.loc (c : Thread nD τ) ↦[arg6.view.set]{fullShare} harg6.unread kt) ∗ (arg7.view.loc (c : Thread nD τ) ↦[arg7.view.set]{fullShare} harg7.unread kr) ∗ (arg8.view.loc (c : Thread nD τ) ↦[arg8.view.set]{fullShare} harg8.unread vt) ∗ (∃ f, arg10.view.loc (c : Thread nD τ) ↦[arg10.view.set]{fullShare} f)
        ∗ ((owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (kt) ∗ owns (c : Thread nD τ) arg7 fullShare (kr) ∗ owns (c : Thread nD τ) arg8 fullShare (vt) ∗ owns (c : Thread nD τ) arg9 fullShare (x9)
          ∗ owns (c : Thread nD τ) arg10 fullShare ((inpOf x2 x3 x4 x5 x9 kt kr vt).outQ k0_pay141 (i 1).val) ∗ owns (c : Thread nD τ) arg11 fullShare ((inpOf x2 x3 x4 x5 x9 kt kr vt).outK k0_pay141 (i 1).val x11) ∗ owns (c : Thread nD τ) arg12 fullShare ((inpOf x2 x3 x4 x5 x9 kt kr vt).outV k0_pay141 (i 1).val x12)) -∗ K ⟨⟩))
      ⊢ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  have h24 := part24_run c i arg2 harg2 arg3 harg3 arg4 harg4 arg5 harg5 arg6 harg6 arg7 harg7 arg8 harg8 arg9 harg9 arg10 harg10 arg11 harg11 arg12 harg12 (BitVec.ofNat 32 (i 1).val) (k0_pay136 x2) (k0_pay137 x3) (k0_pay138 x4) (k0_pay139 x5) (k0_pay140 x9) (k0_pay142 (F := F)) (k0_pay143 (F := F)) (iota .tc S256x128 32 [1] iota_S256x128_d1_w32) k0_pay144 k0_pay145 _ _ kt kr vt x11 x12 rfl rfl rfl
  iintro ⟨HR, H6, H7, H8, ⟨%f10, H10⟩, HK⟩
  iapply (exec_cut _ _ _ hhead) $$ [HR]
  · iexact HR
  iintro %r ⟨%hr, H2, H3, H4, H5, H9, H11, H12⟩
  subst hr
  dsimp only
  iapply (exec_cut _ _ _ h24) $$ [H6 H7 H8 H11 H12]
  · unfold inv1
    isplitr
    · ipureintro; rfl
    isplitl [H6]; · iexact H6
    isplitl [H7]; · iexact H7
    isplitl [H8]; · iexact H8
    isplitl [H11]; · iexact H11
    iexact H12
  iintro %r ⟨%hr, H⟩
  obtain ⟨v43, v50_0, v50_1, v60, v61, v72, v73⟩ := r
  dsimp only at hr ⊢
  subst hr
  have h25 := part25_run c i arg2 harg2 arg3 harg3 arg4 harg4 arg5 harg5 arg6 harg6 arg7 harg7 arg8 harg8 arg9 harg9 arg10 harg10 arg11 harg11 arg12 harg12 (BitVec.ofNat 32 (i 1).val) (k0_pay136 x2) (k0_pay137 x3) (k0_pay138 x4) (k0_pay139 x5) (k0_pay140 x9) (k0_pay142 (F := F)) (k0_pay143 (F := F)) (iota .tc S256x128 32 [1] iota_S256x128_d1_w32) (BitVec.ofNat 32 ((i 1).val / 4)) v50_0 v50_1 v60 v61 v72 v73 kt kr vt x11 x12 rfl rfl
  iapply (exec_cut _ _ _ h25) $$ [H]
  · unfold inv1 inv3
    iexact H
  iintro %r ⟨%hr, H⟩
  obtain ⟨v101_0, v101_1, v105, v107, v111⟩ := r
  dsimp only at hr ⊢
  obtain ⟨rfl, h'⟩ := PSigma.mk.inj hr
  obtain ⟨rfl, rfl⟩ := PSigma.mk.inj (eq_of_heq h')
  unfold inv5
  rw [show 4 * ((i 1).val / 4) + 2 * ((i 1).val % 4 / 2) + (i 1).val % 2 = (i 1).val by omega]
  icases H with ⟨%ha, H6, H7, H8, ⟨%f11, H11, %h11⟩, ⟨%f12, H12, %h12⟩⟩
  obtain ⟨rfl, rfl⟩ := Prod.mk.inj ha
  have hr6 : arg6.view.readAt (Elt F) (Rect.unit (s := S1x64x64x256) (k0_off13 i) S1x1x64x256.size (k0_off13_inb i)).toLoadRect (harg6.unread kt) = blkT kt (i 1).val :=
    read_blkT arg6 _ _ _ (harg6.read_unread _) (k0_off13_eq i) (row_lt i)
  have hr8 : arg8.view.readAt (Elt F) (Rect.unit (s := S1x64x64x256) (k0_off13 i) S1x1x64x256.size (k0_off13_inb i)).toLoadRect (harg8.unread vt) = blkT vt (i 1).val :=
    read_blkT arg8 _ _ _ (harg8.read_unread _) (k0_off13_eq i) (row_lt i)
  have hr7 : arg7.view.readAt (Elt F) (Rect.unit (s := S1x64x256x64) (k0_off14 i) S1x1x256x64.size (k0_off14_inb i)).toLoadRect (harg7.unread kr) = blkR kr (i 1).val :=
    read_blkR arg7 _ _ _ (harg7.read_unread _) (k0_off14_eq i) (row_lt i)
  have hr11 : arg11.view.readAt (Elt F) (Rect.unit (s := S1x64x64x256) (k0_off13 i) S1x1x64x256.size (k0_off13_inb i)).toLoadRect f11 = blkT ((inpOf x2 x3 x4 x5 x9 kt kr vt).dk x11 (i 1).val) (i 1).val :=
    read_blkT arg11 _ _ _ h11 (k0_off13_eq i) (row_lt i)
  have hr12 : arg12.view.readAt (Elt F) (Rect.unit (s := S1x64x64x256) (k0_off13 i) S1x1x64x256.size (k0_off13_inb i)).toLoadRect f12 = blkT ((inpOf x2 x3 x4 x5 x9 kt kr vt).dv x12 (i 1).val) (i 1).val :=
    read_blkT arg12 _ _ _ h12 (k0_off13_eq i) (row_lt i)
  simp only [k0_part26_eq_skeleton]
  sl_exec
  sl_step
  iapply HK
  isplitl [H2]
  · unfold owns; iexists _; isplitr; · ipureintro; exact harg2.read_unread _
    iexact H2
  isplitl [H3]
  · unfold owns; iexists _; isplitr; · ipureintro; exact harg3.read_unread _
    iexact H3
  isplitl [H4]
  · unfold owns; iexists _; isplitr; · ipureintro; exact harg4.read_unread _
    iexact H4
  isplitl [H5]
  · unfold owns; iexists _; isplitr; · ipureintro; exact harg5.read_unread _
    iexact H5
  isplitl [H6]
  · unfold owns; iexists _; isplitr; · ipureintro; exact harg6.read_unread _
    iexact H6
  isplitl [H7]
  · unfold owns; iexists _; isplitr; · ipureintro; exact harg7.read_unread _
    iexact H7
  isplitl [H8]
  · unfold owns; iexists _; isplitr; · ipureintro; exact harg8.read_unread _
    iexact H8
  isplitl [H9]
  · unfold owns; iexists _; isplitr; · ipureintro; exact harg9.read_unread _
    iexact H9
  isplitl [H10]
  · unfold owns; iexists _; isplitr; swap; · iexact H10
    ipureintro
    refine (View.read_writes_full _ _ _ _ _).trans ?_
    · skip
      simp only [k0_pay1, k0_pay2, k0_pay3, k0_pay144, k0_pay145, k0_pay146, k0_pay159, k0_pay160, k0_pay161, k0_pay162, k0_pay163, k0_pay164, k0_pay165, k0_pay166, k0_pay167, k0_pay168, hr6, hr7, hr8, hr11, hr12]
      rfl
  isplitl [H11]
  · unfold owns; iexists _; isplitr; swap; · iexact H11
    ipureintro
    refine put_last _ _ _ _ h11 (k0_off13_eq i) (row_lt i) ?_
    · skip
      simp only [k0_pay1, k0_pay2, k0_pay3, k0_pay144, k0_pay145, k0_pay146, k0_pay159, k0_pay160, k0_pay161, k0_pay162, k0_pay163, k0_pay164, k0_pay165, k0_pay166, k0_pay167, k0_pay168, hr6, hr7, hr8, hr11, hr12]
      rfl
  · unfold owns; iexists _; isplitr; swap; · iexact H12
    ipureintro
    refine put_last _ _ _ _ h12 (k0_off13_eq i) (row_lt i) ?_
    · skip
      simp only [k0_pay1, k0_pay2, k0_pay3, k0_pay144, k0_pay145, k0_pay146, k0_pay159, k0_pay160, k0_pay161, k0_pay162, k0_pay163, k0_pay164, k0_pay165, k0_pay166, k0_pay167, k0_pay168, hr6, hr7, hr8, hr11, hr12]
      rfl

end Cert.KernelIdeal.Hand

end
-- ==== Proof.Call.lean ====
/- A whole call of the body over its staging buffers, at the first row block of a head and at a later one. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x256x64 .bf16) (harg2 : arg2.IsWhole) (arg3 : Memref sig .tc .vmem S1x1x64x256 .bf16) (harg3 : arg3.IsWhole) (arg4 : Memref sig .tc .vmem S1x256x64 .bf16) (harg4 : arg4.IsWhole) (arg5 : Memref sig .tc .vmem S1x1x64x256 .bf16) (harg5 : arg5.IsWhole) (arg6 : Memref sig .tc .vmem S1x64x64x256 .bf16) (harg6 : arg6.IsWhole) (arg7 : Memref sig .tc .vmem S1x64x256x64 .bf16) (harg7 : arg7.IsWhole) (arg8 : Memref sig .tc .vmem S1x64x64x256 .bf16) (harg8 : arg8.IsWhole) (arg9 : Memref sig .tc .vmem S1x256x128 .f32) (harg9 : arg9.IsWhole) (arg10 : Memref sig .tc .vmem S1x256x64 .f32) (harg10 : arg10.IsWhole) (arg11 : Memref sig .tc .vmem S1x64x64x256 .f32) (harg11 : arg11.IsWhole) (arg12 : Memref sig .tc .vmem S1x64x64x256 .f32) (harg12 : arg12.IsWhole)
  (x2 : Vec F S1x256x64 .bf16) (x3 : Vec F S1x1x64x256 .bf16) (x4 : Vec F S1x256x64 .bf16) (x5 : Vec F S1x1x64x256 .bf16) (x9 : Vec F S1x256x128 .f32) (kt : Vec F S1x64x64x256 .bf16) (kr : Vec F S1x64x256x64 .bf16) (vt : Vec F S1x64x64x256 .bf16) (x11 x12 : Vec F S1x64x64x256 .f32)

set_option maxHeartbeats 1000000 in
theorem call_first (hc : first0 i) (K : PUnit → sProp 𝕄) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (kt) ∗ owns (c : Thread nD τ) arg7 fullShare (kr) ∗ owns (c : Thread nD τ) arg8 fullShare (vt) ∗ owns (c : Thread nD τ) arg9 fullShare (x9)
        ∗ (∃ d, owns (c : Thread nD τ) arg10 fullShare (d)) ∗ (∃ d, owns (c : Thread nD τ) arg11 fullShare (d)) ∗ (∃ d, owns (c : Thread nD τ) arg12 fullShare (d))
        ∗ ((owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (kt) ∗ owns (c : Thread nD τ) arg7 fullShare (kr) ∗ owns (c : Thread nD τ) arg8 fullShare (vt) ∗ owns (c : Thread nD τ) arg9 fullShare (x9)
          ∗ owns (c : Thread nD τ) arg10 fullShare ((inpOf x2 x3 x4 x5 x9 kt kr vt).outQ k0_pay141 (i 1).val) ∗ owns (c : Thread nD τ) arg11 fullShare ((inpOf x2 x3 x4 x5 x9 kt kr vt).outK k0_pay141 (i 1).val (k0_pay134 (F := F))) ∗ owns (c : Thread nD τ) arg12 fullShare ((inpOf x2 x3 x4 x5 x9 kt kr vt).outV k0_pay141 (i 1).val (k0_pay134 (F := F)))) -∗ K ⟨⟩))
      ⊢ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, HK⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases H9 with ⟨%f9, %h9, H9⟩
  icases H10 with ⟨%d10, %f10, -, H10⟩
  icases H11 with ⟨%d11, %f11, %h11, H11⟩
  icases H12 with ⟨%d12, %f12, %h12, H12⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  iapply (body_run c i arg2 harg2 arg3 harg3 arg4 harg4 arg5 harg5 arg6 harg6 arg7 harg7 arg8 harg8 arg9 harg9 arg10 harg10 arg11 harg11 arg12 harg12 x2 x3 x4 x5 x9 kt kr vt (k0_pay134 (F := F)) (k0_pay134 (F := F)) _ (head_first c i arg2 harg2 arg3 harg3 arg4 harg4 arg5 harg5 arg6 harg6 arg7 harg7 arg8 harg8 arg9 harg9 arg10 harg10 arg11 harg11 arg12 harg12 x2 x3 x4 x5 x9 d11 d12 hc) K)
  isplitl [H2 H3 H4 H5 H9 H11 H12]
  · isplitl [H2]; · iexact H2
    isplitl [H3]; · iexact H3
    isplitl [H4]; · iexact H4
    isplitl [H5]; · iexact H5
    isplitl [H9]; · iexact H9
    isplitl [H11]
    · iexists _; isplitl [H11]; · iexact H11
      ipureintro; exact h11
    · iexists _; isplitl [H12]; · iexact H12
      ipureintro; exact h12
  isplitl [H6]; · iexact H6
  isplitl [H7]; · iexact H7
  isplitl [H8]; · iexact H8
  isplitl [H10]; · iexists _; iexact H10
  unfold owns
  iexact HK

set_option maxHeartbeats 1000000 in
theorem call_later (hc : ¬ first0 i) (K : PUnit → sProp 𝕄) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (kt) ∗ owns (c : Thread nD τ) arg7 fullShare (kr) ∗ owns (c : Thread nD τ) arg8 fullShare (vt) ∗ owns (c : Thread nD τ) arg9 fullShare (x9)
        ∗ (∃ d, owns (c : Thread nD τ) arg10 fullShare (d)) ∗ owns (c : Thread nD τ) arg11 fullShare (x11) ∗ owns (c : Thread nD τ) arg12 fullShare (x12)
        ∗ ((owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (kt) ∗ owns (c : Thread nD τ) arg7 fullShare (kr) ∗ owns (c : Thread nD τ) arg8 fullShare (vt) ∗ owns (c : Thread nD τ) arg9 fullShare (x9)
          ∗ owns (c : Thread nD τ) arg10 fullShare ((inpOf x2 x3 x4 x5 x9 kt kr vt).outQ k0_pay141 (i 1).val) ∗ owns (c : Thread nD τ) arg11 fullShare ((inpOf x2 x3 x4 x5 x9 kt kr vt).outK k0_pay141 (i 1).val x11) ∗ owns (c : Thread nD τ) arg12 fullShare ((inpOf x2 x3 x4 x5 x9 kt kr vt).outV k0_pay141 (i 1).val x12)) -∗ K ⟨⟩))
      ⊢ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, H12, HK⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases H9 with ⟨%f9, %h9, H9⟩
  icases H10 with ⟨%d10, %f10, -, H10⟩
  icases H11 with ⟨%f11, %h11, H11⟩
  icases H12 with ⟨%f12, %h12, H12⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  iapply (body_run c i arg2 harg2 arg3 harg3 arg4 harg4 arg5 harg5 arg6 harg6 arg7 harg7 arg8 harg8 arg9 harg9 arg10 harg10 arg11 harg11 arg12 harg12 x2 x3 x4 x5 x9 kt kr vt x11 x12 _ (head_later c i arg2 harg2 arg3 harg3 arg4 harg4 arg5 harg5 arg6 harg6 arg7 harg7 arg8 harg8 arg9 harg9 arg10 harg10 arg11 harg11 arg12 harg12 x2 x3 x4 x5 x9 x11 x12 hc) K)
  isplitl [H2 H3 H4 H5 H9 H11 H12]
  · isplitl [H2]; · iexact H2
    isplitl [H3]; · iexact H3
    isplitl [H4]; · iexact H4
    isplitl [H5]; · iexact H5
    isplitl [H9]; · iexact H9
    isplitl [H11]
    · iexists _; isplitl [H11]; · iexact H11
      ipureintro; exact h11
    · iexists _; isplitl [H12]; · iexact H12
      ipureintro; exact h12
  isplitl [H6]; · iexact H6
  isplitl [H7]; · iexact H7
  isplitl [H8]; · iexact H8
  isplitl [H10]; · iexists _; iexact H10
  unfold owns
  iexact HK

end Cert.KernelIdeal.Hand

end
-- ==== Proof.Run.lean ====
/- The run of the whole program: what every staging buffer holds at every point, the body obligation, the launch and the frame. -/
module

public import proofs.«01_k».proof.Proof.Call
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is the first of its head exactly at the multiples of `64`. -/
theorem first_iff (t : Fin cfg0.N) : first0 (grid0.coords t) ↔ t.val % 64 = 0 := by
  have ht : t.val < 512 := Nat.lt_of_lt_of_eq t.isLt N_0
  have e1 : (grid0.coords t 1).val = t.val / 1 % 64 := Pipeline.Grid.coords_val t 1 (by decide) rfl
  simp only [first0, e1]
  word_cmp

abbrev ms0_0 (t : Fin cfg0.N) : Memref sig .tc .vmem S1x256x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x64x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x256x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x64x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x64x256 .f32 := win0_10.stage (cfg0.slots t 10)
abbrev hs0_10 (t : Fin cfg0.N) : (ms0_10 t).IsWhole := hstage0_10 ((cfg0.slots t 10).cast nbuf0_10)

/-- What the call at a point reads. -/
def inpAt (c : Dev nD) (t : Fin cfg0.N) : Inp F := inpOf (iblk m c 0 t) (iblk m c 1 t) (iblk m c 2 t) (iblk m c 3 t) (iblk m c 7 t) (iblk m c 4 t) (iblk m c 5 t) (iblk m c 6 t)
/-- The row block of a point. -/
abbrev rowOf (t : Fin cfg0.N) : ℕ := (grid0.coords t 1).val

/-- The gradients of the keys and of the values that have been summed after point `n`: they begin again at each head. -/
def sums (c : Dev nD) : (n : ℕ) → n < cfg0.N → Vec F S1x64x64x256 .f32 × Vec F S1x64x64x256 .f32
  | 0, hn => ((inpAt m c ⟨0, hn⟩).outK k0_pay141 (rowOf ⟨0, hn⟩) (k0_pay134 (F := F)), (inpAt m c ⟨0, hn⟩).outV k0_pay141 (rowOf ⟨0, hn⟩) (k0_pay134 (F := F)))
  | n + 1, hn =>
    ((inpAt m c ⟨n + 1, hn⟩).outK k0_pay141 (rowOf ⟨n + 1, hn⟩) (if (n + 1) % 64 = 0 then (k0_pay134 (F := F)) else (sums c n (Nat.lt_of_succ_lt hn)).1),
     (inpAt m c ⟨n + 1, hn⟩).outV k0_pay141 (rowOf ⟨n + 1, hn⟩) (if (n + 1) % 64 = 0 then (k0_pay134 (F := F)) else (sums c n (Nat.lt_of_succ_lt hn)).2))

theorem sums_first (c : Dev nD) (t : Fin cfg0.N) (h : t.val % 64 = 0) :
    sums m c t.val t.isLt = ((inpAt m c t).outK k0_pay141 (rowOf t) (k0_pay134 (F := F)), (inpAt m c t).outV k0_pay141 (rowOf t) (k0_pay134 (F := F))) := by
  obtain ⟨n, hn⟩ := t
  cases n with
  | zero => rfl
  | succ n => dsimp only at h ⊢; unfold sums; rw [if_pos h, if_pos h]

theorem sums_later (c : Dev nD) (t : Fin cfg0.N) (h : ¬t.val % 64 = 0) :
    sums m c t.val t.isLt
      = ((inpAt m c t).outK k0_pay141 (rowOf t) (sums m c (t.val - 1) (Nat.lt_of_le_of_lt (Nat.sub_le _ _) t.isLt)).1,
         (inpAt m c t).outV k0_pay141 (rowOf t) (sums m c (t.val - 1) (Nat.lt_of_le_of_lt (Nat.sub_le _ _) t.isLt)).2) := by
  obtain ⟨n, hn⟩ := t
  cases n with
  | zero => exact absurd (Nat.zero_mod _) h
  | succ n => dsimp only at h ⊢; rw [sums, if_neg h, if_neg h]; rfl

/-- The proof data of the pipeline: every input's buffer keeps its block, the outputs' hold the row block's gradient and the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (inpAt m c t).outQ k0_pay141 (rowOf t)
    | ⟨9, _⟩ => (sums m c t.val t.isLt).1
    | ⟨10, _⟩ => (sums m c t.val t.isLt).2
  Φ _ := Pipeline.ΦA spec0 c
  q _ := fullShare
  owed _ := 0

theorem dats_A (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]
theorem dats_after6 (c : Dev nD) (t : Fin cfg0.N) : (dats m 0 c).after 6 t = iblk m c 6 t := by dsimp only [dats]
theorem dats_after7 (c : Dev nD) (t : Fin cfg0.N) : (dats m 0 c).after 7 t = iblk m c 7 t := by dsimp only [dats]
theorem dats_after8 (c : Dev nD) (t : Fin cfg0.N) : (dats m 0 c).after 8 t = (inpAt m c t).outQ k0_pay141 (rowOf t) := by dsimp only [dats]
theorem dats_after9 (c : Dev nD) (t : Fin cfg0.N) : (dats m 0 c).after 9 t = (sums m c t.val t.isLt).1 := by dsimp only [dats]
theorem dats_after10 (c : Dev nD) (t : Fin cfg0.N) : (dats m 0 c).after 10 t = (sums m c t.val t.isLt).2 := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d
theorem dats_before6 (c : Dev nD) (t : Fin cfg0.N) (d) : (dats m 0 c).before 6 t d = iblk m c 6 t :=
  before0_6_of m (dats m 0 c) (dats_A m c 6) (dats_after6 m c) t d
theorem dats_before7 (c : Dev nD) (t : Fin cfg0.N) (d) : (dats m 0 c).before 7 t d = iblk m c 7 t :=
  before0_7_of m (dats m 0 c) (dats_A m c 7) (dats_after7 m c) t d
theorem dats_before9 (c : Dev nD) (t : Fin cfg0.N) (h : ¬t.val % 64 = 0) (d) :
    (dats m 0 c).before 9 t d = (sums m c (t.val - 1) (Nat.lt_of_le_of_lt (Nat.sub_le _ _) t.isLt)).1 := by
  have hN : t.val < 512 := lt_of_lt_of_eq t.isLt (show cfg0.N = 512 from N_0)
  rw [Dat.before_out_kept _ 9 rfl t (by omega) (Bool.eq_false_iff.mpr fun h' => by have := (flush0_9 _).mp h'; dsimp only at this; omega)
    (fun _ => rfl) (fun _ _ => rfl)]
  dsimp only [dats]
theorem dats_before10 (c : Dev nD) (t : Fin cfg0.N) (h : ¬t.val % 64 = 0) (d) :
    (dats m 0 c).before 10 t d = (sums m c (t.val - 1) (Nat.lt_of_le_of_lt (Nat.sub_le _ _) t.isLt)).2 := by
  have hN : t.val < 512 := lt_of_lt_of_eq t.isLt (show cfg0.N = 512 from N_0)
  rw [Dat.before_out_kept _ 10 rfl t (by omega) (Bool.eq_false_iff.mpr fun h' => by have := (flush0_10 _).mp h'; dsimp only at this; omega)
    (fun _ => rfl) (fun _ _ => rfl)]
  dsimp only [dats]

/-- What the body is called with at point `t`, -/
def atCall (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it leaves. -/
def atReturn (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
theorem body_sound (c : Dev nD) (t : Fin cfg0.N) :
    atCall m c t ⊢ wp frame (wpE (defs₀ (F := F)) Variants.none c none) Set.univ (bodyAt0 t) (fun _ => atReturn m c t) := by
  unfold atCall atReturn bodyAt0
  simp only [dats_before0, dats_before1, dats_before2, dats_before3, dats_before4, dats_before5, dats_before6, dats_before7]
  rw [show (dats m 0 c).Φ t.succ = (dats m 0 c).Φ t.castSucc from rfl,
    show (dats m 0 c).owesAt () t.succ = (dats m 0 c).owesAt () t.castSucc from rfl,
    dats_after0, dats_after1, dats_after2, dats_after3, dats_after4, dats_after5, dats_after6, dats_after7, dats_after8, dats_after9, dats_after10]
  by_cases h : t.val % 64 = 0
  · rw [sums_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (call_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 7 t) (iblk m c 4 t) (iblk m c 5 t) (iblk m c 6 t) ((first_iff t).mpr h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro H
    isplitl [HΦ]; · iexact HΦ
    isplitl [Ho]; · iexact Ho
    iexact H
  · rw [sums_later m c t h]
    simp only [dats_before9 m c t h, dats_before10 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (call_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 7 t) (iblk m c 4 t) (iblk m c 5 t) (iblk m c 6 t) _ _ (fun h' => h ((first_iff t).mp h')) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro H
    isplitl [HΦ]; · iexact HΦ
    isplitl [Ho]; · iexact Ho
    iexact H

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

-- The implicit arguments are found by unifying the conclusions, which takes unfolding plain definitions in a type.
set_option backward.isDefEq.respectTransparency.types false in
/-- The launch: every array ends at what the proof data computes, every other buffer as the region found it, every counter at zero. -/
theorem launched : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run_main : θ_run defs (onTc (τ := τ) (main (F := F))) (s₀ m ρ) (Pipeline.FramePost cfgs (dats m) 0 (V m)) :=
  (θ_run defs _ _).mono (fun _ h => h.1) (launched m ρ)

/-- The frame, over any values: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_main m ρ)) ((θ_run defs _ _).mono (fun _ h => h.2) (launched m ρ))

end Cert.KernelIdeal.Hand

end
-- ==== Proof.Same.lean ====
/- The kernel as printed and its idealization are one program. -/
module

public import proofs.«01_k».proof.Kernel
public import proofs.«01_k».proof.KernelIdeal
public import proofs.«01_k».proof.Proof.Gen.Kernel
public import proofs.«01_k».proof.Proof.Gen.KernelIdeal

@[expose] public section

set_option maxHeartbeats 0

noncomputable section

namespace Cert.Same

open Idealize.ShloMosaic Idealize.SL Idealize.SL.Sem

open Cert.Kernel.Gen Cert.KernelIdeal.Gen

variable {F : FTy → Type} [FloatOps F]

theorem body_eq : @Cert.Kernel.cc0_attn_bwd F _ _ = @Cert.KernelIdeal.cc0_attn_bwd F _ _ := by with_unfolding_all rfl

theorem defs0_at (t : Fin Cert.KernelIdeal.grid0.N) (s : ∀ w : Fin 11, Fin (Cert.KernelIdeal.win0 w).nbuf) :
    @Cert.Kernel.defs₀ F _ _ .tc (0 : Fin 1) (t, s) = @Cert.KernelIdeal.defs₀ F _ _ .tc (0 : Fin 1) (t, s) := by
  unfold Cert.Kernel.defs₀ Cert.KernelIdeal.defs₀
  dsimp only [Defs.onTc]
  rw [← body_eq]
  with_unfolding_all rfl

theorem defs0_eq : @Cert.Kernel.defs₀ F _ _ = @Cert.KernelIdeal.defs₀ F _ _ := by
  funext p l a
  cases p with
  | tc =>
    obtain ⟨l, hl⟩ := l
    obtain _ | l := l
    · exact defs0_at a.1 a.2
    · exact absurd hl (by omega)
  | _ => with_unfolding_all rfl

theorem defs_eq : @Cert.Kernel.defs F _ _ = @Cert.KernelIdeal.defs F _ _ := by
  unfold Cert.Kernel.defs Cert.KernelIdeal.defs
  rw [← defs0_eq]
  with_unfolding_all rfl

theorem main_eq : @Cert.Kernel.main F _ _ = @Cert.KernelIdeal.main F _ _ := by with_unfolding_all rfl

end Cert.Same

end
-- ==== Proof.Ref.lean ====
/- The reference's three results as compositions of a few named steps. -/
module

public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Gen

/-- An array over heads, rows and positions. -/
abbrev Scores := FVec Ideal S8x16384x16384 .f32
abbrev Rows := FVec Ideal S16384x512 .f32
abbrev Heads := FVec Ideal S8x16384x64 .f32

def splat (b : BitVec 32) : Scores := broadcastInDim S8x16384x16384 ![] bcast_S_S8x16384x16384 (constant S_ .f32 b)
abbrev zeros : Scores := splat 0x00000000#32
abbrev infs : Scores := splat 0x7F800000#32

def headsOf (x : Rows) : Heads :=
  transpose S8x16384x64 [1, 0, 2] (shapeCast S16384x8x64 x shapeCasts_S16384x512_S16384x8x64) transposes_S16384x8x64_S8x16384x64_1_0_2

def products (x y : Rows) : Scores :=
  Host.dotGeneral dot_S8x16384x64_S8x16384x64_S8x16384x16384_2_2_1_1_0_0 none (headsOf x) (headsOf y)

def scores (q k : Rows) : Scores := mulf (products q k) (splat 0x3E000000#32)

def mask : IVec S8x16384x16384 1 :=
  broadcastInDim S8x16384x16384 ![1, 2] bcast_S16384x16384_S8x16384x16384_1_2
    (cmpi .slt
      (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

def masked (x : Scores) : Scores := select mask x zeros

/-- `log (1 + exp x)`. -/
def softplus (x : Scores) : Scores :=
  select (cmpf .une (subf x zeros) (subf x zeros)) (addf x zeros)
    (addf (maximumf x zeros) (Host.log1p (Host.exp (Host.negf (Host.absf (subf x zeros))))))

/-- The derivative of `softplus` at `x`. -/
def dsoftplus (x : Scores) : Scores :=
  Host.exp (subf (select (cmpf .oeq x infs) zeros x) (select (cmpf .oeq (softplus x) infs) zeros (softplus x)))

def logSigmoid (x : Scores) : Scores := Host.negf (softplus (Host.negf x))

/-- What reaches the argument of `logSigmoid` at `x` of what reaches its result. -/
def back (x e : Scores) : Scores := Host.negf (mulf (Host.negf e) (dsoftplus (Host.negf x)))

def zero0 : FVec Ideal S_ .f32 := broadcastInDim S_ ![] bcast_S_S_ (constant S_ .f32 0x00000000#32)

/-- The sums over a position and all after it, and over a position and all before it. -/
def sumsFrom (x : Scores) : Scores :=
  Host.reduceWindowAdd ![1, 1, 16384] ![1, 1, 1] ![0, 0, 0] ![0, 0, 16383] x zero0
    reduceWindows_S8x16384x16384_S8x16384x16384_w1s1p0_0_w1s1p0_0_w16384s1p0_16383 h_S_
def sumsTo (x : Scores) : Scores :=
  Host.reduceWindowAdd ![1, 1, 16384] ![1, 1, 1] ![0, 0, 16383] ![0, 0, 0] x zero0
    reduceWindows_S8x16384x16384_S8x16384x16384_w1s1p0_0_w1s1p0_0_w16384s1p16383_0 h_S_

def logOneMinus (z : Scores) : Scores := masked (logSigmoid (Host.negf z))

def unmasked (z : Scores) : Scores :=
  Host.exp (addf (logSigmoid z) (subf (sumsFrom (logOneMinus z)) (logOneMinus z)))

def weights (z : Scores) : Scores := masked (unmasked z)

/-- The weights times what reaches them. -/
def errs (z dw : Scores) : Scores := mulf (masked dw) (unmasked z)

def dscores (z e : Scores) : Scores :=
  mulf (addf (back z e) (Host.negf (back (Host.negf z) (masked (addf (Host.negf e) (sumsTo e)))))) (splat 0x3E000000#32)

def dz (q k v g : Rows) : Scores := dscores (scores q k) (errs (scores q k) (products g v))

def flat (x : Heads) : Rows :=
  shapeCast S16384x512 (transpose S16384x8x64 [1, 0, 2] x transposes_S8x16384x64_S16384x8x64_1_0_2) shapeCasts_S16384x8x64_S16384x512

def blocks (x : Rows) : FVec Ideal S8x64x64x256 .f32 :=
  transpose S8x64x64x256 [2, 0, 3, 1] (shapeCast S64x256x8x64 x shapeCasts_S16384x512_S64x256x8x64) transposes_S64x256x8x64_S8x64x64x256_2_0_3_1

def dqHeads (q k v g : Rows) : Heads :=
  Host.dotGeneral dot_S8x16384x16384_S8x16384x64_S8x16384x64_2_1_1_2_0_0 none (dz q k v g) (headsOf k)
def dkHeads (q k v g : Rows) : Heads :=
  Host.dotGeneral dot_S8x16384x16384_S8x16384x64_S8x16384x64_1_1_2_2_0_0 none (dz q k v g) (headsOf q)
def dvHeads (q k g : Rows) : Heads :=
  transpose S8x16384x64 [0, 2, 1]
    (Host.dotGeneral dot_S8x16384x64_S8x16384x16384_S8x64x16384_1_1_2_2_0_0 none (headsOf g) (weights (scores q k))) transposes_S8x64x16384_S8x16384x64_0_2_1

variable (m : (ℓ : Loc nD τ sig) → Buf (Elt Ideal) ℓ) (c : Dev nD)

abbrev argQ : Rows := m ((c.tc : Thread nD τ).loc main_arg0)
abbrev argK : Rows := m ((c.tc : Thread nD τ).loc main_arg1)
abbrev argV : Rows := m ((c.tc : Thread nD τ).loc main_arg2)
abbrev argG : Rows := m ((c.tc : Thread nD τ).loc main_arg3)

theorem res54 : Value.res_main_v54 m c = headsOf (flat (dqHeads (argQ m c) (argK m c) (argV m c) (argG m c))) := rfl
theorem res56 : Value.res_main_v56 m c = blocks (flat (dkHeads (argQ m c) (argK m c) (argV m c) (argG m c))) := rfl
theorem res58 : Value.res_main_v58 m c = blocks (flat (dvHeads (argQ m c) (argK m c) (argG m c))) := rfl

end Cert.ReferenceIdeal.Hand

end
-- ==== Proof.Real.lean ====
/- The stick-breaking attention and its gradient over the reals, and reals inside the extended reals. -/
module

public import Idealize.ShloMosaic.Lib.Pointwise

@[expose] public section

noncomputable section

namespace Cert.Stick

open Idealize.ShloMosaic
open Finset

/-- `log (sigmoid x)`. -/
def ls (x : ℝ) : ℝ := min x 0 - Real.log (1 + Real.exp (-|x|))

/-- `sigmoid x`. -/
def sg (x : ℝ) : ℝ := Real.exp (ls x)

theorem ls_sub (x : ℝ) : ls x - ls (-x) = x := by
  unfold ls
  rw [abs_neg]
  rcases le_total x 0 with h | h
  · rw [min_eq_left h, min_eq_right (by linarith)]; ring
  · rw [min_eq_right h, min_eq_left (by linarith)]; ring

theorem sg_add (x : ℝ) : sg x + sg (-x) = 1 := by
  have key : ∀ y : ℝ, 0 ≤ y → sg y + sg (-y) = 1 := fun y hy => by
    unfold sg ls
    rw [abs_neg, abs_of_nonneg hy, min_eq_right hy, min_eq_left (by linarith), Real.exp_sub, Real.exp_sub,
      Real.exp_log (by positivity), Real.exp_zero]
    have : (0 : ℝ) < 1 + Real.exp (-y) := by positivity
    field_simp
  rcases le_total 0 x with h | h
  · exact key x h
  · have := key (-x) (by linarith)
    rw [neg_neg] at this; linarith

variable (q k v g : ℕ → ℕ → ℝ) (h t s : ℕ)

def dot : ℝ := ∑ d : Fin 64, q t (h * 64 + d) * k s (h * 64 + d)
def z : ℝ := dot q k h t s * (1 / 8)
def lg : ℝ := if s < t then ls (-z q k h t s) else 0
/-- The sum of `lg` over a position and all after it. -/
def sufx : ℝ := ∑ s' ∈ Ico s 16384, lg q k h t s'
def u : ℝ := Real.exp (ls (z q k h t s) + (sufx q k h t s - lg q k h t s))
def w : ℝ := if s < t then u q k h t s else 0
def e : ℝ := (if s < t then dot g v h t s else 0) * u q k h t s
/-- The sum of `e` over the positions before one. -/
def pre : ℝ := ∑ s' ∈ range s, e q k v g h t s'
/-- The gradient of the scores. -/
def dz : ℝ := e q k v g h t s * sg (-z q k h t s) - (if s < t then pre q k v g h t s else 0) * sg (z q k h t s)

def dq (d : ℕ) : ℝ := ∑ s ∈ range 16384, dz q k v g h t s * (1 / 8) * k s (h * 64 + d)
def dk (d : ℕ) : ℝ := ∑ t ∈ range 16384, dz q k v g h t s * (1 / 8) * q t (h * 64 + d)
def dv (d : ℕ) : ℝ := ∑ t ∈ range 16384, g t (h * 64 + d) * w q k h t s

/-! Reals inside the extended reals. -/

theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [sum_insert ha, sum_insert ha, ih, EReal.coe_add]

theorem c_add (a b : ℝ) : (a : EReal) + (b : EReal) = ((a + b : ℝ) : EReal) := (EReal.coe_add a b).symm
theorem c_sub (a b : ℝ) : (a : EReal) - (b : EReal) = ((a - b : ℝ) : EReal) := (EReal.coe_sub a b).symm
theorem c_mul (a b : ℝ) : (a : EReal) * (b : EReal) = ((a * b : ℝ) : EReal) := (EReal.coe_mul a b).symm
theorem c_neg (a : ℝ) : -(a : EReal) = ((-a : ℝ) : EReal) := (EReal.coe_neg a).symm
theorem c_max (a b : ℝ) : max (a : EReal) (b : EReal) = ((max a b : ℝ) : EReal) := (EReal.coe_strictMono.monotone.map_max).symm
theorem c_min (a b : ℝ) : min (a : EReal) (b : EReal) = ((min a b : ℝ) : EReal) := (EReal.coe_strictMono.monotone.map_min).symm
theorem c_abs (a : ℝ) : max (a : EReal) (-(a : EReal)) = ((|a| : ℝ) : EReal) := by rw [c_neg, c_max]; rfl
theorem c_exp (a : ℝ) : Ideal.exp (a : EReal) = ((Real.exp a : ℝ) : EReal) := rfl
theorem c_log (a : ℝ) (ha : 0 < a) : Ideal.log (a : EReal) = ((Real.log a : ℝ) : EReal) := by
  show (if a ≤ 0 then (⊥ : EReal) else (Real.log a : EReal)) = _
  rw [if_neg (not_le.mpr ha)]
theorem c_zero : (0 : EReal) = ((0 : ℝ) : EReal) := rfl
theorem c_one : (1 : EReal) = ((1 : ℝ) : EReal) := rfl

/-- `log (1 + exp (-|x|))` as both programs write it. -/
theorem c_log1p (x : ℝ) : Ideal.log1p (Ideal.exp (-(max (x : EReal) (-(x : EReal))))) = ((Real.log (1 + Real.exp (-|x|)) : ℝ) : EReal) := by
  unfold Ideal.log1p
  rw [c_abs, c_neg, c_exp, c_one, c_add, c_log _ (by positivity)]

theorem c_ls (x : ℝ) : min (x : EReal) 0 - Ideal.log (1 + Ideal.exp (0 - max (x : EReal) (-(x : EReal)))) = ((ls x : ℝ) : EReal) := by
  rw [c_zero, c_min, c_abs, c_sub, c_exp, c_one, c_add, c_log _ (by positivity), c_sub, zero_sub]; rfl

theorem eighth : Ideal.ofBits .f32 0x3E000000#32 = (((1 / 8 : ℝ)) : EReal) := by
  simp [Ideal.ofBits, Ideal.ieee]; rw [c_mul]; norm_num
theorem neg_eighth : Ideal.ofBits .f32 0xBE000000#32 = ((-(1 / 8) : ℝ) : EReal) := by
  simp [Ideal.ofBits, Ideal.ieee]; rw [c_mul]; norm_num
theorem infinity : Ideal.ofBits .f32 0x7F800000#32 = (⊤ : EReal) := by
  simp [Ideal.ofBits, Ideal.ieee]
theorem one_f32 : Ideal.ofBits .f32 0x3F800000#32 = ((1 : ℝ) : EReal) := by
  simp [Ideal.ofBits, Ideal.ieee]; rw [c_mul]; norm_num
theorem one_bf16 : Ideal.ofBits .bf16 0x3F80#16 = ((1 : ℝ) : EReal) := by
  simp [Ideal.ofBits, Ideal.ieee]; rw [c_mul]; norm_num

/-! Running sums along the last axis. -/

theorem foldl_sum {M ι : Type} [AddCommMonoid M] (F : ι → M) (l : List ι) (x : M) :
    l.foldl (fun r n => r + F n) x = x + (l.map F).sum := by
  induction l generalizing x with
  | nil => simp
  | cons a l ih => simp [ih, add_assoc]

/-- The window's positions: those along the last axis. -/
def lastAxis (N : ℕ) : (⟨3, ![1, 1, N]⟩ : Shape).Idx ≃ Fin N where
  toFun i := i 2
  invFun n := ix3 0 0 n
  left_inv i := by
    funext a
    match a with
    | ⟨0, _⟩ => exact (Subsingleton.elim (α := Fin 1) _ _)
    | ⟨1, _⟩ => exact (Subsingleton.elim (α := Fin 1) _ _)
    | ⟨2, _⟩ => rfl
  right_inv n := rfl

theorem window_sum {A B N : ℕ} (lo hi : ℕ) (x : FVec Ideal ⟨3, ![A, B, N]⟩ .f32) (init : FVec Ideal ⟨0, ![]⟩ .f32) (hi0 : init ix0 = 0)
    (f : ℕ → ℝ) (hw : Shape.ReduceWindows ⟨3, ![A, B, N]⟩ (![1, 1, N] : Fin 3 → ℕ) ![1, 1, 1] ![0, 0, lo] ![0, 0, hi] ⟨3, ![A, B, N]⟩)
    (h0 : 0 < (⟨0, ![]⟩ : Shape).numel) (a : Fin A) (b : Fin B) (n : Fin N) (hx : ∀ n', x (ix3 a b n') = ((f n' : ℝ) : EReal)) :
    Host.reduceWindowAdd (F := Ideal) ![1, 1, N] ![1, 1, 1] ![0, 0, lo] ![0, 0, hi] x init hw h0 (ix3 a b n)
      = ((∑ c : Fin N, if lo ≤ n + c ∧ n + c - lo < N then f (n + c - lo) else 0 : ℝ) : EReal) := by
  have e0 : init (Shape.Idx.first h0) = 0 := by rw [← hi0]; congr 1; exact Subsingleton.elim _ _
  show Ideal.hostReduceWindowAdd _ _ _ _ hw x (init (Shape.Idx.first h0)) _ = _
  unfold Ideal.hostReduceWindowAdd Host.reduceWindow
  rw [e0]
  dsimp only
  rw [foldl_sum, zero_add, ← Fin.sum_univ_def]
  rw [← coe_sum, ← Equiv.sum_comp ((⟨3, ![1, 1, N]⟩ : Shape).rowMajor), ← Equiv.sum_comp (lastAxis N).symm]
  refine sum_congr rfl fun c _ => ?_
  simp only [Equiv.symm_apply_apply]
  by_cases hc : lo ≤ n.val + c.val ∧ n.val + c.val - lo < N
  · have hin : ∀ p : Fin 3, ![0, 0, lo] p ≤ ((ix3 a b n : (⟨3, ![A, B, N]⟩ : Shape).Idx) (Fin.cast rfl p)).val * ![1, 1, 1] p + ((lastAxis N).symm c p).val ∧
        ((ix3 a b n : (⟨3, ![A, B, N]⟩ : Shape).Idx) (Fin.cast rfl p)).val * ![1, 1, 1] p + ((lastAxis N).symm c p).val - ![0, 0, lo] p < ![A, B, N] p := by
      intro p
      match p with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨by show lo ≤ n.val * 1 + c.val; omega, by show n.val * 1 + c.val - lo < N; omega⟩
    refine (dif_pos hin).trans ?_
    rw [if_pos hc]
    refine Eq.trans ?_ (hx ⟨n.val + c.val - lo, hc.2⟩)
    refine congrArg x (funext fun p => Fin.ext ?_)
    match p with
    | ⟨0, _⟩ => show a.val * 1 + 0 - 0 = a.val; omega
    | ⟨1, _⟩ => show b.val * 1 + 0 - 0 = b.val; omega
    | ⟨2, _⟩ => show n.val * 1 + c.val - lo = n.val + c.val - lo; omega
  · rw [if_neg hc]
    refine dif_neg fun hin => hc ?_
    have h2 : lo ≤ n.val * 1 + c.val ∧ n.val * 1 + c.val - lo < N := hin 2
    rwa [Nat.mul_one] at h2

/-- The sum over a position and all after it. -/
theorem window_from {A B N : ℕ} (hi : ℕ) (x : FVec Ideal ⟨3, ![A, B, N]⟩ .f32) (init : FVec Ideal ⟨0, ![]⟩ .f32) (hi0 : init ix0 = 0)
    (f : ℕ → ℝ) (hw : Shape.ReduceWindows ⟨3, ![A, B, N]⟩ (![1, 1, N] : Fin 3 → ℕ) ![1, 1, 1] ![0, 0, 0] ![0, 0, hi] ⟨3, ![A, B, N]⟩)
    (h0 : 0 < (⟨0, ![]⟩ : Shape).numel) (a : Fin A) (b : Fin B) (n : Fin N) (hx : ∀ n', x (ix3 a b n') = ((f n' : ℝ) : EReal)) :
    Host.reduceWindowAdd (F := Ideal) ![1, 1, N] ![1, 1, 1] ![0, 0, 0] ![0, 0, hi] x init hw h0 (ix3 a b n)
      = ((∑ c ∈ Ico n.val N, f c : ℝ) : EReal) := by
  rw [window_sum 0 hi x init hi0 f hw h0 a b n hx, EReal.coe_eq_coe_iff]
  rw [Fin.sum_univ_eq_sum_range (fun c => if 0 ≤ n.val + c ∧ n.val + c - 0 < N then f (n.val + c - 0) else 0) N, ← sum_filter]
  refine sum_nbij' (fun c => n.val + c) (fun c => c - n.val) ?_ ?_ ?_ ?_ ?_ <;> simp <;> intros <;> omega

/-- The sum over a position and all before it. -/
theorem window_to {A B N : ℕ} (lo : ℕ) (hlo : lo + 1 = N) (x : FVec Ideal ⟨3, ![A, B, N]⟩ .f32) (init : FVec Ideal ⟨0, ![]⟩ .f32) (hi0 : init ix0 = 0)
    (f : ℕ → ℝ) (hw : Shape.ReduceWindows ⟨3, ![A, B, N]⟩ (![1, 1, N] : Fin 3 → ℕ) ![1, 1, 1] ![0, 0, lo] ![0, 0, 0] ⟨3, ![A, B, N]⟩)
    (h0 : 0 < (⟨0, ![]⟩ : Shape).numel) (a : Fin A) (b : Fin B) (n : Fin N) (hx : ∀ n', x (ix3 a b n') = ((f n' : ℝ) : EReal)) :
    Host.reduceWindowAdd (F := Ideal) ![1, 1, N] ![1, 1, 1] ![0, 0, lo] ![0, 0, 0] x init hw h0 (ix3 a b n)
      = ((∑ c ∈ range (n.val + 1), f c : ℝ) : EReal) := by
  rw [window_sum lo 0 x init hi0 f hw h0 a b n hx, EReal.coe_eq_coe_iff]
  rw [Fin.sum_univ_eq_sum_range (fun c => if lo ≤ n.val + c ∧ n.val + c - lo < N then f (n.val + c - lo) else 0) N, ← sum_filter]
  have hn := n.isLt
  refine sum_nbij' (fun c => n.val + c - lo) (fun c => c + lo - n.val) ?_ ?_ ?_ ?_ ?_ <;> simp <;> intros <;> omega

end Cert.Stick

end
-- ==== Proof.RefVal.lean ====
/- The reference's results at an index, over the reals. -/
module

public import proofs.«01_k».proof.Proof.Ref
public import proofs.«01_k».proof.Proof.Real

@[expose] public section

set_option maxRecDepth 16384

noncomputable section

namespace Cert.ReferenceIdeal.Hand

open Idealize.ShloMosaic Idealize.ShloMosaic.TcCoe
open Cert.ReferenceIdeal Cert.ReferenceIdeal.Gen Cert.Stick

theorem headsOf_at (x : Rows) (h : Fin 8) (t : Fin 16384) (d : Fin 64) :
    headsOf x (ix3 h t d) = x (ix2 t ⟨h * 64 + d, by omega⟩) := by
  pointwise [headsOf]

theorem products_at (x y : Rows) (h : Fin 8) (t s : Fin 16384) :
    products x y (ix3 h t s) = ∑ d : Fin 64, headsOf x (ix3 h t d) * headsOf y (ix3 h s d) := by
  pointwise [products]

theorem splat_at (b : BitVec 32) (h : Fin 8) (t s : Fin 16384) : splat b (ix3 h t s) = Ideal.ofBits .f32 b := by
  pointwise [splat]

theorem zeros_at (h : Fin 8) (t s : Fin 16384) : zeros (ix3 h t s) = 0 := by
  pointwise [zeros, splat]

theorem slt_iff (t s : Fin 16384) : IntOp.cmpi CmpIPredicate.slt (BitVec.ofNat 32 s.val) (BitVec.ofNat 32 t.val) = if s.val < t.val then 1#1 else 0#1 := by
  have key : ∀ r : Fin 16384, (BitVec.ofNat 32 r.val).toInt = r.val := fun r => by
    have hr := r.isLt
    have e : (BitVec.ofNat 32 r.val).toNat = r.val := by rw [BitVec.toNat_ofNat, Nat.mod_eq_of_lt (by omega)]
    rw [BitVec.toInt_eq_toNat_of_lt (by omega), e]
  simp only [IntOp.cmpi, BitVec.slt, key, Nat.cast_lt]
  by_cases h : s.val < t.val <;> simp [h]

theorem mask_at (h : Fin 8) (t s : Fin 16384) : mask (ix3 h t s) = if s.val < t.val then 1#1 else 0#1 := by
  pointwise [mask]
  exact slt_iff t s

theorem flat_at (x : Heads) (t : Fin 16384) (h : Fin 8) (d : Fin 64) :
    flat x (ix2 t ⟨h * 64 + d, by omega⟩) = x (ix3 h t d) := by
  pointwise [flat]

theorem blocks_at (x : Rows) (h : Fin 8) (j : Fin 64) (d : Fin 64) (c : Fin 256) :
    blocks x (ix4 h j d c) = x (ix2 ⟨j * 256 + c, by omega⟩ ⟨h * 64 + d, by omega⟩) := by
  pointwise [blocks]

/-- The array holds these reals. -/
def Is (x : Scores) (f : ℕ → ℕ → ℕ → ℝ) : Prop := ∀ (h : Fin 8) (t s : Fin 16384), x (ix3 h t s) = ((f h t s : ℝ) : EReal)

variable {x y : Scores} {f f' : ℕ → ℕ → ℕ → ℝ}

theorem Is.neg (hx : Is x f) : Is (Host.negf x) fun h t s => -f h t s := fun h t s => by
  pointwise
  rw [hx, c_neg]

theorem Is.masked (hx : Is x f) : Is (masked x) fun h t s => if s < t then f h t s else 0 := fun h t s => by
  pointwise [Hand.masked]
  rw [mask_at, zeros_at, hx]
  split_ifs <;> rfl

theorem Is.softplus (hx : Is x f) : Is (softplus x) fun h t s => -ls (-f h t s) := fun h t s => by
  pointwise [Hand.softplus]
  rw [zeros_at, hx, if_neg (not_not.mpr rfl), sub_zero, Ideal.absf_def, c_log1p, c_zero, c_max, c_add, EReal.coe_eq_coe_iff]
  unfold ls
  rw [abs_neg]
  rcases le_total (f h t s) 0 with h0 | h0
  · rw [max_eq_right h0, min_eq_right (by linarith)]; ring
  · rw [max_eq_left h0, min_eq_left (by linarith)]; ring

theorem infs_at (h : Fin 8) (t s : Fin 16384) : infs (ix3 h t s) = ⊤ := (splat_at _ h t s).trans infinity

theorem Is.dsoftplus (hx : Is x f) : Is (dsoftplus x) fun h t s => sg (f h t s) := fun h t s => by
  pointwise [Hand.dsoftplus]
  rw [infs_at, hx.softplus, hx, if_neg (EReal.coe_ne_top _), if_neg (EReal.coe_ne_top _), c_sub, c_exp, EReal.coe_eq_coe_iff]
  have := ls_sub (f h t s)
  exact congrArg Real.exp (by linarith)

theorem Is.congr (hx : Is x f) (h : ∀ h t s, f h t s = f' h t s) : Is x f' := fun a b c => by rw [hx, h]

theorem Is.logSigmoid (hx : Is x f) : Is (logSigmoid x) fun h t s => ls (f h t s) :=
  hx.neg.softplus.neg.congr fun _ _ _ => by simp only [neg_neg]

theorem Is.mulf (hx : Is x f) (hy : Is y f') : Is (mulf x y) fun h t s => f h t s * f' h t s := fun h t s => by
  pointwise
  rw [hx, hy, c_mul]
theorem Is.addf (hx : Is x f) (hy : Is y f') : Is (addf x y) fun h t s => f h t s + f' h t s := fun h t s => by
  pointwise
  rw [hx, hy, c_add]
theorem Is.subf (hx : Is x f) (hy : Is y f') : Is (subf x y) fun h t s => f h t s - f' h t s := fun h t s => by
  pointwise
  rw [hx, hy, c_sub]
theorem Is.exp (hx : Is x f) : Is (Host.exp x) fun h t s => Real.exp (f h t s) := fun h t s => by
  pointwise
  rw [hx, c_exp]

theorem Is.back (hx : Is x f) (hy : Is y f') : Is (back x y) fun h t s => f' h t s * sg (-f h t s) :=
  (hy.neg.mulf hx.neg.dsoftplus).neg.congr fun _ _ _ => by ring

theorem zero0_at : zero0 ix0 = 0 := by
  pointwise [zero0]

theorem Is.sumsFrom (hx : Is x f) : Is (sumsFrom x) fun h t s => ∑ c ∈ Finset.Ico s 16384, f h t c := fun h t s =>
  window_from 16383 x zero0 zero0_at (f h t) _ _ h t s (hx h t)
theorem Is.sumsTo (hx : Is x f) : Is (sumsTo x) fun h t s => ∑ c ∈ Finset.range (s + 1), f h t c := fun h t s =>
  window_to 16383 rfl x zero0 zero0_at (f h t) _ _ h t s (hx h t)

theorem splat_is : Is (splat 0x3E000000#32) fun _ _ _ => 1 / 8 := fun h t s => by rw [splat_at, eighth]

/-- The argument holds these reals. -/
def IsRows (x : Rows) (a : ℕ → ℕ → ℝ) : Prop := ∀ (t : Fin 16384) (c : Fin 512), x (ix2 t c) = ((a t c : ℝ) : EReal)

variable {Q K V G : Rows} {q k v g : ℕ → ℕ → ℝ} (hQ : IsRows Q q) (hK : IsRows K k) (hV : IsRows V v) (hG : IsRows G g)

theorem IsRows.heads (hQ : IsRows Q q) (h : Fin 8) (t : Fin 16384) (d : Fin 64) :
    headsOf Q (ix3 h t d) = ((q t (h * 64 + d) : ℝ) : EReal) := by rw [headsOf_at, hQ]

include hQ hK
theorem products_is : Is (products Q K) (dot q k) := fun h t s => by
  rw [products_at]
  simp only [hQ.heads, hK.heads, c_mul, coe_sum]
  rfl

theorem scores_is : Is (scores Q K) (z q k) := (products_is hQ hK).mulf splat_is

theorem lg_is : Is (logOneMinus (scores Q K)) (lg q k) := (scores_is hQ hK).neg.logSigmoid.masked

theorem u_is : Is (unmasked (scores Q K)) (u q k) :=
  ((scores_is hQ hK).logSigmoid.addf ((lg_is hQ hK).sumsFrom.subf (lg_is hQ hK))).exp

theorem w_is : Is (weights (scores Q K)) (w q k) := (u_is hQ hK).masked

include hV hG
theorem e_is : Is (errs (scores Q K) (products G V)) (e q k v g) := (products_is hG hV).masked.mulf (u_is hQ hK)

theorem dz_is : Is (dz Q K V G) fun h t s => Stick.dz q k v g h t s * (1 / 8) :=
  (((scores_is hQ hK).back (e_is hQ hK hV hG)).addf
      ((scores_is hQ hK).neg.back ((e_is hQ hK hV hG).neg.addf (e_is hQ hK hV hG).sumsTo).masked).neg |>.mulf splat_is).congr fun h t s => by
    simp only [neg_neg, Finset.sum_range_succ, Stick.dz, pre, neg_add_cancel_comm_assoc]
    ring_nf

omit hV hG in
theorem dv_at (hG : IsRows G g) (h : Fin 8) (s : Fin 16384) (d : Fin 64) : dvHeads Q K G (ix3 h s d) = ((dv q k g h s d : ℝ) : EReal) := by
  pointwise [dvHeads]
  simp only [hG.heads, w_is hQ hK _ _ _, c_mul, coe_sum]
  rw [EReal.coe_eq_coe_iff]
  exact Fin.sum_univ_eq_sum_range (fun t => g t (h * 64 + d) * w q k h t s) 16384

theorem dq_at (h : Fin 8) (t : Fin 16384) (d : Fin 64) : dqHeads Q K V G (ix3 h t d) = ((dq q k v g h t d : ℝ) : EReal) := by
  pointwise [dqHeads]
  simp only [hK.heads, dz_is hQ hK hV hG _ _ _, c_mul, coe_sum]
  rw [EReal.coe_eq_coe_iff]
  exact Fin.sum_univ_eq_sum_range (fun s => Stick.dz q k v g h t s * (1 / 8) * k s (h * 64 + d)) 16384

theorem dk_at (h : Fin 8) (s : Fin 16384) (d : Fin 64) : dkHeads Q K V G (ix3 h s d) = ((dk q k v g h s d : ℝ) : EReal) := by
  pointwise [dkHeads]
  simp only [hQ.heads, dz_is hQ hK hV hG _ _ _, c_mul, coe_sum]
  rw [EReal.coe_eq_coe_iff]
  exact Fin.sum_univ_eq_sum_range (fun t => Stick.dz q k v g h t s * (1 / 8) * q t (h * 64 + d)) 16384

/-! The three results. -/

theorem outQ_at (h : Fin 8) (t : Fin 16384) (d : Fin 64) :
    headsOf (flat (dqHeads Q K V G)) (ix3 h t d) = ((dq q k v g h t d : ℝ) : EReal) := by
  rw [headsOf_at, flat_at, dq_at hQ hK hV hG]

theorem outK_at (h : Fin 8) (j : Fin 64) (d : Fin 64) (c : Fin 256) :
    blocks (flat (dkHeads Q K V G)) (ix4 h j d c) = ((dk q k v g h (j * 256 + c) d : ℝ) : EReal) := by
  rw [blocks_at, flat_at, dk_at hQ hK hV hG]

omit hV hG in
theorem outV_at (hG : IsRows G g) (h : Fin 8) (j : Fin 64) (d : Fin 64) (c : Fin 256) :
    blocks (flat (dvHeads Q K G)) (ix4 h j d c) = ((dv q k g h (j * 256 + c) d : ℝ) : EReal) := by
  rw [blocks_at, flat_at, dv_at hQ hK hG]

end Cert.ReferenceIdeal.Hand

end
-- ==== Proof.Finite.lean ====
/- Finite arguments hold reals. -/
module

public import proofs.«01_k».proof.Pre_finite
public import Idealize.ShloMosaic.Lib.StableHlo.Predicate
public import proofs.«01_k».proof.Proof.RefVal

@[expose] public section

noncomputable section

namespace Cert.Stick

open Idealize.ShloMosaic
open Cert.ReferenceIdeal.Hand (IsRows)

theorem preFacts : Pre_finite.Facts := ⟨by decide⟩

/-- The reals an argument holds, by row and column. -/
def realsOf (x : FVec Ideal Pre_finite.S16384x512 .f32) (t c : ℕ) : ℝ :=
  if h : t < 16384 ∧ c < 512 then (x (ix2 ⟨t, h.1⟩ ⟨c, h.2⟩) : EReal).toReal else 0

theorem isRows_realsOf (x : FVec Ideal Pre_finite.S16384x512 .f32)
    (h : ∀ (t : Fin 16384) (c : Fin 512), (x (ix2 t c) : EReal) ≠ ⊤ ∧ (x (ix2 t c) : EReal) ≠ ⊥) : IsRows x (realsOf x) := fun t c => by
  unfold realsOf
  rw [dif_pos ⟨t.isLt, c.isLt⟩]
  exact (EReal.coe_toReal (h t c).1 (h t c).2).symm

theorem finite_of_lt {x : EReal} (h : max x (-x) < ⊤) : x ≠ ⊤ ∧ x ≠ ⊥ := by
  constructor
  · rintro rfl; simp at h
  · rintro rfl; simp at h

private theorem both {a b : BitVec 1} (h : IntOp.andi a b = 1#1) : a = 1#1 ∧ b = 1#1 := by
  revert a b; decide

private theorem of_test {x : EReal} (h : BitVec.ofBool (decide ((FloatOps.absf (F := Ideal) (φ := .f32) x : EReal) < Ideal.ofBits FTy.f32 2139095040#32)) = 1#1) :
    x ≠ ⊤ ∧ x ≠ ⊥ := by
  rw [infinity, StableHlo.Predicate.ofBool_eq_one_iff, decide_eq_true_iff, Ideal.absf_def] at h
  exact finite_of_lt h

theorem rows_of_pre [Pre_finite.Facts] (q k v g : FVec Ideal Pre_finite.S16384x512 .f32)
    (h : Pre_finite.fn q k v g = fun _ => 1#1) :
    IsRows q (realsOf q) ∧ IsRows k (realsOf k) ∧ IsRows v (realsOf v) ∧ IsRows g (realsOf g) := by
  have key : ∀ (t : Fin 16384) (c : Fin 512), ((q (ix2 t c) : EReal) ≠ ⊤ ∧ (q (ix2 t c) : EReal) ≠ ⊥)
      ∧ ((k (ix2 t c) : EReal) ≠ ⊤ ∧ (k (ix2 t c) : EReal) ≠ ⊥)
      ∧ ((v (ix2 t c) : EReal) ≠ ⊤ ∧ (v (ix2 t c) : EReal) ≠ ⊥)
      ∧ ((g (ix2 t c) : EReal) ≠ ⊤ ∧ (g (ix2 t c) : EReal) ≠ ⊥) := by
    intro t c
    have e := congrFun h (ix2 t c)
    revert e
    pointwise [Pre_finite.fn]
    intro e
    obtain ⟨e, eg⟩ := both e
    obtain ⟨e, ev⟩ := both e
    obtain ⟨eq, ek⟩ := both e
    exact ⟨of_test eq, of_test ek, of_test ev, of_test eg⟩
  exact ⟨isRows_realsOf q fun t c => (key t c).1, isRows_realsOf k fun t c => (key t c).2.1,
    isRows_realsOf v fun t c => (key t c).2.2.1, isRows_realsOf g fun t c => (key t c).2.2.2⟩

end Cert.Stick

end
-- ==== Proof.Host.lean ====
/- What the windows' arrays hold when the kernel starts, from the arguments. -/
module

public import proofs.«01_k».proof.Proof.Run
public import proofs.«01_k».proof.Proof.RefVal

@[expose] public section

set_option maxRecDepth 16384

noncomputable section

namespace Cert.KernelIdeal.Hand

open Idealize.ShloMosaic Idealize.ShloMosaic.TcCoe
open Cert.KernelIdeal Cert.KernelIdeal.Gen Cert.Stick

abbrev Flat (e : EltTy) := Vec Ideal S16384x512 e

def toHeads {e : EltTy} (x : Flat e) : Vec Ideal S8x16384x64 e :=
  transpose S8x16384x64 [1, 0, 2] (shapeCast S16384x8x64 x shapeCasts_S16384x512_S16384x8x64) transposes_S16384x8x64_S8x16384x64_1_0_2
def toBlocksT {e : EltTy} (x : Flat e) : Vec Ideal S8x64x64x256 e :=
  transpose S8x64x64x256 [2, 0, 3, 1] (shapeCast S64x256x8x64 x shapeCasts_S16384x512_S64x256x8x64) transposes_S64x256x8x64_S8x64x64x256_2_0_3_1
def toBlocksR {e : EltTy} (x : Flat e) : Vec Ideal S8x64x256x64 e :=
  transpose S8x64x256x64 [2, 0, 1, 3] (shapeCast S64x256x8x64 x shapeCasts_S16384x512_S64x256x8x64) transposes_S64x256x8x64_S8x64x256x64_2_0_1_3

def short (x : FVec Ideal S16384x512 .f32) : FVec Ideal S16384x512 .bf16 := truncf .bf16 x bitsLt_bf16_f32
def scaled (x : FVec Ideal S16384x512 .f32) : FVec Ideal S16384x512 .f32 := mulf x (broadcastInDim S16384x512 ![] bcast_S_S16384x512 (constant S_ .f32 0xBE000000#32))

/-- `log (1 - beta)` under the mask, at every pair of positions. -/
abbrev logs (q k : FVec Ideal S16384x512 .f32) : FVec Ideal S8x16384x16384 .f32 := ReferenceIdeal.Hand.logOneMinus (ReferenceIdeal.Hand.scores q k)

variable (m : (ℓ : Loc nD τ sig) → Buf (Elt Ideal) ℓ) (c : Dev nD)

abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)
abbrev argG : FVec Ideal S16384x512 .f32 := m ((c : Thread nD τ).loc main_arg3)

/-! The buffers after each line of the host operations. -/

abbrev Buffers := (b : DevRef τ sig) → b.ty.Contents (Elt Ideal)

variable (W : Buffers)

open StableHlo (after)

theorem seg8_29 : after hostOps0_8 W main_v29 = toHeads (short (scaled (W main_arg0))) := by
  after_results; rfl
theorem seg8_31 : after hostOps0_8 W main_v31 = toBlocksT (short (scaled (W main_arg0))) := by
  after_results; rfl
theorem seg8_33 : after hostOps0_8 W main_v33 = toHeads (short (W main_arg3)) := by
  after_results; rfl
theorem seg8_35 : after hostOps0_8 W main_v35 = toBlocksT (short (W main_arg3)) := by
  after_results; rfl
theorem seg8_37 : after hostOps0_8 W main_v37 = toBlocksT (short (W main_arg1)) := by
  after_results; rfl
theorem seg8_39 : after hostOps0_8 W main_v39 = toBlocksR (short (W main_arg1)) := by
  after_results; rfl
theorem seg8_41 : after hostOps0_8 W main_v41 = toBlocksT (short (W main_arg2)) := by
  after_results; rfl
theorem seg8_21 : after hostOps0_8 W main_v21 = W main_v21 := by
  after_results

theorem seg0_14 : after hostOps0 W main_v14 = Host.negf (ReferenceIdeal.Hand.scores (W main_arg0) (W main_arg1)) := by
  after_results; rfl

/-- Position `s` before position `t`, over pairs of positions. -/
def earlier : IVec S16384x16384 1 := cmpi .slt
  (broadcastInDim S16384x16384 ![0, 1] bcast_S1x16384_S16384x16384_0_1 (broadcastInDim S1x16384 ![1] bcast_S16384_S1x16384_1 (iotaInDim S16384 32 0)))
  (broadcastInDim S16384x16384 ![0, 1] bcast_S16384x1_S16384x16384_0_1 (broadcastInDim S16384x1 ![0] bcast_S16384_S16384x1_0 (iotaInDim S16384 32 0)))

theorem seg0_13 : after hostOps0 W main_v13 = earlier := by
  after_results; try rfl
theorem seg1_15 : after hostOps0_1 W main_v15 = ReferenceIdeal.Hand.logSigmoid (W main_v14) := by
  after_results; try rfl
theorem seg1_13 : after hostOps0_1 W main_v13 = W main_v13 := by
  after_results
theorem seg2_15 : after hostOps0_2 W main_v15 = W main_v15 := by
  after_results
theorem seg2_13 : after hostOps0_2 W main_v13 = W main_v13 := by
  after_results
theorem seg2_cst : after hostOps0_2 W main_cst_0 = (constant S_ .f32 0x00000000#32 : FVec Ideal S_ .f32) := by
  after_results; try rfl
theorem seg3_16 : after hostOps0_3 W main_v16 = (select (broadcastInDim S8x16384x16384 ![1, 2] bcast_S16384x16384_S8x16384x16384_1_2 (W main_v13 : IVec S16384x16384 1))
    (W main_v15 : FVec Ideal S8x16384x16384 .f32) (broadcastInDim S8x16384x16384 ![] bcast_S_S8x16384x16384 (W main_cst_0 : FVec Ideal S_ .f32)) : FVec Ideal S8x16384x16384 .f32) := by
  after_results; try rfl

/-- The sums over the blocks of positions. -/
def totals (x : FVec Ideal S8x16384x16384 .f32) : FVec Ideal S8x16384x64 .f32 :=
  Host.reduceAdd (shapeCast S8x16384x64x256 x shapeCasts_S8x16384x16384_S8x16384x64x256) (constant S_ .f32 0x00000000#32) reducesTo_S8x16384x64x256_S8x16384x64_d3 h_S_

theorem seg4_18 : after hostOps0_4 W main_v18 = totals (W main_v16) := by
  after_results; try rfl

def sumsFrom (x : FVec Ideal S8x16384x64 .f32) : FVec Ideal S8x16384x64 .f32 :=
  Host.reduceWindowAdd ![1, 1, 64] ![1, 1, 1] ![0, 0, 0] ![0, 0, 63] x (broadcastInDim S_ ![] bcast_S_S_ (constant S_ .f32 0x00000000#32))
    reduceWindows_S8x16384x64_S8x16384x64_w1s1p0_0_w1s1p0_0_w64s1p0_63 h_S_

theorem seg5_19 : after hostOps0_5 W main_v19 = sumsFrom (W main_v18) := by
  after_results; try rfl
theorem seg5_18 : after hostOps0_5 W main_v18 = W main_v18 := by
  after_results
theorem seg6_20 : after hostOps0_6 W main_v20 = (subf (W main_v19 : FVec Ideal S8x16384x64 .f32) (W main_v18) : FVec Ideal S8x16384x64 .f32) := by
  after_results; try rfl
theorem seg6_c : after hostOps0_6 W main_c = (constantI S_ 32 0#32) := by
  after_results; try rfl

def padded (x : FVec Ideal S8x16384x64 .f32) (z : IVec S_ 32) : FVec Ideal S8x16384x128 .f32 :=
  pad S8x16384x128 ![0, 0, 0] ![0, 0, 64] ![0, 0, 0] x (sitofp .f32 z : FVec Ideal S_ .f32) pads_S8x16384x64_S8x16384x128_000_000_0640 h_S_

theorem seg7_21 : after hostOps0_7 W main_v21 = padded (W main_v20) (W main_c) := by
  after_results; try rfl

theorem after_append (l₁ l₂ : List (HloOp τ sig (Elt Ideal))) : after (l₁ ++ l₂) W = after l₂ (after l₁ W) := by
  induction l₁ generalizing W with
  | nil => rfl
  | cons op l ih => exact ih _

theorem V_eq (b : Ref sig .tc) : V m c b = after hostOps0_8 (after hostOps0_7 (after hostOps0_6 (after hostOps0_5 (after hostOps0_4
    (after hostOps0_3 (after hostOps0_2 (after hostOps0_1 (after hostOps0 fun b => m (c, b))))))))) b := by
  unfold V
  simp only [List.flatten_cons, List.flatten_nil, List.append_nil, after_append]

theorem V21 : V m c main_v21 = padded (subf (sumsFrom (totals (logs (argQ m c) (argK m c)))) (totals (logs (argQ m c) (argK m c)))) (constantI S_ 32 0#32) := by
  rw [V_eq, seg8_21, seg7_21, seg6_20, seg6_c, seg5_19, seg5_18, seg4_18, seg3_16, seg2_15, seg2_13, seg2_cst, seg1_15, seg1_13, seg0_14, seg0_13]
  rfl

end Cert.KernelIdeal.Hand

end
-- ==== Proof.HostVal.lean ====
/- The windows' arrays at an index, over the reals. -/
module

public import proofs.«01_k».proof.Proof.Host

@[expose] public section

set_option maxRecDepth 16384

noncomputable section

namespace Cert.KernelIdeal.Hand

open Idealize.ShloMosaic Idealize.ShloMosaic.TcCoe
open Cert.KernelIdeal Cert.KernelIdeal.Gen Cert.Stick
open StableHlo (after)
open Cert.ReferenceIdeal.Hand (IsRows Is)

section
variable (W : Buffers)
theorem seg8_a0 : after hostOps0_8 W main_arg0 = W main_arg0 := by after_results
theorem seg8_a1 : after hostOps0_8 W main_arg1 = W main_arg1 := by after_results
theorem seg8_a2 : after hostOps0_8 W main_arg2 = W main_arg2 := by after_results
theorem seg8_a3 : after hostOps0_8 W main_arg3 = W main_arg3 := by after_results
end

variable (m : (ℓ : Loc nD τ sig) → Buf (Elt Ideal) ℓ) (c : Dev nD)

theorem V29 : V m c main_v29 = toHeads (short (scaled (argQ m c))) := by
  have e := V_main_arg0 m c
  rw [V_eq, seg8_a0] at e
  rw [V_eq, seg8_29, e]
theorem V31 : V m c main_v31 = toBlocksT (short (scaled (argQ m c))) := by
  have e := V_main_arg0 m c
  rw [V_eq, seg8_a0] at e
  rw [V_eq, seg8_31, e]
theorem V33 : V m c main_v33 = toHeads (short (argG m c)) := by
  have e := V_main_arg3 m c
  rw [V_eq, seg8_a3] at e
  rw [V_eq, seg8_33, e]
theorem V35 : V m c main_v35 = toBlocksT (short (argG m c)) := by
  have e := V_main_arg3 m c
  rw [V_eq, seg8_a3] at e
  rw [V_eq, seg8_35, e]
theorem V37 : V m c main_v37 = toBlocksT (short (argK m c)) := by
  have e := V_main_arg1 m c
  rw [V_eq, seg8_a1] at e
  rw [V_eq, seg8_37, e]
theorem V39 : V m c main_v39 = toBlocksR (short (argK m c)) := by
  have e := V_main_arg1 m c
  rw [V_eq, seg8_a1] at e
  rw [V_eq, seg8_39, e]
theorem V41 : V m c main_v41 = toBlocksT (short (argV m c)) := by
  have e := V_main_arg2 m c
  rw [V_eq, seg8_a2] at e
  rw [V_eq, seg8_41, e]

theorem toHeads_at {e : EltTy} (x : Flat e) (h : Fin 8) (t : Fin 16384) (d : Fin 64) :
    toHeads x (ix3 h t d) = x (ix2 t ⟨h * 64 + d, by omega⟩) := by
  pointwise [toHeads]
theorem toBlocksT_at {e : EltTy} (x : Flat e) (h : Fin 8) (j : Fin 64) (d : Fin 64) (c : Fin 256) :
    toBlocksT x (ix4 h j d c) = x (ix2 ⟨j * 256 + c, by omega⟩ ⟨h * 64 + d, by omega⟩) := by
  pointwise [toBlocksT]
theorem toBlocksR_at {e : EltTy} (x : Flat e) (h : Fin 8) (j : Fin 64) (c : Fin 256) (d : Fin 64) :
    toBlocksR x (ix4 h j c d) = x (ix2 ⟨j * 256 + c, by omega⟩ ⟨h * 64 + d, by omega⟩) := by
  pointwise [toBlocksR]

theorem short_at (x : FVec Ideal S16384x512 .f32) (t : Fin 16384) (c : Fin 512) : short x (ix2 t c) = x (ix2 t c) := rfl
theorem scaled_at {x : FVec Ideal S16384x512 .f32} {q : ℕ → ℕ → ℝ} (hx : IsRows x q) (t : Fin 16384) (c : Fin 512) :
    scaled x (ix2 t c) = ((q t c * (-(1 / 8)) : ℝ) : EReal) := by
  pointwise [scaled]
  rw [hx, neg_eighth, c_mul]

theorem totals_at (x : FVec Ideal S8x16384x16384 .f32) (f : ℕ → ℕ → ℕ → ℝ) (hx : Is x f) (h : Fin 8) (t : Fin 16384) (j : Fin 64) :
    totals x (ix3 h t j) = ((∑ c : Fin 256, f h t (j * 256 + c) : ℝ) : EReal) := by
  pointwise [totals]
  simp only [hx _ _ _, coe_sum]

theorem sum_blocks (f : ℕ → ℝ) (a b : ℕ) (hab : a ≤ b) :
    ∑ j ∈ Finset.Ico a b, ∑ c : Fin 256, f (j * 256 + c) = ∑ s ∈ Finset.Ico (a * 256) (b * 256), f s := by
  induction b, hab using Nat.le_induction with
  | base => simp
  | succ b hab ih =>
    rw [Finset.sum_Ico_succ_top hab, ih, ← Finset.sum_Ico_consecutive f (show a * 256 ≤ b * 256 by omega) (show b * 256 ≤ (b + 1) * 256 by omega)]
    refine congrArg (_ + ·) ?_
    rw [Fin.sum_univ_eq_sum_range (fun c => f (b * 256 + c)) 256, Finset.sum_Ico_eq_sum_range, show (b + 1) * 256 - b * 256 = 256 by omega]

theorem sumsFrom_at (x : FVec Ideal S8x16384x16384 .f32) (f : ℕ → ℕ → ℕ → ℝ) (hx : Is x f) (h : Fin 8) (t : Fin 16384) (j : Fin 64) :
    sumsFrom (totals x) (ix3 h t j) = ((∑ s ∈ Finset.Ico (j.val * 256) 16384, f h t s : ℝ) : EReal) := by
  refine (window_from 63 (totals x) _ (by pointwise) (fun j => ∑ c : Fin 256, f h t (j * 256 + c)) _ _ h t j (totals_at x f hx h t)).trans ?_
  rw [sum_blocks _ _ _ (by omega)]

theorem table_at (x : FVec Ideal S8x16384x16384 .f32) (f : ℕ → ℕ → ℕ → ℝ) (hx : Is x f) (h : Fin 8) (t : Fin 16384) (n : ℕ) (hn : n < 64) :
    padded (subf (sumsFrom (totals x)) (totals x)) (constantI S_ 32 0#32) (ix3 h t ⟨n, by omega⟩)
      = ((∑ s ∈ Finset.Ico ((n + 1) * 256) 16384, f h t s : ℝ) : EReal) := by
  pointwise [padded]
  rw [dif_pos hn, sumsFrom_at x f hx, totals_at x f hx, c_sub, EReal.coe_eq_coe_iff]
  have e := sum_blocks (f h t) n (n + 1) (by omega)
  rw [Finset.sum_Ico_succ_top le_rfl, Finset.Ico_self, Finset.sum_empty, zero_add] at e
  rw [e, ← Finset.sum_Ico_consecutive _ (show n * 256 ≤ (n + 1) * 256 by omega) (show (n + 1) * 256 ≤ 16384 by omega)]
  exact add_sub_cancel_left _ _

end Cert.KernelIdeal.Hand

end
-- ==== Proof.ModelVal.lean ====
/- What one call of the body computes, over the reals. -/
module

public import proofs.«01_k».proof.Proof.Model
public import proofs.«01_k».proof.Proof.Real

@[expose] public section

set_option maxRecDepth 16384

noncomputable section

namespace Cert.KernelIdeal.Hand

open Idealize.ShloMosaic Idealize.ShloMosaic.TcCoe
open Cert.KernelIdeal Cert.KernelIdeal.Gen Cert.Stick

theorem blkT_at {e : EltTy} (x : Vec Ideal S1x64x64x256 e) {n : ℕ} (hn : n < 64) (d : Fin 64) (c : Fin 256) :
    blkT x n (ix4 0 0 d c) = x (ix4 0 ⟨n, hn⟩ d c) := by
  refine congrArg x (funext fun p => Fin.ext ?_)
  match p with
  | ⟨0, _⟩ => rfl
  | ⟨1, _⟩ => show min n 63 + 1 * 0 = n; omega
  | ⟨2, _⟩ => show 0 + 1 * d.val = d.val; omega
  | ⟨3, _⟩ => show 0 + 1 * c.val = c.val; omega

theorem blkR_at {e : EltTy} (x : Vec Ideal S1x64x256x64 e) {n : ℕ} (hn : n < 64) (c : Fin 256) (d : Fin 64) :
    blkR x n (ix4 0 0 c d) = x (ix4 0 ⟨n, hn⟩ c d) := by
  refine congrArg x (funext fun p => Fin.ext ?_)
  match p with
  | ⟨0, _⟩ => rfl
  | ⟨1, _⟩ => show min n 63 + 1 * 0 = n; omega
  | ⟨2, _⟩ => show 0 + 1 * c.val = c.val; omega
  | ⟨3, _⟩ => show 0 + 1 * d.val = d.val; omega

theorem putT_at {e : EltTy} (x : Vec Ideal S1x64x64x256 e) {n : ℕ} (hn : n < 64) (w : Vec Ideal S1x1x64x256 e) (j : Fin 64) (d : Fin 64) (c : Fin 256) :
    putT x n w (ix4 0 j d c) = if j.val = n then w (ix4 0 0 d c) else x (ix4 0 j d c) := by
  by_cases h : j.val = n
  · rw [if_pos h]
    obtain rfl : j = ⟨n, hn⟩ := Fin.ext h
    exact (blkT_at (putT x n w) hn d c).symm.trans
      (congrFun (VecWindow.window_put_same x (offB n) S1x1x64x256.size (offB_inbT n) w) (ix4 0 0 d c))
  · rw [if_neg h]
    have hb := congrFun (blkT_putT_ne x w hn j.isLt (fun e => h e.symm)) (ix4 0 0 d c)
    rwa [blkT_at _ j.isLt, blkT_at _ j.isLt] at hb

theorem lg_lt {q k : ℕ → ℕ → ℝ} {h t s : ℕ} (hs : s < t) : lg q k h t s = ls (-z q k h t s) := if_pos hs

/-- The blocks a call is handed hold these reals, at head `h` and row block `i`. -/
structure Fits (I : Inp Ideal) (tri : IVec S256x256 1) (q k v g : ℕ → ℕ → ℝ) (h i : ℕ) : Prop where
  hi : i < 64
  hq : ∀ (a : Fin 256) (d : Fin 64), I.q (ix2 a d) = ((q (i * 256 + a) (h * 64 + d) * (-(1 / 8)) : ℝ) : EReal)
  hqt : ∀ (a : Fin 256) (d : Fin 64), I.qt (ix2 d a) = ((q (i * 256 + a) (h * 64 + d) * (-(1 / 8)) : ℝ) : EReal)
  hg : ∀ (a : Fin 256) (d : Fin 64), I.g (ix2 a d) = ((g (i * 256 + a) (h * 64 + d) : ℝ) : EReal)
  hgt : ∀ (a : Fin 256) (d : Fin 64), I.gt (ix2 d a) = ((g (i * 256 + a) (h * 64 + d) : ℝ) : EReal)
  hr : ∀ (a : Fin 256) (n : ℕ) (hn : n < 64), I.r (ix2 a ⟨n, by omega⟩) = ((∑ s ∈ Finset.Ico ((n + 1) * 256) 16384, lg q k h (i * 256 + a) s : ℝ) : EReal)
  incl : ∀ r c : Fin 256, I.incl (ix2 r c) = (((if c.val ≤ r.val then 1 else 0 : ℝ)) : EReal)
  lower : ∀ r c : Fin 256, I.lower (ix2 r c) = (((if r.val < c.val then 1 else 0 : ℝ)) : EReal)
  lane : ∀ (a : Fin 256) (l : Fin 128), I.lane (ix2 a l) = BitVec.ofNat 32 l.val
  htri : ∀ r c : Fin 256, tri (ix2 r c) = if c.val < r.val then 1#1 else 0#1
  hkt : ∀ (n : Fin 64) (c : Fin 256) (d : Fin 64), I.kt (ix4 0 n d c) = ((k (n * 256 + c) (h * 64 + d) : ℝ) : EReal)
  hkr : ∀ (n : Fin 64) (c : Fin 256) (d : Fin 64), I.kr (ix4 0 n c d) = ((k (n * 256 + c) (h * 64 + d) : ℝ) : EReal)
  hvt : ∀ (n : Fin 64) (c : Fin 256) (d : Fin 64), I.vt (ix4 0 n d c) = ((v (n * 256 + c) (h * 64 + d) : ℝ) : EReal)

namespace Fits

variable {I : Inp Ideal} {tri : IVec S256x256 1} {q k v g : ℕ → ℕ → ℝ} {h i : ℕ} (H : Fits I tri q k v g h i)
include H

theorem nz_at {n : ℕ} (hn : n < 64) (a c : Fin 256) : I.nz n (ix2 a c) = ((-z q k h (i * 256 + a) (n * 256 + c) : ℝ) : EReal) := by
  pointwise [Inp.nz]
  simp only [blkT_at _ hn, H.hq, H.hkt, c_mul, coe_sum]
  rw [EReal.coe_eq_coe_iff]
  unfold z dot
  rw [Finset.sum_mul, ← Finset.sum_neg_distrib]
  exact Finset.sum_congr rfl fun _ _ => by ring

theorem gv_at {n : ℕ} (hn : n < 64) (a c : Fin 256) : I.gv n (ix2 a c) = ((dot g v h (i * 256 + a) (n * 256 + c) : ℝ) : EReal) := by
  pointwise [Inp.gv]
  simp only [blkT_at _ hn, H.hg, H.hvt, c_mul, coe_sum]
  rfl

theorem later_at {n : ℕ} (hn : n < 64) (a : Fin 256) :
    I.later n (ix2 a 0) = ((∑ s ∈ Finset.Ico ((n + 1) * 256) 16384, lg q k h (i * 256 + a) s : ℝ) : EReal) := by
  pointwise [Inp.later]
  have key : ∀ x : Fin 128, Scalar.select (IntOp.cmpi CmpIPredicate.eq (I.lane (ix2 a x)) (BitVec.ofNat 32 n)) (I.r (ix2 a x)) (0 : EReal)
      = if x = ⟨n, by omega⟩ then I.r (ix2 a x) else 0 := fun x => by
    rw [H.lane]
    by_cases hx : x = ⟨n, by omega⟩
    · subst hx
      rw [if_pos rfl]
      simp [IntOp.cmpi, Scalar.select]
    · rw [if_neg hx]
      have hx' : x.val ≠ n := fun e => hx (Fin.ext e)
      have hl := x.isLt
      have hne : BitVec.ofNat 32 x.val ≠ BitVec.ofNat 32 n := fun e => hx' (by
        have := congrArg BitVec.toNat e
        rw [BitVec.toNat_ofNat, BitVec.toNat_ofNat, Nat.mod_eq_of_lt (by omega), Nat.mod_eq_of_lt (by omega)] at this
        exact this)
      have hb : (BitVec.ofNat 32 x.val == BitVec.ofNat 32 n) = false := beq_eq_false_iff_ne.mpr hne
      simp [IntOp.cmpi, Scalar.select, hb]
  refine (Finset.sum_congr rfl fun x _ => key x).trans ?_
  rw [Finset.sum_ite_eq' Finset.univ, if_pos (Finset.mem_univ _), H.hr a n hn]

omit H in
theorem logOneMinus_at (x : FVec Ideal S256x256 .f32) (a c : Fin 256) (f : ℝ) (hx : x (ix2 a c) = (f : EReal)) :
    Inp.logOneMinus x (ix2 a c) = ((ls f : ℝ) : EReal) := by
  pointwise [Inp.logOneMinus]
  rw [hx, Ideal.absf_def]
  exact c_ls f

theorem weights_at {n : ℕ} (hn : n < 64) (a c : Fin 256) (x y : FVec Ideal S256x256 .f32)
    (hx : x (ix2 a c) = ((-z q k h (i * 256 + a) (n * 256 + c) : ℝ) : EReal))
    (hy : ∀ c', y (ix2 a c') = ((lg q k h (i * 256 + a) (n * 256 + c') : ℝ) : EReal)) :
    I.weights n x y (ix2 a c) = ((Real.exp (sufx q k h (i * 256 + a) (n * 256 + c) + z q k h (i * 256 + a) (n * 256 + c)) : ℝ) : EReal) := by
  pointwise [Inp.weights]
  rw [H.later_at hn, hx]
  simp only [hy, H.incl, c_mul, coe_sum]
  rw [c_add, c_sub, c_exp, EReal.coe_eq_coe_iff]
  refine congrArg Real.exp ?_
  have e1 : ∑ c' : Fin 256, lg q k h (i * 256 + a) (n * 256 + c') * (if c.val ≤ c'.val then 1 else 0)
      = ∑ s ∈ Finset.Ico (n * 256 + c.val) ((n + 1) * 256), lg q k h (i * 256 + a) s := by
    rw [Fin.sum_univ_eq_sum_range (fun c' => lg q k h (i * 256 + a) (n * 256 + c') * (if c.val ≤ c' then 1 else 0)) 256]
    simp only [mul_ite, mul_one, mul_zero]
    rw [← Finset.sum_filter]
    refine Finset.sum_nbij' (fun c => n * 256 + c) (fun c => c - n * 256) ?_ ?_ ?_ ?_ ?_ <;> simp <;> intros <;> omega
  rw [e1, sufx, ← Finset.sum_Ico_consecutive _ (show n * 256 + c.val ≤ (n + 1) * 256 by omega) (show (n + 1) * 256 ≤ 16384 by omega)]
  ring

omit H in
theorem rowsum_at (x : FVec Ideal S256x256 .f32) (a : Fin 256) (f : ℕ → ℝ) (hx : ∀ c, x (ix2 a c) = ((f c : ℝ) : EReal)) :
    Inp.rowsum x (ix2 a 0) = ((∑ c : Fin 256, f c : ℝ) : EReal) := by
  pointwise [Inp.rowsum]
  simp only [hx, coe_sum]

theorem before_at (p : FVec Ideal S256x1 .f32) (x : FVec Ideal S256x256 .f32) (a c : Fin 256) (f0 : ℝ) (f : ℕ → ℝ)
    (hp : p (ix2 a 0) = (f0 : EReal)) (hx : ∀ c, x (ix2 a c) = ((f c : ℝ) : EReal)) :
    I.before p x (ix2 a c) = ((f0 + ∑ c' ∈ Finset.range c, f c' : ℝ) : EReal) := by
  pointwise [Inp.before]
  simp only [hp, hx, H.lower, c_mul, coe_sum]
  rw [c_add, EReal.coe_eq_coe_iff]
  refine congrArg (f0 + ·) ?_
  rw [Fin.sum_univ_eq_sum_range (fun c' => f c' * (if c' < c.val then 1 else 0)) 256]
  simp only [mul_ite, mul_one, mul_zero]
  rw [← Finset.sum_filter]
  refine Finset.sum_congr (Finset.ext fun x => ?_) fun _ _ => rfl
  simp; omega

theorem addV_at (w : FVec Ideal S256x256 .f32) (x : Vec Ideal S1x1x64x256 .f32) (d : Fin 64) (c : Fin 256) (f0 : ℝ) (f : ℕ → ℝ)
    (hx : x (ix4 0 0 d c) = (f0 : EReal)) (hw : ∀ a, w (ix2 a c) = ((f a : ℝ) : EReal)) :
    I.addV w x (ix4 0 0 d c) = ((f0 + ∑ a : Fin 256, g (i * 256 + a) (h * 64 + d) * f a : ℝ) : EReal) := by
  pointwise [Inp.addV]
  simp only [hx, hw, H.hgt, c_mul, coe_sum]
  rw [c_add]

theorem subK_at (w : FVec Ideal S256x256 .bf16) (x : Vec Ideal S1x1x64x256 .f32) (d : Fin 64) (c : Fin 256) (f0 : ℝ) (f : ℕ → ℝ)
    (hx : x (ix4 0 0 d c) = (f0 : EReal)) (hw : ∀ a, w (ix2 a c) = ((f a : ℝ) : EReal)) :
    I.subK w x (ix4 0 0 d c) = ((f0 + ∑ a : Fin 256, f a * (1 / 8) * q (i * 256 + a) (h * 64 + d) : ℝ) : EReal) := by
  pointwise [Inp.subK]
  simp only [hx, hw, H.hqt, c_mul, coe_sum]
  rw [c_sub, EReal.coe_eq_coe_iff, sub_eq_add_neg, ← Finset.sum_neg_distrib]
  exact congrArg (f0 + ·) (Finset.sum_congr rfl fun _ _ => by ring)

theorem addQ_at {n : ℕ} (hn : n < 64) (w : FVec Ideal S256x256 .bf16) (x : FVec Ideal S256x64 .f32) (a : Fin 256) (d : Fin 64) (f0 : ℝ) (f : ℕ → ℝ)
    (hx : x (ix2 a d) = (f0 : EReal)) (hw : ∀ c, w (ix2 a c) = ((f c : ℝ) : EReal)) :
    I.addQ w n x (ix2 a d) = ((f0 + ∑ c : Fin 256, f c * k (n * 256 + c) (h * 64 + d) : ℝ) : EReal) := by
  pointwise [Inp.addQ]
  simp only [hx, hw, blkR_at _ hn, H.hkr, c_mul, coe_sum]
  rw [c_add]

/-! A block before the row block. -/

theorem b_at {n : ℕ} (hn : n < i) (a c : Fin 256) : I.b n (ix2 a c) = ((lg q k h (i * 256 + a) (n * 256 + c) : ℝ) : EReal) := by
  have := H.hi
  have hs : n * 256 + c.val < i * 256 + a.val := by omega
  rw [lg_lt hs]
  exact logOneMinus_at _ a c _ (H.nz_at (by omega) a c)

end Fits

theorem u_eq {q k : ℕ → ℕ → ℝ} {h t s : ℕ} (hs : s < t) : Real.exp (sufx q k h t s + z q k h t s) = u q k h t s := by
  unfold u lg
  rw [if_pos hs]
  have := ls_sub (z q k h t s)
  exact congrArg Real.exp (by linarith)

theorem w_eq {q k : ℕ → ℕ → ℝ} {h t s : ℕ} (hs : s < t) : w q k h t s = u q k h t s := if_pos hs

theorem e_eq {q k v g : ℕ → ℕ → ℝ} {h t s : ℕ} : e q k v g h t s = w q k h t s * dot g v h t s := by
  unfold e w; split_ifs <;> ring

theorem w_zero {q k : ℕ → ℕ → ℝ} {h t s : ℕ} (hs : ¬ s < t) : w q k h t s = 0 := if_neg hs
theorem e_zero {q k v g : ℕ → ℕ → ℝ} {h t s : ℕ} (hs : ¬ s < t) : e q k v g h t s = 0 := by rw [e_eq, w_zero hs, zero_mul]
theorem dz_zero {q k v g : ℕ → ℕ → ℝ} {h t s : ℕ} (hs : ¬ s < t) : Stick.dz q k v g h t s = 0 := by
  unfold Stick.dz; rw [e_zero hs, if_neg hs]; ring

theorem dz_eq {q k v g : ℕ → ℕ → ℝ} {h t s : ℕ} (hs : s < t) :
    (e q k v g h t s + pre q k v g h t s) * Real.exp (lg q k h t s) - pre q k v g h t s = Stick.dz q k v g h t s := by
  unfold Stick.dz lg
  rw [if_pos hs, if_pos hs]
  have := sg_add (z q k h t s)
  rw [show Real.exp (ls (-z q k h t s)) = sg (-z q k h t s) from rfl]
  linear_combination (pre q k v g h t s) * this

theorem sum_block (f : ℕ → ℝ) (n : ℕ) : ∑ s ∈ Finset.range (n * 256), f s + ∑ c : Fin 256, f (n * 256 + c) = ∑ s ∈ Finset.range ((n + 1) * 256), f s := by
  rw [Fin.sum_univ_eq_sum_range (fun c => f (n * 256 + c)) 256, show (n + 1) * 256 = n * 256 + 256 by ring, Finset.sum_range_add]

theorem sum_zero_from (f : ℕ → ℝ) {n m : ℕ} (hnm : n ≤ m) (hz : ∀ s, n ≤ s → f s = 0) : ∑ s ∈ Finset.range n, f s = ∑ s ∈ Finset.range m, f s :=
  Finset.sum_subset (Finset.range_mono hnm) fun s _ hs => hz s (by simpa using hs)

namespace Fits

variable {I : Inp Ideal} {tri : IVec S256x256 1} {q k v g : ℕ → ℕ → ℝ} {h i : ℕ} (H : Fits I tri q k v g h i)
include H

theorem w_at {n : ℕ} (hn : n < i) (a c : Fin 256) : I.w n (ix2 a c) = ((w q k h (i * 256 + a) (n * 256 + c) : ℝ) : EReal) := by
  have := H.hi
  have hs : n * 256 + c.val < i * 256 + a.val := by omega
  rw [w_eq hs, ← u_eq hs]
  exact H.weights_at (by omega) a c _ _ (H.nz_at (by omega) a c) (H.b_at hn a)

theorem e_at {n : ℕ} (hn : n < i) (a c : Fin 256) : I.e n (ix2 a c) = ((e q k v g h (i * 256 + a) (n * 256 + c) : ℝ) : EReal) := by
  have := H.hi
  pointwise [Inp.e]
  rw [H.w_at hn, H.gv_at (by omega), c_mul, e_eq]

theorem p_at {n : ℕ} (hn : n ≤ i) (a : Fin 256) : I.p n (ix2 a 0) = ((pre q k v g h (i * 256 + a) (n * 256) : ℝ) : EReal) := by
  induction n with
  | zero => pointwise [Inp.p]; simp [pre]
  | succ n ih =>
    pointwise [Inp.p]
    rw [ih (by omega), rowsum_at _ a (fun c => e q k v g h (i * 256 + a) (n * 256 + c)) (H.e_at (by omega) a), c_add]
    unfold pre
    rw [sum_block]

theorem dzOf_at {n : ℕ} (hn : n ≤ i) (a c : Fin 256) (x y : FVec Ideal S256x256 .f32) (hs : n * 256 + c.val < i * 256 + a.val)
    (hx : ∀ c : Fin 256, x (ix2 a c) = ((e q k v g h (i * 256 + a) (n * 256 + c) : ℝ) : EReal))
    (hy : y (ix2 a c) = ((lg q k h (i * 256 + a) (n * 256 + c) : ℝ) : EReal)) :
    I.dzOf (I.p n) x y (ix2 a c) = ((Stick.dz q k v g h (i * 256 + a) (n * 256 + c) : ℝ) : EReal) := by
  pointwise [Inp.dzOf]
  rw [hx, hy, H.before_at _ _ a c _ (fun c => e q k v g h (i * 256 + a) (n * 256 + c)) (H.p_at hn a) hx, c_add, c_exp, c_mul, c_sub, ← dz_eq hs]
  have : pre q k v g h (i * 256 + a) (n * 256 + c)
      = pre q k v g h (i * 256 + a) (n * 256) + ∑ c' ∈ Finset.range c, e q k v g h (i * 256 + a) (n * 256 + c') := by
    unfold pre; rw [Finset.sum_range_add]
  rw [this]

theorem dz_at {n : ℕ} (hn : n < i) (a c : Fin 256) : I.dz n (ix2 a c) = ((Stick.dz q k v g h (i * 256 + a) (n * 256 + c) : ℝ) : EReal) :=
  H.dzOf_at hn.le a c _ _ (by omega) (H.e_at hn a) (H.b_at hn a c)

/-! The block on the diagonal. -/

theorem tri_at (a c : Fin 256) (x y : EReal) : Scalar.select (tri (ix2 a c)) x y = if i * 256 + c.val < i * 256 + a.val then x else y := by
  rw [H.htri]
  by_cases hc : c.val < a.val
  · rw [if_pos hc, if_pos (by omega)]; rfl
  · rw [if_neg hc, if_neg (by omega)]; rfl

theorem bD_at (a c : Fin 256) : I.bD tri i (ix2 a c) = ((lg q k h (i * 256 + a) (i * 256 + c) : ℝ) : EReal) := by
  pointwise [Inp.bD]
  rw [H.tri_at]
  have := H.hi
  split_ifs with hs
  · rw [lg_lt hs]
    exact logOneMinus_at _ a c _ (H.nz_at (by omega) a c)
  · unfold lg; rw [if_neg hs]; rfl

theorem wD_at (a c : Fin 256) : I.wD tri i (ix2 a c) = ((w q k h (i * 256 + a) (i * 256 + c) : ℝ) : EReal) := by
  pointwise [Inp.wD]
  rw [H.tri_at]
  have := H.hi
  split_ifs with hs
  · rw [w_eq hs, ← u_eq hs]
    exact H.weights_at (by omega) a c _ _ (H.nz_at (by omega) a c) (H.bD_at a)
  · rw [w_zero hs]; rfl

theorem eD_at (a c : Fin 256) : I.eD tri i (ix2 a c) = ((e q k v g h (i * 256 + a) (i * 256 + c) : ℝ) : EReal) := by
  have := H.hi
  pointwise [Inp.eD]
  rw [H.wD_at, H.gv_at (by omega), c_mul, e_eq]

theorem dzD_at (a c : Fin 256) : I.dzD tri i (ix2 a c) = ((Stick.dz q k v g h (i * 256 + a) (i * 256 + c) : ℝ) : EReal) := by
  pointwise [Inp.dzD]
  rw [H.tri_at]
  split_ifs with hs
  · exact H.dzOf_at le_rfl a c _ _ hs (H.eD_at a) (H.bD_at a c)
  · rw [dz_zero hs]; rfl

theorem dq_at {n : ℕ} (hn : n ≤ i) (a : Fin 256) (d : Fin 64) :
    I.dq n (ix2 a d) = ((∑ s ∈ Finset.range (n * 256), Stick.dz q k v g h (i * 256 + a) s * k s (h * 64 + d) : ℝ) : EReal) := by
  have := H.hi
  induction n with
  | zero => pointwise [Inp.dq]; simp
  | succ n ih =>
    refine (H.addQ_at (by omega) _ _ a d _ (fun c => Stick.dz q k v g h (i * 256 + a) (n * 256 + c)) (ih (by omega)) (H.dz_at (by omega) a)).trans ?_
    rw [EReal.coe_eq_coe_iff]
    exact sum_block (fun s => Stick.dz q k v g h (i * 256 + a) s * k s (h * 64 + d)) n

theorem outQ_at (a : Fin 256) (d : Fin 64) : I.outQ tri i (ix3 0 a d) = ((dq q k v g h (i * 256 + a) d : ℝ) : EReal) := by
  have := H.hi
  pointwise [Inp.outQ]
  rw [H.addQ_at (by omega) _ _ a d _ (fun c => Stick.dz q k v g h (i * 256 + a) (i * 256 + c)) (H.dq_at le_rfl a d) (H.dzD_at a), eighth, c_mul,
    EReal.coe_eq_coe_iff, sum_block (fun s => Stick.dz q k v g h (i * 256 + a) s * k s (h * 64 + d)) i,
    sum_zero_from _ (show (i + 1) * 256 ≤ 16384 by omega) fun s hs => by rw [dz_zero (by omega), zero_mul], Finset.sum_mul]
  exact Finset.sum_congr rfl fun _ _ => by ring

theorem dv_sum (x : Vec Ideal S1x64x64x256 .f32) (f : ℝ) (j : Fin 64) (d : Fin 64) (c : Fin 256) (hx : x (ix4 0 j d c) = (f : EReal)) {n : ℕ} (hn : n ≤ i) :
    I.dv x n (ix4 0 j d c) = ((f + if j.val < n then ∑ a : Fin 256, g (i * 256 + a) (h * 64 + d) * w q k h (i * 256 + a) (j * 256 + c) else 0 : ℝ) : EReal) := by
  have := H.hi
  induction n with
  | zero => rw [if_neg (by omega), add_zero]; exact hx
  | succ n ih =>
    refine (putT_at _ (show n < 64 by omega) _ j d c).trans ?_
    by_cases hj : j.val = n
    · subst hj
      rw [if_pos rfl, if_pos (by omega)]
      refine H.addV_at _ _ d c f (fun a => w q k h (i * 256 + a) (j * 256 + c)) ?_ (fun a => H.w_at (by omega) a c)
      rw [dv_get I x le_rfl j.isLt, blkT_at _ j.isLt]; exact hx
    · rw [if_neg hj, ih (by omega)]
      by_cases hl : j.val < n
      · rw [if_pos hl, if_pos (by omega)]
      · rw [if_neg hl, if_neg (by omega)]

theorem outV_at (x : Vec Ideal S1x64x64x256 .f32) (f : ℝ) (j : Fin 64) (d : Fin 64) (c : Fin 256) (hx : x (ix4 0 j d c) = (f : EReal)) :
    I.outV tri i x (ix4 0 j d c) = ((f + ∑ a : Fin 256, g (i * 256 + a) (h * 64 + d) * w q k h (i * 256 + a) (j * 256 + c) : ℝ) : EReal) := by
  have := H.hi
  refine (putT_at _ (show i < 64 by omega) _ j d c).trans ?_
  by_cases hj : j.val = i
  · rw [if_pos hj]
    obtain rfl := hj
    refine H.addV_at _ _ d c f (fun a => w q k h (j * 256 + a) (j * 256 + c)) ?_ (fun a => H.wD_at a c)
    rw [dv_get I x le_rfl j.isLt, blkT_at _ j.isLt]; exact hx
  · rw [if_neg hj, H.dv_sum x f j d c hx le_rfl]
    by_cases hl : j.val < i
    · rw [if_pos hl]
    · rw [if_neg hl, Finset.sum_eq_zero fun a _ => by rw [w_zero (by omega), mul_zero]]

theorem dk_sum (x : Vec Ideal S1x64x64x256 .f32) (f : ℝ) (j : Fin 64) (d : Fin 64) (c : Fin 256) (hx : x (ix4 0 j d c) = (f : EReal)) {n : ℕ} (hn : n ≤ i) :
    I.dk x n (ix4 0 j d c) = ((f + if j.val < n then ∑ a : Fin 256, Stick.dz q k v g h (i * 256 + a) (j * 256 + c) * (1 / 8) * q (i * 256 + a) (h * 64 + d) else 0 : ℝ) : EReal) := by
  have := H.hi
  induction n with
  | zero => rw [if_neg (by omega), add_zero]; exact hx
  | succ n ih =>
    refine (putT_at _ (show n < 64 by omega) _ j d c).trans ?_
    by_cases hj : j.val = n
    · subst hj
      rw [if_pos rfl, if_pos (by omega)]
      refine H.subK_at _ _ d c f (fun a => Stick.dz q k v g h (i * 256 + a) (j * 256 + c)) ?_ (fun a => H.dz_at (by omega) a c)
      rw [dk_get I x le_rfl j.isLt, blkT_at _ j.isLt]; exact hx
    · rw [if_neg hj, ih (by omega)]
      by_cases hl : j.val < n
      · rw [if_pos hl, if_pos (by omega)]
      · rw [if_neg hl, if_neg (by omega)]

theorem outK_at (x : Vec Ideal S1x64x64x256 .f32) (f : ℝ) (j : Fin 64) (d : Fin 64) (c : Fin 256) (hx : x (ix4 0 j d c) = (f : EReal)) :
    I.outK tri i x (ix4 0 j d c) = ((f + ∑ a : Fin 256, Stick.dz q k v g h (i * 256 + a) (j * 256 + c) * (1 / 8) * q (i * 256 + a) (h * 64 + d) : ℝ) : EReal) := by
  have := H.hi
  refine (putT_at _ (show i < 64 by omega) _ j d c).trans ?_
  by_cases hj : j.val = i
  · rw [if_pos hj]
    obtain rfl := hj
    refine H.subK_at _ _ d c f (fun a => Stick.dz q k v g h (j * 256 + a) (j * 256 + c)) ?_ (fun a => H.dzD_at a c)
    rw [dk_get I x le_rfl j.isLt, blkT_at _ j.isLt]; exact hx
  · rw [if_neg hj, H.dk_sum x f j d c hx le_rfl]
    by_cases hl : j.val < i
    · rw [if_pos hl]
    · rw [if_neg hl, Finset.sum_eq_zero fun a _ => by rw [dz_zero (by omega), zero_mul, zero_mul]]

end Fits

end Cert.KernelIdeal.Hand

end
-- ==== Proof.Blocks.lean ====
/- The blocks that the call at a grid point is handed, over the reals. -/
module

public import proofs.«01_k».proof.Proof.HostVal
public import proofs.«01_k».proof.Proof.ModelVal
public import Idealize.ShloMosaic.Lib.Pipeline.ValueKit

@[expose] public section

set_option maxRecDepth 16384

noncomputable section

namespace Cert.KernelIdeal.Hand

open Idealize.ShloMosaic Idealize.ShloMosaic.TcCoe
open Cert.KernelIdeal Cert.KernelIdeal.Gen Cert.Stick
open Cert.ReferenceIdeal.Hand (IsRows Is)

theorem index0 : ∀ t : Fin cfg0.N, win0_0.index t = ![t.val / 64, t.val % 64, 0] := (by decide +kernel : ∀ t : Fin grid0.N, _)
theorem index1 : ∀ t : Fin cfg0.N, win0_1.index t = ![t.val / 64, t.val % 64, 0, 0] := (by decide +kernel : ∀ t : Fin grid0.N, _)
theorem index2 : ∀ t : Fin cfg0.N, win0_2.index t = ![t.val / 64, t.val % 64, 0] := (by decide +kernel : ∀ t : Fin grid0.N, _)
theorem index3 : ∀ t : Fin cfg0.N, win0_3.index t = ![t.val / 64, t.val % 64, 0, 0] := (by decide +kernel : ∀ t : Fin grid0.N, _)
theorem index4 : ∀ t : Fin cfg0.N, win0_4.index t = ![t.val / 64, 0, 0, 0] := (by decide +kernel : ∀ t : Fin grid0.N, _)
theorem index5 : ∀ t : Fin cfg0.N, win0_5.index t = ![t.val / 64, 0, 0, 0] := (by decide +kernel : ∀ t : Fin grid0.N, _)
theorem index6 : ∀ t : Fin cfg0.N, win0_6.index t = ![t.val / 64, 0, 0, 0] := (by decide +kernel : ∀ t : Fin grid0.N, _)
theorem index7 : ∀ t : Fin cfg0.N, win0_7.index t = ![t.val / 64, t.val % 64, 0] := (by decide +kernel : ∀ t : Fin grid0.N, _)
theorem index8 : ∀ t : Fin cfg0.N, win0_8.index t = ![t.val / 64, t.val % 64, 0] := (by decide +kernel : ∀ t : Fin grid0.N, _)
theorem index9 : ∀ t : Fin cfg0.N, win0_9.index t = ![t.val / 64, 0, 0, 0] := (by decide +kernel : ∀ t : Fin grid0.N, _)
theorem index10 : ∀ t : Fin cfg0.N, win0_10.index t = ![t.val / 64, 0, 0, 0] := (by decide +kernel : ∀ t : Fin grid0.N, _)

variable (m : (ℓ : Loc nD τ sig) → Buf (Elt Ideal) ℓ) (c : Dev nD) (t : Fin cfg0.N)

theorem lt_N : t.val < 512 := Nat.lt_of_lt_of_eq t.isLt N_0

theorem blk0 (a : Fin 256) (d : Fin 64) : iblk m c 0 t (ix3 (0 : Fin 1) a d)
    = V m c main_v29 (ix3 (⟨t.val / 64, by have := lt_N t; omega⟩ : Fin 8) (⟨t.val % 64 * 256 + a, by omega⟩ : Fin 16384) d) := by
  blk_simp [iblk]
  refine congrArg _ ?_
  blk_ext [index0]

theorem blk1 (a : Fin 256) (d : Fin 64) : iblk m c 1 t (ix4 (0 : Fin 1) (0 : Fin 1) d a)
    = V m c main_v31 (ix4 (⟨t.val / 64, by have := lt_N t; omega⟩ : Fin 8) (⟨t.val % 64, by omega⟩ : Fin 64) d a) := by
  blk_simp [iblk]
  refine congrArg _ ?_
  blk_ext [index1]

theorem blk2 (a : Fin 256) (d : Fin 64) : iblk m c 2 t (ix3 (0 : Fin 1) a d)
    = V m c main_v33 (ix3 (⟨t.val / 64, by have := lt_N t; omega⟩ : Fin 8) (⟨t.val % 64 * 256 + a, by omega⟩ : Fin 16384) d) := by
  blk_simp [iblk]
  refine congrArg _ ?_
  blk_ext [index2]

theorem blk3 (a : Fin 256) (d : Fin 64) : iblk m c 3 t (ix4 (0 : Fin 1) (0 : Fin 1) d a)
    = V m c main_v35 (ix4 (⟨t.val / 64, by have := lt_N t; omega⟩ : Fin 8) (⟨t.val % 64, by omega⟩ : Fin 64) d a) := by
  blk_simp [iblk]
  refine congrArg _ ?_
  blk_ext [index3]

theorem blk4 (n : Fin 64) (d : Fin 64) (a : Fin 256) : iblk m c 4 t (ix4 (0 : Fin 1) n d a)
    = V m c main_v37 (ix4 (⟨t.val / 64, by have := lt_N t; omega⟩ : Fin 8) n d a) := by
  blk_simp [iblk]
  refine congrArg _ ?_
  blk_ext [index4]

theorem blk5 (n : Fin 64) (a : Fin 256) (d : Fin 64) : iblk m c 5 t (ix4 (0 : Fin 1) n a d)
    = V m c main_v39 (ix4 (⟨t.val / 64, by have := lt_N t; omega⟩ : Fin 8) n a d) := by
  blk_simp [iblk]
  refine congrArg _ ?_
  blk_ext [index5]

theorem blk6 (n : Fin 64) (d : Fin 64) (a : Fin 256) : iblk m c 6 t (ix4 (0 : Fin 1) n d a)
    = V m c main_v41 (ix4 (⟨t.val / 64, by have := lt_N t; omega⟩ : Fin 8) n d a) := by
  blk_simp [iblk]
  refine congrArg _ ?_
  blk_ext [index6]

theorem blk7 (a : Fin 256) (l : Fin 128) : iblk m c 7 t (ix3 (0 : Fin 1) a l)
    = V m c main_v21 (ix3 (⟨t.val / 64, by have := lt_N t; omega⟩ : Fin 8) (⟨t.val % 64 * 256 + a, by omega⟩ : Fin 16384) l) := by
  blk_simp [iblk]
  refine congrArg _ ?_
  blk_ext [index7]

theorem rowOf_eq : rowOf t = t.val % 64 := by
  have e1 : (grid0.coords t 1).val = t.val / 1 % 64 := Pipeline.Grid.coords_val t 1 (by decide) rfl
  rw [Nat.div_one] at e1; exact e1

theorem small_toInt (r : Fin 256) : (BitVec.ofNat 32 r.val).toInt = r.val := by
  have hr := r.isLt
  have e : (BitVec.ofNat 32 r.val).toNat = r.val := by rw [BitVec.toNat_ofNat, Nat.mod_eq_of_lt (by omega)]
  rw [BitVec.toInt_eq_toNat_of_lt (by omega), e]

theorem tri_val (r c : Fin 256) : k0_pay141 (ix2 r c) = if c.val < r.val then 1#1 else 0#1 := by
  pointwise [k0_pay141]
  simp only [IntOp.cmpi, BitVec.slt, small_toInt, Nat.cast_lt]
  by_cases h : c.val < r.val <;> simp [h]

theorem sitofp_one : (FloatOps.sitofp (F := Ideal) .f32 (BitVec.setWidth 32 1#1)) = ((1 : ℝ) : EReal) := by
  show (((BitVec.setWidth 32 1#1).toInt : ℝ) : EReal) = _
  rw [show (BitVec.setWidth 32 1#1).toInt = 1 by decide]; norm_num
theorem sitofp_zero : (FloatOps.sitofp (F := Ideal) .f32 (BitVec.setWidth 32 0#1)) = ((0 : ℝ) : EReal) := by
  show (((BitVec.setWidth 32 0#1).toInt : ℝ) : EReal) = _
  rw [show (BitVec.setWidth 32 0#1).toInt = 0 by decide]; norm_num

theorem incl_val (r c : Fin 256) : (k0_pay142 : FVec Ideal S256x256 .bf16) (ix2 r c) = (((if c.val ≤ r.val then 1 else 0 : ℝ)) : EReal) := by
  pointwise [k0_pay142]
  have e : IntOp.cmpi CmpIPredicate.sge (BitVec.ofNat 32 r.val) (BitVec.ofNat 32 c.val) = if c.val ≤ r.val then 1#1 else 0#1 := by
    simp only [IntOp.cmpi, BitVec.sle, small_toInt, Nat.cast_le]
    by_cases h : c.val ≤ r.val <;> simp [h]
  rw [e]
  split_ifs
  · exact sitofp_one
  · exact sitofp_zero
theorem lower_val (r c : Fin 256) : (k0_pay143 : FVec Ideal S256x256 .bf16) (ix2 r c) = (((if r.val < c.val then 1 else 0 : ℝ)) : EReal) := by
  pointwise [k0_pay143]
  have e : IntOp.cmpi CmpIPredicate.slt (BitVec.ofNat 32 r.val) (BitVec.ofNat 32 c.val) = if r.val < c.val then 1#1 else 0#1 := by
    simp only [IntOp.cmpi, BitVec.slt, small_toInt, Nat.cast_lt]
    by_cases h : r.val < c.val <;> simp [h]
  rw [e]
  split_ifs
  · exact sitofp_one
  · exact sitofp_zero

theorem rows_at (x : Vec Ideal S1x256x64 .bf16) (a : Fin 256) (d : Fin 64) : k0_pay136 x (ix2 a d) = x (ix3 0 a d) := by
  pointwise [k0_pay136]
theorem cols_at (x : Vec Ideal S1x1x64x256 .bf16) (a : Fin 256) (d : Fin 64) : k0_pay137 x (ix2 d a) = x (ix4 0 0 d a) := by
  pointwise [k0_pay137]
theorem rows_at' (x : Vec Ideal S1x256x64 .bf16) (a : Fin 256) (d : Fin 64) : k0_pay138 x (ix2 a d) = x (ix3 0 a d) := by
  pointwise [k0_pay138]
theorem cols_at' (x : Vec Ideal S1x1x64x256 .bf16) (a : Fin 256) (d : Fin 64) : k0_pay139 x (ix2 d a) = x (ix4 0 0 d a) := by
  pointwise [k0_pay139]
theorem lanes_at (x : Vec Ideal S1x256x128 .f32) (a : Fin 256) (l : Fin 128) : k0_pay140 x (ix2 a l) = x (ix3 0 a l) := by
  pointwise [k0_pay140]
theorem lane_val (a : Fin 256) (l : Fin 128) : iota .tc S256x128 32 [1] iota_S256x128_d1_w32 (ix2 a l) = BitVec.ofNat 32 l.val := by
  pointwise

variable {q k v g : ℕ → ℕ → ℝ}

theorem in_q (hQ : IsRows (argQ m c) q) (a : Fin 256) (d : Fin 64) :
    (inpAt m c t).q (ix2 a d) = ((q (t.val % 64 * 256 + a) (t.val / 64 * 64 + d) * (-(1 / 8)) : ℝ) : EReal) := by
  refine ((rows_at _ a d).trans (blk0 m c t a d)).trans ?_
  rw [V29, toHeads_at, short_at, scaled_at hQ]
theorem in_qt (hQ : IsRows (argQ m c) q) (a : Fin 256) (d : Fin 64) :
    (inpAt m c t).qt (ix2 d a) = ((q (t.val % 64 * 256 + a) (t.val / 64 * 64 + d) * (-(1 / 8)) : ℝ) : EReal) := by
  refine ((cols_at _ a d).trans (blk1 m c t a d)).trans ?_
  rw [V31, toBlocksT_at, short_at, scaled_at hQ]
theorem in_g (hG : IsRows (argG m c) g) (a : Fin 256) (d : Fin 64) :
    (inpAt m c t).g (ix2 a d) = ((g (t.val % 64 * 256 + a) (t.val / 64 * 64 + d) : ℝ) : EReal) := by
  refine ((rows_at' _ a d).trans (blk2 m c t a d)).trans ?_
  rw [V33, toHeads_at, short_at, hG]
theorem in_gt (hG : IsRows (argG m c) g) (a : Fin 256) (d : Fin 64) :
    (inpAt m c t).gt (ix2 d a) = ((g (t.val % 64 * 256 + a) (t.val / 64 * 64 + d) : ℝ) : EReal) := by
  refine ((cols_at' _ a d).trans (blk3 m c t a d)).trans ?_
  rw [V35, toBlocksT_at, short_at, hG]
theorem in_r (hQ : IsRows (argQ m c) q) (hK : IsRows (argK m c) k) (a : Fin 256) (n : ℕ) (hn : n < 64) :
    (inpAt m c t).r (ix2 a ⟨n, by omega⟩) = ((∑ s ∈ Finset.Ico ((n + 1) * 256) 16384, lg q k (t.val / 64) (t.val % 64 * 256 + a) s : ℝ) : EReal) := by
  refine ((lanes_at _ a ⟨n, by omega⟩).trans (blk7 m c t a ⟨n, by omega⟩)).trans ?_
  rw [V21]
  exact table_at _ _ (ReferenceIdeal.Hand.lg_is hQ hK) _ _ n hn
theorem in_kt (hK : IsRows (argK m c) k) (n : Fin 64) (a : Fin 256) (d : Fin 64) :
    (inpAt m c t).kt (ix4 0 n d a) = ((k (n * 256 + a) (t.val / 64 * 64 + d) : ℝ) : EReal) := by
  refine (blk4 m c t n d a).trans ?_
  rw [V37, toBlocksT_at, short_at, hK]
theorem in_kr (hK : IsRows (argK m c) k) (n : Fin 64) (a : Fin 256) (d : Fin 64) :
    (inpAt m c t).kr (ix4 0 n a d) = ((k (n * 256 + a) (t.val / 64 * 64 + d) : ℝ) : EReal) := by
  refine (blk5 m c t n a d).trans ?_
  rw [V39, toBlocksR_at, short_at, hK]
theorem in_vt (hV : IsRows (argV m c) v) (n : Fin 64) (a : Fin 256) (d : Fin 64) :
    (inpAt m c t).vt (ix4 0 n d a) = ((v (n * 256 + a) (t.val / 64 * 64 + d) : ℝ) : EReal) := by
  refine (blk6 m c t n d a).trans ?_
  rw [V41, toBlocksT_at, short_at, hV]

theorem fits (hQ : IsRows (argQ m c) q) (hK : IsRows (argK m c) k) (hV : IsRows (argV m c) v) (hG : IsRows (argG m c) g) :
    Fits (inpAt m c t) k0_pay141 q k v g (t.val / 64) (t.val % 64) where
  hi := Nat.mod_lt _ (by omega)
  hq := in_q m c t hQ
  hqt := in_qt m c t hQ
  hg := in_g m c t hG
  hgt := in_gt m c t hG
  hr := in_r m c t hQ hK
  incl := incl_val
  lower := lower_val
  lane := lane_val
  htri := tri_val
  hkt := in_kt m c t hK
  hkr := in_kr m c t hK
  hvt := in_vt m c t hV

end Cert.KernelIdeal.Hand

end
-- ==== Proof.Final.lean ====
/- What the three result arrays hold after the kernel, over the reals. -/
module

public import proofs.«01_k».proof.Proof.Blocks

@[expose] public section

set_option maxRecDepth 16384

noncomputable section

namespace Cert.KernelIdeal.Hand

open Idealize.ShloMosaic Idealize.ShloMosaic.TcCoe
open Cert.KernelIdeal Cert.KernelIdeal.Gen Cert.Stick
open Cert.ReferenceIdeal.Hand (IsRows Is)

theorem start_at (j : Fin 64) (d : Fin 64) (a : Fin 256) : (k0_pay134 : FVec Ideal S1x64x64x256 .f32) (ix4 0 j d a) = ((0 : ℝ) : EReal) := by
  pointwise [k0_pay134]
  rfl

variable (m : (ℓ : Loc nD τ sig) → Buf (Elt Ideal) ℓ) (c : Dev nD)
variable {q k v g : ℕ → ℕ → ℝ} (hQ : IsRows (argQ m c) q) (hK : IsRows (argK m c) k) (hV : IsRows (argV m c) v) (hG : IsRows (argG m c) g)
include hQ hK hV hG

theorem afterQ (t : Fin cfg0.N) (a : Fin 256) (d : Fin 64) :
    (inpAt m c t).outQ k0_pay141 (rowOf t) (ix3 0 a d) = ((dq q k v g (t.val / 64) (t.val % 64 * 256 + a) d : ℝ) : EReal) := by
  rw [rowOf_eq]
  exact (fits m c t hQ hK hV hG).outQ_at a d

theorem sumV_at (n : ℕ) : ∀ (hn : n < cfg0.N) (j : Fin 64) (d : Fin 64) (a : Fin 256),
    (sums m c n hn).2 (ix4 0 j d a)
      = ((∑ r ∈ Finset.range ((n % 64 + 1) * 256), g r (n / 64 * 64 + d) * w q k (n / 64) r (j * 256 + a) : ℝ) : EReal) := by
  induction n using Nat.strong_induction_on with
  | _ n ih =>
    intro hn j d a
    have H := fits m c ⟨n, hn⟩ hQ hK hV hG
    by_cases h : n % 64 = 0
    · rw [sums_first m c ⟨n, hn⟩ h]
      dsimp only
      rw [rowOf_eq, H.outV_at _ 0 j d a (start_at j d a), EReal.coe_eq_coe_iff]
      have e := sum_block (fun r => g r (n / 64 * 64 + d) * w q k (n / 64) r (j * 256 + a)) (n % 64)
      rw [← e]
      dsimp only
      rw [h]; simp
    · rw [sums_later m c ⟨n, hn⟩ h]
      dsimp only
      have i1 := ih (n - 1) (by omega) (by omega) j d a
      rw [show (n - 1) / 64 = n / 64 by omega, show (n - 1) % 64 + 1 = n % 64 by omega] at i1
      rw [rowOf_eq, H.outV_at _ _ j d a i1, EReal.coe_eq_coe_iff]
      exact sum_block (fun r => g r (n / 64 * 64 + d) * w q k (n / 64) r (j * 256 + a)) (n % 64)

theorem sumK_at (n : ℕ) : ∀ (hn : n < cfg0.N) (j : Fin 64) (d : Fin 64) (a : Fin 256),
    (sums m c n hn).1 (ix4 0 j d a)
      = ((∑ r ∈ Finset.range ((n % 64 + 1) * 256), Stick.dz q k v g (n / 64) r (j * 256 + a) * (1 / 8) * q r (n / 64 * 64 + d) : ℝ) : EReal) := by
  induction n using Nat.strong_induction_on with
  | _ n ih =>
    intro hn j d a
    have H := fits m c ⟨n, hn⟩ hQ hK hV hG
    by_cases h : n % 64 = 0
    · rw [sums_first m c ⟨n, hn⟩ h]
      dsimp only
      rw [rowOf_eq, H.outK_at _ 0 j d a (start_at j d a), EReal.coe_eq_coe_iff]
      have e := sum_block (fun r => Stick.dz q k v g (n / 64) r (j * 256 + a) * (1 / 8) * q r (n / 64 * 64 + d)) (n % 64)
      rw [← e]
      dsimp only
      rw [h]; simp
    · rw [sums_later m c ⟨n, hn⟩ h]
      dsimp only
      have i1 := ih (n - 1) (by omega) (by omega) j d a
      rw [show (n - 1) / 64 = n / 64 by omega, show (n - 1) % 64 + 1 = n % 64 by omega] at i1
      rw [rowOf_eq, H.outK_at _ _ j d a i1, EReal.coe_eq_coe_iff]
      exact sum_block (fun r => Stick.dz q k v g (n / 64) r (j * 256 + a) * (1 / 8) * q r (n / 64 * 64 + d)) (n % 64)

/-- The gradients of the queries, by head, position and lane, and those of the keys and values, by head, block, lane and position in the block. -/
def gradQ (q k v g : ℕ → ℕ → ℝ) : Vec Ideal S8x16384x64 .f32 := fun i => ((dq q k v g (i 0).val (i 1).val (i 2).val : ℝ) : EReal)
def gradK (q k v g : ℕ → ℕ → ℝ) : Vec Ideal S8x64x64x256 .f32 := fun i => ((dk q k v g (i 0).val ((i 1).val * 256 + (i 3).val) (i 2).val : ℝ) : EReal)
def gradV (q k g : ℕ → ℕ → ℝ) : Vec Ideal S8x64x64x256 .f32 := fun i => ((dv q k g (i 0).val ((i 1).val * 256 + (i 3).val) (i 2).val : ℝ) : EReal)

omit hQ hK hV hG in
theorem exists_ix3 {A B C : ℕ} (y : (⟨3, ![A, B, C]⟩ : Shape).Idx) : ∃ (a : Fin A) (b : Fin B) (c : Fin C), y = ix3 a b c :=
  ⟨y 0, y 1, y 2, funext fun p => by match p with | ⟨0, _⟩ => rfl | ⟨1, _⟩ => rfl | ⟨2, _⟩ => rfl⟩
omit hQ hK hV hG in
theorem exists_ix4 {A B C D : ℕ} (y : (⟨4, ![A, B, C, D]⟩ : Shape).Idx) : ∃ (a : Fin A) (b : Fin B) (c : Fin C) (d : Fin D), y = ix4 a b c d :=
  ⟨y 0, y 1, y 2, y 3, funext fun p => by match p with | ⟨0, _⟩ => rfl | ⟨1, _⟩ => rfl | ⟨2, _⟩ => rfl | ⟨3, _⟩ => rfl⟩

omit hQ hK hV hG in
theorem place8 (t : Fin cfg0.N) (z : Fin 1) (a : Fin 256) (d : Fin 64) :
    (win0_8.blk t).view.emb (ix3 z a d) = ix3 (⟨t.val / 64, by have := lt_N t; omega⟩ : Fin 8) (⟨t.val % 64 * 256 + a, by omega⟩ : Fin 16384) d := by
  blk_ext [index8]
omit hQ hK hV hG in
theorem place9 (t : Fin cfg0.N) (z : Fin 1) (j : Fin 64) (d : Fin 64) (a : Fin 256) :
    (win0_9.blk t).view.emb (ix4 z j d a) = ix4 (⟨t.val / 64, by have := lt_N t; omega⟩ : Fin 8) j d a := by
  blk_ext [index9]
omit hQ hK hV hG in
theorem place10 (t : Fin cfg0.N) (z : Fin 1) (j : Fin 64) (d : Fin 64) (a : Fin 256) :
    (win0_10.blk t).view.emb (ix4 z j d a) = ix4 (⟨t.val / 64, by have := lt_N t; omega⟩ : Fin 8) j d a := by
  blk_ext [index10]

theorem finalQ : (dats m 0 c).arrAt 8 cfg0.N = gradQ q k v g := by
  refine (dats m 0 c).arrAt_eq_of_covers 8 _ (by decide +kernel) fun t hf y => ?_
  blk_simp
  rw [dats_after8]
  obtain ⟨z, a, d, rfl⟩ := exists_ix3 (A := 1) (B := 256) (C := 64) y
  obtain rfl : z = 0 := Subsingleton.elim _ _
  exact (afterQ m c hQ hK hV hG t a d).trans (congrArg (gradQ q k v g) (place8 t 0 a d)).symm

theorem finalK : (dats m 0 c).arrAt 9 cfg0.N = gradK q k v g := by
  refine (dats m 0 c).arrAt_eq_of_covers 9 _ (by decide +kernel) fun t hf y => ?_
  have ht := (flush0_9 t).mp hf
  blk_simp
  rw [dats_after9]
  obtain ⟨z, j, d, a, rfl⟩ := exists_ix4 (A := 1) (B := 64) (C := 64) (D := 256) y
  obtain rfl : z = 0 := Subsingleton.elim _ _
  refine ((sumK_at m c hQ hK hV hG t.val t.isLt j d a).trans ?_).trans (congrArg (gradK q k v g) (place9 t 0 j d a)).symm
  rw [ht]
  rfl

theorem finalV : (dats m 0 c).arrAt 10 cfg0.N = gradV q k g := by
  refine (dats m 0 c).arrAt_eq_of_covers 10 _ (by decide +kernel) fun t hf y => ?_
  have ht := (flush0_10 t).mp hf
  blk_simp
  rw [dats_after10]
  obtain ⟨z, j, d, a, rfl⟩ := exists_ix4 (A := 1) (B := 64) (C := 64) (D := 256) y
  obtain rfl : z = 0 := Subsingleton.elim _ _
  refine ((sumV_at m c hQ hK hV hG t.val t.isLt j d a).trans ?_).trans (congrArg (gradV q k g) (place10 t 0 j d a)).symm
  rw [ht]
  rfl

end Cert.KernelIdeal.Hand

end
-- ==== Proof.Value.lean ====
/- Both runs end with the gradients of the attention. -/
module

public import proofs.«01_k».proof.Defs
public import proofs.«01_k».proof.Proof.Gen.ReferenceIdeal.Run
public import proofs.«01_k».proof.Proof.Finite
public import proofs.«01_k».proof.Proof.Final

@[expose] public section

noncomputable section

namespace Cert.Proof

open Idealize.ShloMosaic Idealize.SL Idealize.SL.Sem
open Cert.Stick
open Cert.ReferenceIdeal.Hand (IsRows)
open Cert.KernelIdeal.Hand (gradQ gradK gradV exists_ix3 exists_ix4)

section reference

variable (m : (ℓ : Loc ReferenceIdeal.nD ReferenceIdeal.τ ReferenceIdeal.sig) → Buf (Elt Ideal) ℓ) (c : Dev ReferenceIdeal.nD)
variable {q k v g : ℕ → ℕ → ℝ} (hQ : IsRows (ReferenceIdeal.Hand.argQ m c) q) (hK : IsRows (ReferenceIdeal.Hand.argK m c) k)
  (hV : IsRows (ReferenceIdeal.Hand.argV m c) v) (hG : IsRows (ReferenceIdeal.Hand.argG m c) g)
include hQ hK hV hG

theorem ref_q : ReferenceIdeal.Value.res_main_v54 m c = gradQ q k v g := by
  rw [ReferenceIdeal.Hand.res54]
  funext y
  obtain ⟨h, t, d, rfl⟩ := exists_ix3 (A := 8) (B := 16384) (C := 64) y
  exact ReferenceIdeal.Hand.outQ_at hQ hK hV hG h t d

theorem ref_k : ReferenceIdeal.Value.res_main_v56 m c = gradK q k v g := by
  rw [ReferenceIdeal.Hand.res56]
  funext y
  obtain ⟨h, j, d, a, rfl⟩ := exists_ix4 (A := 8) (B := 64) (C := 64) (D := 256) y
  exact ReferenceIdeal.Hand.outK_at hQ hK hV hG h j d a

omit hV in
theorem ref_v : ReferenceIdeal.Value.res_main_v58 m c = gradV q k g := by
  rw [ReferenceIdeal.Hand.res58]
  funext y
  obtain ⟨h, j, d, a, rfl⟩ := exists_ix4 (A := 8) (B := 64) (C := 64) (D := 256) y
  exact ReferenceIdeal.Hand.outV_at hQ hK hG h j d a

end reference

/-- The reals the kernel's arguments hold. -/
def realQ (m : (ℓ : Loc KernelIdeal.nD KernelIdeal.τ KernelIdeal.sig) → Buf (Elt Ideal) ℓ) (c : Dev KernelIdeal.nD) : ℕ → ℕ → ℝ :=
  realsOf (KernelIdeal.Hand.argQ m c)
def realK (m : (ℓ : Loc KernelIdeal.nD KernelIdeal.τ KernelIdeal.sig) → Buf (Elt Ideal) ℓ) (c : Dev KernelIdeal.nD) : ℕ → ℕ → ℝ :=
  realsOf (KernelIdeal.Hand.argK m c)
def realV (m : (ℓ : Loc KernelIdeal.nD KernelIdeal.τ KernelIdeal.sig) → Buf (Elt Ideal) ℓ) (c : Dev KernelIdeal.nD) : ℕ → ℕ → ℝ :=
  realsOf (KernelIdeal.Hand.argV m c)
def realG (m : (ℓ : Loc KernelIdeal.nD KernelIdeal.τ KernelIdeal.sig) → Buf (Elt Ideal) ℓ) (c : Dev KernelIdeal.nD) : ℕ → ℕ → ℝ :=
  realsOf (KernelIdeal.Hand.argG m c)

theorem kernel_value (m : (ℓ : Loc KernelIdeal.nD KernelIdeal.τ KernelIdeal.sig) → Buf (Elt Ideal) ℓ) (ρ : Dev KernelIdeal.nD → PrngReg)
    {q k v g : Dev KernelIdeal.nD → ℕ → ℕ → ℝ}
    (hR : ∀ c, IsRows (KernelIdeal.Hand.argQ m c) (q c) ∧ IsRows (KernelIdeal.Hand.argK m c) (k c)
      ∧ IsRows (KernelIdeal.Hand.argV m c) (v c) ∧ IsRows (KernelIdeal.Hand.argG m c) (g c)) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v42_0) = gradQ (q c) (k c) (v c) (g c)
      ∧ r.2.mem ((c.tc : Thread KernelIdeal.nD KernelIdeal.τ).loc KernelIdeal.main_v42_1) = gradK (q c) (k c) (v c) (g c)
      ∧ r.2.mem ((c.tc : Thread KernelIdeal.nD KernelIdeal.τ).loc KernelIdeal.main_v42_2) = gradV (q c) (k c) (g c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)) := by
  refine (θ_run _ _ _).mono ?_ (θ_run_and (KernelIdeal.Hand.run_main m ρ) (KernelIdeal.Hand.frame m ρ))
  rintro r ⟨h, hf, -⟩ c
  obtain ⟨hQ, hK, hV, hG⟩ := hR c
  exact ⟨((h c).1 8).trans (KernelIdeal.Hand.finalQ m c hQ hK hV hG), ((h c).1 9).trans (KernelIdeal.Hand.finalK m c hQ hK hV hG),
    ((h c).1 10).trans (KernelIdeal.Hand.finalV m c hQ hK hV hG), hf c⟩

theorem algebraic [Pre_finite.Facts] : Cert.algebraic_KernelIdeal_ReferenceIdeal_pre_finite := by
  intro m ρ m' ρ' pre same
  have hR : ∀ c, IsRows (KernelIdeal.Hand.argQ m c) (realQ m c) ∧ IsRows (KernelIdeal.Hand.argK m c) (realK m c)
      ∧ IsRows (KernelIdeal.Hand.argV m c) (realV m c) ∧ IsRows (KernelIdeal.Hand.argG m c) (realG m c) :=
    fun c => rows_of_pre _ _ _ _ (pre c)
  refine ⟨fun c => gradQ (realQ m c) (realK m c) (realV m c) (realG m c), fun c => gradK (realQ m c) (realK m c) (realV m c) (realG m c),
    fun c => gradV (realQ m c) (realK m c) (realG m c), kernel_value m ρ hR, ?_⟩
  refine (θ_run _ _ _).mono ?_ (ReferenceIdeal.Value.run m' ρ')
  rintro r h c
  obtain ⟨hQ, hK, hV, hG⟩ := hR c
  obtain ⟨sQ, sK, sV, sG⟩ := same c
  have hQ' : IsRows (ReferenceIdeal.Hand.argQ m' c) (realQ m c) := by rw [show ReferenceIdeal.Hand.argQ m' c = _ from sQ]; exact hQ
  have hK' : IsRows (ReferenceIdeal.Hand.argK m' c) (realK m c) := by rw [show ReferenceIdeal.Hand.argK m' c = _ from sK]; exact hK
  have hV' : IsRows (ReferenceIdeal.Hand.argV m' c) (realV m c) := by rw [show ReferenceIdeal.Hand.argV m' c = _ from sV]; exact hV
  have hG' : IsRows (ReferenceIdeal.Hand.argG m' c) (realG m c) := by rw [show ReferenceIdeal.Hand.argG m' c = _ from sG]; exact hG
  exact ⟨(h c).1.trans (ref_q m' c hQ' hK' hV' hG'), (h c).2.1.trans (ref_k m' c hQ' hK' hV' hG'),
    (h c).2.2.1.trans (ref_v m' c hQ' hK' hG'), (h c).2.2.2⟩

end Cert.Proof

end
-- ==== Proof.FfnRun.lean ====
/- A run of the feed-forward layer's kernel: what every buffer holds at the end. -/
module

public import proofs.«01_k».proof.Proof.Gen.Kernel2Ideal.Frame

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with every buffer at the last boundary's contents. -/
theorem ends : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel2Ideal.Hand

end
-- ==== Proof.Ffn.lean ====
/- The feed-forward layer with its gradients, over the extended reals. -/
module

public import Idealize.ShloMosaic.Lib.Pointwise

@[expose] public section

noncomputable section

namespace Cert.Ffn

open Idealize.ShloMosaic

abbrev width : EReal := Ideal.ofBits .f32 0x44800000#32
abbrev eps : EReal := Ideal.ofBits .f32 0x358637BD#32
abbrev two : EReal := Ideal.ofBits .f32 0x40000000#32
abbrev negHalf : EReal := Ideal.ofBits .f32 0xBF000000#32

theorem width_eq : width = ((1024 : ℝ) : EReal) := by
  simp [width, Ideal.ofBits, Ideal.ieee]; rw [← EReal.coe_mul]; norm_num
theorem negHalf_eq : negHalf = ((-(1 / 2) : ℝ) : EReal) := by
  simp [negHalf, Ideal.ofBits, Ideal.ieee]; rw [← EReal.coe_mul]; norm_num
theorem eps_pos : ∃ e : ℝ, 0 < e ∧ eps = (e : EReal) := by
  simp [eps, Ideal.ofBits, Ideal.ieee]; exact ⟨_, by positivity, (EReal.coe_mul _ _).symm⟩

abbrev Row := Fin 1024 → EReal
abbrev Wide := Fin 4096 → EReal

/-- The mean of the squares of a row, and a little more. -/
def var (x : Row) : EReal := Ideal.div (∑ k, x k * x k) width + eps
def inv (x : Row) : EReal := Ideal.rsqrt (var x)
def unit (x : Row) (j : Fin 1024) : EReal := x j * inv x
/-- The norm of a row, scaled. -/
def norm (x g : Row) (j : Fin 1024) : EReal := x j * inv x * g j
/-- The gradient of the norm at `x` from what reaches it, `d` before the scale. -/
def back (x d : Row) (j : Fin 1024) : EReal :=
  inv x * (d j - unit x j * Ideal.div (∑ k, d k * unit x k) width)

/-- What `back` is by the rules of the derivative, term by term. -/
def corr (x d : Row) : EReal := Ideal.div ((∑ k, x k * d k) * (negHalf * Ideal.div (inv x) (var x))) width

theorem div_coe (x : EReal) {y : ℝ} (h : y ≠ 0) : Ideal.div x (y : EReal) = x * ((y⁻¹ : ℝ) : EReal) := by
  unfold Ideal.div
  rw [if_neg (by exact_mod_cast h), ← EReal.coe_inv]

theorem twice (y : EReal) : y + y = ((2 : ℝ) : EReal) * y := by
  induction y using EReal.rec with
  | bot => rw [EReal.coe_mul_bot_of_pos (by norm_num)]; rfl
  | top => rw [EReal.coe_mul_top_of_pos (by norm_num)]; rfl
  | coe a => exact_mod_cast (two_mul a).symm

theorem sum_scale {ι : Type} (s : Finset ι) (f : ι → EReal) {r : ℝ} (h : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top r)]

theorem sq_nonneg' (x : EReal) : 0 ≤ x * x := by
  induction x using EReal.rec with
  | bot => simp
  | top => simp
  | coe a => exact_mod_cast mul_self_nonneg a

theorem back_eq (x d : Row) (j : Fin 1024) :
    d j * inv x + x j * corr x d + corr x d * x j = back x d j := by
  obtain ⟨e, he, hE⟩ := eps_pos
  have hS : 0 ≤ ∑ k, x k * x k := Finset.sum_nonneg fun k _ => sq_nonneg' (x k)
  by_cases top : (∑ k, x k * x k) = ⊤
  · have hv : var x = ⊤ := by
      unfold var; rw [top, width_eq, div_coe _ (by norm_num), EReal.top_mul_coe_of_pos (by norm_num), hE]; rfl
    have hi : inv x = 0 := by unfold inv; rw [hv]; rfl
    have hc : corr x d = 0 := by
      unfold corr; rw [hi, hv, width_eq, div_coe _ (by norm_num)]
      unfold Ideal.div; simp
    unfold back; rw [hi, hc]; simp
  · have fin : ∀ k, x k ≠ ⊤ ∧ x k ≠ ⊥ := by
      intro k
      have hk : x k * x k ≠ ⊤ := fun h => top (top_le_iff.mp (h ▸ Finset.single_le_sum (f := fun k => x k * x k) (fun i _ => sq_nonneg' (x i)) (Finset.mem_univ k)))
      constructor
      · intro h; rw [h] at hk; simp at hk
      · intro h; rw [h] at hk; simp at hk
    obtain ⟨a, ha⟩ : ∃ a : ℝ, x j = (a : EReal) := ⟨(x j).toReal, (EReal.coe_toReal (fin j).1 (fin j).2).symm⟩
    obtain ⟨s, hs⟩ : ∃ s : ℝ, ∑ k, x k * x k = (s : EReal) :=
      ⟨_, (EReal.coe_toReal top (ne_of_gt (lt_of_lt_of_le EReal.bot_lt_zero hS))).symm⟩
    have hs0 : 0 ≤ s := by rw [hs] at hS; exact_mod_cast hS
    obtain ⟨v, hv0, hv⟩ : ∃ v : ℝ, 0 < v ∧ var x = (v : EReal) :=
      ⟨s * 1024⁻¹ + e, by positivity, by unfold var; rw [hs, width_eq, div_coe _ (by norm_num), hE, ← EReal.coe_mul, ← EReal.coe_add]⟩
    obtain ⟨r, hr0, hr, hrv⟩ : ∃ r : ℝ, 0 < r ∧ inv x = (r : EReal) ∧ r * v⁻¹ = r * r * r := by
      refine ⟨(Real.sqrt v)⁻¹, by positivity, ?_, ?_⟩
      · unfold inv; rw [hv, Ideal.rsqrt_coe, if_neg (by linarith), if_neg (by linarith)]
      · have : (Real.sqrt v)⁻¹ * (Real.sqrt v)⁻¹ = v⁻¹ := by rw [← mul_inv, Real.mul_self_sqrt hv0.le]
        rw [mul_assoc, this]
    have hsum : ∑ k, d k * unit x k = (∑ k, x k * d k) * (r : EReal) := by
      rw [← sum_scale _ _ hr0.le]
      refine Finset.sum_congr rfl fun k _ => ?_
      unfold unit; rw [hr, mul_left_comm, mul_assoc, mul_left_comm]
    generalize hT : ∑ k, x k * d k = T at *
    have hc : corr x d = T * ((-(1 / 2) * (r * v⁻¹) * 1024⁻¹ : ℝ) : EReal) := by
      unfold corr
      rw [hT, hr, hv, width_eq, negHalf_eq, div_coe _ (by norm_num : (1024 : ℝ) ≠ 0), div_coe _ hv0.ne', mul_assoc]
      norm_cast
    have hm : unit x j * Ideal.div (∑ k, d k * unit x k) width = T * ((a * r * r * 1024⁻¹ : ℝ) : EReal) := by
      rw [hsum, width_eq, div_coe _ (by norm_num)]
      unfold unit
      rw [ha, hr, mul_assoc T, mul_left_comm]
      norm_cast
      rw [show a * r * (r * 1024⁻¹) = a * r * r * 1024⁻¹ by ring]
    unfold back
    rw [hm, hr, hc, ha, sub_eq_add_neg, EReal.left_distrib_of_nonneg_of_ne_top (by exact_mod_cast hr0.le) (EReal.coe_ne_top r),
      mul_comm (d j), add_assoc, mul_comm (a : EReal), twice]
    congr 1
    rw [← mul_neg, ← EReal.coe_neg, mul_assoc T, mul_left_comm, mul_left_comm (r : EReal)]
    norm_cast
    rw [hrv]
    congr 2
    ring

/-- The hidden row of `h`. -/
def hid (h : Row) (U : Fin 1024 → Wide) (k : Fin 4096) : EReal := max (∑ j, h j * U j k) 0
/-- The layer's inner result from `h`. -/
def ff (h : Row) (U : Fin 1024 → Wide) (D : Fin 4096 → Row) (j : Fin 1024) : EReal := ∑ k, hid h U k * hid h U k * D k j
/-- The hidden row's gradient from the inner result's. -/
def dHid (h : Row) (U : Fin 1024 → Wide) (D : Fin 4096 → Row) (d : Row) (k : Fin 4096) : EReal :=
  (∑ j, d j * D k j) * (two * hid h U k)
/-- The normed row's gradient from the hidden row's. -/
def dIn (U : Fin 1024 → Wide) (a : Wide) (j : Fin 1024) : EReal := ∑ k, a k * U j k

/-- The inner result's gradient from the output's, `y`. -/
def dInner (f g y : Row) : Row := back f fun j => y j * g j

theorem hid_pos {h : Row} {U : Fin 1024 → Wide} {k : Fin 4096} (a : EReal) :
    (if 0 < ∑ j, h j * U j k then a * (two * hid h U k) else 0) = a * (two * hid h U k) := by
  unfold hid
  split_ifs with h0
  · rfl
  · rw [max_eq_right (not_lt.mp h0), mul_zero, mul_zero]

end Cert.Ffn

end
-- ==== Proof.FfnPay.lean ====
/- The feed-forward layer's calls at a grid point: what they compute from their blocks, at an index. -/
module

public import proofs.«01_k».proof.Proof.Gen.Kernel2Ideal
public import proofs.«01_k».proof.Proof.Gen.Kernel2Ideal.Skeleton
public import proofs.«01_k».proof.Proof.Ffn

@[expose] public section

set_option maxRecDepth 16384

noncomputable section

namespace Cert.Kernel2Ideal.Hand

open Idealize.ShloMosaic Idealize.ShloMosaic.TcCoe
open Cert.Kernel2Ideal Cert.Kernel2Ideal.Gen

abbrev row {e : FTy} (x : FVec Ideal S256x1024 e) (a : Fin 256) : Ffn.Row := fun j => x (ix2 a j)
abbrev gain (g : FVec Ideal S1x1024 .f32) : Ffn.Row := fun j => g (ix2 0 j)
abbrev ups (u : FVec Ideal S1024x4096 .bf16) : Fin 1024 → Ffn.Wide := fun j k => u (ix2 j k)
abbrev downs (w : FVec Ideal S4096x1024 .bf16) : Fin 4096 → Ffn.Row := fun k j => w (ix2 k j)

section forward

variable (x : FVec Ideal S256x1024 .f32) (g g' : FVec Ideal S1x1024 .f32) (u : FVec Ideal S1024x4096 .bf16) (w : FVec Ideal S4096x1024 .bf16)
variable (a : Fin 256) (j : Fin 1024)

theorem pay2_at : k0_pay2 (F := Ideal) x g (ix2 a j) = Ffn.norm (row x a) (gain g) j := by
  pointwise [k0_pay2]
  rfl

def act : FVec Ideal S256x4096 .f32 :=
  maximumf (matmul dot_S256x1024_S1024x4096_S256x4096_1_0_0_1_n_n none (k0_pay2 x g) u (constant (F := Ideal) S256x4096 .f32 0x00000000#32))
    (broadcast S256x4096 (Scalar.ofBits (F := Ideal) .f32 0x00000000#32))

theorem act_at (k : Fin 4096) : act x g u (ix2 a k) = Ffn.hid (Ffn.norm (row x a) (gain g)) (ups u) k := by
  pointwise [act]
  simp only [pay2_at]
  rfl

theorem pay3_eq : k0_pay3 (F := Ideal) x g u w = matmul dot_S256x4096_S4096x1024_S256x1024_1_0_0_1_n_n none
    (truncf .bf16 (mulf (act x g u) (act x g u)) bitsLt_bf16_f32) w (constant (F := Ideal) S256x1024 .f32 0x00000000#32) := by
  unfold k0_pay3 act
  dsimp only
  rw [shapeCast_self, shapeCast_self]

theorem pay3_at : k0_pay3 (F := Ideal) x g u w (ix2 a j) = Ffn.ff (Ffn.norm (row x a) (gain g)) (ups u) (downs w) j := by
  rw [pay3_eq]
  pointwise
  simp only [act_at]
  rfl

theorem pay1_at : k0_pay1 (F := Ideal) x (k0_pay3 (F := Ideal) x g u w) g' (k0_pay4 (F := Ideal) x g u w) (k0_pay5 (F := Ideal)) (ix2 a j)
    = x (ix2 a j) + Ffn.norm (Ffn.ff (Ffn.norm (row x a) (gain g)) (ups u) (downs w)) (gain g') j := by
  pointwise [k0_pay1, k0_pay4, k0_pay5]
  simp only [pay3_at]
  rfl

end forward

section backward

variable (x y f e : FVec Ideal S256x1024 .f32) (h d : FVec Ideal S256x1024 .bf16) (g acc : FVec Ideal S1x1024 .f32)
variable (u ut : FVec Ideal S1024x4096 .bf16) (wt : FVec Ideal S4096x1024 .bf16)
variable (a : Fin 256) (j : Fin 1024) (k : Fin 4096)

theorem inv_at : k1_pay7 (F := Ideal) f (ix2 a 0) = Ffn.inv (row f a) := by
  pointwise [k1_pay7, k1_pay6]
  rfl
theorem unit_at : k1_pay8 (F := Ideal) f (ix2 a j) = Ffn.unit (row f a) j := by
  unfold Ffn.unit
  rw [← inv_at]
  pointwise [k1_pay8, k1_pay6]
theorem gain2_at : k1_pay9 (F := Ideal) y f acc (ix2 0 j) = acc (ix2 0 j) + ∑ a : Fin 256, y (ix2 a j) * Ffn.unit (row f a) j := by
  pointwise [k1_pay9]
  simp only [unit_at]
theorem inner_at : k1_pay10 (F := Ideal) y f g (ix2 a j) = Ffn.dInner (row f a) (gain g) (row y a) j := by
  pointwise [k1_pay10]
  simp only [unit_at, inv_at]
  rfl
theorem hid_at : k1_pay11 (F := Ideal) h u (ix2 a k) = Ffn.hid (row h a) (ups u) k := by
  pointwise [k1_pay11]
  rfl
theorem square_at : k1_pay12 (F := Ideal) h u (ix2 a k) = Ffn.hid (row h a) (ups u) k * Ffn.hid (row h a) (ups u) k := by
  pointwise [k1_pay12]
  rw [hid_at]
theorem dHid_at : k1_pay13 (F := Ideal) d h u ut (ix2 a k) = Ffn.dHid (row h a) (ups u) (fun k j => ut (ix2 j k)) (row d a) k := by
  pointwise [k1_pay13]
  rw [hid_at]
  rfl
theorem dIn_at : k1_pay14 (F := Ideal) d h u ut wt (ix2 a j)
    = Ffn.dIn (fun j k => wt (ix2 k j)) (Ffn.dHid (row h a) (ups u) (fun k j => ut (ix2 j k)) (row d a)) j := by
  pointwise [k1_pay14]
  simp only [dHid_at]
  rfl
theorem inv1_at : k1_pay15 (F := Ideal) x (ix2 a 0) = Ffn.inv (row x a) := by
  pointwise [k1_pay15]
  rfl
theorem unit1_at : k1_pay1 (F := Ideal) x (k1_pay16 (F := Ideal) x) (ix2 a j) = Ffn.unit (row x a) j := by
  unfold Ffn.unit
  rw [← inv1_at]
  pointwise [k1_pay1, k1_pay16]
theorem gain1_at : k1_pay2 (F := Ideal) x e (k1_pay16 (F := Ideal) x) acc (ix2 0 j) = acc (ix2 0 j) + ∑ a : Fin 256, e (ix2 a j) * Ffn.unit (row x a) j := by
  pointwise [k1_pay2]
  simp only [unit1_at]
theorem dX_at : k1_pay3 (F := Ideal) y x g e (k1_pay15 (F := Ideal) x) (k1_pay16 (F := Ideal) x) (ix2 a j)
    = y (ix2 a j) + Ffn.back (row x a) (fun j => row e a j * gain g j) j := by
  pointwise [k1_pay3]
  simp only [unit1_at, inv1_at]
  rfl

end backward

/-- A product of a block's columns with another's, added to what was there. -/
theorem tn2_at (acc : FVec Ideal S1024x1024 .f32) (a b : FVec Ideal S1024x1024 .bf16) (i j : Fin 1024) :
    k2_pay2 acc a b (ix2 i j) = acc (ix2 i j) + ∑ t : Fin 1024, a (ix2 t i) * b (ix2 t j) := by
  pointwise [k2_pay2]
theorem tn3_at (acc : FVec Ideal S1024x1024 .f32) (a b : FVec Ideal S1024x1024 .bf16) (i j : Fin 1024) :
    k3_pay2 acc a b (ix2 i j) = acc (ix2 i j) + ∑ t : Fin 1024, a (ix2 t i) * b (ix2 t j) := by
  pointwise [k3_pay2]
theorem zero2_at (i j : Fin 1024) : (k2_pay1 : FVec Ideal S1024x1024 .f32) (ix2 i j) = 0 := by pointwise [k2_pay1]
theorem zero3_at (i j : Fin 1024) : (k3_pay1 : FVec Ideal S1024x1024 .f32) (ix2 i j) = 0 := by pointwise [k3_pay1]
theorem zeroA_at (j : Fin 1024) : (k1_pay4 : FVec Ideal S1x1024 .f32) (ix2 0 j) = 0 := by pointwise [k1_pay4]
theorem zeroB_at (j : Fin 1024) : (k1_pay5 : FVec Ideal S1x1024 .f32) (ix2 0 j) = 0 := by pointwise [k1_pay5]

end Cert.Kernel2Ideal.Hand

end
-- ==== Proof.FfnFwd.lean ====
/- The feed-forward layer's first call: what its three arrays hold at the end. -/
module

public import proofs.«01_k».proof.Proof.FfnPay
public import proofs.«01_k».proof.Proof.Gen.Kernel2Ideal.Frame
public import Idealize.ShloMosaic.Lib.Pipeline.ValueKit

@[expose] public section

set_option maxRecDepth 16384

noncomputable section

namespace Cert.Kernel2Ideal.Hand

open Idealize.ShloMosaic Idealize.ShloMosaic.TcCoe
open Cert.Kernel2Ideal Cert.Kernel2Ideal.Gen

/-- A row of an array over all positions. -/
abbrev rowOf {e : FTy} (x : FVec Ideal S16384x1024 e) (t : Fin 16384) : Ffn.Row := fun j => x (ix2 t j)
abbrev wideOf {e : FTy} (x : FVec Ideal S16384x4096 e) (t : Fin 16384) : Ffn.Wide := fun k => x (ix2 t k)
/-- Row `a` of block `t`. -/
abbrev place (t : ℕ) (ht : t < 64) (a : Fin 256) : Fin 16384 := ⟨t * 256 + a, by omega⟩

theorem exists_ix2 {A B : ℕ} (y : (⟨2, ![A, B]⟩ : Shape).Idx) : ∃ (a : Fin A) (b : Fin B), y = ix2 a b :=
  ⟨y 0, y 1, funext fun p => by match p with | ⟨0, _⟩ => rfl | ⟨1, _⟩ => rfl⟩

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)

variable (V : (c : Dev nD) → (b : Ref sig .tc) → Buf (Elt Ideal) ((c.tc : Thread nD τ).loc b)) (c : Dev nD) (t : Fin cfg0.N)

theorem lt0 : t.val < 64 := Nat.lt_of_lt_of_eq t.isLt N_0

theorem blk0_0 (a : Fin 256) (j : Fin 1024) : iblk0 V c 0 t (ix2 a j) = V c main_arg0 (ix2 (place t.val (lt0 t) a) j) := by
  blk_simp [iblk0]
  refine congrArg _ ?_
  blk_ext [index0_0]
theorem blk0_1 (j : Fin 1024) : iblk0 V c 1 t (ix2 (0 : Fin 1) j) = V c main_arg1 (ix2 0 j) := by
  blk_simp [iblk0]
  refine congrArg _ ?_
  blk_ext [index0_1]
theorem blk0_2 (j : Fin 1024) : iblk0 V c 2 t (ix2 (0 : Fin 1) j) = V c main_arg2 (ix2 0 j) := by
  blk_simp [iblk0]
  refine congrArg _ ?_
  blk_ext [index0_2]
theorem blk0_3 (j : Fin 1024) (k : Fin 4096) : iblk0 V c 3 t (ix2 j k) = V c main_v0 (ix2 j k) := by
  blk_simp [iblk0]
  refine congrArg _ ?_
  blk_ext [index0_3]
theorem blk0_4 (k : Fin 4096) (j : Fin 1024) : iblk0 V c 4 t (ix2 k j) = V c main_v1 (ix2 k j) := by
  blk_simp [iblk0]
  refine congrArg _ ?_
  blk_ext [index0_4]

abbrev vX : FVec Ideal S16384x1024 .f32 := V c main_arg0
abbrev vG1 : FVec Ideal S1x1024 .f32 := V c main_arg1
abbrev vG2 : FVec Ideal S1x1024 .f32 := V c main_arg2
abbrev vU : FVec Ideal S1024x4096 .bf16 := V c main_v0
abbrev vD : FVec Ideal S4096x1024 .bf16 := V c main_v1

/-- The normed rows, the inner results and the layer's output. -/
def arrH : Vec Ideal S16384x1024 .bf16 := fun i => Ffn.norm (rowOf (vX V c) (i 0)) (gain (vG1 V c)) (i 1)
def arrF : Vec Ideal S16384x1024 .f32 := fun i =>
  Ffn.ff (Ffn.norm (rowOf (vX V c) (i 0)) (gain (vG1 V c))) (ups (vU V c)) (downs (vD V c)) (i 1)
def arrY : Vec Ideal S16384x1024 .f32 := fun i => vX V c i
  + Ffn.norm (Ffn.ff (Ffn.norm (rowOf (vX V c) (i 0)) (gain (vG1 V c))) (ups (vU V c)) (downs (vD V c))) (gain (vG2 V c)) (i 1)

theorem row0 (a : Fin 256) : row (e := .f32) (iblk0 V c 0 t) a = rowOf (vX V c) (place t.val (lt0 t) a) := funext fun j => blk0_0 V c t a j
theorem gain0_1 : gain (iblk0 V c 1 t) = gain (vG1 V c) := funext fun j => blk0_1 V c t j
theorem gain0_2 : gain (iblk0 V c 2 t) = gain (vG2 V c) := funext fun j => blk0_2 V c t j
theorem ups0 : ups (iblk0 V c 3 t) = ups (vU V c) := funext fun j => funext fun k => blk0_3 V c t j k
theorem downs0 : downs (iblk0 V c 4 t) = downs (vD V c) := funext fun k => funext fun j => blk0_4 V c t k j

theorem place0_5 (a : Fin 256) (j : Fin 1024) : (win0_5.blk t).view.emb (ix2 a j) = ix2 (place t.val (lt0 t) a) j := by
  blk_ext [index0_5]
theorem place0_6 (a : Fin 256) (j : Fin 1024) : (win0_6.blk t).view.emb (ix2 a j) = ix2 (place t.val (lt0 t) a) j := by
  blk_ext [index0_6]
theorem place0_7 (a : Fin 256) (j : Fin 1024) : (win0_7.blk t).view.emb (ix2 a j) = ix2 (place t.val (lt0 t) a) j := by
  blk_ext [index0_7]

theorem final0_6 : (dat0 V c).arrAt 6 cfg0.N = arrH V c := by
  refine (dat0 V c).arrAt_eq_of_covers 6 _ (by decide +kernel) fun t hf y => ?_
  blk_simp
  rw [after0_6]
  frame_out
  obtain ⟨a, j, rfl⟩ := exists_ix2 (A := 256) (B := 1024) y
  refine (pay2_at _ _ a j).trans (Eq.trans ?_ (congrArg (arrH V c) (place0_6 t a j)).symm)
  rw [row0, gain0_1]
  rfl

theorem final0_7 : (dat0 V c).arrAt 7 cfg0.N = arrF V c := by
  refine (dat0 V c).arrAt_eq_of_covers 7 _ (by decide +kernel) fun t hf y => ?_
  blk_simp
  rw [after0_7]
  frame_out
  obtain ⟨a, j, rfl⟩ := exists_ix2 (A := 256) (B := 1024) y
  refine (pay3_at _ _ _ _ a j).trans (Eq.trans ?_ (congrArg (arrF V c) (place0_7 t a j)).symm)
  rw [row0, gain0_1, ups0, downs0]
  rfl

theorem final0_5 : (dat0 V c).arrAt 5 cfg0.N = arrY V c := by
  refine (dat0 V c).arrAt_eq_of_covers 5 _ (by decide +kernel) fun t hf y => ?_
  blk_simp
  rw [after0_5]
  frame_out
  obtain ⟨a, j, rfl⟩ := exists_ix2 (A := 256) (B := 1024) y
  refine (pay1_at _ _ _ _ _ a j).trans (Eq.trans ?_ (congrArg (arrY V c) (place0_5 t a j)).symm)
  rw [row0, gain0_1, gain0_2, ups0, downs0, blk0_0]
  rfl

end Cert.Kernel2Ideal.Hand

end
-- ==== Proof.FfnOuts.lean ====
/- What the feed-forward layer's calls leave at a grid point, from their blocks. -/
module

public import proofs.«01_k».proof.Proof.Gen.Kernel2Ideal.Frame
public import Idealize.ShloMosaic.Lib.Pipeline.ValueKit

@[expose] public section

set_option maxRecDepth 16384

noncomputable section

namespace Cert.Kernel2Ideal.Hand

open Idealize.ShloMosaic Idealize.ShloMosaic.TcCoe
open Cert.Kernel2Ideal Cert.Kernel2Ideal.Gen

variable (V : (c : Dev nD) → (b : Ref sig .tc) → Buf (Elt Ideal) ((c.tc : Thread nD τ).loc b)) (c : Dev nD)

section bwd

variable (t : Fin cfg1.N)

abbrev bDf : FVec Ideal S256x1024 .bf16 := k1_pay10 (iblk1 V c 0 t) (iblk1 V c 1 t) (iblk1 V c 5 t)
abbrev bDa : FVec Ideal S256x4096 .bf16 := k1_pay13 (bDf V c t) (iblk1 V c 2 t) (iblk1 V c 6 t) (iblk1 V c 8 t)
abbrev bDh : FVec Ideal S256x1024 .f32 := k1_pay14 (bDf V c t) (iblk1 V c 2 t) (iblk1 V c 6 t) (iblk1 V c 8 t) (iblk1 V c 7 t)

theorem left9 : (outsAt1 V c t.val t.isLt).1 = k1_pay3 (iblk1 V c 0 t) (iblk1 V c 3 t) (iblk1 V c 4 t) (bDh V c t)
    (k1_pay15 (iblk1 V c 3 t)) (k1_pay16 (iblk1 V c 3 t)) := by
  by_cases h : t.val % 64 = 0
  · rw [outsAt1_A V c t h]; dsimp only; frame_out
  · rw [outsAt1_B V c t h]; dsimp only; frame_out

theorem left10 : (outsAt1 V c t.val t.isLt).2.1 = bDa V c t := by
  by_cases h : t.val % 64 = 0
  · rw [outsAt1_A V c t h]; dsimp only; frame_out
  · rw [outsAt1_B V c t h]; dsimp only; frame_out

theorem left11 : (outsAt1 V c t.val t.isLt).2.2.1 = k1_pay12 (iblk1 V c 2 t) (iblk1 V c 6 t) := by
  by_cases h : t.val % 64 = 0
  · rw [outsAt1_A V c t h]; dsimp only; frame_out
  · rw [outsAt1_B V c t h]; dsimp only; frame_out

theorem left12 : (outsAt1 V c t.val t.isLt).2.2.2.1 = bDf V c t := by
  by_cases h : t.val % 64 = 0
  · rw [outsAt1_A V c t h]; dsimp only; frame_out
  · rw [outsAt1_B V c t h]; dsimp only; frame_out

theorem left13_first (h : t.val % 64 = 0) : (outsAt1 V c t.val t.isLt).2.2.2.2.1
    = k1_pay2 (iblk1 V c 3 t) (bDh V c t) (k1_pay16 (iblk1 V c 3 t)) (k1_pay4 (F := Ideal)) := by
  rw [outsAt1_A V c t h]; dsimp only; frame_out
theorem left13_later (h : ¬t.val % 64 = 0) : (outsAt1 V c t.val t.isLt).2.2.2.2.1
    = k1_pay2 (iblk1 V c 3 t) (bDh V c t) (k1_pay16 (iblk1 V c 3 t))
      (outsAt1 V c (t.val - 1) (Nat.lt_of_le_of_lt (Nat.sub_le _ _) t.isLt)).2.2.2.2.1 := by
  rw [outsAt1_B V c t h]; dsimp only; frame_out
theorem left14_first (h : t.val % 64 = 0) : (outsAt1 V c t.val t.isLt).2.2.2.2.2
    = k1_pay9 (iblk1 V c 0 t) (iblk1 V c 1 t) (k1_pay5 (F := Ideal)) := by
  rw [outsAt1_A V c t h]; dsimp only; frame_out
theorem left14_later (h : ¬t.val % 64 = 0) : (outsAt1 V c t.val t.isLt).2.2.2.2.2
    = k1_pay9 (iblk1 V c 0 t) (iblk1 V c 1 t)
      (outsAt1 V c (t.val - 1) (Nat.lt_of_le_of_lt (Nat.sub_le _ _) t.isLt)).2.2.2.2.2 := by
  rw [outsAt1_B V c t h]; dsimp only; frame_out

end bwd

theorem left2_first (t : Fin cfg2.N) (h : t.val % 16 = 0) : outsAt2 V c t.val t.isLt = k2_pay2 k2_pay1 (iblk2 V c 0 t) (iblk2 V c 1 t) := by
  rw [outsAt2_A V c t h]; frame_out
theorem left2_later (t : Fin cfg2.N) (h : ¬t.val % 16 = 0) : outsAt2 V c t.val t.isLt
    = k2_pay2 (outsAt2 V c (t.val - 1) (Nat.lt_of_le_of_lt (Nat.sub_le _ _) t.isLt)) (iblk2 V c 0 t) (iblk2 V c 1 t) := by
  rw [outsAt2_B V c t h]; frame_out
theorem left3_first (t : Fin cfg3.N) (h : t.val % 16 = 0) : outsAt3 V c t.val t.isLt = k3_pay2 k3_pay1 (iblk3 V c 0 t) (iblk3 V c 1 t) := by
  rw [outsAt3_A V c t h]; frame_out
theorem left3_later (t : Fin cfg3.N) (h : ¬t.val % 16 = 0) : outsAt3 V c t.val t.isLt
    = k3_pay2 (outsAt3 V c (t.val - 1) (Nat.lt_of_le_of_lt (Nat.sub_le _ _) t.isLt)) (iblk3 V c 0 t) (iblk3 V c 1 t) := by
  rw [outsAt3_B V c t h]; frame_out

end Cert.Kernel2Ideal.Hand

end
-- ==== Proof.FfnBwd.lean ====
/- The feed-forward layer's second call: what its six arrays hold at the end. -/
module

public import proofs.«01_k».proof.Proof.FfnFwd
public import proofs.«01_k».proof.Proof.FfnOuts

@[expose] public section

set_option maxRecDepth 16384

noncomputable section

namespace Cert.Kernel2Ideal.Hand

open Idealize.ShloMosaic Idealize.ShloMosaic.TcCoe
open Cert.Kernel2Ideal Cert.Kernel2Ideal.Gen

theorem index1_0 : ∀ t : Fin cfg1.N, win1_0.index t = ![t.val, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![t.val, 0] := (by decide +kernel : ∀ t : Fin grid1.N, _)
theorem index1_3 : ∀ t : Fin cfg1.N, win1_3.index t = ![t.val, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![t.val, 0] := (by decide +kernel : ∀ t : Fin grid1.N, _)
theorem index1_10 : ∀ t : Fin cfg1.N, win1_10.index t = ![t.val, 0] := (by decide +kernel : ∀ t : Fin grid1.N, _)
theorem index1_11 : ∀ t : Fin cfg1.N, win1_11.index t = ![t.val, 0] := (by decide +kernel : ∀ t : Fin grid1.N, _)
theorem index1_12 : ∀ t : Fin cfg1.N, win1_12.index t = ![t.val, 0] := (by decide +kernel : ∀ t : Fin grid1.N, _)
theorem index1_13 : ∀ t : Fin cfg1.N, win1_13.index t = ![0, 0] := (by decide +kernel : ∀ t : Fin grid1.N, _)
theorem index1_14 : ∀ t : Fin cfg1.N, win1_14.index t = ![0, 0] := (by decide +kernel : ∀ t : Fin grid1.N, _)

variable (V : (c : Dev nD) → (b : Ref sig .tc) → Buf (Elt Ideal) ((c.tc : Thread nD τ).loc b)) (c : Dev nD)

abbrev vY : FVec Ideal S16384x1024 .f32 := V c main_arg5
abbrev vF : FVec Ideal S16384x1024 .f32 := V c main_v2_2
abbrev vH : FVec Ideal S16384x1024 .bf16 := V c main_v2_1
abbrev vUt : FVec Ideal S4096x1024 .bf16 := V c main_v3
abbrev vDt : FVec Ideal S1024x4096 .bf16 := V c main_v4

/-- The gradients of the inner results, the hidden rows and the normed rows, at a position. -/
def gF (t : Fin 16384) : Ffn.Row := Ffn.dInner (rowOf (vF V c) t) (gain (vG2 V c)) (rowOf (vY V c) t)
def gA (t : Fin 16384) : Ffn.Wide := Ffn.dHid (rowOf (vH V c) t) (ups (vU V c)) (fun k j => vDt V c (ix2 j k)) (gF V c t)
def gH (t : Fin 16384) : Ffn.Row := Ffn.dIn (fun j k => vUt V c (ix2 k j)) (gA V c t)
def hidSq (t : Fin 16384) : Ffn.Wide := fun k => Ffn.hid (rowOf (vH V c) t) (ups (vU V c)) k * Ffn.hid (rowOf (vH V c) t) (ups (vU V c)) k

def arrDx : Vec Ideal S16384x1024 .f32 := fun i => vY V c i + Ffn.back (rowOf (vX V c) (i 0)) (fun j => gH V c (i 0) j * gain (vG1 V c) j) (i 1)
def arrDa : Vec Ideal S16384x4096 .bf16 := fun i => gA V c (i 0) (i 1)
def arrR : Vec Ideal S16384x4096 .bf16 := fun i => hidSq V c (i 0) (i 1)
def arrDf : Vec Ideal S16384x1024 .bf16 := fun i => gF V c (i 0) (i 1)
def arrG1 : Vec Ideal S1x1024 .f32 := fun i => ∑ t, gH V c t (i 1) * Ffn.unit (rowOf (vX V c) t) (i 1)
def arrG2 : Vec Ideal S1x1024 .f32 := fun i => ∑ t, vY V c (ix2 t (i 1)) * Ffn.unit (rowOf (vF V c) t) (i 1)

section points

variable (t : Fin cfg1.N)

theorem lt1 : t.val < 64 := Nat.lt_of_lt_of_eq t.isLt N_1

theorem blk1_0 (a : Fin 256) (j : Fin 1024) : iblk1 V c 0 t (ix2 a j) = V c main_arg5 (ix2 (place t.val (lt1 t) a) j) := by
  blk_simp [iblk1]
  refine congrArg _ ?_
  blk_ext [index1_0]
theorem blk1_1 (a : Fin 256) (j : Fin 1024) : iblk1 V c 1 t (ix2 a j) = V c main_v2_2 (ix2 (place t.val (lt1 t) a) j) := by
  blk_simp [iblk1]
  refine congrArg _ ?_
  blk_ext [index1_1]
theorem blk1_2 (a : Fin 256) (j : Fin 1024) : iblk1 V c 2 t (ix2 a j) = V c main_v2_1 (ix2 (place t.val (lt1 t) a) j) := by
  blk_simp [iblk1]
  refine congrArg _ ?_
  blk_ext [index1_2]
theorem blk1_3 (a : Fin 256) (j : Fin 1024) : iblk1 V c 3 t (ix2 a j) = V c main_arg0 (ix2 (place t.val (lt1 t) a) j) := by
  blk_simp [iblk1]
  refine congrArg _ ?_
  blk_ext [index1_3]
theorem blk1_4 (j : Fin 1024) : iblk1 V c 4 t (ix2 (0 : Fin 1) j) = V c main_arg1 (ix2 (0 : Fin 1) j) := by
  blk_simp [iblk1]
  refine congrArg _ ?_
  blk_ext [index1_4]
theorem blk1_5 (j : Fin 1024) : iblk1 V c 5 t (ix2 (0 : Fin 1) j) = V c main_arg2 (ix2 (0 : Fin 1) j) := by
  blk_simp [iblk1]
  refine congrArg _ ?_
  blk_ext [index1_5]
theorem blk1_6 (j : Fin 1024) (k : Fin 4096) : iblk1 V c 6 t (ix2 j k) = V c main_v0 (ix2 j k) := by
  blk_simp [iblk1]
  refine congrArg _ ?_
  blk_ext [index1_6]
theorem blk1_7 (k : Fin 4096) (j : Fin 1024) : iblk1 V c 7 t (ix2 k j) = V c main_v3 (ix2 k j) := by
  blk_simp [iblk1]
  refine congrArg _ ?_
  blk_ext [index1_7]
theorem blk1_8 (j : Fin 1024) (k : Fin 4096) : iblk1 V c 8 t (ix2 j k) = V c main_v4 (ix2 j k) := by
  blk_simp [iblk1]
  refine congrArg _ ?_
  blk_ext [index1_8]

theorem row1_0 (a : Fin 256) : row (e := .f32) (iblk1 V c 0 t) a = rowOf (vY V c) (place t.val (lt1 t) a) := funext fun j => blk1_0 V c t a j
theorem row1_1 (a : Fin 256) : row (e := .f32) (iblk1 V c 1 t) a = rowOf (vF V c) (place t.val (lt1 t) a) := funext fun j => blk1_1 V c t a j
theorem row1_2 (a : Fin 256) : row (e := .bf16) (iblk1 V c 2 t) a = rowOf (vH V c) (place t.val (lt1 t) a) := funext fun j => blk1_2 V c t a j
theorem row1_3 (a : Fin 256) : row (e := .f32) (iblk1 V c 3 t) a = rowOf (vX V c) (place t.val (lt1 t) a) := funext fun j => blk1_3 V c t a j
theorem gain1_4 : gain (iblk1 V c 4 t) = gain (vG1 V c) := funext fun j => blk1_4 V c t j
theorem gain1_5 : gain (iblk1 V c 5 t) = gain (vG2 V c) := funext fun j => blk1_5 V c t j
theorem ups1 : ups (iblk1 V c 6 t) = ups (vU V c) := funext fun j => funext fun k => blk1_6 V c t j k
theorem upsT1 : (fun (j : Fin 1024) (k : Fin 4096) => (iblk1 V c 7 t (ix2 k j) : EReal)) = fun j k => vUt V c (ix2 k j) :=
  funext fun j => funext fun k => blk1_7 V c t k j
theorem downsT1 : (fun (k : Fin 4096) (j : Fin 1024) => (iblk1 V c 8 t (ix2 j k) : EReal)) = fun k j => vDt V c (ix2 j k) :=
  funext fun k => funext fun j => blk1_8 V c t j k

theorem bDf_at (a : Fin 256) (j : Fin 1024) : bDf V c t (ix2 a j) = gF V c (place t.val (lt1 t) a) j := by
  refine (inner_at _ _ _ a j).trans ?_
  rw [row1_0, row1_1, gain1_5]
  rfl
theorem bDf_row (a : Fin 256) : row (bDf V c t) a = gF V c (place t.val (lt1 t) a) := funext fun j => bDf_at V c t a j
theorem bDa_at (a : Fin 256) (k : Fin 4096) : bDa V c t (ix2 a k) = gA V c (place t.val (lt1 t) a) k := by
  refine (dHid_at _ _ _ _ a k).trans ?_
  rw [row1_2, ups1, bDf_row]
  exact congrArg (fun D => Ffn.dHid _ _ D _ k) (downsT1 V c t)
theorem bDh_at (a : Fin 256) (j : Fin 1024) : bDh V c t (ix2 a j) = gH V c (place t.val (lt1 t) a) j := by
  refine (dIn_at _ _ _ _ _ a j).trans ?_
  rw [row1_2, ups1, bDf_row]
  exact (congrArg (fun U => Ffn.dIn U _ j) (upsT1 V c t)).trans (congrArg (fun D => Ffn.dIn _ (Ffn.dHid _ _ D _) j) (downsT1 V c t))
theorem bDh_row (a : Fin 256) : row (bDh V c t) a = gH V c (place t.val (lt1 t) a) := funext fun j => bDh_at V c t a j

theorem place1_9 (a : Fin 256) (j : Fin 1024) : (win1_9.blk t).view.emb (ix2 a j) = ix2 (place t.val (lt1 t) a) j := by
  blk_ext [index1_9]
theorem place1_10 (a : Fin 256) (j : Fin 4096) : (win1_10.blk t).view.emb (ix2 a j) = ix2 (place t.val (lt1 t) a) j := by
  blk_ext [index1_10]
theorem place1_11 (a : Fin 256) (j : Fin 4096) : (win1_11.blk t).view.emb (ix2 a j) = ix2 (place t.val (lt1 t) a) j := by
  blk_ext [index1_11]
theorem place1_12 (a : Fin 256) (j : Fin 1024) : (win1_12.blk t).view.emb (ix2 a j) = ix2 (place t.val (lt1 t) a) j := by
  blk_ext [index1_12]
theorem place1_13 (j : Fin 1024) : (win1_13.blk t).view.emb (ix2 (0 : Fin 1) j) = ix2 0 j := by
  blk_ext [index1_13]
theorem place1_14 (j : Fin 1024) : (win1_14.blk t).view.emb (ix2 (0 : Fin 1) j) = ix2 0 j := by
  blk_ext [index1_14]

end points

theorem final1_9 : (dat1 V c).arrAt 9 cfg1.N = arrDx V c := by
  refine (dat1 V c).arrAt_eq_of_covers 9 _ (by decide +kernel) fun t hf y => ?_
  blk_simp
  rw [after1_9, left9]
  obtain ⟨a, j, rfl⟩ := exists_ix2 (A := 256) (B := 1024) y
  refine (dX_at _ _ _ _ a j).trans (Eq.trans ?_ (congrArg (arrDx V c) (place1_9 t a j)).symm)
  rw [row1_3, gain1_4, bDh_row, blk1_0]
  rfl

theorem final1_10 : (dat1 V c).arrAt 10 cfg1.N = arrDa V c := by
  refine (dat1 V c).arrAt_eq_of_covers 10 _ (by decide +kernel) fun t hf y => ?_
  blk_simp
  rw [after1_10, left10]
  obtain ⟨a, j, rfl⟩ := exists_ix2 (A := 256) (B := 4096) y
  refine (bDa_at V c t a j).trans (Eq.trans ?_ (congrArg (arrDa V c) (place1_10 t a j)).symm)
  rfl

theorem final1_11 : (dat1 V c).arrAt 11 cfg1.N = arrR V c := by
  refine (dat1 V c).arrAt_eq_of_covers 11 _ (by decide +kernel) fun t hf y => ?_
  blk_simp
  rw [after1_11, left11]
  obtain ⟨a, j, rfl⟩ := exists_ix2 (A := 256) (B := 4096) y
  refine (square_at _ _ a j).trans (Eq.trans ?_ (congrArg (arrR V c) (place1_11 t a j)).symm)
  rw [row1_2, ups1]
  rfl

theorem final1_12 : (dat1 V c).arrAt 12 cfg1.N = arrDf V c := by
  refine (dat1 V c).arrAt_eq_of_covers 12 _ (by decide +kernel) fun t hf y => ?_
  blk_simp
  rw [after1_12, left12]
  obtain ⟨a, j, rfl⟩ := exists_ix2 (A := 256) (B := 1024) y
  refine (bDf_at V c t a j).trans (Eq.trans ?_ (congrArg (arrDf V c) (place1_12 t a j)).symm)
  rfl

/-- What a point adds. -/
def add13 (t : Fin cfg1.N) (i : S1x1024.Idx) : EReal := ∑ a : Fin 256, gH V c (place t.val (lt1 t) a) (i 1) * Ffn.unit (rowOf (vX V c) (place t.val (lt1 t) a)) (i 1)

theorem sum13 (t : Fin cfg1.N) (ht : t.val + 1 = cfg1.N) (i : S1x1024.Idx) :
    (outsAt1 V c t.val t.isLt).2.2.2.2.1 i = 0 + ∑ p : Fin cfg1.N, add13 V c p i := by
  refine Pipeline.eq_sum_fin_of_reset_step_apply_last (M := EReal) (fun n h => (outsAt1 V c n h).2.2.2.2.1) 64 (fun _ => 0) (add13 V c)
    (fun t h i => ?_) (fun t h i => ?_) (Nat.le_of_eq N_1) t ht i
  · obtain ⟨z, j, rfl⟩ := exists_ix2 (A := 1) (B := 1024) i
    obtain rfl : z = 0 := Subsingleton.elim _ _
    refine (congrFun (left13_first V c t h) _).trans ((gain1_at _ _ _ j).trans ?_)
    rw [zeroA_at]
    simp only [bDh_at, row1_3]
    rfl
  · obtain ⟨z, j, rfl⟩ := exists_ix2 (A := 1) (B := 1024) i
    obtain rfl : z = 0 := Subsingleton.elim _ _
    refine (congrFun (left13_later V c t h) _).trans ((gain1_at _ _ _ j).trans ?_)
    simp only [bDh_at, row1_3]
    rfl

theorem final1_13 : (dat1 V c).arrAt 13 cfg1.N = arrG1 V c := by
  refine (dat1 V c).arrAt_eq_of_covers 13 _ (by decide +kernel) fun t hf y => ?_
  have ht : t.val + 1 = cfg1.N := by
    have h := (flush1_13 t).mp hf
    have h1 := lt1 t
    have h2 : cfg1.N = 64 := N_1
    omega
  blk_simp
  rw [after1_13]
  obtain ⟨z, j, rfl⟩ := exists_ix2 (A := 1) (B := 1024) y
  obtain rfl : z = 0 := Subsingleton.elim _ _
  refine (sum13 V c t ht _).trans (Eq.trans ?_ (congrArg (arrG1 V c) (place1_13 t j)).symm)
  rw [zero_add]
  exact Fin.sum_mul_add_fin cfg1.N 256 (fun t => gH V c t j * Ffn.unit (rowOf (vX V c) t) j) (by rw [show cfg1.N = 64 from N_1])

/-- What a point adds. -/
def add14 (t : Fin cfg1.N) (i : S1x1024.Idx) : EReal := ∑ a : Fin 256, vY V c (ix2 (place t.val (lt1 t) a) (i 1)) * Ffn.unit (rowOf (vF V c) (place t.val (lt1 t) a)) (i 1)

theorem sum14 (t : Fin cfg1.N) (ht : t.val + 1 = cfg1.N) (i : S1x1024.Idx) :
    (outsAt1 V c t.val t.isLt).2.2.2.2.2 i = 0 + ∑ p : Fin cfg1.N, add14 V c p i := by
  refine Pipeline.eq_sum_fin_of_reset_step_apply_last (M := EReal) (fun n h => (outsAt1 V c n h).2.2.2.2.2) 64 (fun _ => 0) (add14 V c)
    (fun t h i => ?_) (fun t h i => ?_) (Nat.le_of_eq N_1) t ht i
  · obtain ⟨z, j, rfl⟩ := exists_ix2 (A := 1) (B := 1024) i
    obtain rfl : z = 0 := Subsingleton.elim _ _
    refine (congrFun (left14_first V c t h) _).trans ((gain2_at _ _ _ j).trans ?_)
    rw [zeroB_at]
    simp only [blk1_0, row1_1]
    rfl
  · obtain ⟨z, j, rfl⟩ := exists_ix2 (A := 1) (B := 1024) i
    obtain rfl : z = 0 := Subsingleton.elim _ _
    refine (congrFun (left14_later V c t h) _).trans ((gain2_at _ _ _ j).trans ?_)
    simp only [blk1_0, row1_1]
    rfl

theorem final1_14 : (dat1 V c).arrAt 14 cfg1.N = arrG2 V c := by
  refine (dat1 V c).arrAt_eq_of_covers 14 _ (by decide +kernel) fun t hf y => ?_
  have ht : t.val + 1 = cfg1.N := by
    have h := (flush1_14 t).mp hf
    have h1 := lt1 t
    have h2 : cfg1.N = 64 := N_1
    omega
  blk_simp
  rw [after1_14]
  obtain ⟨z, j, rfl⟩ := exists_ix2 (A := 1) (B := 1024) y
  obtain rfl : z = 0 := Subsingleton.elim _ _
  refine (sum14 V c t ht _).trans (Eq.trans ?_ (congrArg (arrG2 V c) (place1_14 t j)).symm)
  rw [zero_add]
  exact Fin.sum_mul_add_fin cfg1.N 256 (fun t => vY V c (ix2 t j) * Ffn.unit (rowOf (vF V c) t) j) (by rw [show cfg1.N = 64 from N_1])

end Cert.Kernel2Ideal.Hand

end
-- ==== Proof.FfnTn.lean ====
/- The feed-forward layer's last two calls, the products over all positions: what their arrays hold at the end. -/
module

public import proofs.«01_k».proof.Proof.FfnFwd
public import proofs.«01_k».proof.Proof.FfnOuts

@[expose] public section

set_option maxRecDepth 16384

noncomputable section

namespace Cert.Kernel2Ideal.Hand

open Idealize.ShloMosaic Idealize.ShloMosaic.TcCoe
open Cert.Kernel2Ideal Cert.Kernel2Ideal.Gen

theorem index2_0 : ∀ t : Fin cfg2.N, win2_0.index t = ![t.val % 16, 0] := (by decide +kernel : ∀ t : Fin grid2.N, _)
theorem index2_1 : ∀ t : Fin cfg2.N, win2_1.index t = ![t.val % 16, t.val / 16] := (by decide +kernel : ∀ t : Fin grid2.N, _)
theorem index2_2 : ∀ t : Fin cfg2.N, win2_2.index t = ![0, t.val / 16] := (by decide +kernel : ∀ t : Fin grid2.N, _)
theorem index3_0 : ∀ t : Fin cfg3.N, win3_0.index t = ![t.val % 16, t.val / 16] := (by decide +kernel : ∀ t : Fin grid3.N, _)
theorem index3_1 : ∀ t : Fin cfg3.N, win3_1.index t = ![t.val % 16, 0] := (by decide +kernel : ∀ t : Fin grid3.N, _)
theorem index3_2 : ∀ t : Fin cfg3.N, win3_2.index t = ![t.val / 16, 0] := (by decide +kernel : ∀ t : Fin grid3.N, _)

variable (V : (c : Dev nD) → (b : Ref sig .tc) → Buf (Elt Ideal) ((c.tc : Thread nD τ).loc b)) (c : Dev nD)

/-- Row `a` of the `s`-th block of rows, and lane `j` of the `q`-th block of lanes. -/
abbrev tall (s : ℕ) (hs : s < 16) (a : Fin 1024) : Fin 16384 := ⟨s * 1024 + a, by omega⟩
abbrev lane (q : ℕ) (hq : q < 4) (j : Fin 1024) : Fin 4096 := ⟨q * 1024 + j, by omega⟩

theorem lt2 (t : Fin cfg2.N) : t.val < 64 := Nat.lt_of_lt_of_eq t.isLt N_2
theorem lt3 (t : Fin cfg3.N) : t.val < 64 := Nat.lt_of_lt_of_eq t.isLt N_3

theorem blk2_0 (t : Fin cfg2.N) (a j : Fin 1024) : iblk2 V c 0 t (ix2 a j) = V c main_v2_1 (ix2 (tall (t.val % 16) (by omega) a) j) := by
  blk_simp [iblk2]
  refine congrArg _ ?_
  blk_ext [index2_0]
theorem blk2_1 (t : Fin cfg2.N) (a j : Fin 1024) : iblk2 V c 1 t (ix2 a j) = V c main_v5_1 (ix2 (tall (t.val % 16) (by omega) a) (lane (t.val / 16) (by have := lt2 t; omega) j)) := by
  blk_simp [iblk2]
  refine congrArg _ ?_
  blk_ext [index2_1]

abbrev opA2 : FVec Ideal S16384x1024 .bf16 := V c main_v2_1
abbrev opB2 : FVec Ideal S16384x4096 .bf16 := V c main_v5_1

/-- The product over all positions. -/
def arrW2 : Vec Ideal S1024x4096 .f32 := fun i => ∑ p : Fin 16384, opA2 V c (ix2 p (i 0)) * opB2 V c (ix2 p (i 1))

/-- What a point adds. -/
def addW2 (t : Fin cfg2.N) (i : S1024x1024.Idx) : EReal := ∑ a : Fin 1024, opA2 V c (ix2 (tall (t.val % 16) (by omega) a) (i 0)) * opB2 V c (ix2 (tall (t.val % 16) (by omega) a) (lane (t.val / 16) (by have := lt2 t; omega) (i 1)))

theorem sumW2 (t : Fin cfg2.N) (ht : t.val % 16 = 16 - 1) (i : S1024x1024.Idx) :
    outsAt2 V c t.val t.isLt i = 0 + ∑ s : Fin 16, addW2 V c ⟨16 * (t.val / 16) + s.val, Pipeline.run_point_lt_of_flush t ht s⟩ i := by
  refine Pipeline.eq_sum_fin_of_reset_step_apply_of_flush (M := EReal) (fun n h => outsAt2 V c n h) 16 (fun _ => 0) (addW2 V c)
    (fun t h i => ?_) (fun t h i => ?_) t ht i
  · obtain ⟨i, j, rfl⟩ := exists_ix2 (A := 1024) (B := 1024) i
    refine (congrFun (left2_first V c t h) _).trans ((tn2_at _ _ _ i j).trans ?_)
    rw [zero2_at]
    simp only [blk2_0, blk2_1]
    rfl
  · obtain ⟨i, j, rfl⟩ := exists_ix2 (A := 1024) (B := 1024) i
    refine (congrFun (left2_later V c t h) _).trans ((tn2_at _ _ _ i j).trans ?_)
    simp only [blk2_0, blk2_1]
    rfl

theorem place2_2 (t : Fin cfg2.N) (i j : Fin 1024) : (win2_2.blk t).view.emb (ix2 i j) = ix2 i (lane (t.val / 16) (by have := lt2 t; omega) j) := by
  blk_ext [index2_2]

theorem final2_2 : (dat2 V c).arrAt 2 cfg2.N = arrW2 V c := by
  refine (dat2 V c).arrAt_eq_of_covers 2 _ (by decide +kernel) fun t hf y => ?_
  have ht := (flush2_2 t).mp hf
  blk_simp
  rw [after2_2]
  obtain ⟨i, j, rfl⟩ := exists_ix2 (A := 1024) (B := 1024) y
  refine (sumW2 V c t ht _).trans (Eq.trans ?_ (congrArg (arrW2 V c) (place2_2 t i j)).symm)
  rw [zero_add]
  refine Eq.trans ?_ (Fin.sum_mul_add_fin 16 1024 (fun p => opA2 V c (ix2 p i) * opB2 V c (ix2 p (lane (t.val / 16) (by have := lt2 t; omega) j))))
  refine Finset.sum_congr rfl fun s _ => Finset.sum_congr rfl fun a _ => ?_
  have e1 : (16 * (t.val / 16) + s.val) % 16 = s.val := by omega
  have e2 : (16 * (t.val / 16) + s.val) / 16 = t.val / 16 := by omega
  simp only [e1, e2]
  rfl

theorem blk3_0 (t : Fin cfg3.N) (a j : Fin 1024) : iblk3 V c 0 t (ix2 a j) = V c main_v5_2 (ix2 (tall (t.val % 16) (by omega) a) (lane (t.val / 16) (by have := lt3 t; omega) j)) := by
  blk_simp [iblk3]
  refine congrArg _ ?_
  blk_ext [index3_0]
theorem blk3_1 (t : Fin cfg3.N) (a j : Fin 1024) : iblk3 V c 1 t (ix2 a j) = V c main_v5_3 (ix2 (tall (t.val % 16) (by omega) a) j) := by
  blk_simp [iblk3]
  refine congrArg _ ?_
  blk_ext [index3_1]

abbrev opA3 : FVec Ideal S16384x4096 .bf16 := V c main_v5_2
abbrev opB3 : FVec Ideal S16384x1024 .bf16 := V c main_v5_3

/-- The product over all positions. -/
def arrW3 : Vec Ideal S4096x1024 .f32 := fun i => ∑ p : Fin 16384, opA3 V c (ix2 p (i 0)) * opB3 V c (ix2 p (i 1))

/-- What a point adds. -/
def addW3 (t : Fin cfg3.N) (i : S1024x1024.Idx) : EReal := ∑ a : Fin 1024, opA3 V c (ix2 (tall (t.val % 16) (by omega) a) (lane (t.val / 16) (by have := lt3 t; omega) (i 0))) * opB3 V c (ix2 (tall (t.val % 16) (by omega) a) (i 1))

theorem sumW3 (t : Fin cfg3.N) (ht : t.val % 16 = 16 - 1) (i : S1024x1024.Idx) :
    outsAt3 V c t.val t.isLt i = 0 + ∑ s : Fin 16, addW3 V c ⟨16 * (t.val / 16) + s.val, Pipeline.run_point_lt_of_flush t ht s⟩ i := by
  refine Pipeline.eq_sum_fin_of_reset_step_apply_of_flush (M := EReal) (fun n h => outsAt3 V c n h) 16 (fun _ => 0) (addW3 V c)
    (fun t h i => ?_) (fun t h i => ?_) t ht i
  · obtain ⟨i, j, rfl⟩ := exists_ix2 (A := 1024) (B := 1024) i
    refine (congrFun (left3_first V c t h) _).trans ((tn3_at _ _ _ i j).trans ?_)
    rw [zero3_at]
    simp only [blk3_0, blk3_1]
    rfl
  · obtain ⟨i, j, rfl⟩ := exists_ix2 (A := 1024) (B := 1024) i
    refine (congrFun (left3_later V c t h) _).trans ((tn3_at _ _ _ i j).trans ?_)
    simp only [blk3_0, blk3_1]
    rfl

theorem place3_2 (t : Fin cfg3.N) (i j : Fin 1024) : (win3_2.blk t).view.emb (ix2 i j) = ix2 (lane (t.val / 16) (by have := lt3 t; omega) i) j := by
  blk_ext [index3_2]

theorem final3_2 : (dat3 V c).arrAt 2 cfg3.N = arrW3 V c := by
  refine (dat3 V c).arrAt_eq_of_covers 2 _ (by decide +kernel) fun t hf y => ?_
  have ht := (flush3_2 t).mp hf
  blk_simp
  rw [after3_2]
  obtain ⟨i, j, rfl⟩ := exists_ix2 (A := 1024) (B := 1024) y
  refine (sumW3 V c t ht _).trans (Eq.trans ?_ (congrArg (arrW3 V c) (place3_2 t i j)).symm)
  rw [zero_add]
  refine Eq.trans ?_ (Fin.sum_mul_add_fin 16 1024 (fun p => opA3 V c (ix2 p (lane (t.val / 16) (by have := lt3 t; omega) i)) * opB3 V c (ix2 p j)))
  refine Finset.sum_congr rfl fun s _ => Finset.sum_congr rfl fun a _ => ?_
  have e1 : (16 * (t.val / 16) + s.val) % 16 = s.val := by omega
  have e2 : (16 * (t.val / 16) + s.val) / 16 = t.val / 16 := by omega
  simp only [e1, e2]
  rfl

end Cert.Kernel2Ideal.Hand

end
-- ==== Proof.FfnRef.lean ====
/- The feed-forward layer's reference: its results at an index. -/
module

public import proofs.«01_k».proof.Proof.Gen.Reference2Ideal.Run
public import proofs.«01_k».proof.Proof.Ffn

@[expose] public section

set_option maxRecDepth 16384

noncomputable section

namespace Cert.Reference2Ideal.Hand

open Idealize.ShloMosaic Idealize.ShloMosaic.TcCoe
open Cert.Reference2Ideal Cert.Reference2Ideal.Gen

abbrev Rows := FVec Ideal S16384x1024 .f32
abbrev Col := FVec Ideal S16384x1 .f32
abbrev Gain := FVec Ideal S1x1024 .f32
abbrev Hidden := FVec Ideal S16384x4096 .f32
abbrev WUp := FVec Ideal S1024x4096 .f32
abbrev WDown := FVec Ideal S4096x1024 .f32

def sums (x : Rows) : FVec Ideal S16384 .f32 :=
  Host.reduceAdd x (constant (F := Ideal) S_ .f32 0x00000000#32) reducesTo_S16384x1024_S16384_d1 h_S_
def col (b : BitVec 32) : Col := broadcastInDim S16384x1 ![] bcast_S_S16384x1 (constant (F := Ideal) S_ .f32 b)
def hidden (b : BitVec 32) : Hidden := broadcastInDim S16384x4096 ![] bcast_S_S16384x4096 (constant (F := Ideal) S_ .f32 b)
def wide (c : Col) : Rows := broadcastInDim S16384x1024 ![0, 1] bcast_S16384x1_S16384x1024_0_1 c
def scale (g : Gain) : Rows := broadcastInDim S16384x1024 ![0, 1] bcast_S1x1024_S16384x1024_0_1 g

def vars (x : Rows) : Col :=
  addf (Host.divf (broadcastInDim S16384x1 ![0] bcast_S16384_S16384x1_0 (sums (mulf x x))) (col 0x44800000#32)) (col 0x358637BD#32)
def invs (x : Rows) : Col := Host.rsqrt (vars x)
def units (x : Rows) : Rows := mulf x (wide (invs x))
def norms (x : Rows) (g : Gain) : Rows := mulf (units x) (scale g)
def corrs (x d : Rows) : Rows :=
  broadcastInDim S16384x1024 ![0] bcast_S16384_S16384x1024_0
    (Host.reduceAdd
      (Host.divf (mulf (shapeCast S16384x1 (sums (mulf x d)) shapeCasts_S16384_S16384x1)
        (mulf (col 0xBF000000#32) (Host.divf (invs x) (vars x)))) (col 0x44800000#32))
      (constant (F := Ideal) S_ .f32 0x00000000#32) reducesTo_S16384x1_S16384_d1 h_S_)
def gains (x : Rows) : Gain :=
  shapeCast S1x1024 (Host.reduceAdd x (constant (F := Ideal) S_ .f32 0x00000000#32) reducesTo_S16384x1024_S1024_d0 h_S_) shapeCasts_S1024_S1x1024

def acts (h : Rows) (u : WUp) : Hidden := Host.dotGeneral dot_S16384x1024_S1024x4096_S16384x4096_1_0_0_1_n_n none h u
def hids (h : Rows) (u : WUp) : Hidden := maximumf (acts h u) (hidden 0x00000000#32)
def squares (h : Rows) (u : WUp) : Hidden := mulf (hids h u) (hids h u)
def ffs (h : Rows) (u : WUp) (w : WDown) : Rows :=
  Host.dotGeneral dot_S16384x4096_S4096x1024_S16384x1024_1_0_0_1_n_n none (squares h u) w
def same (y : Rows) : Rows := shapeCast S16384x1024 y shapeCasts_S16384x1024_S16384x1024
def dInners (f y : Rows) (g : Gain) : Rows :=
  addf (addf (mulf (mulf (same y) (scale g)) (wide (invs f))) (mulf f (corrs f (mulf (same y) (scale g)))))
    (mulf (corrs f (mulf (same y) (scale g))) f)
def dHids (h : Rows) (u : WUp) (w : WDown) (d : Rows) : Hidden :=
  select (cmpf .ogt (acts h u) (hidden 0x00000000#32))
    (mulf (Host.dotGeneral dot_S16384x1024_S4096x1024_S16384x4096_1_1_0_0_n_n none d w) (mulf (hidden 0x40000000#32) (hids h u)))
    (hidden 0x00000000#32)
def dIns (u : WUp) (a : Hidden) : Rows := Host.dotGeneral dot_S16384x4096_S1024x4096_S16384x1024_1_1_0_0_n_n none a u
def dXs (x y e : Rows) (g : Gain) : Rows :=
  addf (addf (addf y (mulf (mulf e (scale g)) (wide (invs x)))) (mulf x (corrs x (mulf e (scale g)))))
    (mulf (corrs x (mulf e (scale g))) x)
def dDown (d : Rows) (s : Hidden) : WDown :=
  transpose S4096x1024 [1, 0] (Host.dotGeneral dot_S16384x1024_S16384x4096_S1024x4096_0_0_1_1_n_n none d s) transposes_S1024x4096_S4096x1024_1_0
def dUp (a : Hidden) (h : Rows) : WUp :=
  transpose S1024x4096 [1, 0] (Host.dotGeneral dot_S16384x4096_S16384x1024_S4096x1024_0_0_1_1_n_n none a h) transposes_S4096x1024_S1024x4096_1_0

section chain

variable (m : (ℓ : Loc nD τ sig) → Buf (Elt Ideal) ℓ) (c : Dev nD)

abbrev aX : Rows := m ((c.tc : Thread nD τ).loc main_arg0)
abbrev aG1 : Gain := m ((c.tc : Thread nD τ).loc main_arg1)
abbrev aG2 : Gain := m ((c.tc : Thread nD τ).loc main_arg2)
abbrev aU : WUp := m ((c.tc : Thread nD τ).loc main_arg3)
abbrev aD : WDown := m ((c.tc : Thread nD τ).loc main_arg4)
abbrev aY : Rows := m ((c.tc : Thread nD τ).loc main_arg5)

def vH : Rows := norms (aX m c) (aG1 m c)
def vF : Rows := ffs (vH m c) (aU m c) (aD m c)
def vDf : Rows := dInners (vF m c) (aY m c) (aG2 m c)
def vDa : Hidden := dHids (vH m c) (aU m c) (aD m c) (vDf m c)
def vDh : Rows := dIns (aU m c) (vDa m c)

theorem res39 : Value.res_main_v39 m c = addf (aX m c) (norms (vF m c) (aG2 m c)) := rfl
theorem res88 : Value.res_main_v88 m c = dXs (aX m c) (aY m c) (vDh m c) (aG1 m c) := rfl
theorem res71 : Value.res_main_v71 m c = gains (mulf (units (aX m c)) (vDh m c)) := rfl
theorem res43 : Value.res_main_v43 m c = gains (mulf (units (vF m c)) (same (aY m c))) := rfl
theorem res67 : Value.res_main_v67 m c = dUp (vDa m c) (vH m c) := rfl
theorem res61 : Value.res_main_v61 m c = dDown (vDf m c) (squares (vH m c) (aU m c)) := rfl

end chain

section reads

variable (x y d e h : Rows) (g : Gain) (u : WUp) (w : WDown) (a s : Hidden) (t : Fin 16384) (j : Fin 1024) (k : Fin 4096)

abbrev row (x : Rows) (t : Fin 16384) : Ffn.Row := fun j => x (ix2 t j)
abbrev gain (g : Gain) : Ffn.Row := fun j => g (ix2 0 j)
abbrev ups (u : WUp) : Fin 1024 → Ffn.Wide := fun j k => u (ix2 j k)
abbrev downs (w : WDown) : Fin 4096 → Ffn.Row := fun k j => w (ix2 k j)

theorem vars_at : vars x (ix2 t 0) = Ffn.var (row x t) := by pointwise [vars, col, sums]; rfl
theorem invs_at : invs x (ix2 t 0) = Ffn.inv (row x t) := by
  unfold Ffn.inv; rw [← vars_at]; rfl
theorem wide_at (c : Col) : wide c (ix2 t j) = c (ix2 t 0) := by pointwise [wide]
theorem scale_at : scale g (ix2 t j) = gain g j := by pointwise [scale]
theorem units_at : units x (ix2 t j) = Ffn.unit (row x t) j := by
  unfold Ffn.unit; rw [← invs_at, ← wide_at t j (invs x)]; rfl
theorem norms_at : norms x g (ix2 t j) = Ffn.norm (row x t) (gain g) j := by
  show units x (ix2 t j) * scale g (ix2 t j) = _
  rw [units_at, scale_at]; rfl
theorem sums_at : sums x (ix1 t) = ∑ j, row x t j := by pointwise [sums]
theorem corrs_at : corrs x d (ix2 t j) = Ffn.corr (row x t) (row d t) := by
  unfold Ffn.corr; rw [← vars_at, ← invs_at]
  pointwise [corrs, col, sums]
  exact Fintype.sum_unique _
theorem gains_at : gains x (ix2 0 j) = ∑ t : Fin 16384, x (ix2 t j) := by pointwise [gains]
theorem acts_at : acts h u (ix2 t k) = ∑ j, row h t j * ups u j k := by pointwise [acts]
theorem hids_at : hids h u (ix2 t k) = Ffn.hid (row h t) (ups u) k := by
  unfold Ffn.hid; rw [← acts_at]; pointwise [hids, hidden]
theorem squares_at : squares h u (ix2 t k) = Ffn.hid (row h t) (ups u) k * Ffn.hid (row h t) (ups u) k := by
  rw [← hids_at]; rfl
theorem ffs_at : ffs h u w (ix2 t j) = Ffn.ff (row h t) (ups u) (downs w) j := by
  pointwise [ffs]
  simp only [squares_at]; rfl
theorem same_at : same y (ix2 t j) = y (ix2 t j) := by pointwise [same]
theorem dInners_at : dInners d y g (ix2 t j) = Ffn.dInner (row d t) (gain g) (row y t) j := by
  unfold Ffn.dInner
  rw [← Ffn.back_eq]
  show ((same y (ix2 t j) * scale g (ix2 t j)) * wide (invs d) (ix2 t j) + d (ix2 t j) * corrs d _ (ix2 t j)) + corrs d _ (ix2 t j) * d (ix2 t j) = _
  have e : row (mulf (same y) (scale g)) t = fun j => row y t j * gain g j := funext fun j => by
    show same y (ix2 t j) * scale g (ix2 t j) = _
    rw [same_at, scale_at]
  rw [corrs_at, e, same_at, scale_at, wide_at, invs_at]
theorem dXs_at : dXs x y e g (ix2 t j) = y (ix2 t j) + Ffn.back (row x t) (fun j => row e t j * gain g j) j := by
  rw [← Ffn.back_eq]
  show ((y (ix2 t j) + (e (ix2 t j) * scale g (ix2 t j)) * wide (invs x) (ix2 t j)) + x (ix2 t j) * corrs x _ (ix2 t j)) + corrs x _ (ix2 t j) * x (ix2 t j) = _
  have e' : row (mulf e (scale g)) t = fun j => row e t j * gain g j := funext fun j => by
    show e (ix2 t j) * scale g (ix2 t j) = _
    rw [scale_at]
  rw [corrs_at, e', scale_at, wide_at, invs_at]
  simp only [add_assoc]
theorem dHids_at : dHids h u w d (ix2 t k) = Ffn.dHid (row h t) (ups u) (downs w) (row d t) k := by
  unfold Ffn.dHid
  rw [← Ffn.hid_pos, ← hids_at]
  simp only [← acts_at]
  pointwise [dHids, hidden]
theorem dIns_at : dIns u a (ix2 t j) = Ffn.dIn (ups u) (fun k => a (ix2 t k)) j := by
  unfold Ffn.dIn; pointwise [dIns]
theorem dDown_at : dDown d s (ix2 k j) = ∑ t, d (ix2 t j) * s (ix2 t k) := by pointwise [dDown]
theorem dUp_at : dUp a h (ix2 j k) = ∑ t, a (ix2 t k) * h (ix2 t j) := by pointwise [dUp]

end reads

end Cert.Reference2Ideal.Hand

end
-- ==== Proof.FfnValue.lean ====
/- Both runs end with the feed-forward layer's output and its gradients. -/
module

public import proofs.«01_k».proof.Defs
public import proofs.«01_k».proof.Proof.FfnRun
public import proofs.«01_k».proof.Proof.FfnBwd
public import proofs.«01_k».proof.Proof.FfnTn
public import proofs.«01_k».proof.Proof.FfnRef

@[expose] public section

set_option maxRecDepth 16384

noncomputable section

namespace Cert.Ffn

open Idealize.ShloMosaic

/-- What the layer is given: its input, what reaches its output, the norms' scales and the weights. -/
structure Layer where
  x : Fin 16384 → Row
  y : Fin 16384 → Row
  g₁ : Row
  g₂ : Row
  u : Fin 1024 → Wide
  w : Fin 4096 → Row

namespace Layer

variable (l : Layer)

def h (t : Fin 16384) : Row := norm (l.x t) l.g₁
def f (t : Fin 16384) : Row := ff (l.h t) l.u l.w
def df (t : Fin 16384) : Row := dInner (l.f t) l.g₂ (l.y t)
def da (t : Fin 16384) : Wide := dHid (l.h t) l.u l.w (l.df t)
def dh (t : Fin 16384) : Row := dIn l.u (l.da t)

/-- The output, and the gradients of the input, the scales and the weights. -/
def out : FVec Ideal ⟨2, ![16384, 1024]⟩ .f32 := fun i => l.x (i 0) (i 1) + norm (l.f (i 0)) l.g₂ (i 1)
def dX : FVec Ideal ⟨2, ![16384, 1024]⟩ .f32 := fun i => l.y (i 0) (i 1) + back (l.x (i 0)) (fun j => l.dh (i 0) j * l.g₁ j) (i 1)
def dG₁ : FVec Ideal ⟨2, ![1, 1024]⟩ .f32 := fun i => ∑ t, l.dh t (i 1) * unit (l.x t) (i 1)
def dG₂ : FVec Ideal ⟨2, ![1, 1024]⟩ .f32 := fun i => ∑ t, l.y t (i 1) * unit (l.f t) (i 1)
def dU : FVec Ideal ⟨2, ![1024, 4096]⟩ .f32 := fun i => ∑ t, l.h t (i 0) * l.da t (i 1)
def dW : FVec Ideal ⟨2, ![4096, 1024]⟩ .f32 := fun i => ∑ t, (hid (l.h t) l.u (i 0) * hid (l.h t) l.u (i 0)) * l.df t (i 1)

end Layer

end Cert.Ffn

namespace Cert.Kernel2Ideal.Hand

open Idealize.ShloMosaic Idealize.ShloMosaic.TcCoe
open Cert.Kernel2Ideal Cert.Kernel2Ideal.Gen
open StableHlo (after)

section host
variable (W : Valuation τ sig (Elt Ideal))
theorem cast_up : after hostOps0 W main_v0 = (truncf .bf16 (W main_arg3 : FVec Ideal S1024x4096 .f32) bitsLt_bf16_f32 : FVec Ideal S1024x4096 .bf16) := by after_results
theorem cast_down : after hostOps0 W main_v1 = (truncf .bf16 (W main_arg4 : FVec Ideal S4096x1024 .f32) bitsLt_bf16_f32 : FVec Ideal S4096x1024 .bf16) := by after_results
theorem turn_up (k : Fin 4096) (j : Fin 1024) : (after hostOps1 W main_v3 : FVec Ideal S4096x1024 .bf16) (ix2 k j) = (W main_v0 : FVec Ideal S1024x4096 .bf16) (ix2 j k) := by
  have e : after hostOps1 W main_v3 = transpose S4096x1024 [1, 0] (W main_v0 : FVec Ideal S1024x4096 .bf16) transposes_S1024x4096_S4096x1024_1_0 := by after_results
  rw [e]
  pointwise
theorem turn_down (j : Fin 1024) (k : Fin 4096) : (after hostOps1 W main_v4 : FVec Ideal S1024x4096 .bf16) (ix2 j k) = (W main_v1 : FVec Ideal S4096x1024 .bf16) (ix2 k j) := by
  have e : after hostOps1 W main_v4 = transpose S1024x4096 [1, 0] (W main_v1 : FVec Ideal S4096x1024 .bf16) transposes_S4096x1024_S1024x4096_1_0 := by after_results
  rw [e]
  pointwise
end host

variable (m : (ℓ : Loc nD τ sig) → Buf (Elt Ideal) ℓ) (ρ : Dev nD → PrngReg) (c : Dev nD)

abbrev aX : FVec Ideal S16384x1024 .f32 := m ((c.tc : Thread nD τ).loc main_arg0)
abbrev aG1 : FVec Ideal S1x1024 .f32 := m ((c.tc : Thread nD τ).loc main_arg1)
abbrev aG2 : FVec Ideal S1x1024 .f32 := m ((c.tc : Thread nD τ).loc main_arg2)
abbrev aU : FVec Ideal S1024x4096 .f32 := m ((c.tc : Thread nD τ).loc main_arg3)
abbrev aD : FVec Ideal S4096x1024 .f32 := m ((c.tc : Thread nD τ).loc main_arg4)
abbrev aY : FVec Ideal S16384x1024 .f32 := m ((c.tc : Thread nD τ).loc main_arg5)

/-- The layer the arguments give. -/
abbrev layer : Ffn.Layer where
  x t j := aX m c (ix2 t j)
  y t j := aY m c (ix2 t j)
  g₁ j := aG1 m c (ix2 0 j)
  g₂ j := aG2 m c (ix2 0 j)
  u j k := aU m c (ix2 j k)
  w k j := aD m c (ix2 k j)

theorem x1 : vX (V1 m ρ) c = aX m c := W1_args m ρ c main_arg0 (by decide)
theorem g1 : vG1 (V1 m ρ) c = aG1 m c := W1_args m ρ c main_arg1 (by decide)
theorem g2 : vG2 (V1 m ρ) c = aG2 m c := W1_args m ρ c main_arg2 (by decide)
theorem u1 : vU (V1 m ρ) c = aU m c := cast_up (W0 m ρ c)
theorem d1 : vD (V1 m ρ) c = aD m c := cast_down (W0 m ρ c)

theorem h1 (t : Fin 16384) (j : Fin 1024) : arrH (V1 m ρ) c (ix2 t j) = (layer m c).h t j := by
  unfold arrH; rw [x1, g1]; rfl
theorem f1 (t : Fin 16384) (j : Fin 1024) : arrF (V1 m ρ) c (ix2 t j) = (layer m c).f t j := by
  unfold arrF; rw [x1, g1, u1, d1]; rfl
theorem y1 : arrY (V1 m ρ) c = (layer m c).out := by
  unfold arrY; rw [x1, g1, g2, u1, d1]; funext i
  obtain ⟨t, j, rfl⟩ := exists_ix2 (A := 16384) (B := 1024) i
  rfl

theorem x3 : vX (V3 m ρ) c = aX m c := W3_args m ρ c main_arg0 (by decide)
theorem g13 : vG1 (V3 m ρ) c = aG1 m c := W3_args m ρ c main_arg1 (by decide)
theorem g23 : vG2 (V3 m ρ) c = aG2 m c := W3_args m ρ c main_arg2 (by decide)
theorem y3 : vY (V3 m ρ) c = aY m c := W3_args m ρ c main_arg5 (by decide)
theorem up2 : W2 m ρ c main_v0 = W1 m ρ c main_v0 := W2_of m ρ c main_v0 (by decide)
theorem down2 : W2 m ρ c main_v1 = W1 m ρ c main_v1 := W2_of m ρ c main_v1 (by decide)
theorem u3 : vU (V3 m ρ) c = aU m c := (W3_of m ρ c main_v0 (by decide)).trans ((up2 m ρ c).trans (u1 m ρ c))
theorem h3 : vH (V3 m ρ) c = arrH (V1 m ρ) c := (W3_of m ρ c main_v2_1 (by decide)).trans ((W2_arr m ρ c 6).trans (final0_6 (V1 m ρ) c))
theorem f3 : vF (V3 m ρ) c = arrF (V1 m ρ) c := (W3_of m ρ c main_v2_2 (by decide)).trans ((W2_arr m ρ c 7).trans (final0_7 (V1 m ρ) c))
theorem ut3 (k : Fin 4096) (j : Fin 1024) : vUt (V3 m ρ) c (ix2 k j) = aU m c (ix2 j k) :=
  (turn_up (W2 m ρ c) k j).trans (congrFun ((up2 m ρ c).trans (u1 m ρ c)) (ix2 j k))
theorem dt3 (j : Fin 1024) (k : Fin 4096) : vDt (V3 m ρ) c (ix2 j k) = aD m c (ix2 k j) :=
  (turn_down (W2 m ρ c) j k).trans (congrFun ((down2 m ρ c).trans (d1 m ρ c)) (ix2 k j))

theorem hRow3 (t : Fin 16384) : rowOf (vH (V3 m ρ) c) t = (layer m c).h t := funext fun j => (congrFun (h3 m ρ c) _).trans (h1 m ρ c t j)
theorem fRow3 (t : Fin 16384) : rowOf (vF (V3 m ρ) c) t = (layer m c).f t := funext fun j => (congrFun (f3 m ρ c) _).trans (f1 m ρ c t j)

theorem gF3 (t : Fin 16384) : gF (V3 m ρ) c t = (layer m c).df t := by
  unfold gF; rw [fRow3, g23, y3]; rfl
theorem gA3 (t : Fin 16384) : gA (V3 m ρ) c t = (layer m c).da t := by
  unfold gA; rw [hRow3, u3, gF3]
  exact congrArg (fun D => Ffn.dHid _ _ D _) (funext fun k => funext fun j => dt3 m ρ c j k)
theorem gH3 (t : Fin 16384) : gH (V3 m ρ) c t = (layer m c).dh t := by
  unfold gH; rw [gA3]
  exact congrArg (fun U => Ffn.dIn U _) (funext fun j => funext fun k => ut3 m ρ c k j)
theorem sq3 (t : Fin 16384) (k : Fin 4096) : hidSq (V3 m ρ) c t k
    = Ffn.hid ((layer m c).h t) (layer m c).u k * Ffn.hid ((layer m c).h t) (layer m c).u k := by
  unfold hidSq; rw [hRow3, u3]

theorem dx3 : arrDx (V3 m ρ) c = (layer m c).dX := by
  unfold arrDx; funext i
  obtain ⟨t, j, rfl⟩ := exists_ix2 (A := 16384) (B := 1024) i
  rw [y3, x3, g13]
  exact congrArg (fun D : Ffn.Row => aY m c (ix2 t j) + Ffn.back (rowOf (aX m c) t) (fun j => D j * gain (aG1 m c) j) j) (gH3 m ρ c t)
theorem dg13 : arrG1 (V3 m ρ) c = (layer m c).dG₁ := by
  unfold arrG1; funext i; rw [x3]
  obtain ⟨z, j, rfl⟩ := exists_ix2 (A := 1) (B := 1024) i
  exact Finset.sum_congr rfl fun t _ => congrArg (fun D : Ffn.Row => D j * Ffn.unit (rowOf (aX m c) t) j) (gH3 m ρ c t)
theorem dg23 : arrG2 (V3 m ρ) c = (layer m c).dG₂ := by
  unfold arrG2; funext i; rw [y3]
  obtain ⟨z, j, rfl⟩ := exists_ix2 (A := 1) (B := 1024) i
  exact Finset.sum_congr rfl fun t _ => congrArg (fun F : Ffn.Row => aY m c (ix2 t j) * Ffn.unit F j) (fRow3 m ρ c t)

theorem h4 : opA2 (V4 m ρ) c = arrH (V1 m ρ) c := (W4_of m ρ c main_v2_1 (by decide)).trans (h3 m ρ c)
theorem a4 : opB2 (V4 m ρ) c = arrDa (V3 m ρ) c := (W4_arr m ρ c 10).trans (final1_10 (V3 m ρ) c)
theorem r5 : opA3 (V5 m ρ) c = arrR (V3 m ρ) c := (W5_of m ρ c main_v5_2 (by decide)).trans ((W4_arr m ρ c 11).trans (final1_11 (V3 m ρ) c))
theorem d5 : opB3 (V5 m ρ) c = arrDf (V3 m ρ) c := (W5_of m ρ c main_v5_3 (by decide)).trans ((W4_arr m ρ c 12).trans (final1_12 (V3 m ρ) c))

theorem dUp5 : arrW2 (V4 m ρ) c = (layer m c).dU := by
  unfold arrW2; funext i; rw [h4, a4]
  refine Finset.sum_congr rfl fun t _ => congrArg₂ _ (h1 m ρ c t (i 0)) (congrFun (gA3 m ρ c t) (i 1))
theorem dDown6 : arrW3 (V5 m ρ) c = (layer m c).dW := by
  unfold arrW3; funext i; rw [r5, d5]
  refine Finset.sum_congr rfl fun t _ => congrArg₂ _ (sq3 m ρ c t (i 0)) (congrFun (gF3 m ρ c t) (i 1))

theorem end_y : W6 m ρ c main_v2_0 = (layer m c).out :=
  (W6_of m ρ c main_v2_0 (by decide)).trans ((W5_of m ρ c main_v2_0 (by decide)).trans ((W4_of m ρ c main_v2_0 (by decide)).trans
    ((W3_of m ρ c main_v2_0 (by decide)).trans ((W2_arr m ρ c 5).trans ((final0_5 (V1 m ρ) c).trans (y1 m ρ c))))))
theorem end_dx : W6 m ρ c main_v5_0 = (layer m c).dX :=
  (W6_of m ρ c main_v5_0 (by decide)).trans ((W5_of m ρ c main_v5_0 (by decide)).trans ((W4_arr m ρ c 9).trans ((final1_9 (V3 m ρ) c).trans (dx3 m ρ c))))
theorem end_dg1 : W6 m ρ c main_v5_4 = (layer m c).dG₁ :=
  (W6_of m ρ c main_v5_4 (by decide)).trans ((W5_of m ρ c main_v5_4 (by decide)).trans ((W4_arr m ρ c 13).trans ((final1_13 (V3 m ρ) c).trans (dg13 m ρ c))))
theorem end_dg2 : W6 m ρ c main_v5_5 = (layer m c).dG₂ :=
  (W6_of m ρ c main_v5_5 (by decide)).trans ((W5_of m ρ c main_v5_5 (by decide)).trans ((W4_arr m ρ c 14).trans ((final1_14 (V3 m ρ) c).trans (dg23 m ρ c))))
theorem end_du : W6 m ρ c main_v6 = (layer m c).dU :=
  (W6_of m ρ c main_v6 (by decide)).trans ((W5_arr m ρ c 2).trans ((final2_2 (V4 m ρ) c).trans (dUp5 m ρ c)))
theorem end_dw : W6 m ρ c main_v7 = (layer m c).dW :=
  (W6_arr m ρ c 2).trans ((final3_2 (V5 m ρ) c).trans (dDown6 m ρ c))

end Cert.Kernel2Ideal.Hand

namespace Cert.Reference2Ideal.Hand

open Idealize.ShloMosaic Idealize.ShloMosaic.TcCoe
open Cert.Reference2Ideal
open Cert.Kernel2Ideal.Hand (exists_ix2)

variable (m : (ℓ : Loc nD τ sig) → Buf (Elt Ideal) ℓ) (c : Dev nD)

/-- The layer the reference's arguments give. -/
abbrev layer : Ffn.Layer where
  x t j := aX m c (ix2 t j)
  y t j := aY m c (ix2 t j)
  g₁ j := aG1 m c (ix2 0 j)
  g₂ j := aG2 m c (ix2 0 j)
  u j k := aU m c (ix2 j k)
  w k j := aD m c (ix2 k j)

theorem rowH (t : Fin 16384) : row (vH m c) t = (layer m c).h t := funext fun j => norms_at _ _ t j
theorem rowF (t : Fin 16384) : row (vF m c) t = (layer m c).f t := funext fun j => by
  refine (ffs_at _ _ _ t j).trans ?_
  rw [rowH]
  rfl
theorem rowDf (t : Fin 16384) : row (vDf m c) t = (layer m c).df t := funext fun j => by
  refine (dInners_at _ _ _ t j).trans ?_
  rw [rowF]
  rfl
theorem rowDa (t : Fin 16384) : (fun k => vDa m c (ix2 t k)) = (layer m c).da t := funext fun k => by
  refine (dHids_at _ _ _ _ t k).trans ?_
  rw [rowH, rowDf]
  rfl
theorem rowDh (t : Fin 16384) : row (vDh m c) t = (layer m c).dh t := funext fun j => by
  refine (dIns_at _ _ t j).trans ?_
  rw [rowDa]
  rfl

theorem end_y : Value.res_main_v39 m c = (layer m c).out := by
  rw [res39]
  funext i
  obtain ⟨t, j, rfl⟩ := exists_ix2 (A := 16384) (B := 1024) i
  refine congrArg (aX m c (ix2 t j) + ·) ((norms_at _ _ t j).trans ?_)
  rw [rowF]
  rfl
theorem end_dx : Value.res_main_v88 m c = (layer m c).dX := by
  rw [res88]
  funext i
  obtain ⟨t, j, rfl⟩ := exists_ix2 (A := 16384) (B := 1024) i
  refine (dXs_at _ _ _ _ t j).trans ?_
  rw [rowDh]
  rfl
theorem end_dg1 : Value.res_main_v71 m c = (layer m c).dG₁ := by
  rw [res71]
  funext i
  obtain ⟨z, j, rfl⟩ := exists_ix2 (A := 1) (B := 1024) i
  obtain rfl : z = 0 := Subsingleton.elim _ _
  refine (gains_at _ j).trans (Finset.sum_congr rfl fun t _ => ?_)
  refine (mul_comm (units (aX m c) (ix2 t j)) (vDh m c (ix2 t j))).trans ?_
  rw [units_at]
  exact congrArg (· * _) (congrFun (rowDh m c t) j)
theorem end_dg2 : Value.res_main_v43 m c = (layer m c).dG₂ := by
  rw [res43]
  funext i
  obtain ⟨z, j, rfl⟩ := exists_ix2 (A := 1) (B := 1024) i
  obtain rfl : z = 0 := Subsingleton.elim _ _
  refine (gains_at _ j).trans (Finset.sum_congr rfl fun t _ => ?_)
  refine (mul_comm (units (vF m c) (ix2 t j)) (same (aY m c) (ix2 t j))).trans ?_
  rw [units_at, same_at, rowF]
  rfl
theorem end_du : Value.res_main_v67 m c = (layer m c).dU := by
  rw [res67]
  funext i
  obtain ⟨j, k, rfl⟩ := exists_ix2 (A := 1024) (B := 4096) i
  refine (dUp_at _ _ j k).trans (Finset.sum_congr rfl fun t _ => (mul_comm _ _).trans ?_)
  exact congrArg₂ (· * ·) (congrFun (rowH m c t) j) (congrFun (rowDa m c t) k)
theorem end_dw : Value.res_main_v61 m c = (layer m c).dW := by
  rw [res61]
  funext i
  obtain ⟨k, j, rfl⟩ := exists_ix2 (A := 4096) (B := 1024) i
  refine (dDown_at _ _ j k).trans (Finset.sum_congr rfl fun t _ => (mul_comm _ _).trans ?_)
  rw [squares_at, rowH]
  exact congrArg (_ * ·) (congrFun (rowDf m c t) j)

end Cert.Reference2Ideal.Hand

namespace Cert.Proof

open Idealize.ShloMosaic Idealize.SL Idealize.SL.Sem
open Cert.Kernel2Ideal.Gen (W6 mem_uc W6_main_arg0 W6_main_arg1 W6_main_arg2 W6_main_arg3 W6_main_arg4 W6_main_arg5)

theorem algebraic₂ : Cert.algebraic_Kernel2Ideal_Reference2Ideal := by
  intro m ρ m' ρ' pre same
  refine ⟨fun c => (Kernel2Ideal.Hand.layer m c).out, fun c => (Kernel2Ideal.Hand.layer m c).dX, fun c => (Kernel2Ideal.Hand.layer m c).dG₁,
    fun c => (Kernel2Ideal.Hand.layer m c).dG₂, fun c => (Kernel2Ideal.Hand.layer m c).dU, fun c => (Kernel2Ideal.Hand.layer m c).dW, ?_, ?_⟩
  · refine (θ_run _ _ _).mono ?_ (Kernel2Ideal.Hand.ends m ρ)
    intro r h c
    exact ⟨(h c _ (mem_uc Kernel2Ideal.main_v2_0 (by decide))).trans (Kernel2Ideal.Hand.end_y m ρ c),
      (h c _ (mem_uc Kernel2Ideal.main_v5_0 (by decide))).trans (Kernel2Ideal.Hand.end_dx m ρ c),
      (h c _ (mem_uc Kernel2Ideal.main_v5_4 (by decide))).trans (Kernel2Ideal.Hand.end_dg1 m ρ c),
      (h c _ (mem_uc Kernel2Ideal.main_v5_5 (by decide))).trans (Kernel2Ideal.Hand.end_dg2 m ρ c),
      (h c _ (mem_uc Kernel2Ideal.main_v6 (by decide))).trans (Kernel2Ideal.Hand.end_du m ρ c),
      (h c _ (mem_uc Kernel2Ideal.main_v7 (by decide))).trans (Kernel2Ideal.Hand.end_dw m ρ c),
      (h c _ (mem_uc Kernel2Ideal.main_arg0 (by decide))).trans (W6_main_arg0 m ρ c),
      (h c _ (mem_uc Kernel2Ideal.main_arg1 (by decide))).trans (W6_main_arg1 m ρ c),
      (h c _ (mem_uc Kernel2Ideal.main_arg2 (by decide))).trans (W6_main_arg2 m ρ c),
      (h c _ (mem_uc Kernel2Ideal.main_arg3 (by decide))).trans (W6_main_arg3 m ρ c),
      (h c _ (mem_uc Kernel2Ideal.main_arg4 (by decide))).trans (W6_main_arg4 m ρ c),
      (h c _ (mem_uc Kernel2Ideal.main_arg5 (by decide))).trans (W6_main_arg5 m ρ c)⟩
  refine (θ_run _ _ _).mono ?_ (Reference2Ideal.Value.run m' ρ')
  intro r h c
  obtain ⟨s0, s1, s2, s3, s4, s5⟩ := same c
  have eq : Reference2Ideal.Hand.layer m' c = Kernel2Ideal.Hand.layer m c := by
    refine Ffn.Layer.mk.injEq .. |>.mpr ⟨?_, ?_, ?_, ?_, ?_, ?_⟩
    · exact congrArg (fun (z : FVec Ideal ⟨2, ![16384, 1024]⟩ .f32) t j => z (ix2 t j)) s0
    · exact congrArg (fun (z : FVec Ideal ⟨2, ![16384, 1024]⟩ .f32) t j => z (ix2 t j)) s5
    · exact congrArg (fun (z : FVec Ideal ⟨2, ![1, 1024]⟩ .f32) j => z (ix2 0 j)) s1
    · exact congrArg (fun (z : FVec Ideal ⟨2, ![1, 1024]⟩ .f32) j => z (ix2 0 j)) s2
    · exact congrArg (fun (z : FVec Ideal ⟨2, ![1024, 4096]⟩ .f32) j k => z (ix2 j k)) s3
    · exact congrArg (fun (z : FVec Ideal ⟨2, ![4096, 1024]⟩ .f32) k j => z (ix2 k j)) s4
  obtain ⟨r0, r1, r2, r3, r4, r5, rest⟩ := h c
  exact ⟨r0.trans ((Reference2Ideal.Hand.end_y m' c).trans (congrArg Ffn.Layer.out eq)),
    r1.trans ((Reference2Ideal.Hand.end_dx m' c).trans (congrArg Ffn.Layer.dX eq)),
    r2.trans ((Reference2Ideal.Hand.end_dg1 m' c).trans (congrArg Ffn.Layer.dG₁ eq)),
    r3.trans ((Reference2Ideal.Hand.end_dg2 m' c).trans (congrArg Ffn.Layer.dG₂ eq)),
    r4.trans ((Reference2Ideal.Hand.end_du m' c).trans (congrArg Ffn.Layer.dU eq)),
    r5.trans ((Reference2Ideal.Hand.end_dw m' c).trans (congrArg Ffn.Layer.dW eq)), rest⟩

end Cert.Proof

end
-- ==== Proof.MixRun.lean ====
/- A run of the kernel of the products into the mixers: what every buffer holds at the end. -/
module

public import proofs.«01_k».proof.Proof.Gen.Kernel3Ideal.Frame

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with every buffer at the last boundary's contents. -/
theorem ends : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Kernel3Ideal.Hand

end
-- ==== Proof.Mix.lean ====
/- The products into the mixers with their gradients, over the extended reals. -/
module

public import proofs.«01_k».proof.Proof.Ffn

@[expose] public section

noncomputable section

namespace Cert.Mix

open Idealize.ShloMosaic
open Cert.Ffn (Row norm unit back)

abbrev one : EReal := Ideal.ofBits .f32 0x3F800000#32

/-- A row times a matrix. -/
def proj {n : ℕ} (h : Row) (w : Fin 1024 → Fin n → EReal) (k : Fin n) : EReal := ∑ j, h j * w j k
/-- The gate of a number. -/
def gate (z : EReal) : EReal := Ideal.div one (one + Ideal.exp (-z))
/-- The normed row's gradient from those of its two products. -/
def dIn (p : Fin 2560 → EReal) (wi : Fin 1024 → Fin 2560 → EReal) (z : Fin 3072 → EReal) (wg : Fin 1024 → Fin 3072 → EReal) (j : Fin 1024) : EReal :=
  (∑ k, p k * wi j k) + ∑ k, z k * wg j k
/-- Lane `j` of the part that starts at `o`. -/
abbrev slot {n : ℕ} (o : ℕ) (h : o + n ≤ 2560) (j : Fin n) : Fin 2560 := ⟨o + j, by omega⟩

/-- What the products are given: the input, the scale, the weights, and what reaches the products and the input. -/
structure Layer where
  x : Fin 16384 → Row
  g : Row
  wi : Fin 1024 → Fin 2560 → EReal
  wg : Fin 1024 → Fin 3072 → EReal
  b : Fin 3072 → EReal
  p : Fin 16384 → Fin 2560 → EReal
  z : Fin 16384 → Fin 3072 → EReal
  r : Fin 16384 → Row

namespace Layer

variable (l : Layer)

def h (t : Fin 16384) : Row := norm (l.x t) l.g
def dh (t : Fin 16384) : Row := dIn (l.p t) l.wi (l.z t) l.wg

/-- A part of the product, the gates, and the gradients of the input, the scale and the weights. -/
def part (n o : ℕ) (ho : o + n ≤ 2560) : FVec Ideal ⟨2, ![16384, n]⟩ .f32 := fun i => proj (l.h (i 0)) l.wi (slot o ho (i 1))
def gates : FVec Ideal ⟨2, ![16384, 3072]⟩ .f32 := fun i => gate (proj (l.h (i 0)) l.wg (i 1) + l.b (i 1))
def dX : FVec Ideal ⟨2, ![16384, 1024]⟩ .f32 := fun i => l.r (i 0) (i 1) + back (l.x (i 0)) (fun j => l.dh (i 0) j * l.g j) (i 1)
def dG : FVec Ideal ⟨2, ![1, 1024]⟩ .f32 := fun i => ∑ t, l.dh t (i 1) * unit (l.x t) (i 1)
def dWi : FVec Ideal ⟨2, ![1024, 2560]⟩ .f32 := fun i => ∑ t, l.h t (i 0) * l.p t (i 1)
def dWg : FVec Ideal ⟨2, ![1024, 3072]⟩ .f32 := fun i => ∑ t, l.h t (i 0) * l.z t (i 1)

end Layer

end Cert.Mix

end
-- ==== Proof.MixPay.lean ====
/- The calls of the products into the mixers at a grid point: what they compute from their blocks, at an index. -/
module

public import proofs.«01_k».proof.Proof.Gen.Kernel3Ideal
public import proofs.«01_k».proof.Proof.Gen.Kernel3Ideal.Skeleton
public import proofs.«01_k».proof.Proof.Mix

@[expose] public section

set_option maxRecDepth 16384

noncomputable section

namespace Cert.Kernel3Ideal.Hand

open Idealize.ShloMosaic Idealize.ShloMosaic.TcCoe
open Cert.Kernel3Ideal Cert.Kernel3Ideal.Gen

abbrev row {e : FTy} (x : FVec Ideal S256x1024 e) (a : Fin 256) : Ffn.Row := fun j => x (ix2 a j)
abbrev gain (g : FVec Ideal S1x1024 .f32) : Ffn.Row := fun j => g (ix2 0 j)
abbrev wIn (w : FVec Ideal S1024x2560 .bf16) : Fin 1024 → Fin 2560 → EReal := fun j k => w (ix2 j k)
abbrev wGate (w : FVec Ideal S1024x3072 .bf16) : Fin 1024 → Fin 3072 → EReal := fun j k => w (ix2 j k)

section forward

variable (x : FVec Ideal S256x1024 .f32) (g : FVec Ideal S1x1024 .f32) (w : FVec Ideal S1024x2560 .bf16)
variable (wg : FVec Ideal S1024x3072 .bf16) (b : FVec Ideal S1x3072 .f32) (a : Fin 256)

theorem norm_at (j : Fin 1024) : k0_pay4 (F := Ideal) x g (ix2 a j) = Ffn.norm (row x a) (gain g) j := by
  pointwise [k0_pay4]
  rfl
theorem prod_at (k : Fin 2560) : k0_pay5 (F := Ideal) x g w (ix2 a k) = Mix.proj (Ffn.norm (row x a) (gain g)) (wIn w) k := by
  pointwise [k0_pay5]
  simp only [norm_at]
  rfl

theorem part6_at (j : Fin 256) : k0_pay6 (F := Ideal) x g w (ix2 a j) = Mix.proj (Ffn.norm (row x a) (gain g)) (wIn w) (Mix.slot 0 (by omega) j) := by
  rw [← prod_at]
  pointwise [k0_pay6]
  exact congrArg (fun k => k0_pay5 (F := Ideal) x g w (ix2 a k)) (Fin.ext (Nat.zero_add j.val).symm)
theorem part7_at (j : Fin 512) : k0_pay7 (F := Ideal) x g w (ix2 a j) = Mix.proj (Ffn.norm (row x a) (gain g)) (wIn w) (Mix.slot 256 (by omega) j) := by
  rw [← prod_at]
  pointwise [k0_pay7]
theorem part8_at (j : Fin 512) : k0_pay8 (F := Ideal) x g w (ix2 a j) = Mix.proj (Ffn.norm (row x a) (gain g)) (wIn w) (Mix.slot 768 (by omega) j) := by
  rw [← prod_at]
  pointwise [k0_pay8]
theorem part9_at (j : Fin 512) : k0_pay9 (F := Ideal) x g w (ix2 a j) = Mix.proj (Ffn.norm (row x a) (gain g)) (wIn w) (Mix.slot 1280 (by omega) j) := by
  rw [← prod_at]
  pointwise [k0_pay9]
theorem part10_at (j : Fin 256) : k0_pay10 (F := Ideal) x g w (ix2 a j) = Mix.proj (Ffn.norm (row x a) (gain g)) (wIn w) (Mix.slot 1792 (by omega) j) := by
  rw [← prod_at]
  pointwise [k0_pay10]
theorem part11_at (j : Fin 256) : k0_pay1 (F := Ideal) (k0_pay5 (F := Ideal) x g w) (ix2 a j)
    = Mix.proj (Ffn.norm (row x a) (gain g)) (wIn w) (Mix.slot 2048 (by omega) j) := by
  rw [← prod_at]
  pointwise [k0_pay1]
theorem part12_at (j : Fin 256) : k0_pay2 (F := Ideal) (k0_pay5 (F := Ideal) x g w) (ix2 a j)
    = Mix.proj (Ffn.norm (row x a) (gain g)) (wIn w) (Mix.slot 2304 (by omega) j) := by
  rw [← prod_at]
  pointwise [k0_pay2]

theorem gate_at (k : Fin 3072) : k0_pay3 (F := Ideal) (k0_pay4 (F := Ideal) x g) wg b (ix2 a k)
    = Mix.gate (Mix.proj (Ffn.norm (row x a) (gain g)) (wGate wg) k + b (ix2 0 k)) := by
  unfold Mix.gate
  rw [← zero_sub]
  pointwise [k0_pay3]
  simp only [norm_at]
  rfl

end forward

section backward

variable (x r : FVec Ideal S256x1024 .f32) (g acc : FVec Ideal S1x1024 .f32)
variable (p : FVec Ideal S256x2560 .bf16) (wt : FVec Ideal S2560x1024 .bf16) (z : FVec Ideal S256x3072 .bf16) (gt : FVec Ideal S3072x1024 .bf16)
variable (a : Fin 256) (j : Fin 1024)

theorem dIn_at : k1_pay4 (F := Ideal) p wt z gt (ix2 a j)
    = Mix.dIn (fun k => p (ix2 a k)) (fun j k => wt (ix2 k j)) (fun k => z (ix2 a k)) (fun j k => gt (ix2 k j)) j := by
  pointwise [k1_pay4]
  rfl
theorem inv_at : k1_pay5 (F := Ideal) x (ix2 a 0) = Ffn.inv (row x a) := by
  pointwise [k1_pay5]
  rfl
theorem unit_at : k1_pay6 (F := Ideal) x (ix2 a j) = Ffn.unit (row x a) j := by
  unfold Ffn.unit
  rw [← inv_at]
  pointwise [k1_pay6]
theorem gain_at : k1_pay1 (F := Ideal) (k1_pay4 (F := Ideal) p wt z gt) (k1_pay6 (F := Ideal) x) acc (ix2 0 j)
    = acc (ix2 0 j) + ∑ a : Fin 256, k1_pay4 (F := Ideal) p wt z gt (ix2 a j) * Ffn.unit (row x a) j := by
  pointwise [k1_pay1]
  simp only [unit_at]
theorem dX_at : k1_pay2 (F := Ideal) (k1_pay7 (F := Ideal) p wt z gt x g) (k1_pay8 (F := Ideal) x) r (ix2 a j)
    = r (ix2 a j) + Ffn.back (row x a) (fun j => k1_pay4 (F := Ideal) p wt z gt (ix2 a j) * gain g j) j := by
  pointwise [k1_pay2, k1_pay7, k1_pay8]
  simp only [unit_at, inv_at]
  rfl
theorem zero1_at : (k1_pay3 : FVec Ideal S1x1024 .f32) (ix2 0 j) = 0 := by pointwise [k1_pay3]

end backward

/-- A product of a block's columns with another's, added to what was there. -/
theorem tn2_at (acc : FVec Ideal S1024x512 .f32) (a : FVec Ideal S1024x1024 .bf16) (b : FVec Ideal S1024x512 .bf16) (i : Fin 1024) (j : Fin 512) :
    k2_pay2 acc a b (ix2 i j) = acc (ix2 i j) + ∑ t : Fin 1024, a (ix2 t i) * b (ix2 t j) := by
  pointwise [k2_pay2]
theorem tn3_at (acc : FVec Ideal S1024x1024 .f32) (a b : FVec Ideal S1024x1024 .bf16) (i j : Fin 1024) :
    k3_pay2 acc a b (ix2 i j) = acc (ix2 i j) + ∑ t : Fin 1024, a (ix2 t i) * b (ix2 t j) := by
  pointwise [k3_pay2]
theorem zero2_at (i : Fin 1024) (j : Fin 512) : (k2_pay1 : FVec Ideal S1024x512 .f32) (ix2 i j) = 0 := by pointwise [k2_pay1]
theorem zero3_at (i j : Fin 1024) : (k3_pay1 : FVec Ideal S1024x1024 .f32) (ix2 i j) = 0 := by pointwise [k3_pay1]

end Cert.Kernel3Ideal.Hand

end
-- ==== Proof.MixFwd.lean ====
/- The first call of the products into the mixers: what its nine arrays hold at the end. -/
module

public import proofs.«01_k».proof.Proof.MixPay
public import proofs.«01_k».proof.Proof.Gen.Kernel3Ideal.Frame
public import Idealize.ShloMosaic.Lib.Pipeline.ValueKit

@[expose] public section

set_option maxRecDepth 16384

noncomputable section

namespace Cert.Kernel3Ideal.Hand

open Idealize.ShloMosaic Idealize.ShloMosaic.TcCoe
open Cert.Kernel3Ideal Cert.Kernel3Ideal.Gen

/-- A row of an array over all positions. -/
abbrev rowOf {e : FTy} (x : FVec Ideal S16384x1024 e) (t : Fin 16384) : Ffn.Row := fun j => x (ix2 t j)
/-- Row `a` of block `t`. -/
abbrev place (t : ℕ) (ht : t < 64) (a : Fin 256) : Fin 16384 := ⟨t * 256 + a, by omega⟩

theorem exists_ix2 {A B : ℕ} (y : (⟨2, ![A, B]⟩ : Shape).Idx) : ∃ (a : Fin A) (b : Fin B), y = ix2 a b :=
  ⟨y 0, y 1, funext fun p => by match p with | ⟨0, _⟩ => rfl | ⟨1, _⟩ => rfl⟩

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)
theorem index0_8 : ∀ t : Fin cfg0.N, win0_8.index t = ![t.val, 0] := (by decide +kernel : ∀ t : Fin grid0.N, _)
theorem index0_9 : ∀ t : Fin cfg0.N, win0_9.index t = ![t.val, 0] := (by decide +kernel : ∀ t : Fin grid0.N, _)
theorem index0_10 : ∀ t : Fin cfg0.N, win0_10.index t = ![t.val, 0] := (by decide +kernel : ∀ t : Fin grid0.N, _)
theorem index0_11 : ∀ t : Fin cfg0.N, win0_11.index t = ![t.val, 0] := (by decide +kernel : ∀ t : Fin grid0.N, _)
theorem index0_12 : ∀ t : Fin cfg0.N, win0_12.index t = ![t.val, 0] := (by decide +kernel : ∀ t : Fin grid0.N, _)
theorem index0_13 : ∀ t : Fin cfg0.N, win0_13.index t = ![t.val, 0] := (by decide +kernel : ∀ t : Fin grid0.N, _)

variable (V : (c : Dev nD) → (b : Ref sig .tc) → Buf (Elt Ideal) ((c.tc : Thread nD τ).loc b)) (c : Dev nD) (t : Fin cfg0.N)

theorem lt0 : t.val < 64 := Nat.lt_of_lt_of_eq t.isLt N_0

theorem blk0_0 (a : Fin 256) (j : Fin 1024) : iblk0 V c 0 t (ix2 a j) = V c main_arg0 (ix2 (place t.val (lt0 t) a) j) := by
  blk_simp [iblk0]
  refine congrArg _ ?_
  blk_ext [index0_0]
theorem blk0_1 (j : Fin 1024) : iblk0 V c 1 t (ix2 (0 : Fin 1) j) = V c main_arg1 (ix2 0 j) := by
  blk_simp [iblk0]
  refine congrArg _ ?_
  blk_ext [index0_1]
theorem blk0_2 (j : Fin 1024) (k : Fin 2560) : iblk0 V c 2 t (ix2 j k) = V c main_v0 (ix2 j k) := by
  blk_simp [iblk0]
  refine congrArg _ ?_
  blk_ext [index0_2]
theorem blk0_3 (j : Fin 1024) (k : Fin 3072) : iblk0 V c 3 t (ix2 j k) = V c main_v1 (ix2 j k) := by
  blk_simp [iblk0]
  refine congrArg _ ?_
  blk_ext [index0_3]
theorem blk0_4 (k : Fin 3072) : iblk0 V c 4 t (ix2 (0 : Fin 1) k) = V c main_arg4 (ix2 0 k) := by
  blk_simp [iblk0]
  refine congrArg _ ?_
  blk_ext [index0_4]

abbrev vX : FVec Ideal S16384x1024 .f32 := V c main_arg0
abbrev vG : FVec Ideal S1x1024 .f32 := V c main_arg1
abbrev vWi : FVec Ideal S1024x2560 .bf16 := V c main_v0
abbrev vWg : FVec Ideal S1024x3072 .bf16 := V c main_v1
abbrev vB : FVec Ideal S1x3072 .f32 := V c main_arg4

/-- The normed rows, a part of their product, and the gates. -/
def hRow (t : Fin 16384) : Ffn.Row := Ffn.norm (rowOf (vX V c) t) (gain (vG V c))
def arrH : Vec Ideal S16384x1024 .bf16 := fun i => hRow V c (i 0) (i 1)
def arrP (e : FTy) (n o : ℕ) (ho : o + n ≤ 2560) : FVec Ideal ⟨2, ![16384, n]⟩ e := fun i => Mix.proj (hRow V c (i 0)) (wIn (vWi V c)) (Mix.slot o ho (i 1))
def arrZ : Vec Ideal S16384x3072 .f32 := fun i => Mix.gate (Mix.proj (hRow V c (i 0)) (wGate (vWg V c)) (i 1) + vB V c (ix2 0 (i 1)))

theorem row0 (a : Fin 256) : row (e := .f32) (iblk0 V c 0 t) a = rowOf (vX V c) (place t.val (lt0 t) a) := funext fun j => blk0_0 V c t a j
theorem gain0 : gain (iblk0 V c 1 t) = gain (vG V c) := funext fun j => blk0_1 V c t j
theorem wIn0 : wIn (iblk0 V c 2 t) = wIn (vWi V c) := funext fun j => funext fun k => blk0_2 V c t j k
theorem wGate0 : wGate (iblk0 V c 3 t) = wGate (vWg V c) := funext fun j => funext fun k => blk0_3 V c t j k

theorem place0_5 (a : Fin 256) (j : Fin 1024) : (win0_5.blk t).view.emb (ix2 a j) = ix2 (place t.val (lt0 t) a) j := by
  blk_ext [index0_5]
theorem place0_6 (a : Fin 256) (j : Fin 256) : (win0_6.blk t).view.emb (ix2 a j) = ix2 (place t.val (lt0 t) a) j := by
  blk_ext [index0_6]
theorem place0_7 (a : Fin 256) (j : Fin 512) : (win0_7.blk t).view.emb (ix2 a j) = ix2 (place t.val (lt0 t) a) j := by
  blk_ext [index0_7]
theorem place0_8 (a : Fin 256) (j : Fin 512) : (win0_8.blk t).view.emb (ix2 a j) = ix2 (place t.val (lt0 t) a) j := by
  blk_ext [index0_8]
theorem place0_9 (a : Fin 256) (j : Fin 512) : (win0_9.blk t).view.emb (ix2 a j) = ix2 (place t.val (lt0 t) a) j := by
  blk_ext [index0_9]
theorem place0_10 (a : Fin 256) (j : Fin 256) : (win0_10.blk t).view.emb (ix2 a j) = ix2 (place t.val (lt0 t) a) j := by
  blk_ext [index0_10]
theorem place0_11 (a : Fin 256) (j : Fin 256) : (win0_11.blk t).view.emb (ix2 a j) = ix2 (place t.val (lt0 t) a) j := by
  blk_ext [index0_11]
theorem place0_12 (a : Fin 256) (j : Fin 256) : (win0_12.blk t).view.emb (ix2 a j) = ix2 (place t.val (lt0 t) a) j := by
  blk_ext [index0_12]
theorem place0_13 (a : Fin 256) (j : Fin 3072) : (win0_13.blk t).view.emb (ix2 a j) = ix2 (place t.val (lt0 t) a) j := by
  blk_ext [index0_13]

theorem final0_5 : (dat0 V c).arrAt 5 cfg0.N = arrH V c := by
  refine (dat0 V c).arrAt_eq_of_covers 5 _ (by decide +kernel) fun t hf y => ?_
  blk_simp
  rw [after0_5]
  frame_out
  obtain ⟨a, j, rfl⟩ := exists_ix2 (A := 256) (B := 1024) y
  refine (norm_at _ _ a j).trans (Eq.trans ?_ (congrArg (arrH V c) (place0_5 t a j)).symm)
  rw [row0, gain0]
  rfl

theorem final0_6 : (dat0 V c).arrAt 6 cfg0.N = arrP V c .f32 256 0 (by omega) := by
  refine (dat0 V c).arrAt_eq_of_covers 6 _ (by decide +kernel) fun t hf y => ?_
  blk_simp
  rw [after0_6]
  frame_out
  obtain ⟨a, j, rfl⟩ := exists_ix2 (A := 256) (B := 256) y
  refine (part6_at _ _ _ a j).trans (Eq.trans ?_ (congrArg (arrP V c .f32 256 0 (by omega)) (place0_6 t a j)).symm)
  rw [row0, gain0, wIn0]
  rfl

theorem final0_7 : (dat0 V c).arrAt 7 cfg0.N = arrP V c .bf16 512 256 (by omega) := by
  refine (dat0 V c).arrAt_eq_of_covers 7 _ (by decide +kernel) fun t hf y => ?_
  blk_simp
  rw [after0_7]
  frame_out
  obtain ⟨a, j, rfl⟩ := exists_ix2 (A := 256) (B := 512) y
  refine (part7_at _ _ _ a j).trans (Eq.trans ?_ (congrArg (arrP V c .bf16 512 256 (by omega)) (place0_7 t a j)).symm)
  rw [row0, gain0, wIn0]
  rfl

theorem final0_8 : (dat0 V c).arrAt 8 cfg0.N = arrP V c .bf16 512 768 (by omega) := by
  refine (dat0 V c).arrAt_eq_of_covers 8 _ (by decide +kernel) fun t hf y => ?_
  blk_simp
  rw [after0_8]
  frame_out
  obtain ⟨a, j, rfl⟩ := exists_ix2 (A := 256) (B := 512) y
  refine (part8_at _ _ _ a j).trans (Eq.trans ?_ (congrArg (arrP V c .bf16 512 768 (by omega)) (place0_8 t a j)).symm)
  rw [row0, gain0, wIn0]
  rfl

theorem final0_9 : (dat0 V c).arrAt 9 cfg0.N = arrP V c .bf16 512 1280 (by omega) := by
  refine (dat0 V c).arrAt_eq_of_covers 9 _ (by decide +kernel) fun t hf y => ?_
  blk_simp
  rw [after0_9]
  frame_out
  obtain ⟨a, j, rfl⟩ := exists_ix2 (A := 256) (B := 512) y
  refine (part9_at _ _ _ a j).trans (Eq.trans ?_ (congrArg (arrP V c .bf16 512 1280 (by omega)) (place0_9 t a j)).symm)
  rw [row0, gain0, wIn0]
  rfl

theorem final0_10 : (dat0 V c).arrAt 10 cfg0.N = arrP V c .f32 256 1792 (by omega) := by
  refine (dat0 V c).arrAt_eq_of_covers 10 _ (by decide +kernel) fun t hf y => ?_
  blk_simp
  rw [after0_10]
  frame_out
  obtain ⟨a, j, rfl⟩ := exists_ix2 (A := 256) (B := 256) y
  refine (part10_at _ _ _ a j).trans (Eq.trans ?_ (congrArg (arrP V c .f32 256 1792 (by omega)) (place0_10 t a j)).symm)
  rw [row0, gain0, wIn0]
  rfl

theorem final0_11 : (dat0 V c).arrAt 11 cfg0.N = arrP V c .f32 256 2048 (by omega) := by
  refine (dat0 V c).arrAt_eq_of_covers 11 _ (by decide +kernel) fun t hf y => ?_
  blk_simp
  rw [after0_11]
  frame_out [k0_pay11]
  obtain ⟨a, j, rfl⟩ := exists_ix2 (A := 256) (B := 256) y
  refine (part11_at _ _ _ a j).trans (Eq.trans ?_ (congrArg (arrP V c .f32 256 2048 (by omega)) (place0_11 t a j)).symm)
  rw [row0, gain0, wIn0]
  rfl

theorem final0_12 : (dat0 V c).arrAt 12 cfg0.N = arrP V c .f32 256 2304 (by omega) := by
  refine (dat0 V c).arrAt_eq_of_covers 12 _ (by decide +kernel) fun t hf y => ?_
  blk_simp
  rw [after0_12]
  frame_out [k0_pay11]
  obtain ⟨a, j, rfl⟩ := exists_ix2 (A := 256) (B := 256) y
  refine (part12_at _ _ _ a j).trans (Eq.trans ?_ (congrArg (arrP V c .f32 256 2304 (by omega)) (place0_12 t a j)).symm)
  rw [row0, gain0, wIn0]
  rfl

theorem final0_13 : (dat0 V c).arrAt 13 cfg0.N = arrZ V c := by
  refine (dat0 V c).arrAt_eq_of_covers 13 _ (by decide +kernel) fun t hf y => ?_
  blk_simp
  rw [after0_13]
  frame_out
  obtain ⟨a, j, rfl⟩ := exists_ix2 (A := 256) (B := 3072) y
  refine (gate_at _ _ _ _ a j).trans (Eq.trans ?_ (congrArg (arrZ V c) (place0_13 t a j)).symm)
  rw [row0, gain0, wGate0, blk0_4]
  rfl

end Cert.Kernel3Ideal.Hand

end
-- ==== Proof.MixOuts.lean ====
/- What the calls of the products into the mixers leave at a grid point, from their blocks. -/
module

public import proofs.«01_k».proof.Proof.Gen.Kernel3Ideal.Frame
public import Idealize.ShloMosaic.Lib.Pipeline.ValueKit

@[expose] public section

set_option maxRecDepth 16384

noncomputable section

namespace Cert.Kernel3Ideal.Hand

open Idealize.ShloMosaic Idealize.ShloMosaic.TcCoe
open Cert.Kernel3Ideal Cert.Kernel3Ideal.Gen

variable (V : (c : Dev nD) → (b : Ref sig .tc) → Buf (Elt Ideal) ((c.tc : Thread nD τ).loc b)) (c : Dev nD)

section bwd

variable (t : Fin cfg1.N)

abbrev bDh : FVec Ideal S256x1024 .f32 := k1_pay4 (iblk1 V c 0 t) (iblk1 V c 2 t) (iblk1 V c 1 t) (iblk1 V c 3 t)

theorem left7 : (outsAt1 V c t.val t.isLt).1 = k1_pay2 (k1_pay7 (iblk1 V c 0 t) (iblk1 V c 2 t) (iblk1 V c 1 t) (iblk1 V c 3 t) (iblk1 V c 4 t) (iblk1 V c 5 t))
    (k1_pay8 (iblk1 V c 4 t)) (iblk1 V c 6 t) := by
  by_cases h : t.val % 64 = 0
  · rw [outsAt1_A V c t h]; dsimp only; frame_out
  · rw [outsAt1_B V c t h]; dsimp only; frame_out

theorem left8_first (h : t.val % 64 = 0) : (outsAt1 V c t.val t.isLt).2
    = k1_pay1 (bDh V c t) (k1_pay6 (iblk1 V c 4 t)) (k1_pay3 (F := Ideal)) := by
  rw [outsAt1_A V c t h]; dsimp only; frame_out
theorem left8_later (h : ¬t.val % 64 = 0) : (outsAt1 V c t.val t.isLt).2
    = k1_pay1 (bDh V c t) (k1_pay6 (iblk1 V c 4 t))
      (outsAt1 V c (t.val - 1) (Nat.lt_of_le_of_lt (Nat.sub_le _ _) t.isLt)).2 := by
  rw [outsAt1_B V c t h]; dsimp only; frame_out

end bwd

theorem left2_first (t : Fin cfg2.N) (h : t.val % 16 = 0) : outsAt2 V c t.val t.isLt = k2_pay2 k2_pay1 (iblk2 V c 0 t) (iblk2 V c 1 t) := by
  rw [outsAt2_A V c t h]; frame_out
theorem left2_later (t : Fin cfg2.N) (h : ¬t.val % 16 = 0) : outsAt2 V c t.val t.isLt
    = k2_pay2 (outsAt2 V c (t.val - 1) (Nat.lt_of_le_of_lt (Nat.sub_le _ _) t.isLt)) (iblk2 V c 0 t) (iblk2 V c 1 t) := by
  rw [outsAt2_B V c t h]; frame_out
theorem left3_first (t : Fin cfg3.N) (h : t.val % 16 = 0) : outsAt3 V c t.val t.isLt = k3_pay2 k3_pay1 (iblk3 V c 0 t) (iblk3 V c 1 t) := by
  rw [outsAt3_A V c t h]; frame_out
theorem left3_later (t : Fin cfg3.N) (h : ¬t.val % 16 = 0) : outsAt3 V c t.val t.isLt
    = k3_pay2 (outsAt3 V c (t.val - 1) (Nat.lt_of_le_of_lt (Nat.sub_le _ _) t.isLt)) (iblk3 V c 0 t) (iblk3 V c 1 t) := by
  rw [outsAt3_B V c t h]; frame_out

end Cert.Kernel3Ideal.Hand

end
-- ==== Proof.MixBwd.lean ====
/- The second call of the products into the mixers: what its two arrays hold at the end. -/
module

public import proofs.«01_k».proof.Proof.MixFwd
public import proofs.«01_k».proof.Proof.MixOuts

@[expose] public section

set_option maxRecDepth 16384

noncomputable section

namespace Cert.Kernel3Ideal.Hand

open Idealize.ShloMosaic Idealize.ShloMosaic.TcCoe
open Cert.Kernel3Ideal Cert.Kernel3Ideal.Gen

theorem index1_0 : ∀ t : Fin cfg1.N, win1_0.index t = ![t.val, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![t.val, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![t.val, 0] := (by decide +kernel : ∀ t : Fin grid1.N, _)
theorem index1_7 : ∀ t : Fin cfg1.N, win1_7.index t = ![t.val, 0] := (by decide +kernel : ∀ t : Fin grid1.N, _)
theorem index1_8 : ∀ t : Fin cfg1.N, win1_8.index t = ![0, 0] := (by decide +kernel : ∀ t : Fin grid1.N, _)

variable (V : (c : Dev nD) → (b : Ref sig .tc) → Buf (Elt Ideal) ((c.tc : Thread nD τ).loc b)) (c : Dev nD)

abbrev vP : FVec Ideal S16384x2560 .bf16 := V c main_v2
abbrev vZ : FVec Ideal S16384x3072 .bf16 := V c main_v3
abbrev vWiT : FVec Ideal S2560x1024 .bf16 := V c main_v5
abbrev vWgT : FVec Ideal S3072x1024 .bf16 := V c main_v6
abbrev vR : FVec Ideal S16384x1024 .f32 := V c main_arg7

/-- The gradient of the normed rows, at a position. -/
def gH (t : Fin 16384) : Ffn.Row :=
  Mix.dIn (fun k => vP V c (ix2 t k)) (fun j k => vWiT V c (ix2 k j)) (fun k => vZ V c (ix2 t k)) (fun j k => vWgT V c (ix2 k j))

def arrDx : Vec Ideal S16384x1024 .f32 := fun i => vR V c i + Ffn.back (rowOf (vX V c) (i 0)) (fun j => gH V c (i 0) j * gain (vG V c) j) (i 1)
def arrDg : Vec Ideal S1x1024 .f32 := fun i => ∑ t, gH V c t (i 1) * Ffn.unit (rowOf (vX V c) t) (i 1)

section points

variable (t : Fin cfg1.N)

theorem lt1 : t.val < 64 := Nat.lt_of_lt_of_eq t.isLt N_1

theorem blk1_0 (a : Fin 256) (k : Fin 2560) : iblk1 V c 0 t (ix2 a k) = V c main_v2 (ix2 (place t.val (lt1 t) a) k) := by
  blk_simp [iblk1]
  refine congrArg _ ?_
  blk_ext [index1_0]
theorem blk1_1 (a : Fin 256) (k : Fin 3072) : iblk1 V c 1 t (ix2 a k) = V c main_v3 (ix2 (place t.val (lt1 t) a) k) := by
  blk_simp [iblk1]
  refine congrArg _ ?_
  blk_ext [index1_1]
theorem blk1_2 (k : Fin 2560) (j : Fin 1024) : iblk1 V c 2 t (ix2 k j) = V c main_v5 (ix2 k j) := by
  blk_simp [iblk1]
  refine congrArg _ ?_
  blk_ext [index1_2]
theorem blk1_3 (k : Fin 3072) (j : Fin 1024) : iblk1 V c 3 t (ix2 k j) = V c main_v6 (ix2 k j) := by
  blk_simp [iblk1]
  refine congrArg _ ?_
  blk_ext [index1_3]
theorem blk1_4 (a : Fin 256) (j : Fin 1024) : iblk1 V c 4 t (ix2 a j) = V c main_arg0 (ix2 (place t.val (lt1 t) a) j) := by
  blk_simp [iblk1]
  refine congrArg _ ?_
  blk_ext [index1_4]
theorem blk1_5 (j : Fin 1024) : iblk1 V c 5 t (ix2 (0 : Fin 1) j) = V c main_arg1 (ix2 (0 : Fin 1) j) := by
  blk_simp [iblk1]
  refine congrArg _ ?_
  blk_ext [index1_5]
theorem blk1_6 (a : Fin 256) (j : Fin 1024) : iblk1 V c 6 t (ix2 a j) = V c main_arg7 (ix2 (place t.val (lt1 t) a) j) := by
  blk_simp [iblk1]
  refine congrArg _ ?_
  blk_ext [index1_6]

theorem row1 (a : Fin 256) : row (e := .f32) (iblk1 V c 4 t) a = rowOf (vX V c) (place t.val (lt1 t) a) := funext fun j => blk1_4 V c t a j
theorem gain1 : gain (iblk1 V c 5 t) = gain (vG V c) := funext fun j => blk1_5 V c t j

theorem bDh_at (a : Fin 256) (j : Fin 1024) : bDh V c t (ix2 a j) = gH V c (place t.val (lt1 t) a) j := by
  refine (dIn_at _ _ _ _ a j).trans ?_
  refine congrArg₂ (· + ·) (Finset.sum_congr rfl fun k _ => ?_) (Finset.sum_congr rfl fun k _ => ?_)
  · exact congrArg₂ (· * ·) (blk1_0 V c t a k) (blk1_2 V c t k j)
  · exact congrArg₂ (· * ·) (blk1_1 V c t a k) (blk1_3 V c t k j)
theorem bDh_row (a : Fin 256) : row (bDh V c t) a = gH V c (place t.val (lt1 t) a) := funext fun j => bDh_at V c t a j

theorem place1_7 (a : Fin 256) (j : Fin 1024) : (win1_7.blk t).view.emb (ix2 a j) = ix2 (place t.val (lt1 t) a) j := by
  blk_ext [index1_7]
theorem place1_8 (j : Fin 1024) : (win1_8.blk t).view.emb (ix2 (0 : Fin 1) j) = ix2 0 j := by
  blk_ext [index1_8]

end points

theorem final1_7 : (dat1 V c).arrAt 7 cfg1.N = arrDx V c := by
  refine (dat1 V c).arrAt_eq_of_covers 7 _ (by decide +kernel) fun t hf y => ?_
  blk_simp
  rw [after1_7, left7]
  obtain ⟨a, j, rfl⟩ := exists_ix2 (A := 256) (B := 1024) y
  refine (dX_at _ _ _ _ _ _ _ a j).trans (Eq.trans ?_ (congrArg (arrDx V c) (place1_7 t a j)).symm)
  rw [row1, gain1, blk1_6]
  exact congrArg (fun D : Ffn.Row => vR V c (ix2 (place t.val (lt1 t) a) j) + Ffn.back (rowOf (vX V c) (place t.val (lt1 t) a)) (fun j => D j * gain (vG V c) j) j) (bDh_row V c t a)

/-- What a point adds. -/
def add8 (t : Fin cfg1.N) (i : S1x1024.Idx) : EReal := ∑ a : Fin 256, gH V c (place t.val (lt1 t) a) (i 1) * Ffn.unit (rowOf (vX V c) (place t.val (lt1 t) a)) (i 1)

theorem sum8 (t : Fin cfg1.N) (ht : t.val + 1 = cfg1.N) (i : S1x1024.Idx) :
    (outsAt1 V c t.val t.isLt).2 i = 0 + ∑ p : Fin cfg1.N, add8 V c p i := by
  refine Pipeline.eq_sum_fin_of_reset_step_apply_last (M := EReal) (fun n h => (outsAt1 V c n h).2) 64 (fun _ => 0) (add8 V c)
    (fun t h i => ?_) (fun t h i => ?_) (Nat.le_of_eq N_1) t ht i
  · obtain ⟨z, j, rfl⟩ := exists_ix2 (A := 1) (B := 1024) i
    obtain rfl : z = 0 := Subsingleton.elim _ _
    refine (congrFun (left8_first V c t h) _).trans ((gain_at _ _ _ _ _ _ j).trans ?_)
    rw [zero1_at]
    simp only [bDh_at, row1]
    rfl
  · obtain ⟨z, j, rfl⟩ := exists_ix2 (A := 1) (B := 1024) i
    obtain rfl : z = 0 := Subsingleton.elim _ _
    refine (congrFun (left8_later V c t h) _).trans ((gain_at _ _ _ _ _ _ j).trans ?_)
    simp only [bDh_at, row1]
    rfl

theorem final1_8 : (dat1 V c).arrAt 8 cfg1.N = arrDg V c := by
  refine (dat1 V c).arrAt_eq_of_covers 8 _ (by decide +kernel) fun t hf y => ?_
  have ht : t.val + 1 = cfg1.N := by
    have h := (flush1_8 t).mp hf
    have h1 := lt1 t
    have h2 : cfg1.N = 64 := N_1
    omega
  blk_simp
  rw [after1_8]
  obtain ⟨z, j, rfl⟩ := exists_ix2 (A := 1) (B := 1024) y
  obtain rfl : z = 0 := Subsingleton.elim _ _
  refine (sum8 V c t ht _).trans (Eq.trans ?_ (congrArg (arrDg V c) (place1_8 t j)).symm)
  rw [zero_add]
  exact Fin.sum_mul_add_fin cfg1.N 256 (fun t => gH V c t j * Ffn.unit (rowOf (vX V c) t) j) (by rw [show cfg1.N = 64 from N_1])

end Cert.Kernel3Ideal.Hand

end
-- ==== Proof.MixTn.lean ====
/- The last two calls of the products into the mixers, the products over all positions: what their arrays hold at the end. -/
module

public import proofs.«01_k».proof.Proof.MixFwd
public import proofs.«01_k».proof.Proof.MixOuts

@[expose] public section

set_option maxRecDepth 16384

noncomputable section

namespace Cert.Kernel3Ideal.Hand

open Idealize.ShloMosaic Idealize.ShloMosaic.TcCoe
open Cert.Kernel3Ideal Cert.Kernel3Ideal.Gen

theorem index2_0 : ∀ t : Fin cfg2.N, win2_0.index t = ![t.val % 16, 0] := (by decide +kernel : ∀ t : Fin grid2.N, _)
theorem index2_1 : ∀ t : Fin cfg2.N, win2_1.index t = ![t.val % 16, t.val / 16] := (by decide +kernel : ∀ t : Fin grid2.N, _)
theorem index2_2 : ∀ t : Fin cfg2.N, win2_2.index t = ![0, t.val / 16] := (by decide +kernel : ∀ t : Fin grid2.N, _)
theorem index3_0 : ∀ t : Fin cfg3.N, win3_0.index t = ![t.val % 16, 0] := (by decide +kernel : ∀ t : Fin grid3.N, _)
theorem index3_1 : ∀ t : Fin cfg3.N, win3_1.index t = ![t.val % 16, t.val / 16] := (by decide +kernel : ∀ t : Fin grid3.N, _)
theorem index3_2 : ∀ t : Fin cfg3.N, win3_2.index t = ![0, t.val / 16] := (by decide +kernel : ∀ t : Fin grid3.N, _)

variable (V : (c : Dev nD) → (b : Ref sig .tc) → Buf (Elt Ideal) ((c.tc : Thread nD τ).loc b)) (c : Dev nD)

/-- Row `a` of the `s`-th block of rows. -/
abbrev tall (s : ℕ) (hs : s < 16) (a : Fin 1024) : Fin 16384 := ⟨s * 1024 + a, by omega⟩
/-- Lane `j` of the `q`-th block of lanes. -/
abbrev lane2 (q : ℕ) (hq : q < 5) (j : Fin 512) : Fin 2560 := ⟨q * 512 + j, by omega⟩
abbrev lane3 (q : ℕ) (hq : q < 3) (j : Fin 1024) : Fin 3072 := ⟨q * 1024 + j, by omega⟩

theorem lt2 (t : Fin cfg2.N) : t.val < 80 := Nat.lt_of_lt_of_eq t.isLt N_2
theorem lt3 (t : Fin cfg3.N) : t.val < 48 := Nat.lt_of_lt_of_eq t.isLt N_3

theorem blk2_0 (t : Fin cfg2.N) (a j : Fin 1024) : iblk2 V c 0 t (ix2 a j) = V c main_v4_0 (ix2 (tall (t.val % 16) (by omega) a) j) := by
  blk_simp [iblk2]
  refine congrArg _ ?_
  blk_ext [index2_0]
theorem blk2_1 (t : Fin cfg2.N) (a : Fin 1024) (j : Fin 512) : iblk2 V c 1 t (ix2 a j) = V c main_v2 (ix2 (tall (t.val % 16) (by omega) a) (lane2 (t.val / 16) (by have := lt2 t; omega) j)) := by
  blk_simp [iblk2]
  refine congrArg _ ?_
  blk_ext [index2_1]

abbrev opA2 : FVec Ideal S16384x1024 .bf16 := V c main_v4_0
abbrev opB2 : FVec Ideal S16384x2560 .bf16 := V c main_v2

/-- The product over all positions. -/
def arrW2 : Vec Ideal S1024x2560 .f32 := fun i => ∑ p : Fin 16384, opA2 V c (ix2 p (i 0)) * opB2 V c (ix2 p (i 1))

/-- What a point adds. -/
def addW2 (t : Fin cfg2.N) (i : S1024x512.Idx) : EReal := ∑ a : Fin 1024, opA2 V c (ix2 (tall (t.val % 16) (by omega) a) (i 0)) * opB2 V c (ix2 (tall (t.val % 16) (by omega) a) (lane2 (t.val / 16) (by have := lt2 t; omega) (i 1)))

theorem sumW2 (t : Fin cfg2.N) (ht : t.val % 16 = 16 - 1) (i : S1024x512.Idx) :
    outsAt2 V c t.val t.isLt i = 0 + ∑ s : Fin 16, addW2 V c ⟨16 * (t.val / 16) + s.val, Pipeline.run_point_lt_of_flush t ht s⟩ i := by
  refine Pipeline.eq_sum_fin_of_reset_step_apply_of_flush (M := EReal) (fun n h => outsAt2 V c n h) 16 (fun _ => 0) (addW2 V c)
    (fun t h i => ?_) (fun t h i => ?_) t ht i
  · obtain ⟨i, j, rfl⟩ := exists_ix2 (A := 1024) (B := 512) i
    refine (congrFun (left2_first V c t h) _).trans ((tn2_at _ _ _ i j).trans ?_)
    rw [zero2_at]
    simp only [blk2_0, blk2_1]
    rfl
  · obtain ⟨i, j, rfl⟩ := exists_ix2 (A := 1024) (B := 512) i
    refine (congrFun (left2_later V c t h) _).trans ((tn2_at _ _ _ i j).trans ?_)
    simp only [blk2_0, blk2_1]
    rfl

theorem place2_2 (t : Fin cfg2.N) (i : Fin 1024) (j : Fin 512) : (win2_2.blk t).view.emb (ix2 i j) = ix2 i (lane2 (t.val / 16) (by have := lt2 t; omega) j) := by
  blk_ext [index2_2]

theorem final2_2 : (dat2 V c).arrAt 2 cfg2.N = arrW2 V c := by
  refine (dat2 V c).arrAt_eq_of_covers 2 _ (by decide +kernel) fun t hf y => ?_
  have ht := (flush2_2 t).mp hf
  blk_simp
  rw [after2_2]
  obtain ⟨i, j, rfl⟩ := exists_ix2 (A := 1024) (B := 512) y
  refine (sumW2 V c t ht _).trans (Eq.trans ?_ (congrArg (arrW2 V c) (place2_2 t i j)).symm)
  rw [zero_add]
  refine Eq.trans ?_ (Fin.sum_mul_add_fin 16 1024 (fun p => opA2 V c (ix2 p i) * opB2 V c (ix2 p (lane2 (t.val / 16) (by have := lt2 t; omega) j))))
  refine Finset.sum_congr rfl fun s _ => Finset.sum_congr rfl fun a _ => ?_
  have e1 : (16 * (t.val / 16) + s.val) % 16 = s.val := by omega
  have e2 : (16 * (t.val / 16) + s.val) / 16 = t.val / 16 := by omega
  simp only [e1, e2]
  rfl

theorem blk3_0 (t : Fin cfg3.N) (a j : Fin 1024) : iblk3 V c 0 t (ix2 a j) = V c main_v4_0 (ix2 (tall (t.val % 16) (by omega) a) j) := by
  blk_simp [iblk3]
  refine congrArg _ ?_
  blk_ext [index3_0]
theorem blk3_1 (t : Fin cfg3.N) (a : Fin 1024) (j : Fin 1024) : iblk3 V c 1 t (ix2 a j) = V c main_v3 (ix2 (tall (t.val % 16) (by omega) a) (lane3 (t.val / 16) (by have := lt3 t; omega) j)) := by
  blk_simp [iblk3]
  refine congrArg _ ?_
  blk_ext [index3_1]

abbrev opA3 : FVec Ideal S16384x1024 .bf16 := V c main_v4_0
abbrev opB3 : FVec Ideal S16384x3072 .bf16 := V c main_v3

/-- The product over all positions. -/
def arrW3 : Vec Ideal S1024x3072 .f32 := fun i => ∑ p : Fin 16384, opA3 V c (ix2 p (i 0)) * opB3 V c (ix2 p (i 1))

/-- What a point adds. -/
def addW3 (t : Fin cfg3.N) (i : S1024x1024.Idx) : EReal := ∑ a : Fin 1024, opA3 V c (ix2 (tall (t.val % 16) (by omega) a) (i 0)) * opB3 V c (ix2 (tall (t.val % 16) (by omega) a) (lane3 (t.val / 16) (by have := lt3 t; omega) (i 1)))

theorem sumW3 (t : Fin cfg3.N) (ht : t.val % 16 = 16 - 1) (i : S1024x1024.Idx) :
    outsAt3 V c t.val t.isLt i = 0 + ∑ s : Fin 16, addW3 V c ⟨16 * (t.val / 16) + s.val, Pipeline.run_point_lt_of_flush t ht s⟩ i := by
  refine Pipeline.eq_sum_fin_of_reset_step_apply_of_flush (M := EReal) (fun n h => outsAt3 V c n h) 16 (fun _ => 0) (addW3 V c)
    (fun t h i => ?_) (fun t h i => ?_) t ht i
  · obtain ⟨i, j, rfl⟩ := exists_ix2 (A := 1024) (B := 1024) i
    refine (congrFun (left3_first V c t h) _).trans ((tn3_at _ _ _ i j).trans ?_)
    rw [zero3_at]
    simp only [blk3_0, blk3_1]
    rfl
  · obtain ⟨i, j, rfl⟩ := exists_ix2 (A := 1024) (B := 1024) i
    refine (congrFun (left3_later V c t h) _).trans ((tn3_at _ _ _ i j).trans ?_)
    simp only [blk3_0, blk3_1]
    rfl

theorem place3_2 (t : Fin cfg3.N) (i : Fin 1024) (j : Fin 1024) : (win3_2.blk t).view.emb (ix2 i j) = ix2 i (lane3 (t.val / 16) (by have := lt3 t; omega) j) := by
  blk_ext [index3_2]

theorem final3_2 : (dat3 V c).arrAt 2 cfg3.N = arrW3 V c := by
  refine (dat3 V c).arrAt_eq_of_covers 2 _ (by decide +kernel) fun t hf y => ?_
  have ht := (flush3_2 t).mp hf
  blk_simp
  rw [after3_2]
  obtain ⟨i, j, rfl⟩ := exists_ix2 (A := 1024) (B := 1024) y
  refine (sumW3 V c t ht _).trans (Eq.trans ?_ (congrArg (arrW3 V c) (place3_2 t i j)).symm)
  rw [zero_add]
  refine Eq.trans ?_ (Fin.sum_mul_add_fin 16 1024 (fun p => opA3 V c (ix2 p i) * opB3 V c (ix2 p (lane3 (t.val / 16) (by have := lt3 t; omega) j))))
  refine Finset.sum_congr rfl fun s _ => Finset.sum_congr rfl fun a _ => ?_
  have e1 : (16 * (t.val / 16) + s.val) % 16 = s.val := by omega
  have e2 : (16 * (t.val / 16) + s.val) / 16 = t.val / 16 := by omega
  simp only [e1, e2]
  rfl

end Cert.Kernel3Ideal.Hand

end
-- ==== Proof.MixRef.lean ====
/- The reference of the products into the mixers: its results at an index. -/
module

public import proofs.«01_k».proof.Proof.Gen.Reference3Ideal.Run
public import proofs.«01_k».proof.Proof.Mix

@[expose] public section

set_option maxRecDepth 16384

noncomputable section

namespace Cert.Reference3Ideal.Hand

open Idealize.ShloMosaic Idealize.ShloMosaic.TcCoe
open Cert.Reference3Ideal Cert.Reference3Ideal.Gen

abbrev Rows := FVec Ideal S16384x1024 .f32
abbrev Col := FVec Ideal S16384x1 .f32
abbrev Gain := FVec Ideal S1x1024 .f32
abbrev Prod := FVec Ideal S16384x2560 .f32
abbrev Gate := FVec Ideal S16384x3072 .f32
abbrev WIn := FVec Ideal S1024x2560 .f32
abbrev WGate := FVec Ideal S1024x3072 .f32
abbrev Bias := FVec Ideal S1x3072 .f32

def sums (x : Rows) : FVec Ideal S16384 .f32 :=
  Host.reduceAdd x (constant (F := Ideal) S_ .f32 0x00000000#32) reducesTo_S16384x1024_S16384_d1 h_S_
def col (b : BitVec 32) : Col := broadcastInDim S16384x1 ![] bcast_S_S16384x1 (constant (F := Ideal) S_ .f32 b)
def full (b : BitVec 32) : Gate := broadcastInDim S16384x3072 ![] bcast_S_S16384x3072 (constant (F := Ideal) S_ .f32 b)
def wide (c : Col) : Rows := broadcastInDim S16384x1024 ![0, 1] bcast_S16384x1_S16384x1024_0_1 c
def scale (g : Gain) : Rows := broadcastInDim S16384x1024 ![0, 1] bcast_S1x1024_S16384x1024_0_1 g

def vars (x : Rows) : Col :=
  addf (Host.divf (broadcastInDim S16384x1 ![0] bcast_S16384_S16384x1_0 (sums (mulf x x))) (col 0x44800000#32)) (col 0x358637BD#32)
def invs (x : Rows) : Col := Host.rsqrt (vars x)
def units (x : Rows) : Rows := mulf x (wide (invs x))
def norms (x : Rows) (g : Gain) : Rows := mulf (units x) (scale g)
def corrs (x d : Rows) : Rows :=
  broadcastInDim S16384x1024 ![0] bcast_S16384_S16384x1024_0
    (Host.reduceAdd
      (Host.divf (mulf (shapeCast S16384x1 (sums (mulf x d)) shapeCasts_S16384_S16384x1)
        (mulf (col 0xBF000000#32) (Host.divf (invs x) (vars x)))) (col 0x44800000#32))
      (constant (F := Ideal) S_ .f32 0x00000000#32) reducesTo_S16384x1_S16384_d1 h_S_)
def gains (x : Rows) : Gain :=
  shapeCast S1x1024 (Host.reduceAdd x (constant (F := Ideal) S_ .f32 0x00000000#32) reducesTo_S16384x1024_S1024_d0 h_S_) shapeCasts_S1024_S1x1024

def prods (h : Rows) (w : WIn) : Prod := Host.dotGeneral dot_S16384x1024_S1024x2560_S16384x2560_1_0_0_1_n_n none h w
def gates (h : Rows) (w : WGate) (b : Bias) : Gate :=
  Host.divf (full 0x3F800000#32) (addf (full 0x3F800000#32) (Host.exp (Host.negf
    (addf (Host.dotGeneral dot_S16384x1024_S1024x3072_S16384x3072_1_0_0_1_n_n none h w)
      (broadcastInDim S16384x3072 ![0, 1] bcast_S1x3072_S16384x3072_0_1 b)))))
def dIns (p : Prod) (wi : WIn) (z : Gate) (wg : WGate) : Rows :=
  addf (Host.dotGeneral dot_S16384x3072_S1024x3072_S16384x1024_1_1_0_0_n_n none z wg)
    (Host.dotGeneral dot_S16384x2560_S1024x2560_S16384x1024_1_1_0_0_n_n none p wi)
def dXs (x y e : Rows) (g : Gain) : Rows :=
  addf (addf (addf y (mulf (mulf e (scale g)) (wide (invs x)))) (mulf x (corrs x (mulf e (scale g)))))
    (mulf (corrs x (mulf e (scale g))) x)
def dIn (p : Prod) (h : Rows) : WIn :=
  transpose S1024x2560 [1, 0] (Host.dotGeneral dot_S16384x2560_S16384x1024_S2560x1024_0_0_1_1_n_n none p h) transposes_S2560x1024_S1024x2560_1_0
def dGate (z : Gate) (h : Rows) : WGate :=
  transpose S1024x3072 [1, 0] (Host.dotGeneral dot_S16384x3072_S16384x1024_S3072x1024_0_0_1_1_n_n none z h) transposes_S3072x1024_S1024x3072_1_0

section chain

variable (m : (ℓ : Loc nD τ sig) → Buf (Elt Ideal) ℓ) (c : Dev nD)

abbrev aX : Rows := m ((c.tc : Thread nD τ).loc main_arg0)
abbrev aG : Gain := m ((c.tc : Thread nD τ).loc main_arg1)
abbrev aWi : WIn := m ((c.tc : Thread nD τ).loc main_arg2)
abbrev aWg : WGate := m ((c.tc : Thread nD τ).loc main_arg3)
abbrev aB : Bias := m ((c.tc : Thread nD τ).loc main_arg4)
abbrev aP : Prod := m ((c.tc : Thread nD τ).loc main_arg5)
abbrev aZ : Gate := m ((c.tc : Thread nD τ).loc main_arg6)
abbrev aR : Rows := m ((c.tc : Thread nD τ).loc main_arg7)

def vH : Rows := norms (aX m c) (aG m c)
def vP : Prod := prods (vH m c) (aWi m c)
def vDh : Rows := dIns (aP m c) (aWi m c) (aZ m c) (aWg m c)

theorem res58 : Value.res_main_v58 m c = dXs (aX m c) (aR m c) (vDh m c) (aG m c) := rfl

end chain

section reads

variable (x y d e h : Rows) (g : Gain) (wi : WIn) (wg : WGate) (b : Bias) (p : Prod) (z : Gate) (t : Fin 16384) (j : Fin 1024)

abbrev row (x : Rows) (t : Fin 16384) : Ffn.Row := fun j => x (ix2 t j)
abbrev gain (g : Gain) : Ffn.Row := fun j => g (ix2 0 j)
abbrev wIn (w : WIn) : Fin 1024 → Fin 2560 → EReal := fun j k => w (ix2 j k)
abbrev wGate (w : WGate) : Fin 1024 → Fin 3072 → EReal := fun j k => w (ix2 j k)

theorem vars_at : vars x (ix2 t 0) = Ffn.var (row x t) := by pointwise [vars, col, sums]; rfl
theorem invs_at : invs x (ix2 t 0) = Ffn.inv (row x t) := by
  unfold Ffn.inv; rw [← vars_at]; rfl
theorem wide_at (c : Col) : wide c (ix2 t j) = c (ix2 t 0) := by pointwise [wide]
theorem scale_at : scale g (ix2 t j) = gain g j := by pointwise [scale]
theorem units_at : units x (ix2 t j) = Ffn.unit (row x t) j := by
  unfold Ffn.unit; rw [← invs_at, ← wide_at t j (invs x)]; rfl
theorem norms_at : norms x g (ix2 t j) = Ffn.norm (row x t) (gain g) j := by
  show units x (ix2 t j) * scale g (ix2 t j) = _
  rw [units_at, scale_at]; rfl
theorem sums_at : sums x (ix1 t) = ∑ j, row x t j := by pointwise [sums]
theorem corrs_at : corrs x d (ix2 t j) = Ffn.corr (row x t) (row d t) := by
  unfold Ffn.corr; rw [← vars_at, ← invs_at]
  pointwise [corrs, col, sums]
  exact Fintype.sum_unique _
theorem gains_at : gains x (ix2 0 j) = ∑ t : Fin 16384, x (ix2 t j) := by pointwise [gains]
theorem prods_at (k : Fin 2560) : prods h wi (ix2 t k) = Mix.proj (row h t) (wIn wi) k := by
  unfold Mix.proj; pointwise [prods]
theorem gates_at (k : Fin 3072) : gates h wg b (ix2 t k) = Mix.gate (Mix.proj (row h t) (wGate wg) k + b (ix2 0 k)) := by
  unfold Mix.gate Mix.proj
  pointwise [gates, full]
theorem dIns_at : dIns p wi z wg (ix2 t j) = Mix.dIn (fun k => p (ix2 t k)) (wIn wi) (fun k => z (ix2 t k)) (wGate wg) j := by
  unfold Mix.dIn
  rw [add_comm]
  pointwise [dIns]
theorem dXs_at : dXs x y e g (ix2 t j) = y (ix2 t j) + Ffn.back (row x t) (fun j => row e t j * gain g j) j := by
  rw [← Ffn.back_eq]
  show ((y (ix2 t j) + (e (ix2 t j) * scale g (ix2 t j)) * wide (invs x) (ix2 t j)) + x (ix2 t j) * corrs x _ (ix2 t j)) + corrs x _ (ix2 t j) * x (ix2 t j) = _
  have e' : row (mulf e (scale g)) t = fun j => row e t j * gain g j := funext fun j => by
    show e (ix2 t j) * scale g (ix2 t j) = _
    rw [scale_at]
  rw [corrs_at, e', scale_at, wide_at, invs_at]
  simp only [add_assoc]
theorem dIn_at (k : Fin 2560) : dIn p h (ix2 j k) = ∑ t, p (ix2 t k) * h (ix2 t j) := by pointwise [dIn]
theorem dGate_at (k : Fin 3072) : dGate z h (ix2 j k) = ∑ t, z (ix2 t k) * h (ix2 t j) := by pointwise [dGate]

end reads

end Cert.Reference3Ideal.Hand

end
-- ==== Proof.MixValue.lean ====
/- Both runs end with the products into the mixers, the gates and the gradients. -/
module

public import proofs.«01_k».proof.Defs
public import proofs.«01_k».proof.Proof.MixRun
public import proofs.«01_k».proof.Proof.MixBwd
public import proofs.«01_k».proof.Proof.MixTn
public import proofs.«01_k».proof.Proof.MixRef

@[expose] public section

set_option maxRecDepth 16384

noncomputable section

namespace Cert.Kernel3Ideal.Hand

open Idealize.ShloMosaic Idealize.ShloMosaic.TcCoe
open Cert.Kernel3Ideal Cert.Kernel3Ideal.Gen
open StableHlo (after)

section host
variable (W : Valuation τ sig (Elt Ideal))
theorem cast_wi : after hostOps0 W main_v0 = (truncf .bf16 (W main_arg2 : FVec Ideal S1024x2560 .f32) bitsLt_bf16_f32 : FVec Ideal S1024x2560 .bf16) := by after_results
theorem cast_wg : after hostOps0 W main_v1 = (truncf .bf16 (W main_arg3 : FVec Ideal S1024x3072 .f32) bitsLt_bf16_f32 : FVec Ideal S1024x3072 .bf16) := by after_results
theorem cast_p : after hostOps0 W main_v2 = (truncf .bf16 (W main_arg5 : FVec Ideal S16384x2560 .f32) bitsLt_bf16_f32 : FVec Ideal S16384x2560 .bf16) := by after_results
theorem cast_z : after hostOps0 W main_v3 = (truncf .bf16 (W main_arg6 : FVec Ideal S16384x3072 .f32) bitsLt_bf16_f32 : FVec Ideal S16384x3072 .bf16) := by after_results
theorem turn_wi (k : Fin 2560) (j : Fin 1024) : (after hostOps1 W main_v5 : FVec Ideal S2560x1024 .bf16) (ix2 k j) = (W main_v0 : FVec Ideal S1024x2560 .bf16) (ix2 j k) := by
  have e : after hostOps1 W main_v5 = transpose S2560x1024 [1, 0] (W main_v0 : FVec Ideal S1024x2560 .bf16) transposes_S1024x2560_S2560x1024_1_0 := by after_results
  rw [e]
  pointwise
theorem turn_wg (k : Fin 3072) (j : Fin 1024) : (after hostOps1 W main_v6 : FVec Ideal S3072x1024 .bf16) (ix2 k j) = (W main_v1 : FVec Ideal S1024x3072 .bf16) (ix2 j k) := by
  have e : after hostOps1 W main_v6 = transpose S3072x1024 [1, 0] (W main_v1 : FVec Ideal S1024x3072 .bf16) transposes_S1024x3072_S3072x1024_1_0 := by after_results
  rw [e]
  pointwise
theorem wide_q : after hostOps2 W main_v8 = (extf .f32 (W main_v4_2 : FVec Ideal S16384x512 .bf16) bitsLt_bf16_f32 : FVec Ideal S16384x512 .f32) := by after_results
theorem wide_k : after hostOps2 W main_v9 = (extf .f32 (W main_v4_3 : FVec Ideal S16384x512 .bf16) bitsLt_bf16_f32 : FVec Ideal S16384x512 .f32) := by after_results
theorem wide_v : after hostOps2 W main_v10 = (extf .f32 (W main_v4_4 : FVec Ideal S16384x512 .bf16) bitsLt_bf16_f32 : FVec Ideal S16384x512 .f32) := by after_results
end host

variable (m : (ℓ : Loc nD τ sig) → Buf (Elt Ideal) ℓ) (ρ : Dev nD → PrngReg) (c : Dev nD)

abbrev aX : FVec Ideal S16384x1024 .f32 := m ((c.tc : Thread nD τ).loc main_arg0)
abbrev aG : FVec Ideal S1x1024 .f32 := m ((c.tc : Thread nD τ).loc main_arg1)
abbrev aWi : FVec Ideal S1024x2560 .f32 := m ((c.tc : Thread nD τ).loc main_arg2)
abbrev aWg : FVec Ideal S1024x3072 .f32 := m ((c.tc : Thread nD τ).loc main_arg3)
abbrev aB : FVec Ideal S1x3072 .f32 := m ((c.tc : Thread nD τ).loc main_arg4)
abbrev aP : FVec Ideal S16384x2560 .f32 := m ((c.tc : Thread nD τ).loc main_arg5)
abbrev aZ : FVec Ideal S16384x3072 .f32 := m ((c.tc : Thread nD τ).loc main_arg6)
abbrev aR : FVec Ideal S16384x1024 .f32 := m ((c.tc : Thread nD τ).loc main_arg7)

/-- What the arguments give. -/
abbrev layer : Mix.Layer where
  x t j := aX m c (ix2 t j)
  g j := aG m c (ix2 0 j)
  wi j k := aWi m c (ix2 j k)
  wg j k := aWg m c (ix2 j k)
  b k := aB m c (ix2 0 k)
  p t k := aP m c (ix2 t k)
  z t k := aZ m c (ix2 t k)
  r t j := aR m c (ix2 t j)

theorem x1 : vX (V1 m ρ) c = aX m c := W1_args m ρ c main_arg0 (by decide)
theorem g1 : vG (V1 m ρ) c = aG m c := W1_args m ρ c main_arg1 (by decide)
theorem b1 : vB (V1 m ρ) c = aB m c := W1_args m ρ c main_arg4 (by decide)
theorem wi1 : vWi (V1 m ρ) c = aWi m c := cast_wi (W0 m ρ c)
theorem wg1 : vWg (V1 m ρ) c = aWg m c := cast_wg (W0 m ρ c)
theorem p1 : vP (V1 m ρ) c = aP m c := cast_p (W0 m ρ c)
theorem z1 : vZ (V1 m ρ) c = aZ m c := cast_z (W0 m ρ c)

theorem h1 (t : Fin 16384) : hRow (V1 m ρ) c t = (layer m c).h t := by
  unfold hRow; rw [x1, g1]; rfl
theorem part1 (n o : ℕ) (ho : o + n ≤ 2560) : arrP (V1 m ρ) c .f32 n o ho = (layer m c).part n o ho := by
  unfold arrP; funext i; rw [wi1]
  exact congrArg (fun h : Ffn.Row => Mix.proj h (wIn (aWi m c)) (Mix.slot o ho (i 1))) (h1 m ρ c (i 0))
theorem gates1 : arrZ (V1 m ρ) c = (layer m c).gates := by
  unfold arrZ; funext i; rw [wg1, b1]
  exact congrArg (fun h : Ffn.Row => Mix.gate (Mix.proj h (wGate (aWg m c)) (i 1) + aB m c (ix2 0 (i 1)))) (h1 m ρ c (i 0))

theorem x3 : vX (V3 m ρ) c = aX m c := W3_args m ρ c main_arg0 (by decide)
theorem g3 : vG (V3 m ρ) c = aG m c := W3_args m ρ c main_arg1 (by decide)
theorem r3 : vR (V3 m ρ) c = aR m c := W3_args m ρ c main_arg7 (by decide)
theorem wi2 : W2 m ρ c main_v0 = W1 m ρ c main_v0 := W2_of m ρ c main_v0 (by decide)
theorem wg2 : W2 m ρ c main_v1 = W1 m ρ c main_v1 := W2_of m ρ c main_v1 (by decide)
theorem p2 : W2 m ρ c main_v2 = W1 m ρ c main_v2 := W2_of m ρ c main_v2 (by decide)
theorem z2 : W2 m ρ c main_v3 = W1 m ρ c main_v3 := W2_of m ρ c main_v3 (by decide)
theorem p3 : vP (V3 m ρ) c = aP m c := (W3_of m ρ c main_v2 (by decide)).trans ((p2 m ρ c).trans (p1 m ρ c))
theorem z3 : vZ (V3 m ρ) c = aZ m c := (W3_of m ρ c main_v3 (by decide)).trans ((z2 m ρ c).trans (z1 m ρ c))
theorem wiT3 (k : Fin 2560) (j : Fin 1024) : vWiT (V3 m ρ) c (ix2 k j) = aWi m c (ix2 j k) :=
  (turn_wi (W2 m ρ c) k j).trans (congrFun ((wi2 m ρ c).trans (wi1 m ρ c)) (ix2 j k))
theorem wgT3 (k : Fin 3072) (j : Fin 1024) : vWgT (V3 m ρ) c (ix2 k j) = aWg m c (ix2 j k) :=
  (turn_wg (W2 m ρ c) k j).trans (congrFun ((wg2 m ρ c).trans (wg1 m ρ c)) (ix2 j k))

theorem gH3 (t : Fin 16384) : gH (V3 m ρ) c t = (layer m c).dh t := by
  unfold gH; rw [p3, z3]
  exact (congrArg (fun w => Mix.dIn _ w _ _) (funext fun j => funext fun k => wiT3 m ρ c k j)).trans
    (congrArg (fun w => Mix.dIn _ _ _ w) (funext fun j => funext fun k => wgT3 m ρ c k j))
theorem dx3 : arrDx (V3 m ρ) c = (layer m c).dX := by
  unfold arrDx; funext i
  obtain ⟨t, j, rfl⟩ := exists_ix2 (A := 16384) (B := 1024) i
  rw [r3, x3, g3]
  exact congrArg (fun D : Ffn.Row => aR m c (ix2 t j) + Ffn.back (rowOf (aX m c) t) (fun j => D j * gain (aG m c) j) j) (gH3 m ρ c t)
theorem dg3 : arrDg (V3 m ρ) c = (layer m c).dG := by
  unfold arrDg; funext i; rw [x3]
  obtain ⟨z, j, rfl⟩ := exists_ix2 (A := 1) (B := 1024) i
  exact Finset.sum_congr rfl fun t _ => congrArg (fun D : Ffn.Row => D j * Ffn.unit (rowOf (aX m c) t) j) (gH3 m ρ c t)

theorem h2 : W2 m ρ c main_v4_0 = arrH (V1 m ρ) c := (W2_arr m ρ c 5).trans (final0_5 (V1 m ρ) c)
theorem h5 : opA2 (V5 m ρ) c = arrH (V1 m ρ) c := (W5_of m ρ c main_v4_0 (by decide)).trans ((W4_of m ρ c main_v4_0 (by decide)).trans
  ((W3_of m ρ c main_v4_0 (by decide)).trans (h2 m ρ c)))
theorem p5 : opB2 (V5 m ρ) c = aP m c := (W5_of m ρ c main_v2 (by decide)).trans ((W4_of m ρ c main_v2 (by decide)).trans (p3 m ρ c))
theorem h6 : opA3 (V6 m ρ) c = arrH (V1 m ρ) c := (W6_of m ρ c main_v4_0 (by decide)).trans (h5 m ρ c)
theorem z6 : opB3 (V6 m ρ) c = aZ m c := (W6_of m ρ c main_v3 (by decide)).trans ((W5_of m ρ c main_v3 (by decide)).trans
  ((W4_of m ρ c main_v3 (by decide)).trans (z3 m ρ c)))
theorem dWi5 : arrW2 (V5 m ρ) c = (layer m c).dWi := by
  unfold arrW2; funext i; rw [h5, p5]
  exact Finset.sum_congr rfl fun t _ => congrArg₂ (· * ·) (congrFun (h1 m ρ c t) (i 0)) rfl
theorem dWg6 : arrW3 (V6 m ρ) c = (layer m c).dWg := by
  unfold arrW3; funext i; rw [h6, z6]
  exact Finset.sum_congr rfl fun t _ => congrArg₂ (· * ·) (congrFun (h1 m ρ c t) (i 0)) rfl

theorem end_u : W7 m ρ c main_v4_1 = (layer m c).part 256 0 (by omega) :=
  (W7_of m ρ c main_v4_1 (by decide)).trans ((W6_of m ρ c main_v4_1 (by decide)).trans ((W5_of m ρ c main_v4_1 (by decide)).trans ((W4_of m ρ c main_v4_1 (by decide)).trans ((W3_of m ρ c main_v4_1 (by decide)).trans ((W2_arr m ρ c 6).trans ((final0_6 (V1 m ρ) c).trans (part1 m ρ c 256 0 (by omega))))))))
theorem mid_q : W4 m ρ c main_v4_2 = arrP (V1 m ρ) c .bf16 512 256 (by omega) :=
  (W4_of m ρ c main_v4_2 (by decide)).trans ((W3_of m ρ c main_v4_2 (by decide)).trans ((W2_arr m ρ c 7).trans (final0_7 (V1 m ρ) c)))
theorem end_q : W7 m ρ c main_v8 = (layer m c).part 512 256 (by omega) := by
  refine (W7_of m ρ c main_v8 (by decide)).trans ((W6_of m ρ c main_v8 (by decide)).trans ((wide_q (W4 m ρ c)).trans (?_)))
  rw [mid_q]
  exact part1 m ρ c 512 256 (by omega)
theorem mid_k : W4 m ρ c main_v4_3 = arrP (V1 m ρ) c .bf16 512 768 (by omega) :=
  (W4_of m ρ c main_v4_3 (by decide)).trans ((W3_of m ρ c main_v4_3 (by decide)).trans ((W2_arr m ρ c 8).trans (final0_8 (V1 m ρ) c)))
theorem end_k : W7 m ρ c main_v9 = (layer m c).part 512 768 (by omega) := by
  refine (W7_of m ρ c main_v9 (by decide)).trans ((W6_of m ρ c main_v9 (by decide)).trans ((wide_k (W4 m ρ c)).trans (?_)))
  rw [mid_k]
  exact part1 m ρ c 512 768 (by omega)
theorem mid_v : W4 m ρ c main_v4_4 = arrP (V1 m ρ) c .bf16 512 1280 (by omega) :=
  (W4_of m ρ c main_v4_4 (by decide)).trans ((W3_of m ρ c main_v4_4 (by decide)).trans ((W2_arr m ρ c 9).trans (final0_9 (V1 m ρ) c)))
theorem end_v : W7 m ρ c main_v10 = (layer m c).part 512 1280 (by omega) := by
  refine (W7_of m ρ c main_v10 (by decide)).trans ((W6_of m ρ c main_v10 (by decide)).trans ((wide_v (W4 m ρ c)).trans (?_)))
  rw [mid_v]
  exact part1 m ρ c 512 1280 (by omega)
theorem end_cb : W7 m ρ c main_v4_5 = (layer m c).part 256 1792 (by omega) :=
  (W7_of m ρ c main_v4_5 (by decide)).trans ((W6_of m ρ c main_v4_5 (by decide)).trans ((W5_of m ρ c main_v4_5 (by decide)).trans ((W4_of m ρ c main_v4_5 (by decide)).trans ((W3_of m ρ c main_v4_5 (by decide)).trans ((W2_arr m ρ c 10).trans ((final0_10 (V1 m ρ) c).trans (part1 m ρ c 256 1792 (by omega))))))))
theorem end_cc : W7 m ρ c main_v4_6 = (layer m c).part 256 2048 (by omega) :=
  (W7_of m ρ c main_v4_6 (by decide)).trans ((W6_of m ρ c main_v4_6 (by decide)).trans ((W5_of m ρ c main_v4_6 (by decide)).trans ((W4_of m ρ c main_v4_6 (by decide)).trans ((W3_of m ρ c main_v4_6 (by decide)).trans ((W2_arr m ρ c 11).trans ((final0_11 (V1 m ρ) c).trans (part1 m ρ c 256 2048 (by omega))))))))
theorem end_cx : W7 m ρ c main_v4_7 = (layer m c).part 256 2304 (by omega) :=
  (W7_of m ρ c main_v4_7 (by decide)).trans ((W6_of m ρ c main_v4_7 (by decide)).trans ((W5_of m ρ c main_v4_7 (by decide)).trans ((W4_of m ρ c main_v4_7 (by decide)).trans ((W3_of m ρ c main_v4_7 (by decide)).trans ((W2_arr m ρ c 12).trans ((final0_12 (V1 m ρ) c).trans (part1 m ρ c 256 2304 (by omega))))))))
theorem end_gates : W7 m ρ c main_v4_8 = (layer m c).gates :=
  (W7_of m ρ c main_v4_8 (by decide)).trans ((W6_of m ρ c main_v4_8 (by decide)).trans ((W5_of m ρ c main_v4_8 (by decide)).trans ((W4_of m ρ c main_v4_8 (by decide)).trans ((W3_of m ρ c main_v4_8 (by decide)).trans ((W2_arr m ρ c 13).trans ((final0_13 (V1 m ρ) c).trans (gates1 m ρ c)))))))
theorem end_dx : W7 m ρ c main_v7_0 = (layer m c).dX :=
  (W7_of m ρ c main_v7_0 (by decide)).trans ((W6_of m ρ c main_v7_0 (by decide)).trans ((W5_of m ρ c main_v7_0 (by decide)).trans ((W4_arr m ρ c 7).trans ((final1_7 (V3 m ρ) c).trans (dx3 m ρ c)))))
theorem end_dg : W7 m ρ c main_v7_1 = (layer m c).dG :=
  (W7_of m ρ c main_v7_1 (by decide)).trans ((W6_of m ρ c main_v7_1 (by decide)).trans ((W5_of m ρ c main_v7_1 (by decide)).trans ((W4_arr m ρ c 8).trans ((final1_8 (V3 m ρ) c).trans (dg3 m ρ c)))))
theorem end_dwi : W7 m ρ c main_v11 = (layer m c).dWi :=
  (W7_of m ρ c main_v11 (by decide)).trans ((W6_arr m ρ c 2).trans ((final2_2 (V5 m ρ) c).trans (dWi5 m ρ c)))
theorem end_dwg : W7 m ρ c main_v12 = (layer m c).dWg :=
  (W7_arr m ρ c 2).trans ((final3_2 (V6 m ρ) c).trans (dWg6 m ρ c))

end Cert.Kernel3Ideal.Hand

namespace Cert.Reference3Ideal.Hand

open Idealize.ShloMosaic Idealize.ShloMosaic.TcCoe
open Cert.Reference3Ideal Cert.Reference3Ideal.Gen
open Cert.Kernel3Ideal.Hand (exists_ix2)

variable (m : (ℓ : Loc nD τ sig) → Buf (Elt Ideal) ℓ) (c : Dev nD)

/-- What the arguments give. -/
abbrev layer : Mix.Layer where
  x t j := aX m c (ix2 t j)
  g j := aG m c (ix2 0 j)
  wi j k := aWi m c (ix2 j k)
  wg j k := aWg m c (ix2 j k)
  b k := aB m c (ix2 0 k)
  p t k := aP m c (ix2 t k)
  z t k := aZ m c (ix2 t k)
  r t j := aR m c (ix2 t j)

theorem rowH (t : Fin 16384) : row (vH m c) t = (layer m c).h t := funext fun j => norms_at _ _ t j
theorem rowDh (t : Fin 16384) : row (vDh m c) t = (layer m c).dh t := funext fun j => dIns_at _ _ _ _ t j
theorem prod_eq (t : Fin 16384) (k : Fin 2560) : vP m c (ix2 t k) = Mix.proj ((layer m c).h t) (layer m c).wi k := by
  refine (prods_at _ _ t k).trans ?_
  rw [rowH]

theorem end_u : extractStridedSlice S16384x256 ![0, 0] (vP m c) slices_S16384x2560_S16384x256_0_0 = (layer m c).part 256 0 (by omega) := by
  funext i
  obtain ⟨t, j, rfl⟩ := exists_ix2 (A := 16384) (B := 256) i
  refine Eq.trans ?_ (prod_eq m c t (Mix.slot 0 (by omega) j))
  pointwise
  exact congrArg (fun k => vP m c (ix2 t k)) (Fin.ext (Nat.zero_add j.val).symm)
theorem end_q : extractStridedSlice S16384x512 ![0, 256] (vP m c) slices_S16384x2560_S16384x512_0_256 = (layer m c).part 512 256 (by omega) := by
  funext i
  obtain ⟨t, j, rfl⟩ := exists_ix2 (A := 16384) (B := 512) i
  refine Eq.trans ?_ (prod_eq m c t (Mix.slot 256 (by omega) j))
  pointwise
theorem end_k : extractStridedSlice S16384x512 ![0, 768] (vP m c) slices_S16384x2560_S16384x512_0_768 = (layer m c).part 512 768 (by omega) := by
  funext i
  obtain ⟨t, j, rfl⟩ := exists_ix2 (A := 16384) (B := 512) i
  refine Eq.trans ?_ (prod_eq m c t (Mix.slot 768 (by omega) j))
  pointwise
theorem end_v : extractStridedSlice S16384x512 ![0, 1280] (vP m c) slices_S16384x2560_S16384x512_0_1280 = (layer m c).part 512 1280 (by omega) := by
  funext i
  obtain ⟨t, j, rfl⟩ := exists_ix2 (A := 16384) (B := 512) i
  refine Eq.trans ?_ (prod_eq m c t (Mix.slot 1280 (by omega) j))
  pointwise
theorem end_cb : extractStridedSlice S16384x256 ![0, 1792] (vP m c) slices_S16384x2560_S16384x256_0_1792 = (layer m c).part 256 1792 (by omega) := by
  funext i
  obtain ⟨t, j, rfl⟩ := exists_ix2 (A := 16384) (B := 256) i
  refine Eq.trans ?_ (prod_eq m c t (Mix.slot 1792 (by omega) j))
  pointwise
theorem end_cc : extractStridedSlice S16384x256 ![0, 2048] (vP m c) slices_S16384x2560_S16384x256_0_2048 = (layer m c).part 256 2048 (by omega) := by
  funext i
  obtain ⟨t, j, rfl⟩ := exists_ix2 (A := 16384) (B := 256) i
  refine Eq.trans ?_ (prod_eq m c t (Mix.slot 2048 (by omega) j))
  pointwise
theorem end_cx : extractStridedSlice S16384x256 ![0, 2304] (vP m c) slices_S16384x2560_S16384x256_0_2304 = (layer m c).part 256 2304 (by omega) := by
  funext i
  obtain ⟨t, j, rfl⟩ := exists_ix2 (A := 16384) (B := 256) i
  refine Eq.trans ?_ (prod_eq m c t (Mix.slot 2304 (by omega) j))
  pointwise
theorem end_gates : gates (vH m c) (aWg m c) (aB m c) = (layer m c).gates := by
  funext i
  obtain ⟨t, k, rfl⟩ := exists_ix2 (A := 16384) (B := 3072) i
  refine (gates_at _ _ _ t k).trans ?_
  rw [rowH]
  rfl
theorem end_dx : Value.res_main_v58 m c = (layer m c).dX := by
  rw [res58]
  funext i
  obtain ⟨t, j, rfl⟩ := exists_ix2 (A := 16384) (B := 1024) i
  refine (dXs_at _ _ _ _ t j).trans ?_
  rw [rowDh]
  rfl
theorem end_dg : gains (mulf (units (aX m c)) (vDh m c)) = (layer m c).dG := by
  funext i
  obtain ⟨z, j, rfl⟩ := exists_ix2 (A := 1) (B := 1024) i
  obtain rfl : z = 0 := Subsingleton.elim _ _
  refine (gains_at _ j).trans (Finset.sum_congr rfl fun t _ => ?_)
  refine (mul_comm (units (aX m c) (ix2 t j)) (vDh m c (ix2 t j))).trans ?_
  rw [units_at]
  exact congrArg (· * _) (congrFun (rowDh m c t) j)
theorem end_dwi : dIn (aP m c) (vH m c) = (layer m c).dWi := by
  funext i
  obtain ⟨j, k, rfl⟩ := exists_ix2 (A := 1024) (B := 2560) i
  refine (dIn_at _ _ j k).trans (Finset.sum_congr rfl fun t _ => (mul_comm _ _).trans ?_)
  exact congrArg (· * _) (congrFun (rowH m c t) j)
theorem end_dwg : dGate (aZ m c) (vH m c) = (layer m c).dWg := by
  funext i
  obtain ⟨j, k, rfl⟩ := exists_ix2 (A := 1024) (B := 3072) i
  refine (dGate_at _ _ j k).trans (Finset.sum_congr rfl fun t _ => (mul_comm _ _).trans ?_)
  exact congrArg (· * _) (congrFun (rowH m c t) j)

end Cert.Reference3Ideal.Hand

namespace Cert.Proof

open Idealize.ShloMosaic Idealize.SL Idealize.SL.Sem
open Cert.Kernel3Ideal.Gen (W7 mem_uc W7_main_arg0 W7_main_arg1 W7_main_arg2 W7_main_arg3 W7_main_arg4 W7_main_arg5 W7_main_arg6 W7_main_arg7)

theorem algebraic₃ : Cert.algebraic_Kernel3Ideal_Reference3Ideal := by
  intro m ρ m' ρ' pre same
  refine ⟨fun c => (Kernel3Ideal.Hand.layer m c).part 256 0 (by omega),
    fun c => (Kernel3Ideal.Hand.layer m c).part 512 256 (by omega),
    fun c => (Kernel3Ideal.Hand.layer m c).part 512 768 (by omega),
    fun c => (Kernel3Ideal.Hand.layer m c).part 512 1280 (by omega),
    fun c => (Kernel3Ideal.Hand.layer m c).part 256 1792 (by omega),
    fun c => (Kernel3Ideal.Hand.layer m c).part 256 2048 (by omega),
    fun c => (Kernel3Ideal.Hand.layer m c).part 256 2304 (by omega),
    fun c => (Kernel3Ideal.Hand.layer m c).gates,
    fun c => (Kernel3Ideal.Hand.layer m c).dX,
    fun c => (Kernel3Ideal.Hand.layer m c).dG,
    fun c => (Kernel3Ideal.Hand.layer m c).dWi,
    fun c => (Kernel3Ideal.Hand.layer m c).dWg, ?_, ?_⟩
  · refine (θ_run _ _ _).mono ?_ (Kernel3Ideal.Hand.ends m ρ)
    intro r h c
    exact ⟨(h c _ (mem_uc Kernel3Ideal.main_v4_1 (by decide))).trans (Kernel3Ideal.Hand.end_u m ρ c),
      (h c _ (mem_uc Kernel3Ideal.main_v8 (by decide))).trans (Kernel3Ideal.Hand.end_q m ρ c),
      (h c _ (mem_uc Kernel3Ideal.main_v9 (by decide))).trans (Kernel3Ideal.Hand.end_k m ρ c),
      (h c _ (mem_uc Kernel3Ideal.main_v10 (by decide))).trans (Kernel3Ideal.Hand.end_v m ρ c),
      (h c _ (mem_uc Kernel3Ideal.main_v4_5 (by decide))).trans (Kernel3Ideal.Hand.end_cb m ρ c),
      (h c _ (mem_uc Kernel3Ideal.main_v4_6 (by decide))).trans (Kernel3Ideal.Hand.end_cc m ρ c),
      (h c _ (mem_uc Kernel3Ideal.main_v4_7 (by decide))).trans (Kernel3Ideal.Hand.end_cx m ρ c),
      (h c _ (mem_uc Kernel3Ideal.main_v4_8 (by decide))).trans (Kernel3Ideal.Hand.end_gates m ρ c),
      (h c _ (mem_uc Kernel3Ideal.main_v7_0 (by decide))).trans (Kernel3Ideal.Hand.end_dx m ρ c),
      (h c _ (mem_uc Kernel3Ideal.main_v7_1 (by decide))).trans (Kernel3Ideal.Hand.end_dg m ρ c),
      (h c _ (mem_uc Kernel3Ideal.main_v11 (by decide))).trans (Kernel3Ideal.Hand.end_dwi m ρ c),
      (h c _ (mem_uc Kernel3Ideal.main_v12 (by decide))).trans (Kernel3Ideal.Hand.end_dwg m ρ c),
      (h c _ (mem_uc Kernel3Ideal.main_arg0 (by decide))).trans (W7_main_arg0 m ρ c),
      (h c _ (mem_uc Kernel3Ideal.main_arg1 (by decide))).trans (W7_main_arg1 m ρ c),
      (h c _ (mem_uc Kernel3Ideal.main_arg2 (by decide))).trans (W7_main_arg2 m ρ c),
      (h c _ (mem_uc Kernel3Ideal.main_arg3 (by decide))).trans (W7_main_arg3 m ρ c),
      (h c _ (mem_uc Kernel3Ideal.main_arg4 (by decide))).trans (W7_main_arg4 m ρ c),
      (h c _ (mem_uc Kernel3Ideal.main_arg5 (by decide))).trans (W7_main_arg5 m ρ c),
      (h c _ (mem_uc Kernel3Ideal.main_arg6 (by decide))).trans (W7_main_arg6 m ρ c),
      (h c _ (mem_uc Kernel3Ideal.main_arg7 (by decide))).trans (W7_main_arg7 m ρ c)⟩
  refine (θ_run _ _ _).mono ?_ (Reference3Ideal.Value.run m' ρ')
  intro r h c
  obtain ⟨s0, s1, s2, s3, s4, s5, s6, s7⟩ := same c
  have eq : Reference3Ideal.Hand.layer m' c = Kernel3Ideal.Hand.layer m c := by
    refine Mix.Layer.mk.injEq .. |>.mpr ⟨?_, ?_, ?_, ?_, ?_, ?_, ?_, ?_⟩
    · exact congrArg (fun (z : FVec Ideal ⟨2, ![16384, 1024]⟩ .f32) t j => z (ix2 t j)) s0
    · exact congrArg (fun (z : FVec Ideal ⟨2, ![1, 1024]⟩ .f32) j => z (ix2 0 j)) s1
    · exact congrArg (fun (z : FVec Ideal ⟨2, ![1024, 2560]⟩ .f32) t j => z (ix2 t j)) s2
    · exact congrArg (fun (z : FVec Ideal ⟨2, ![1024, 3072]⟩ .f32) t j => z (ix2 t j)) s3
    · exact congrArg (fun (z : FVec Ideal ⟨2, ![1, 3072]⟩ .f32) j => z (ix2 0 j)) s4
    · exact congrArg (fun (z : FVec Ideal ⟨2, ![16384, 2560]⟩ .f32) t j => z (ix2 t j)) s5
    · exact congrArg (fun (z : FVec Ideal ⟨2, ![16384, 3072]⟩ .f32) t j => z (ix2 t j)) s6
    · exact congrArg (fun (z : FVec Ideal ⟨2, ![16384, 1024]⟩ .f32) t j => z (ix2 t j)) s7
  obtain ⟨r0, r1, r2, r3, r4, r5, r6, r7, r8, r9, r10, r11, rest⟩ := h c
  exact ⟨r0.trans ((Reference3Ideal.Hand.end_u m' c).trans (congrArg (fun l : Mix.Layer => l.part 256 0 (by omega)) eq)),
    r1.trans ((Reference3Ideal.Hand.end_q m' c).trans (congrArg (fun l : Mix.Layer => l.part 512 256 (by omega)) eq)),
    r2.trans ((Reference3Ideal.Hand.end_k m' c).trans (congrArg (fun l : Mix.Layer => l.part 512 768 (by omega)) eq)),
    r3.trans ((Reference3Ideal.Hand.end_v m' c).trans (congrArg (fun l : Mix.Layer => l.part 512 1280 (by omega)) eq)),
    r4.trans ((Reference3Ideal.Hand.end_cb m' c).trans (congrArg (fun l : Mix.Layer => l.part 256 1792 (by omega)) eq)),
    r5.trans ((Reference3Ideal.Hand.end_cc m' c).trans (congrArg (fun l : Mix.Layer => l.part 256 2048 (by omega)) eq)),
    r6.trans ((Reference3Ideal.Hand.end_cx m' c).trans (congrArg (fun l : Mix.Layer => l.part 256 2304 (by omega)) eq)),
    r7.trans ((Reference3Ideal.Hand.end_gates m' c).trans (congrArg (fun l : Mix.Layer => l.gates) eq)),
    r8.trans ((Reference3Ideal.Hand.end_dx m' c).trans (congrArg (fun l : Mix.Layer => l.dX) eq)),
    r9.trans ((Reference3Ideal.Hand.end_dg m' c).trans (congrArg (fun l : Mix.Layer => l.dG) eq)),
    r10.trans ((Reference3Ideal.Hand.end_dwi m' c).trans (congrArg (fun l : Mix.Layer => l.dWi) eq)),
    r11.trans ((Reference3Ideal.Hand.end_dwg m' c).trans (congrArg (fun l : Mix.Layer => l.dWg) eq)), rest⟩

end Cert.Proof

end
-- ==== Proof.FwdModel.lean ====
/- The trip counts of the forward body's loops, the offsets of its loads in closed form, and what it computes, block by block. -/
module

public import proofs.«01_k».proof.Proof.Gen.Kernel4Ideal.Frame
public import Idealize.ShloMosaic.Lib.VecWindow

@[expose] public section

set_option maxRecDepth 16384

noncomputable section

namespace Cert.Kernel4Ideal.Hand

open Idealize.ShloMosaic Idealize.ShloMosaic.TcCoe Idealize.ShloMosaic.Tactic
open Idealize.SL Idealize.SL.Sem
open Cert.Kernel4Ideal Cert.Kernel4Ideal.Gen

theorem row_lt (i : grid0.Coords) : (i 1).val < 64 := (i 1).isLt

theorem trips_t1 : ∀ i : grid0.Coords, (k0_t1_loop i).trips = (i 1).val % 2 := by decide +kernel
theorem trips_t2 (i : grid0.Coords) : (k0_t2_loop i).trips = 0 := Nat.le_zero.mp (k0_t2_abs i).2.1
theorem trips_t3 : ∀ i : grid0.Coords, (k0_t3_loop i).trips = (i 1).val % 4 / 2 := by decide +kernel
theorem trips_t4 (i : grid0.Coords) : (k0_t4_loop i).trips = 0 := Nat.le_zero.mp (k0_t4_abs i).2.1
theorem trips_t5 : ∀ i : grid0.Coords, (k0_t5_loop i).trips = (i 1).val / 4 := by decide +kernel
theorem trips_t6 (i : grid0.Coords) : (k0_t6_loop i).trips = 0 := Nat.le_zero.mp (k0_t6_abs i).2.1

theorem off1 : ∀ i : grid0.Coords, k0_off1 i = ![0, (i 1).val, 0, 0] := by decide +kernel
theorem off2 : ∀ i : grid0.Coords, k0_off2 i = ![0, (i 1).val, 0, 0] := by decide +kernel
theorem off3 : ∀ i : grid0.Coords, Fin (k0_t1_loop i).trips → k0_off3 i = ![0, (i 1).val - 1, 0, 0] := by decide +kernel
theorem off4 : ∀ i : grid0.Coords, Fin (k0_t1_loop i).trips → k0_off4 i = ![0, (i 1).val - 1, 0, 0] := by decide +kernel
theorem off7_0 : ∀ (i : grid0.Coords) (k), k0_off7 i k 0#32 = ![0, (i 1).val - 1 - ((i 1).val % 2 + 2 * k.val), 0, 0] := by decide +kernel
theorem off7_1 : ∀ (i : grid0.Coords) (k), k0_off7 i k 1#32 = ![0, (i 1).val - 1 - ((i 1).val % 2 + 2 * k.val + 1), 0, 0] := by decide +kernel
theorem off8_0 : ∀ (i : grid0.Coords) (k), k0_off8 i k 0#32 = ![0, (i 1).val - 1 - ((i 1).val % 2 + 2 * k.val), 0, 0] := by decide +kernel
theorem off8_1 : ∀ (i : grid0.Coords) (k), k0_off8 i k 1#32 = ![0, (i 1).val - 1 - ((i 1).val % 2 + 2 * k.val + 1), 0, 0] := by decide +kernel
theorem off11_0 : ∀ (i : grid0.Coords) (k), k0_off11 i k 0#32 = ![0, (i 1).val - 1 - ((i 1).val % 4 + 4 * k.val), 0, 0] := by decide +kernel
theorem off11_1 : ∀ (i : grid0.Coords) (k), k0_off11 i k 1#32 = ![0, (i 1).val - 1 - ((i 1).val % 4 + 4 * k.val + 1), 0, 0] := by decide +kernel
theorem off11_2 : ∀ (i : grid0.Coords) (k), k0_off11 i k 2#32 = ![0, (i 1).val - 1 - ((i 1).val % 4 + 4 * k.val + 2), 0, 0] := by decide +kernel
theorem off11_3 : ∀ (i : grid0.Coords) (k), k0_off11 i k 3#32 = ![0, (i 1).val - 1 - ((i 1).val % 4 + 4 * k.val + 3), 0, 0] := by decide +kernel
theorem off12_0 : ∀ (i : grid0.Coords) (k), k0_off12 i k 0#32 = ![0, (i 1).val - 1 - ((i 1).val % 4 + 4 * k.val), 0, 0] := by decide +kernel
theorem off12_1 : ∀ (i : grid0.Coords) (k), k0_off12 i k 1#32 = ![0, (i 1).val - 1 - ((i 1).val % 4 + 4 * k.val + 1), 0, 0] := by decide +kernel
theorem off12_2 : ∀ (i : grid0.Coords) (k), k0_off12 i k 2#32 = ![0, (i 1).val - 1 - ((i 1).val % 4 + 4 * k.val + 2), 0, 0] := by decide +kernel
theorem off12_3 : ∀ (i : grid0.Coords) (k), k0_off12 i k 3#32 = ![0, (i 1).val - 1 - ((i 1).val % 4 + 4 * k.val + 3), 0, 0] := by decide +kernel

variable {F : FTy → Type} [FloatOps F]

/-- The block `n` of a head's `64` blocks (the last one for a number past them). -/
def offB (n : ℕ) : Fin 4 → ℕ := ![0, min n 63, 0, 0]

theorem offB_inbT (n : ℕ) : ∀ a, offB n a + S1x1x64x256.size a ≤ S1x64x64x256.size a := by
  intro a; fin_cases a <;> simp [offB, S1x1x64x256, S1x64x64x256] <;> omega
theorem offB_inbR (n : ℕ) : ∀ a, offB n a + S1x1x256x64.size a ≤ S1x64x256x64.size a := by
  intro a; fin_cases a <;> simp [offB, S1x1x256x64, S1x64x256x64] <;> omega

theorem offB_eq {n : ℕ} (h : n < 64) : ![0, n, 0, 0] = offB n := by
  unfold offB; rw [Nat.min_eq_left (by omega)]

def blkT {e : EltTy} (x : Vec F S1x64x64x256 e) (n : ℕ) : Vec F S1x1x64x256 e :=
  VecWindow.window x (offB n) S1x1x64x256.size (offB_inbT n)
def blkR {e : EltTy} (x : Vec F S1x64x256x64 e) (n : ℕ) : Vec F S1x1x256x64 e :=
  VecWindow.window x (offB n) S1x1x256x64.size (offB_inbR n)

theorem read_blkT {e : EltTy} (m : Memref sig .tc .vmem S1x64x64x256 e) (f : m.view.ty.Contents (Elt F)) {off : Fin 4 → ℕ}
    (inb : ∀ a, off a + S1x1x64x256.size a ≤ S1x64x64x256.size a) (x : Vec F S1x64x64x256 e) (hf : m.view.read (Elt F) f = x)
    {n : ℕ} (h : off = ![0, n, 0, 0]) (hn : n < 64) :
    m.view.readAt (Elt F) (Rect.unit (s := S1x64x64x256) off S1x1x64x256.size inb).toLoadRect f = blkT x n := by
  rw [View.readAt_unit m.view f inb (h.trans (offB_eq hn)) (offB_inbT n), hf]; rfl

theorem read_blkR {e : EltTy} (m : Memref sig .tc .vmem S1x64x256x64 e) (f : m.view.ty.Contents (Elt F)) {off : Fin 4 → ℕ}
    (inb : ∀ a, off a + S1x1x256x64.size a ≤ S1x64x256x64.size a) (x : Vec F S1x64x256x64 e) (hf : m.view.read (Elt F) f = x)
    {n : ℕ} (h : off = ![0, n, 0, 0]) (hn : n < 64) :
    m.view.readAt (Elt F) (Rect.unit (s := S1x64x256x64) off S1x1x256x64.size inb).toLoadRect f = blkR x n := by
  rw [View.readAt_unit m.view f inb (h.trans (offB_eq hn)) (offB_inbR n), hf]; rfl

/-- What a call reads: the row block's queries (scaled, negated), the constant matrices, and the head's keys and values. -/
structure Inp (F : FTy → Type) [FloatOps F] where
  q : FVec F S256x64 .bf16
  tri : IVec S256x256 1
  incl : FVec F S256x256 .bf16
  kt : Vec F S1x64x64x256 .bf16
  vr : Vec F S1x64x256x64 .bf16

namespace Inp

variable (I : Inp F)

/-- The negated scores of the rows against one block. -/
def nz (n : ℕ) : FVec F S256x256 .f32 :=
  matmul dot_S256x64_S64x256_S256x256_1_0_0_1_n_n none I.q (shapeCast S64x256 (blkT I.kt n) shapeCasts_S1x1x64x256_S64x256)
    (constant S256x256 .f32 0x00000000#32)

/-- `log (1 - beta)` of negated scores. -/
def logOneMinus (x : FVec F S256x256 .f32) : FVec F S256x256 .f32 :=
  subf (minimumf x (broadcast S256x256 (Scalar.ofBits .f32 0x00000000#32)))
    (log (addf (broadcast S256x256 (Scalar.ofBits .f32 0x3F800000#32))
      (exp (subf (broadcast S256x256 (Scalar.ofBits .f32 0x00000000#32)) (absf x)))))

def b (n : ℕ) : FVec F S256x256 .f32 := logOneMinus (I.nz n)

/-- The attention weights from the later blocks' sums, the scores and `log (1 - beta)`. -/
def weights (r : FVec F S256x1 .f32) (x y : FVec F S256x256 .f32) : FVec F S256x256 .f32 :=
  exp (subf (addf (broadcastTo S256x256 r broadcasts_S256x1_S256x256)
    (matmul dot_S256x256_S256x256_S256x256_1_0_0_1_n_n none (truncf .bf16 y bitsLt_bf16_f32) I.incl (constant S256x256 .f32 0x00000000#32))) x)

/-- The sums of the rows of a block. -/
def rowsum (x : FVec F S256x256 .f32) : FVec F S256x1 .f32 :=
  shapeCast S256x1 (multiReduction .add [1] S256 x 0x00000000#32 reduces_S256x256_S256 (.inl rfl) rfl) shapeCasts_S256_S256x1

/-- One block's term of the result, added. -/
def addO (w : FVec F S256x256 .f32) (n : ℕ) (x : FVec F S256x64 .f32) : FVec F S256x64 .f32 :=
  addf x (matmul dot_S256x256_S256x64_S256x64_1_0_0_1_n_n none (truncf .bf16 w bitsLt_bf16_f32)
    (shapeCast S256x64 (blkR I.vr n) shapeCasts_S1x1x256x64_S256x64) (constant S256x64 .f32 0x00000000#32))

variable (i : ℕ)

/-! The block on the diagonal, under its mask. -/

def bD : FVec F S256x256 .f32 := select I.tri (I.b i) (broadcast S256x256 (Scalar.ofBits .f32 0x00000000#32))
def wD : FVec F S256x256 .f32 :=
  select I.tri (I.weights (broadcast S256x1 (Scalar.ofBits .f32 0x00000000#32)) (I.nz i) (I.bD i)) (broadcast S256x256 (Scalar.ofBits .f32 0x00000000#32))

/-! The diagonal block and the `m` blocks before it. -/

def r : ℕ → FVec F S256x1 .f32
  | 0 => addf (broadcast S256x1 (Scalar.ofBits .f32 0x00000000#32)) (rowsum (I.bD i))
  | m + 1 => addf (r m) (rowsum (I.b (i - 1 - m)))

def w (m : ℕ) : FVec F S256x256 .f32 := I.weights (I.r i m) (I.nz (i - 1 - m)) (I.b (i - 1 - m))

def acc : ℕ → FVec F S256x64 .f32
  | 0 => I.addO (I.wD i) i (broadcast S256x64 (Scalar.ofBits .f32 0x00000000#32))
  | m + 1 => I.addO (I.w i m) (i - 1 - m) (acc m)

/-- What the body leaves: the row block's result. -/
def outO : Vec F S1x256x64 .f32 := shapeCast S1x256x64 (I.acc i i) shapeCasts_S256x64_S1x256x64
end Inp

end Cert.Kernel4Ideal.Hand

end
-- ==== Proof.FwdRounds.lean ====
/- What the loops of the forward body carry. -/
module

public import proofs.«01_k».proof.Proof.FwdModel
public import Idealize.ShloMosaic.Lib.Tactic.Stretches

@[expose] public section

set_option maxRecDepth 16384

noncomputable section

namespace Cert.Kernel4Ideal.Hand

open Idealize.ShloMosaic Idealize.ShloMosaic.TcCoe Idealize.ShloMosaic.Tactic
open Idealize.SL Idealize.SL.Sem
open Cert.Kernel4Ideal Cert.Kernel4Ideal.Gen

variable {F : FTy → Type} [FloatOps F]

abbrev Carried (F : FTy → Type) := FVec F S256x1 .f32 × FVec F S256x64 .f32 × FVec F S256x128 .f32

section

variable (I : Inp F) (𝒱 : Variants) (c : Dev nD) (bd : Option 𝒱.V) (i : grid0.Coords) (arg2 : Memref sig .tc .vmem S1x256x64 .bf16) (harg2 : arg2.IsWhole) (arg3 : Memref sig .tc .vmem S1x64x64x256 .bf16) (harg3 : arg3.IsWhole) (arg4 : Memref sig .tc .vmem S1x64x256x64 .bf16) (harg4 : arg4.IsWhole) (arg5 : Memref sig .tc .vmem S1x256x64 .f32) (harg5 : arg5.IsWhole) (arg6 : Memref sig .tc .vmem S1x256x128 .f32) (harg6 : arg6.IsWhole) (arg1 : BitVec 32) (v9 : IVec S256x128 32) (v10 : FVec F S256x1 .f32) (v11 : FVec F S256x64 .f32) (v12 : FVec F S256x128 .f32) (v31 : FVec F S256x1 .f32) (v40 : FVec F S256x256 .bf16)

set_option maxHeartbeats 4000000 in
theorem trip1 (k : Fin (k0_t1_loop i).trips) (acc : Carried F) (h1 : acc.1 = I.r (i 1).val (k.val)) (h2 : acc.2.1 = I.acc (i 1).val (k.val)) :
    (tripR_k0_t1 𝒱 c bd i arg2 harg2 arg3 harg3 arg4 harg4 arg5 harg5 arg6 harg6 arg1 I.q I.incl v9 v10 v11 v12 v31 v40 (harg3.unread I.kt) (harg4.unread I.vr) k acc).1 = I.r (i 1).val (k.val + 1)
    ∧ (tripR_k0_t1 𝒱 c bd i arg2 harg2 arg3 harg3 arg4 harg4 arg5 harg5 arg6 harg6 arg1 I.q I.incl v9 v10 v11 v12 v31 v40 (harg3.unread I.kt) (harg4.unread I.vr) k acc).2.1 = I.acc (i 1).val (k.val + 1) := by
  obtain ⟨r, x, y⟩ := acc
  dsimp only at h1 h2
  subst h1 h2
  have hi := row_lt i
  have hk : k.val = 0 := by have := k.isLt; have := trips_t1 i; omega
  have h3_0 : arg3.view.readAt (Elt F) (Rect.unit (s := S1x64x64x256) (k0_off3 i) S1x1x64x256.size (k0_off3_inb i k)).toLoadRect (harg3.unread I.kt) = blkT I.kt ((i 1).val - 1) :=
    read_blkT arg3 _ _ _ (harg3.read_unread _) (off3 i k) (by omega)
  have h4_0 : arg4.view.readAt (Elt F) (Rect.unit (s := S1x64x256x64) (k0_off4 i) S1x1x256x64.size (k0_off4_inb i k)).toLoadRect (harg4.unread I.vr) = blkR I.vr ((i 1).val - 1) :=
    read_blkR arg4 _ _ _ (harg4.read_unread _) (off4 i k) (by omega)
  delta tripR_k0_t1 trip_k0_t1
  dsimp only
  sl_open_run
  sl_open_pay
  simp only [h3_0, h4_0]
  rw [hk]
  exact ⟨rfl, rfl⟩

theorem state1 (init : Carried F) (h1 : init.1 = I.r (i 1).val (0)) (h2 : init.2.1 = I.acc (i 1).val (0)) (n : ℕ) (hn : n ≤ (k0_t1_loop i).trips) :
    (st_k0_t1 𝒱 c bd i arg2 harg2 arg3 harg3 arg4 harg4 arg5 harg5 arg6 harg6 arg1 I.q I.incl v9 v10 v11 v12 v31 v40 (harg3.unread I.kt) (harg4.unread I.vr) init n).1 = I.r (i 1).val (n)
    ∧ (st_k0_t1 𝒱 c bd i arg2 harg2 arg3 harg3 arg4 harg4 arg5 harg5 arg6 harg6 arg1 I.q I.incl v9 v10 v11 v12 v31 v40 (harg3.unread I.kt) (harg4.unread I.vr) init n).2.1 = I.acc (i 1).val (n) := by
  induction n with
  | zero => exact ⟨h1, h2⟩
  | succ n ih =>
    obtain ⟨e1, e2⟩ := ih (by omega)
    rw [show n + 1 = (⟨n, by omega⟩ : Fin (k0_t1_loop i).trips).val + 1 from rfl, st_k0_t1_succ]
    exact trip1 I 𝒱 c bd i arg2 harg2 arg3 harg3 arg4 harg4 arg5 harg5 arg6 harg6 arg1 v9 v10 v11 v12 v31 v40 ⟨n, by omega⟩ _ e1 e2

end

section

variable (I : Inp F) (𝒱 : Variants) (c : Dev nD) (bd : Option 𝒱.V) (i : grid0.Coords) (arg2 : Memref sig .tc .vmem S1x256x64 .bf16) (harg2 : arg2.IsWhole) (arg3 : Memref sig .tc .vmem S1x64x64x256 .bf16) (harg3 : arg3.IsWhole) (arg4 : Memref sig .tc .vmem S1x64x256x64 .bf16) (harg4 : arg4.IsWhole) (arg5 : Memref sig .tc .vmem S1x256x64 .f32) (harg5 : arg5.IsWhole) (arg6 : Memref sig .tc .vmem S1x256x128 .f32) (harg6 : arg6.IsWhole) (arg1 : BitVec 32) (v9 : IVec S256x128 32) (v60 : BitVec 32) (v77_0 : FVec F S256x1 .f32) (v77_1 : FVec F S256x64 .f32) (v77_2 : FVec F S256x128 .f32) (c2_i32_31 : BitVec 32) (v78 : BitVec 32) (c0_i32_32 : BitVec 32)

set_option maxHeartbeats 4000000 in
theorem trip3 (k : Fin (k0_t3_loop i).trips) (acc : Carried F) (h1 : acc.1 = I.r (i 1).val ((i 1).val % 2 + 2 * k.val)) (h2 : acc.2.1 = I.acc (i 1).val ((i 1).val % 2 + 2 * k.val)) :
    (tripR_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) k acc).1 = I.r (i 1).val ((i 1).val % 2 + 2 * k.val + 2)
    ∧ (tripR_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) k acc).2.1 = I.acc (i 1).val ((i 1).val % 2 + 2 * k.val + 2) := by
  obtain ⟨r, x, y⟩ := acc
  dsimp only at h1 h2
  subst h1 h2
  have hi := row_lt i
  have h3_0 : arg3.view.readAt (Elt F) (Rect.unit (s := S1x64x64x256) (k0_off7 i k 0#32) S1x1x64x256.size (k0_off7_inb i k 0)).toLoadRect (harg3.unread I.kt) = blkT I.kt ((i 1).val - 1 - ((i 1).val % 2 + 2 * k.val)) :=
    read_blkT arg3 _ _ _ (harg3.read_unread _) (off7_0 i k) (by omega)
  have h4_0 : arg4.view.readAt (Elt F) (Rect.unit (s := S1x64x256x64) (k0_off8 i k 0#32) S1x1x256x64.size (k0_off8_inb i k 0)).toLoadRect (harg4.unread I.vr) = blkR I.vr ((i 1).val - 1 - ((i 1).val % 2 + 2 * k.val)) :=
    read_blkR arg4 _ _ _ (harg4.read_unread _) (off8_0 i k) (by omega)
  have h3_1 : arg3.view.readAt (Elt F) (Rect.unit (s := S1x64x64x256) (k0_off7 i k 1#32) S1x1x64x256.size (k0_off7_inb i k 1)).toLoadRect (harg3.unread I.kt) = blkT I.kt ((i 1).val - 1 - ((i 1).val % 2 + 2 * k.val + 1)) :=
    read_blkT arg3 _ _ _ (harg3.read_unread _) (off7_1 i k) (by omega)
  have h4_1 : arg4.view.readAt (Elt F) (Rect.unit (s := S1x64x256x64) (k0_off8 i k 1#32) S1x1x256x64.size (k0_off8_inb i k 1)).toLoadRect (harg4.unread I.vr) = blkR I.vr ((i 1).val - 1 - ((i 1).val % 2 + 2 * k.val + 1)) :=
    read_blkR arg4 _ _ _ (harg4.read_unread _) (off8_1 i k) (by omega)
  delta tripR_k0_t3 trip_k0_t3
  dsimp only
  sl_open_run
  sl_open_pay
  simp only [h3_0, h4_0, h3_1, h4_1]
  exact ⟨rfl, rfl⟩

theorem state3 (init : Carried F) (h1 : init.1 = I.r (i 1).val ((i 1).val % 2)) (h2 : init.2.1 = I.acc (i 1).val ((i 1).val % 2)) (n : ℕ) (hn : n ≤ (k0_t3_loop i).trips) :
    (st_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) init n).1 = I.r (i 1).val ((i 1).val % 2 + 2 * n)
    ∧ (st_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) init n).2.1 = I.acc (i 1).val ((i 1).val % 2 + 2 * n) := by
  induction n with
  | zero => exact ⟨h1, h2⟩
  | succ n ih =>
    obtain ⟨e1, e2⟩ := ih (by omega)
    rw [show n + 1 = (⟨n, by omega⟩ : Fin (k0_t3_loop i).trips).val + 1 from rfl, st_k0_t3_succ]
    exact trip3 I 𝒱 c bd i arg2 harg2 arg3 harg3 arg4 harg4 arg5 harg5 arg6 harg6 arg1 v9 v60 v77_0 v77_1 v77_2 c2_i32_31 v78 c0_i32_32 ⟨n, by omega⟩ _ e1 e2

end

section

variable (I : Inp F) (𝒱 : Variants) (c : Dev nD) (bd : Option 𝒱.V) (i : grid0.Coords) (arg2 : Memref sig .tc .vmem S1x256x64 .bf16) (harg2 : arg2.IsWhole) (arg3 : Memref sig .tc .vmem S1x64x64x256 .bf16) (harg3 : arg3.IsWhole) (arg4 : Memref sig .tc .vmem S1x64x256x64 .bf16) (harg4 : arg4.IsWhole) (arg5 : Memref sig .tc .vmem S1x256x64 .f32) (harg5 : arg5.IsWhole) (arg6 : Memref sig .tc .vmem S1x256x128 .f32) (harg6 : arg6.IsWhole) (arg1 : BitVec 32) (v9 : IVec S256x128 32) (v60 : BitVec 32) (c0_i32_49 : BitVec 32)

set_option maxHeartbeats 4000000 in
theorem trip5 (k : Fin (k0_t5_loop i).trips) (acc : Carried F) (h1 : acc.1 = I.r (i 1).val ((i 1).val % 4 + 4 * k.val)) (h2 : acc.2.1 = I.acc (i 1).val ((i 1).val % 4 + 4 * k.val)) :
    (tripR_k0_t5 𝒱 c bd i arg2 harg2 arg3 harg3 arg4 harg4 arg5 harg5 arg6 harg6 arg1 I.q I.incl v9 v60 c0_i32_49 (harg3.unread I.kt) (harg4.unread I.vr) k acc).1 = I.r (i 1).val ((i 1).val % 4 + 4 * k.val + 4)
    ∧ (tripR_k0_t5 𝒱 c bd i arg2 harg2 arg3 harg3 arg4 harg4 arg5 harg5 arg6 harg6 arg1 I.q I.incl v9 v60 c0_i32_49 (harg3.unread I.kt) (harg4.unread I.vr) k acc).2.1 = I.acc (i 1).val ((i 1).val % 4 + 4 * k.val + 4) := by
  obtain ⟨r, x, y⟩ := acc
  dsimp only at h1 h2
  subst h1 h2
  have hi := row_lt i
  have h3_0 : arg3.view.readAt (Elt F) (Rect.unit (s := S1x64x64x256) (k0_off11 i k 0#32) S1x1x64x256.size (k0_off11_inb i k 0)).toLoadRect (harg3.unread I.kt) = blkT I.kt ((i 1).val - 1 - ((i 1).val % 4 + 4 * k.val)) :=
    read_blkT arg3 _ _ _ (harg3.read_unread _) (off11_0 i k) (by omega)
  have h4_0 : arg4.view.readAt (Elt F) (Rect.unit (s := S1x64x256x64) (k0_off12 i k 0#32) S1x1x256x64.size (k0_off12_inb i k 0)).toLoadRect (harg4.unread I.vr) = blkR I.vr ((i 1).val - 1 - ((i 1).val % 4 + 4 * k.val)) :=
    read_blkR arg4 _ _ _ (harg4.read_unread _) (off12_0 i k) (by omega)
  have h3_1 : arg3.view.readAt (Elt F) (Rect.unit (s := S1x64x64x256) (k0_off11 i k 1#32) S1x1x64x256.size (k0_off11_inb i k 1)).toLoadRect (harg3.unread I.kt) = blkT I.kt ((i 1).val - 1 - ((i 1).val % 4 + 4 * k.val + 1)) :=
    read_blkT arg3 _ _ _ (harg3.read_unread _) (off11_1 i k) (by omega)
  have h4_1 : arg4.view.readAt (Elt F) (Rect.unit (s := S1x64x256x64) (k0_off12 i k 1#32) S1x1x256x64.size (k0_off12_inb i k 1)).toLoadRect (harg4.unread I.vr) = blkR I.vr ((i 1).val - 1 - ((i 1).val % 4 + 4 * k.val + 1)) :=
    read_blkR arg4 _ _ _ (harg4.read_unread _) (off12_1 i k) (by omega)
  have h3_2 : arg3.view.readAt (Elt F) (Rect.unit (s := S1x64x64x256) (k0_off11 i k 2#32) S1x1x64x256.size (k0_off11_inb i k 2)).toLoadRect (harg3.unread I.kt) = blkT I.kt ((i 1).val - 1 - ((i 1).val % 4 + 4 * k.val + 2)) :=
    read_blkT arg3 _ _ _ (harg3.read_unread _) (off11_2 i k) (by omega)
  have h4_2 : arg4.view.readAt (Elt F) (Rect.unit (s := S1x64x256x64) (k0_off12 i k 2#32) S1x1x256x64.size (k0_off12_inb i k 2)).toLoadRect (harg4.unread I.vr) = blkR I.vr ((i 1).val - 1 - ((i 1).val % 4 + 4 * k.val + 2)) :=
    read_blkR arg4 _ _ _ (harg4.read_unread _) (off12_2 i k) (by omega)
  have h3_3 : arg3.view.readAt (Elt F) (Rect.unit (s := S1x64x64x256) (k0_off11 i k 3#32) S1x1x64x256.size (k0_off11_inb i k 3)).toLoadRect (harg3.unread I.kt) = blkT I.kt ((i 1).val - 1 - ((i 1).val % 4 + 4 * k.val + 3)) :=
    read_blkT arg3 _ _ _ (harg3.read_unread _) (off11_3 i k) (by omega)
  have h4_3 : arg4.view.readAt (Elt F) (Rect.unit (s := S1x64x256x64) (k0_off12 i k 3#32) S1x1x256x64.size (k0_off12_inb i k 3)).toLoadRect (harg4.unread I.vr) = blkR I.vr ((i 1).val - 1 - ((i 1).val % 4 + 4 * k.val + 3)) :=
    read_blkR arg4 _ _ _ (harg4.read_unread _) (off12_3 i k) (by omega)
  delta tripR_k0_t5 trip_k0_t5
  dsimp only
  sl_open_run
  sl_open_pay
  simp only [h3_0, h4_0, h3_1, h4_1, h3_2, h4_2, h3_3, h4_3]
  exact ⟨rfl, rfl⟩

theorem state5 (init : Carried F) (h1 : init.1 = I.r (i 1).val ((i 1).val % 4)) (h2 : init.2.1 = I.acc (i 1).val ((i 1).val % 4)) (n : ℕ) (hn : n ≤ (k0_t5_loop i).trips) :
    (st_k0_t5 𝒱 c bd i arg2 harg2 arg3 harg3 arg4 harg4 arg5 harg5 arg6 harg6 arg1 I.q I.incl v9 v60 c0_i32_49 (harg3.unread I.kt) (harg4.unread I.vr) init n).1 = I.r (i 1).val ((i 1).val % 4 + 4 * n)
    ∧ (st_k0_t5 𝒱 c bd i arg2 harg2 arg3 harg3 arg4 harg4 arg5 harg5 arg6 harg6 arg1 I.q I.incl v9 v60 c0_i32_49 (harg3.unread I.kt) (harg4.unread I.vr) init n).2.1 = I.acc (i 1).val ((i 1).val % 4 + 4 * n) := by
  induction n with
  | zero => exact ⟨h1, h2⟩
  | succ n ih =>
    obtain ⟨e1, e2⟩ := ih (by omega)
    rw [show n + 1 = (⟨n, by omega⟩ : Fin (k0_t5_loop i).trips).val + 1 from rfl, st_k0_t5_succ]
    exact trip5 I 𝒱 c bd i arg2 harg2 arg3 harg3 arg4 harg4 arg5 harg5 arg6 harg6 arg1 v9 v60 c0_i32_49 ⟨n, by omega⟩ _ e1 e2

end

end Cert.Kernel4Ideal.Hand

end
-- ==== Proof.FwdOuts.lean ====
/- What the forward body leaves at a grid point. -/
module

public import proofs.«01_k».proof.Proof.FwdRounds

@[expose] public section

set_option maxRecDepth 16384

noncomputable section

namespace Cert.Kernel4Ideal.Hand

open Idealize.ShloMosaic Idealize.ShloMosaic.TcCoe Idealize.ShloMosaic.Tactic
open Idealize.SL Idealize.SL.Sem
open Cert.Kernel4Ideal Cert.Kernel4Ideal.Gen

variable {F : FTy → Type} [FloatOps F]

/-- What a call reads from its blocks. -/
def inpOf (x0 : Vec F S1x256x64 .bf16) (kt : Vec F S1x64x64x256 .bf16) (vr : Vec F S1x64x256x64 .bf16) : Inp F :=
  ⟨k0_pay61 x0, k0_pay62, k0_pay63, kt, vr⟩

theorem done1 {I : Inp F} {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v9 : IVec S256x128 32} {v10 : FVec F S256x1 .f32} {v11 : FVec F S256x64 .f32} {v12 : FVec F S256x128 .f32} {v31 : FVec F S256x1 .f32} {v40 : FVec F S256x256 .bf16} {init : Carried F} (h1 : init.1 = I.r (i 1).val (0)) (h2 : init.2.1 = I.acc (i 1).val (0)) {n : ℕ} (hn : n = (k0_t1_loop i).trips) :
    (st_k0_t1 𝒱 c bd i arg2 harg2 arg3 harg3 arg4 harg4 arg5 harg5 arg6 harg6 arg1 I.q I.incl v9 v10 v11 v12 v31 v40 (harg3.unread I.kt) (harg4.unread I.vr) init n).1 = I.r (i 1).val ((i 1).val % 2)
    ∧ (st_k0_t1 𝒱 c bd i arg2 harg2 arg3 harg3 arg4 harg4 arg5 harg5 arg6 harg6 arg1 I.q I.incl v9 v10 v11 v12 v31 v40 (harg3.unread I.kt) (harg4.unread I.vr) init n).2.1 = I.acc (i 1).val ((i 1).val % 2) := by
  have key := state1 I 𝒱 c bd i arg2 harg2 arg3 harg3 arg4 harg4 arg5 harg5 arg6 harg6 arg1 v9 v10 v11 v12 v31 v40 init h1 h2 n hn.le
  have ht := hn.trans (trips_t1 i)
  have he : n = (i 1).val % 2 := by omega
  exact ⟨key.1.trans (congrArg (I.r _) he), key.2.trans (congrArg (I.acc _) he)⟩

theorem done3 {I : Inp F} {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v9 : IVec S256x128 32} {v60 : BitVec 32} {v77_0 : FVec F S256x1 .f32} {v77_1 : FVec F S256x64 .f32} {v77_2 : FVec F S256x128 .f32} {c2_i32_31 : BitVec 32} {v78 : BitVec 32} {c0_i32_32 : BitVec 32} {init : Carried F} (h1 : init.1 = I.r (i 1).val ((i 1).val % 2)) (h2 : init.2.1 = I.acc (i 1).val ((i 1).val % 2)) {n : ℕ} (hn : n = (k0_t3_loop i).trips) :
    (st_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) init n).1 = I.r (i 1).val ((i 1).val % 4)
    ∧ (st_k0_t3 𝒱 c bd i arg2 harg2 arg3 harg3 arg4 harg4 arg5 harg5 arg6 harg6 arg1 I.q I.incl v9 v60 v77_0 v77_1 v77_2 c2_i32_31 v78 c0_i32_32 (harg3.unread I.kt) (harg4.unread I.vr) init n).2.1 = I.acc (i 1).val ((i 1).val % 4) := by
  have key := state3 I 𝒱 c bd i arg2 harg2 arg3 harg3 arg4 harg4 arg5 harg5 arg6 harg6 arg1 v9 v60 v77_0 v77_1 v77_2 c2_i32_31 v78 c0_i32_32 init h1 h2 n hn.le
  have ht := hn.trans (trips_t3 i)
  have he : (i 1).val % 2 + 2 * n = (i 1).val % 4 := by omega
  exact ⟨key.1.trans (congrArg (I.r _) he), key.2.trans (congrArg (I.acc _) he)⟩

theorem done5 {I : Inp F} {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v9 : IVec S256x128 32} {v60 : BitVec 32} {c0_i32_49 : BitVec 32} {init : Carried F} (h1 : init.1 = I.r (i 1).val ((i 1).val % 4)) (h2 : init.2.1 = I.acc (i 1).val ((i 1).val % 4)) {n : ℕ} (hn : n = (k0_t5_loop i).trips) :
    (st_k0_t5 𝒱 c bd i arg2 harg2 arg3 harg3 arg4 harg4 arg5 harg5 arg6 harg6 arg1 I.q I.incl v9 v60 c0_i32_49 (harg3.unread I.kt) (harg4.unread I.vr) init n).1 = I.r (i 1).val ((i 1).val)
    ∧ (st_k0_t5 𝒱 c bd i arg2 harg2 arg3 harg3 arg4 harg4 arg5 harg5 arg6 harg6 arg1 I.q I.incl v9 v60 c0_i32_49 (harg3.unread I.kt) (harg4.unread I.vr) init n).2.1 = I.acc (i 1).val ((i 1).val) := by
  have key := state5 I 𝒱 c bd i arg2 harg2 arg3 harg3 arg4 harg4 arg5 harg5 arg6 harg6 arg1 v9 v60 c0_i32_49 init h1 h2 n hn.le
  have ht := hn.trans (trips_t5 i)
  have he : (i 1).val % 4 + 4 * n = (i 1).val := by omega
  exact ⟨key.1.trans (congrArg (I.r _) he), key.2.trans (congrArg (I.acc _) he)⟩

theorem none2 {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v1 : FVec F S256x64 .bf16} {v8 : FVec F S256x256 .bf16} {v9 : IVec S256x128 32} {v10 : FVec F S256x1 .f32} {v11 : FVec F S256x64 .f32} {v12 : FVec F S256x128 .f32} {v31 : FVec F S256x1 .f32} {v40 : FVec F S256x256 .bf16} {X_arg3 : BufTy.Contents (Elt F) arg3.view.ty} {X_arg4 : BufTy.Contents (Elt F) arg4.view.ty} {init : FVec F S256x1 .f32 × FVec F S256x64 .f32 × FVec F S256x128 .f32} {n : ℕ} (hn : n = (k0_t2_loop i).trips) :
    st_k0_t2 (F := F) 𝒱 c bd i arg2 harg2 arg3 harg3 arg4 harg4 arg5 harg5 arg6 harg6 arg1 v1 v8 v9 v10 v11 v12 v31 v40 X_arg3 X_arg4 init n = init := by
  rw [trips_t2] at hn
  rw [hn, st_k0_t2_zero]

theorem none4 {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v1 : FVec F S256x64 .bf16} {v8 : FVec F S256x256 .bf16} {v9 : IVec S256x128 32} {v60 : BitVec 32} {v77_0 : FVec F S256x1 .f32} {v77_1 : FVec F S256x64 .f32} {v77_2 : FVec F S256x128 .f32} {c2_i32_31 : BitVec 32} {v78 : BitVec 32} {c0_i32_32 : BitVec 32} {v99 : BitVec 32} {X_arg3 : BufTy.Contents (Elt F) arg3.view.ty} {X_arg4 : BufTy.Contents (Elt F) arg4.view.ty} {init : FVec F S256x1 .f32 × FVec F S256x64 .f32 × FVec F S256x128 .f32} {n : ℕ} (hn : n = (k0_t4_loop i).trips) :
    st_k0_t4 (F := F) 𝒱 c bd i arg2 harg2 arg3 harg3 arg4 harg4 arg5 harg5 arg6 harg6 arg1 v1 v8 v9 v60 v77_0 v77_1 v77_2 c2_i32_31 v78 c0_i32_32 v99 X_arg3 X_arg4 init n = init := by
  rw [trips_t4] at hn
  rw [hn, st_k0_t4_zero]

theorem none6 {𝒱 : Variants} {c : Dev nD} {bd : Option 𝒱.V} {i : grid0.Coords} {arg2 : Memref sig .tc .vmem S1x256x64 .bf16} {harg2 : arg2.IsWhole} {arg3 : Memref sig .tc .vmem S1x64x64x256 .bf16} {harg3 : arg3.IsWhole} {arg4 : Memref sig .tc .vmem S1x64x256x64 .bf16} {harg4 : arg4.IsWhole} {arg5 : Memref sig .tc .vmem S1x256x64 .f32} {harg5 : arg5.IsWhole} {arg6 : Memref sig .tc .vmem S1x256x128 .f32} {harg6 : arg6.IsWhole} {arg1 : BitVec 32} {v1 : FVec F S256x64 .bf16} {v8 : FVec F S256x256 .bf16} {v9 : IVec S256x128 32} {v60 : BitVec 32} {v123 : BitVec 32} {X_arg3 : BufTy.Contents (Elt F) arg3.view.ty} {X_arg4 : BufTy.Contents (Elt F) arg4.view.ty} {init : FVec F S256x1 .f32 × FVec F S256x64 .f32 × FVec F S256x128 .f32} {n : ℕ} (hn : n = (k0_t6_loop i).trips) :
    st_k0_t6 (F := F) 𝒱 c bd i arg2 harg2 arg3 harg3 arg4 harg4 arg5 harg5 arg6 harg6 arg1 v1 v8 v9 v60 v123 X_arg3 X_arg4 init n = init := by
  rw [trips_t6] at hn
  rw [hn, st_k0_t6_zero]

set_option maxHeartbeats 4000000 in
theorem pieces (c : Dev nD) (i : grid0.Coords) (arg2 : Memref sig .tc .vmem S1x256x64 .bf16) (harg2 : arg2.IsWhole) (arg3 : Memref sig .tc .vmem S1x64x64x256 .bf16) (harg3 : arg3.IsWhole) (arg4 : Memref sig .tc .vmem S1x64x256x64 .bf16) (harg4 : arg4.IsWhole) (arg5 : Memref sig .tc .vmem S1x256x64 .f32) (harg5 : arg5.IsWhole) (arg6 : Memref sig .tc .vmem S1x256x128 .f32) (harg6 : arg6.IsWhole)
    (x0 : Vec F S1x256x64 .bf16) (x1 : Vec F S1x64x64x256 .bf16) (x2 : Vec F S1x64x256x64 .bf16) :
    (kernelRun0_A c i arg2 harg2 arg3 harg3 arg4 harg4 arg5 harg5 arg6 harg6 x0 x1 x2).1
      = [⟨Rect.unit ![0, 0, 0] S1x256x64.size inb_S1x256x64_S1x256x64_0_0_0, (inpOf x0 x1 x2).outO (i 1).val⟩] := by
  have hi := row_lt i
  have e0 : arg2.view.readAt (Elt F) (Rect.unit (s := S1x256x64) ![0, 0, 0] S1x256x64.size inb_S1x256x64_S1x256x64_0_0_0).toLoadRect (harg2.unread x0) = x0 :=
    (View.readAt_full _ _ _).trans (harg2.read_unread x0)
  have e1 : arg3.view.readAt (Elt F) (Rect.unit (s := S1x64x64x256) (k0_off1 i) S1x1x64x256.size (k0_off1_inb i)).toLoadRect (harg3.unread x1) = blkT x1 (i 1).val :=
    read_blkT arg3 _ _ _ (harg3.read_unread _) (off1 i) hi
  have e2 : arg4.view.readAt (Elt F) (Rect.unit (s := S1x64x256x64) (k0_off2 i) S1x1x256x64.size (k0_off2_inb i)).toLoadRect (harg4.unread x2) = blkR x2 (i 1).val :=
    read_blkR arg4 _ _ _ (harg4.read_unread _) (off2 i) hi
  delta kernelRun0_A
  dsimp only
  sl_open_run
  simp only [e0, e1, e2]
  refine congrArg (fun x : FVec F S256x64 .f32 => [(⟨Rect.unit ![0, 0, 0] S1x256x64.size inb_S1x256x64_S1x256x64_0_0_0, k0_pay5 x⟩ : View.Piece (Elt F) S1x256x64 .f32)]) ?_
  refine (congrArg (fun x : Carried F => x.2.1) (none6 rfl)).trans ?_
  refine (done5 (I := inpOf x0 x1 x2) ?_ ?_ rfl).2
  · refine (congrArg (fun x : Carried F => x.1) (none4 rfl)).trans ?_
    refine (done3 (I := inpOf x0 x1 x2) ?_ ?_ rfl).1
    · exact (congrArg (fun x : Carried F => x.1) (none2 rfl)).trans (done1 (I := inpOf x0 x1 x2) rfl rfl rfl).1
    · exact (congrArg (fun x : Carried F => x.2.1) (none2 rfl)).trans (done1 (I := inpOf x0 x1 x2) rfl rfl rfl).2
  · refine (congrArg (fun x : Carried F => x.2.1) (none4 rfl)).trans ?_
    refine (done3 (I := inpOf x0 x1 x2) ?_ ?_ rfl).2
    · exact (congrArg (fun x : Carried F => x.1) (none2 rfl)).trans (done1 (I := inpOf x0 x1 x2) rfl rfl rfl).1
    · exact (congrArg (fun x : Carried F => x.2.1) (none2 rfl)).trans (done1 (I := inpOf x0 x1 x2) rfl rfl rfl).2

/-- What the body leaves at a grid point. -/
theorem outsAt_eq (m : (ℓ : Loc nD τ sig) → Buf (Elt F) ℓ) (c : Dev nD) (t : Fin cfg0.N) :
    (outsAt0 m c t).1 = (inpOf (iblk m c 0 t) (iblk m c 1 t) (iblk m c 2 t)).outO (grid0.coords t 1).val := by
  unfold outsAt0 out0_A_3
  dsimp only
  rw [pieces]
  exact View.read_writes_full _ _ _ _ _

end Cert.Kernel4Ideal.Hand

end
-- ==== Proof.FwdVal.lean ====
/- What one call of the forward body computes, over the extended reals. -/
module

public import proofs.«01_k».proof.Proof.FwdModel
public import proofs.«01_k».proof.Proof.ModelVal

@[expose] public section

set_option maxRecDepth 16384

noncomputable section

namespace Cert.Kernel4Ideal.Hand

open Idealize.ShloMosaic Idealize.ShloMosaic.TcCoe
open Cert.Kernel4Ideal Cert.Kernel4Ideal.Gen Cert.Stick
open Cert.KernelIdeal.Hand (lg_lt w_eq u_eq w_zero)

theorem blkT_at {e : EltTy} (x : Vec Ideal S1x64x64x256 e) {n : ℕ} (hn : n < 64) (d : Fin 64) (c : Fin 256) :
    blkT x n (ix4 0 0 d c) = x (ix4 0 ⟨n, hn⟩ d c) := by
  refine congrArg x (funext fun p => Fin.ext ?_)
  match p with
  | ⟨0, _⟩ => rfl
  | ⟨1, _⟩ => show min n 63 + 1 * 0 = n; omega
  | ⟨2, _⟩ => show 0 + 1 * d.val = d.val; omega
  | ⟨3, _⟩ => show 0 + 1 * c.val = c.val; omega

theorem blkR_at {e : EltTy} (x : Vec Ideal S1x64x256x64 e) {n : ℕ} (hn : n < 64) (c : Fin 256) (d : Fin 64) :
    blkR x n (ix4 0 0 c d) = x (ix4 0 ⟨n, hn⟩ c d) := by
  refine congrArg x (funext fun p => Fin.ext ?_)
  match p with
  | ⟨0, _⟩ => rfl
  | ⟨1, _⟩ => show min n 63 + 1 * 0 = n; omega
  | ⟨2, _⟩ => show 0 + 1 * c.val = c.val; omega
  | ⟨3, _⟩ => show 0 + 1 * d.val = d.val; omega

theorem sum_part {M : Type} [AddCommMonoid M] (f : ℕ → M) (n : ℕ) :
    ∑ c : Fin 256, f (n * 256 + c) = ∑ s ∈ Finset.Ico (n * 256) ((n + 1) * 256), f s := by
  rw [Fin.sum_univ_eq_sum_range (fun c => f (n * 256 + c)) 256, Finset.sum_Ico_eq_sum_range, show (n + 1) * 256 - n * 256 = 256 by omega]

/-- The blocks a call is handed hold these values, at head `h` and row block `i`. -/
structure Fits (I : Inp Ideal) (q k : ℕ → ℕ → ℝ) (v : ℕ → ℕ → EReal) (h i : ℕ) : Prop where
  hi : i < 64
  hq : ∀ (a : Fin 256) (d : Fin 64), I.q (ix2 a d) = ((q (i * 256 + a) (h * 64 + d) * (-(1 / 8)) : ℝ) : EReal)
  incl : ∀ r c : Fin 256, I.incl (ix2 r c) = (((if c.val ≤ r.val then 1 else 0 : ℝ)) : EReal)
  htri : ∀ r c : Fin 256, I.tri (ix2 r c) = if c.val < r.val then 1#1 else 0#1
  hkt : ∀ (n : Fin 64) (c : Fin 256) (d : Fin 64), I.kt (ix4 0 n d c) = ((k (n * 256 + c) (h * 64 + d) : ℝ) : EReal)
  hvr : ∀ (n : Fin 64) (c : Fin 256) (d : Fin 64), I.vr (ix4 0 n c d) = v (n * 256 + c) (h * 64 + d)

namespace Fits

variable {I : Inp Ideal} {q k : ℕ → ℕ → ℝ} {v : ℕ → ℕ → EReal} {h i : ℕ} (H : Fits I q k v h i)
include H

theorem nz_at {n : ℕ} (hn : n < 64) (a c : Fin 256) : I.nz n (ix2 a c) = ((-z q k h (i * 256 + a) (n * 256 + c) : ℝ) : EReal) := by
  pointwise [Inp.nz]
  simp only [blkT_at _ hn, H.hq, H.hkt, c_mul, coe_sum]
  rw [EReal.coe_eq_coe_iff]
  unfold z dot
  rw [Finset.sum_mul, ← Finset.sum_neg_distrib]
  exact Finset.sum_congr rfl fun _ _ => by ring

omit H in
theorem logOneMinus_at (x : FVec Ideal S256x256 .f32) (a c : Fin 256) (f : ℝ) (hx : x (ix2 a c) = (f : EReal)) :
    Inp.logOneMinus x (ix2 a c) = ((ls f : ℝ) : EReal) := by
  pointwise [Inp.logOneMinus]
  rw [hx, Ideal.absf_def]
  exact c_ls f

theorem weights_at {n : ℕ} (hn : n < 64) (a c : Fin 256) (r : FVec Ideal S256x1 .f32) (x y : FVec Ideal S256x256 .f32)
    (hr : r (ix2 a 0) = ((∑ s ∈ Finset.Ico ((n + 1) * 256) 16384, lg q k h (i * 256 + a) s : ℝ) : EReal))
    (hx : x (ix2 a c) = ((-z q k h (i * 256 + a) (n * 256 + c) : ℝ) : EReal))
    (hy : ∀ c', y (ix2 a c') = ((lg q k h (i * 256 + a) (n * 256 + c') : ℝ) : EReal)) :
    I.weights r x y (ix2 a c) = ((Real.exp (sufx q k h (i * 256 + a) (n * 256 + c) + z q k h (i * 256 + a) (n * 256 + c)) : ℝ) : EReal) := by
  pointwise [Inp.weights]
  rw [hr, hx]
  simp only [hy, H.incl, c_mul, coe_sum]
  rw [c_add, c_sub, c_exp, EReal.coe_eq_coe_iff]
  refine congrArg Real.exp ?_
  have e1 : ∑ c' : Fin 256, lg q k h (i * 256 + a) (n * 256 + c') * (if c.val ≤ c'.val then 1 else 0)
      = ∑ s ∈ Finset.Ico (n * 256 + c.val) ((n + 1) * 256), lg q k h (i * 256 + a) s := by
    rw [Fin.sum_univ_eq_sum_range (fun c' => lg q k h (i * 256 + a) (n * 256 + c') * (if c.val ≤ c' then 1 else 0)) 256]
    simp only [mul_ite, mul_one, mul_zero]
    rw [← Finset.sum_filter]
    refine Finset.sum_nbij' (fun c => n * 256 + c) (fun c => c - n * 256) ?_ ?_ ?_ ?_ ?_ <;> simp <;> intros <;> omega
  rw [e1, sufx, ← Finset.sum_Ico_consecutive _ (show n * 256 + c.val ≤ (n + 1) * 256 by omega) (show (n + 1) * 256 ≤ 16384 by omega)]
  ring

omit H in
theorem rowsum_at (x : FVec Ideal S256x256 .f32) (a : Fin 256) (f : ℕ → ℝ) (hx : ∀ c, x (ix2 a c) = ((f c : ℝ) : EReal)) :
    Inp.rowsum x (ix2 a 0) = ((∑ c : Fin 256, f c : ℝ) : EReal) := by
  pointwise [Inp.rowsum]
  simp only [hx, coe_sum]

theorem addO_at {n : ℕ} (hn : n < 64) (w : FVec Ideal S256x256 .f32) (x : FVec Ideal S256x64 .f32) (a : Fin 256) (d : Fin 64) (f : ℕ → EReal)
    (hw : ∀ c, w (ix2 a c) = f (n * 256 + c)) :
    I.addO w n x (ix2 a d) = (x (ix2 a d) : EReal) + ∑ s ∈ Finset.Ico (n * 256) ((n + 1) * 256), f s * v s (h * 64 + d) := by
  pointwise [Inp.addO]
  simp only [hw, blkR_at _ hn, H.hvr]
  rw [sum_part (fun s => f s * v s (h * 64 + d)) n]

theorem b_at {n : ℕ} (hn : n < i) (a c : Fin 256) : I.b n (ix2 a c) = ((lg q k h (i * 256 + a) (n * 256 + c) : ℝ) : EReal) := by
  have := H.hi
  have hs : n * 256 + c.val < i * 256 + a.val := by omega
  rw [lg_lt hs]
  exact logOneMinus_at _ a c _ (H.nz_at (by omega) a c)

theorem tri_at (a c : Fin 256) (x y : EReal) : Scalar.select (I.tri (ix2 a c)) x y = if i * 256 + c.val < i * 256 + a.val then x else y := by
  rw [H.htri]
  by_cases hc : c.val < a.val
  · rw [if_pos hc, if_pos (by omega)]; rfl
  · rw [if_neg hc, if_neg (by omega)]; rfl

theorem bD_at (a c : Fin 256) : I.bD i (ix2 a c) = ((lg q k h (i * 256 + a) (i * 256 + c) : ℝ) : EReal) := by
  pointwise [Inp.bD]
  rw [H.tri_at]
  have := H.hi
  split_ifs with hs
  · rw [lg_lt hs]
    exact logOneMinus_at _ a c _ (H.nz_at (by omega) a c)
  · unfold lg; rw [if_neg hs]; rfl

omit H in
theorem no_later (t : ℕ) {n : ℕ} (hn : t ≤ n) : ∑ s ∈ Finset.Ico n 16384, lg q k h t s = 0 :=
  Finset.sum_eq_zero fun s hs => if_neg (by have := Finset.mem_Ico.mp hs; omega)

theorem wD_at (a c : Fin 256) : I.wD i (ix2 a c) = ((w q k h (i * 256 + a) (i * 256 + c) : ℝ) : EReal) := by
  pointwise [Inp.wD]
  rw [H.tri_at]
  have := H.hi
  split_ifs with hs
  · rw [w_eq hs, ← u_eq hs]
    refine H.weights_at (by omega) a c _ _ _ ?_ (H.nz_at (by omega) a c) (H.bD_at a)
    rw [no_later _ (by omega)]
    pointwise
    rfl
  · rw [w_zero hs]; rfl

theorem r_at {m : ℕ} (hm : m ≤ i) (a : Fin 256) :
    I.r i m (ix2 a 0) = ((∑ s ∈ Finset.Ico ((i - m) * 256) 16384, lg q k h (i * 256 + a) s : ℝ) : EReal) := by
  have := H.hi
  induction m with
  | zero =>
    pointwise [Inp.r]
    rw [rowsum_at _ a (fun c => lg q k h (i * 256 + a) (i * 256 + c)) (H.bD_at a), sum_part (lg q k h (i * 256 + a)) i,
      ← Finset.sum_Ico_consecutive _ (show i * 256 ≤ (i + 1) * 256 by omega) (show (i + 1) * 256 ≤ 16384 by omega), no_later _ (by omega), add_zero]
  | succ m ih =>
    pointwise [Inp.r]
    have hb : ∀ c : Fin 256, I.b (i - 1 - m) (ix2 a c) = ((lg q k h (i * 256 + a) ((i - 1 - m) * 256 + c) : ℝ) : EReal) := H.b_at (by omega) a
    rw [ih (by omega), rowsum_at (I.b (i - 1 - m)) a (fun c => lg q k h (i * 256 + a) ((i - 1 - m) * 256 + c)) hb, c_add,
      sum_part (lg q k h (i * 256 + a)) (i - 1 - m), show i - 1 - m + 1 = i - m by omega, show i - (m + 1) = i - 1 - m by omega, add_comm,
      Finset.sum_Ico_consecutive _ (show (i - 1 - m) * 256 ≤ (i - m) * 256 by omega) (show (i - m) * 256 ≤ 16384 by omega)]

theorem w_at {m : ℕ} (hm : m < i) (a c : Fin 256) : I.w i m (ix2 a c) = ((w q k h (i * 256 + a) ((i - 1 - m) * 256 + c) : ℝ) : EReal) := by
  have := H.hi
  have hs : (i - 1 - m) * 256 + c.val < i * 256 + a.val := by omega
  rw [w_eq hs, ← u_eq hs]
  refine H.weights_at (by omega) a c _ _ _ ?_ (H.nz_at (by omega) a c) (H.b_at (by omega) a)
  rw [show i - 1 - m + 1 = i - m by omega]
  exact H.r_at hm.le a

theorem acc_at {m : ℕ} (hm : m ≤ i) (a : Fin 256) (d : Fin 64) :
    I.acc i m (ix2 a d) = ∑ s ∈ Finset.Ico ((i - m) * 256) ((i + 1) * 256), ((w q k h (i * 256 + a) s : ℝ) : EReal) * v s (h * 64 + d) := by
  have := H.hi
  induction m with
  | zero =>
    refine (H.addO_at (by omega) _ _ a d (fun s => ((w q k h (i * 256 + a) s : ℝ) : EReal)) (H.wD_at a)).trans ?_
    pointwise
  | succ m ih =>
    refine (H.addO_at (by omega) _ _ a d (fun s => ((w q k h (i * 256 + a) s : ℝ) : EReal)) (H.w_at (by omega) a)).trans ?_
    rw [ih (by omega), show i - 1 - m + 1 = i - m by omega, show i - (m + 1) = i - 1 - m by omega, add_comm,
      Finset.sum_Ico_consecutive _ (show (i - 1 - m) * 256 ≤ (i - m) * 256 by omega) (show (i - m) * 256 ≤ (i + 1) * 256 by omega)]

theorem outO_at (a : Fin 256) (d : Fin 64) :
    I.outO i (ix3 0 a d) = ∑ s ∈ Finset.range 16384, ((w q k h (i * 256 + a) s : ℝ) : EReal) * v s (h * 64 + d) := by
  have := H.hi
  pointwise [Inp.outO]
  rw [H.acc_at le_rfl, Nat.sub_self, Nat.zero_mul, ← Finset.range_eq_Ico]
  exact Finset.sum_subset (Finset.range_mono (by omega)) fun s _ hs => by
    rw [w_zero (by have := Finset.mem_range.not.mp hs; omega), EReal.coe_zero, zero_mul]

end Fits

end Cert.Kernel4Ideal.Hand

end
-- ==== Proof.FwdRef.lean ====
/- The forward reference's result at an index. -/
module

public import proofs.«01_k».proof.Proof.Gen.Reference4Ideal.Run
public import proofs.«01_k».proof.Proof.RefVal

@[expose] public section

set_option maxRecDepth 16384

noncomputable section

namespace Cert.ReferenceIdeal.Hand

open Idealize.ShloMosaic Idealize.ShloMosaic.TcCoe
open Cert.ReferenceIdeal Cert.ReferenceIdeal.Gen Cert.Stick

/-- The attention's result, by heads. -/
def fwdHeads (q k v : Rows) : Heads :=
  Host.dotGeneral dot_S8x16384x16384_S8x16384x64_S8x16384x64_2_1_1_2_0_0 none (weights (scores q k)) (headsOf v)

/-- The values an argument holds, by row and column. -/
def valuesOf (x : Rows) (t c : ℕ) : EReal := if h : t < 16384 ∧ c < 512 then x (ix2 ⟨t, h.1⟩ ⟨c, h.2⟩) else 0

theorem valuesOf_eq (x : Rows) (t : Fin 16384) (c : Fin 512) : x (ix2 t c) = valuesOf x t c := by
  unfold valuesOf; rw [dif_pos ⟨t.isLt, c.isLt⟩]

/-- The attention's result from the reals in q and k and the values. -/
def fwdAt (q k : ℕ → ℕ → ℝ) (v : ℕ → ℕ → EReal) (h t d : ℕ) : EReal :=
  ∑ s ∈ Finset.range 16384, ((w q k h t s : ℝ) : EReal) * v s (h * 64 + d)

theorem fwdHeads_at {Q K V : Rows} {q k : ℕ → ℕ → ℝ} (hQ : IsRows Q q) (hK : IsRows K k) (h : Fin 8) (t : Fin 16384) (d : Fin 64) :
    fwdHeads Q K V (ix3 h t d) = fwdAt q k (valuesOf V) h t d := by
  pointwise [fwdHeads]
  simp only [headsOf_at, w_is hQ hK _ _ _, valuesOf_eq]
  exact Fin.sum_univ_eq_sum_range (fun s => ((w q k h t s : ℝ) : EReal) * valuesOf V s (h * 64 + d)) 16384

end Cert.ReferenceIdeal.Hand

namespace Cert.Reference4Ideal.Hand

open Idealize.ShloMosaic Idealize.ShloMosaic.TcCoe
open Cert.Reference4Ideal Cert.Reference4Ideal.Gen Cert.Stick
open Cert.ReferenceIdeal.Hand (Rows IsRows headsOf flat headsOf_at flat_at fwdHeads fwdHeads_at fwdAt valuesOf)

variable (m : (ℓ : Loc nD τ sig) → Buf (Elt Ideal) ℓ) (c : Dev nD)

abbrev argQ : Rows := m ((c.tc : Thread nD τ).loc main_arg0)
abbrev argK : Rows := m ((c.tc : Thread nD τ).loc main_arg1)
abbrev argV : Rows := m ((c.tc : Thread nD τ).loc main_arg2)

theorem res : Value.res_main_v29 m c = headsOf (flat (fwdHeads (argQ m c) (argK m c) (argV m c))) := rfl

end Cert.Reference4Ideal.Hand

end
-- ==== Proof.FwdBlocks.lean ====
/- The blocks that the forward call at a grid point is handed, and what its result array holds afterwards. -/
module

public import proofs.«01_k».proof.Proof.FwdOuts
public import proofs.«01_k».proof.Proof.FwdVal
public import proofs.«01_k».proof.Proof.FwdRef
public import Idealize.ShloMosaic.Lib.Pipeline.ValueKit

@[expose] public section

set_option maxRecDepth 16384

noncomputable section

namespace Cert.Kernel4Ideal.Hand

open Idealize.ShloMosaic Idealize.ShloMosaic.TcCoe
open Cert.Kernel4Ideal Cert.Kernel4Ideal.Gen Cert.Stick
open Cert.ReferenceIdeal.Hand (IsRows valuesOf valuesOf_eq fwdAt)
open StableHlo (after)

theorem index0 : ∀ t : Fin cfg0.N, win0_0.index t = ![t.val / 64, t.val % 64, 0] := (by decide +kernel : ∀ t : Fin grid0.N, _)
theorem index1 : ∀ t : Fin cfg0.N, win0_1.index t = ![t.val / 64, 0, 0, 0] := (by decide +kernel : ∀ t : Fin grid0.N, _)
theorem index2 : ∀ t : Fin cfg0.N, win0_2.index t = ![t.val / 64, 0, 0, 0] := (by decide +kernel : ∀ t : Fin grid0.N, _)
theorem index3 : ∀ t : Fin cfg0.N, win0_3.index t = ![t.val / 64, t.val % 64, 0] := (by decide +kernel : ∀ t : Fin grid0.N, _)

abbrev Flat (e : EltTy) := Vec Ideal S16384x512 e

def toHeads {e : EltTy} (x : Flat e) : Vec Ideal S8x16384x64 e :=
  transpose S8x16384x64 [1, 0, 2] (shapeCast S16384x8x64 x shapeCasts_S16384x512_S16384x8x64) transposes_S16384x8x64_S8x16384x64_1_0_2
def toBlocksT {e : EltTy} (x : Flat e) : Vec Ideal S8x64x64x256 e :=
  transpose S8x64x64x256 [2, 0, 3, 1] (shapeCast S64x256x8x64 x shapeCasts_S16384x512_S64x256x8x64) transposes_S64x256x8x64_S8x64x64x256_2_0_3_1
def toBlocksR {e : EltTy} (x : Flat e) : Vec Ideal S8x64x256x64 e :=
  transpose S8x64x256x64 [2, 0, 1, 3] (shapeCast S64x256x8x64 x shapeCasts_S16384x512_S64x256x8x64) transposes_S64x256x8x64_S8x64x256x64_2_0_1_3

def short (x : FVec Ideal S16384x512 .f32) : FVec Ideal S16384x512 .bf16 := truncf .bf16 x bitsLt_bf16_f32
def scaled (x : FVec Ideal S16384x512 .f32) : FVec Ideal S16384x512 .f32 := mulf x (broadcastInDim S16384x512 ![] bcast_S_S16384x512 (constant S_ .f32 0xBE000000#32))

theorem toHeads_at {e : EltTy} (x : Flat e) (h : Fin 8) (t : Fin 16384) (d : Fin 64) :
    toHeads x (ix3 h t d) = x (ix2 t ⟨h * 64 + d, by omega⟩) := by
  pointwise [toHeads]
theorem toBlocksT_at {e : EltTy} (x : Flat e) (h : Fin 8) (j : Fin 64) (d : Fin 64) (c : Fin 256) :
    toBlocksT x (ix4 h j d c) = x (ix2 ⟨j * 256 + c, by omega⟩ ⟨h * 64 + d, by omega⟩) := by
  pointwise [toBlocksT]
theorem toBlocksR_at {e : EltTy} (x : Flat e) (h : Fin 8) (j : Fin 64) (c : Fin 256) (d : Fin 64) :
    toBlocksR x (ix4 h j c d) = x (ix2 ⟨j * 256 + c, by omega⟩ ⟨h * 64 + d, by omega⟩) := by
  pointwise [toBlocksR]

theorem short_at (x : FVec Ideal S16384x512 .f32) (t : Fin 16384) (c : Fin 512) : short x (ix2 t c) = x (ix2 t c) := rfl
theorem scaled_at {x : FVec Ideal S16384x512 .f32} {q : ℕ → ℕ → ℝ} (hx : IsRows x q) (t : Fin 16384) (c : Fin 512) :
    scaled x (ix2 t c) = ((q t c * (-(1 / 8)) : ℝ) : EReal) := by
  pointwise [scaled]
  rw [hx, neg_eighth, c_mul]

section
variable (W : (b : DevRef τ sig) → b.ty.Contents (Elt Ideal))
theorem host6 : after hostOps0 W main_v6 = toHeads (short (scaled (W main_arg0))) := by
  after_results; rfl
theorem host8 : after hostOps0 W main_v8 = toBlocksT (short (W main_arg1)) := by
  after_results; rfl
theorem host10 : after hostOps0 W main_v10 = toBlocksR (short (W main_arg2)) := by
  after_results; rfl
end

variable (m : (ℓ : Loc nD τ sig) → Buf (Elt Ideal) ℓ) (c : Dev nD)

abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)

theorem V6 : V m c main_v6 = toHeads (short (scaled (argQ m c))) := host6 _
theorem V8 : V m c main_v8 = toBlocksT (short (argK m c)) := host8 _
theorem V10 : V m c main_v10 = toBlocksR (short (argV m c)) := host10 _

variable (t : Fin cfg0.N)

theorem lt_N : t.val < 512 := Nat.lt_of_lt_of_eq t.isLt N_0

theorem blk0 (a : Fin 256) (d : Fin 64) : iblk m c 0 t (ix3 (0 : Fin 1) a d)
    = V m c main_v6 (ix3 (⟨t.val / 64, by have := lt_N t; omega⟩ : Fin 8) (⟨t.val % 64 * 256 + a, by omega⟩ : Fin 16384) d) := by
  blk_simp [iblk]
  refine congrArg _ ?_
  blk_ext [index0]

theorem blk1 (n : Fin 64) (d : Fin 64) (a : Fin 256) : iblk m c 1 t (ix4 (0 : Fin 1) n d a)
    = V m c main_v8 (ix4 (⟨t.val / 64, by have := lt_N t; omega⟩ : Fin 8) n d a) := by
  blk_simp [iblk]
  refine congrArg _ ?_
  blk_ext [index1]

theorem blk2 (n : Fin 64) (a : Fin 256) (d : Fin 64) : iblk m c 2 t (ix4 (0 : Fin 1) n a d)
    = V m c main_v10 (ix4 (⟨t.val / 64, by have := lt_N t; omega⟩ : Fin 8) n a d) := by
  blk_simp [iblk]
  refine congrArg _ ?_
  blk_ext [index2]

theorem rowOf_eq : (grid0.coords t 1).val = t.val % 64 := by
  have e1 : (grid0.coords t 1).val = t.val / 1 % 64 := Pipeline.Grid.coords_val t 1 (by decide) rfl
  rw [Nat.div_one] at e1; exact e1

theorem small_toInt (r : Fin 256) : (BitVec.ofNat 32 r.val).toInt = r.val := by
  have hr := r.isLt
  have e : (BitVec.ofNat 32 r.val).toNat = r.val := by rw [BitVec.toNat_ofNat, Nat.mod_eq_of_lt (by omega)]
  rw [BitVec.toInt_eq_toNat_of_lt (by omega), e]

theorem tri_val (r c : Fin 256) : k0_pay62 (ix2 r c) = if c.val < r.val then 1#1 else 0#1 := by
  pointwise [k0_pay62]
  simp only [IntOp.cmpi, BitVec.slt, small_toInt, Nat.cast_lt]
  by_cases h : c.val < r.val <;> simp [h]

theorem sitofp_one : (FloatOps.sitofp (F := Ideal) .f32 (BitVec.setWidth 32 1#1)) = ((1 : ℝ) : EReal) := by
  show (((BitVec.setWidth 32 1#1).toInt : ℝ) : EReal) = _
  rw [show (BitVec.setWidth 32 1#1).toInt = 1 by decide]; norm_num
theorem sitofp_zero : (FloatOps.sitofp (F := Ideal) .f32 (BitVec.setWidth 32 0#1)) = ((0 : ℝ) : EReal) := by
  show (((BitVec.setWidth 32 0#1).toInt : ℝ) : EReal) = _
  rw [show (BitVec.setWidth 32 0#1).toInt = 0 by decide]; norm_num

theorem incl_val (r c : Fin 256) : (k0_pay63 : FVec Ideal S256x256 .bf16) (ix2 r c) = (((if c.val ≤ r.val then 1 else 0 : ℝ)) : EReal) := by
  pointwise [k0_pay63]
  have e : IntOp.cmpi CmpIPredicate.sge (BitVec.ofNat 32 r.val) (BitVec.ofNat 32 c.val) = if c.val ≤ r.val then 1#1 else 0#1 := by
    simp only [IntOp.cmpi, BitVec.sle, small_toInt, Nat.cast_le]
    by_cases h : c.val ≤ r.val <;> simp [h]
  rw [e]
  split_ifs
  · exact sitofp_one
  · exact sitofp_zero

theorem rows_at (x : Vec Ideal S1x256x64 .bf16) (a : Fin 256) (d : Fin 64) : k0_pay61 x (ix2 a d) = x (ix3 0 a d) := by
  pointwise [k0_pay61]

/-- What the call at a grid point is handed. -/
abbrev inpAt : Inp Ideal := inpOf (iblk m c 0 t) (iblk m c 1 t) (iblk m c 2 t)

variable {q k : ℕ → ℕ → ℝ}

theorem in_q (hQ : IsRows (argQ m c) q) (a : Fin 256) (d : Fin 64) :
    (inpAt m c t).q (ix2 a d) = ((q (t.val % 64 * 256 + a) (t.val / 64 * 64 + d) * (-(1 / 8)) : ℝ) : EReal) := by
  refine ((rows_at _ a d).trans (blk0 m c t a d)).trans ?_
  rw [V6, toHeads_at, short_at, scaled_at hQ]
theorem in_kt (hK : IsRows (argK m c) k) (n : Fin 64) (a : Fin 256) (d : Fin 64) :
    (inpAt m c t).kt (ix4 0 n d a) = ((k (n * 256 + a) (t.val / 64 * 64 + d) : ℝ) : EReal) := by
  refine (blk1 m c t n d a).trans ?_
  rw [V8, toBlocksT_at, short_at, hK]
theorem in_vr (n : Fin 64) (a : Fin 256) (d : Fin 64) :
    (inpAt m c t).vr (ix4 0 n a d) = valuesOf (argV m c) (n * 256 + a) (t.val / 64 * 64 + d) := by
  refine (blk2 m c t n a d).trans ?_
  rw [V10, toBlocksR_at, short_at]
  exact valuesOf_eq _ _ _

theorem fits (hQ : IsRows (argQ m c) q) (hK : IsRows (argK m c) k) :
    Fits (inpAt m c t) q k (valuesOf (argV m c)) (t.val / 64) (t.val % 64) where
  hi := Nat.mod_lt _ (by omega)
  hq := in_q m c t hQ
  incl := incl_val
  htri := tri_val
  hkt := in_kt m c t hK
  hvr := in_vr m c t

/-- The attention's result, by head, position and lane. -/
def result (q k : ℕ → ℕ → ℝ) (v : ℕ → ℕ → EReal) : Vec Ideal S8x16384x64 .f32 := fun i => fwdAt q k v (i 0).val (i 1).val (i 2).val

theorem exists_ix3 {A B C : ℕ} (y : (⟨3, ![A, B, C]⟩ : Shape).Idx) : ∃ (a : Fin A) (b : Fin B) (c : Fin C), y = ix3 a b c :=
  ⟨y 0, y 1, y 2, funext fun p => by match p with | ⟨0, _⟩ => rfl | ⟨1, _⟩ => rfl | ⟨2, _⟩ => rfl⟩

theorem place (z : Fin 1) (a : Fin 256) (d : Fin 64) :
    (win0_3.blk t).view.emb (ix3 z a d) = ix3 (⟨t.val / 64, by have := lt_N t; omega⟩ : Fin 8) (⟨t.val % 64 * 256 + a, by omega⟩ : Fin 16384) d := by
  blk_ext [index3]

theorem final (hQ : IsRows (argQ m c) q) (hK : IsRows (argK m c) k) : (dats m 0 c).arrAt 3 cfg0.N = result q k (valuesOf (argV m c)) := by
  refine (dats m 0 c).arrAt_eq_of_covers 3 _ (by decide +kernel) fun t hf y => ?_
  blk_simp
  rw [after0_3, outsAt_eq]
  obtain ⟨z, a, d, rfl⟩ := exists_ix3 (A := 1) (B := 256) (C := 64) y
  obtain rfl : z = 0 := Subsingleton.elim _ _
  rw [rowOf_eq]
  exact ((fits m c t hQ hK).outO_at a d).trans (congrArg (result q k (valuesOf (argV m c))) (place t 0 a d)).symm

end Cert.Kernel4Ideal.Hand

end
-- ==== Proof.FwdValue.lean ====
/- Both runs of the forward attention end with one result. -/
module

public import proofs.«01_k».proof.Defs
public import proofs.«01_k».proof.Proof.Finite
public import proofs.«01_k».proof.Proof.FwdBlocks

@[expose] public section

noncomputable section

namespace Cert.Stick

open Idealize.ShloMosaic
open Cert.ReferenceIdeal.Hand (IsRows)

theorem preFactsScores : Pre_finite_scores.Facts := ⟨by decide⟩

private theorem both {a b : BitVec 1} (h : IntOp.andi a b = 1#1) : a = 1#1 ∧ b = 1#1 := by
  revert a b; decide

private theorem of_test {x : EReal} (h : BitVec.ofBool (decide ((FloatOps.absf (F := Ideal) (φ := .f32) x : EReal) < Ideal.ofBits FTy.f32 2139095040#32)) = 1#1) :
    x ≠ ⊤ ∧ x ≠ ⊥ := by
  rw [infinity, StableHlo.Predicate.ofBool_eq_one_iff, decide_eq_true_iff, Ideal.absf_def] at h
  exact finite_of_lt h

theorem rows_of_scores [Pre_finite_scores.Facts] (q k v : FVec Ideal Pre_finite_scores.S16384x512 .f32)
    (h : Pre_finite_scores.fn q k v = fun _ => 1#1) : IsRows q (realsOf q) ∧ IsRows k (realsOf k) := by
  have key : ∀ (t : Fin 16384) (c : Fin 512), ((q (ix2 t c) : EReal) ≠ ⊤ ∧ (q (ix2 t c) : EReal) ≠ ⊥)
      ∧ ((k (ix2 t c) : EReal) ≠ ⊤ ∧ (k (ix2 t c) : EReal) ≠ ⊥) := by
    intro t c
    have e := congrFun h (ix2 t c)
    revert e
    pointwise [Pre_finite_scores.fn]
    intro e
    obtain ⟨eq, ek⟩ := both e
    exact ⟨of_test eq, of_test ek⟩
  exact ⟨isRows_realsOf q fun t c => (key t c).1, isRows_realsOf k fun t c => (key t c).2⟩

end Cert.Stick

namespace Cert.Proof

open Idealize.ShloMosaic Idealize.SL Idealize.SL.Sem
open Cert.Stick
open Cert.ReferenceIdeal.Hand (IsRows valuesOf)
open Cert.Kernel4Ideal.Hand (result)

theorem ref_forward (m : (ℓ : Loc Reference4Ideal.nD Reference4Ideal.τ Reference4Ideal.sig) → Buf (Elt Ideal) ℓ) (c : Dev Reference4Ideal.nD) {q k : ℕ → ℕ → ℝ}
    (hQ : IsRows (Reference4Ideal.Hand.argQ m c) q) (hK : IsRows (Reference4Ideal.Hand.argK m c) k) :
    Reference4Ideal.Value.res_main_v29 m c = result q k (valuesOf (Reference4Ideal.Hand.argV m c)) := by
  rw [Reference4Ideal.Hand.res]
  funext y
  obtain ⟨h, t, d, rfl⟩ := Kernel4Ideal.Hand.exists_ix3 (A := 8) (B := 16384) (C := 64) y
  rw [ReferenceIdeal.Hand.headsOf_at, ReferenceIdeal.Hand.flat_at]
  exact ReferenceIdeal.Hand.fwdHeads_at hQ hK h t d

theorem algebraic₄ [Pre_finite_scores.Facts] : Cert.algebraic_Kernel4Ideal_Reference4Ideal_pre_finite_scores := by
  intro m ρ m' ρ' pre same
  have hR : ∀ c, IsRows (Kernel4Ideal.Hand.argQ m c) (realsOf (Kernel4Ideal.Hand.argQ m c)) ∧ IsRows (Kernel4Ideal.Hand.argK m c) (realsOf (Kernel4Ideal.Hand.argK m c)) :=
    fun c => rows_of_scores _ _ _ (pre c)
  refine ⟨fun c => result (realsOf (Kernel4Ideal.Hand.argQ m c)) (realsOf (Kernel4Ideal.Hand.argK m c)) (valuesOf (Kernel4Ideal.Hand.argV m c)), ?_, ?_⟩
  · refine (θ_run _ _ _).mono ?_ (θ_run_and (Kernel4Ideal.Gen.run_main m ρ) (Kernel4Ideal.Gen.frame m ρ))
    rintro r ⟨h, hf, -⟩ c
    obtain ⟨hQ, hK⟩ := hR c
    exact ⟨((h c).1 3).trans (Kernel4Ideal.Hand.final m c hQ hK), hf c⟩
  · refine (θ_run _ _ _).mono ?_ (Reference4Ideal.Value.run m' ρ')
    rintro r h c
    obtain ⟨hQ, hK⟩ := hR c
    obtain ⟨sQ, sK, sV⟩ := same c
    have hQ' : IsRows (Reference4Ideal.Hand.argQ m' c) (realsOf (Kernel4Ideal.Hand.argQ m c)) := by rw [show Reference4Ideal.Hand.argQ m' c = _ from sQ]; exact hQ
    have hK' : IsRows (Reference4Ideal.Hand.argK m' c) (realsOf (Kernel4Ideal.Hand.argK m c)) := by rw [show Reference4Ideal.Hand.argK m' c = _ from sK]; exact hK
    have e := ref_forward m' c hQ' hK'
    rw [show Reference4Ideal.Hand.argV m' c = _ from sV] at e
    exact ⟨(h c).1.trans e, (h c).2⟩

end Cert.Proof

end
-- ==== Proof.Conv.lean ====
/- The gradient of the short convolution, written once: a column of an array, and what its rows and its weights receive. -/
module

public import Idealize.ShloMosaic.PureOps.Ideal
public import Idealize.ShloMosaic.Lib.Pointwise

@[expose] public section

noncomputable section

namespace Cert.Conv

open Idealize.ShloMosaic

abbrev Rows := FVec Ideal (⟨2, ![16384, 256]⟩ : Shape) .f32
abbrev Taps := FVec Ideal (⟨2, ![3, 256]⟩ : Shape) .f32
abbrev Sums := FVec Ideal (⟨2, ![8, 256]⟩ : Shape) .f32
abbrev Col := ℕ → EReal

/-- A column of an array, zero past its end. -/
def col (x : Rows) (j : Fin 256) : Col := fun n => if h : n < 16384 then x (ix2 ⟨n, h⟩ j) else 0

theorem col_at (x : Rows) (j : Fin 256) (n : Fin 16384) : col x j n.val = x (ix2 n j) := dif_pos n.isLt
theorem col_end (x : Rows) (j : Fin 256) {n : ℕ} (h : 16384 ≤ n) : col x j n = 0 := dif_neg (Nat.not_lt.mpr h)

/-- A column moved down by some rows, zeros above. -/
def late (k : ℕ) (z : Col) : Col := fun n => if n < k then 0 else z (n - k)

/-- What a row of the convolution's input receives. -/
def gradIn (w : Fin 3 → EReal) (d : Col) (n : ℕ) : EReal := w 2 * d n + w 1 * d (n + 1) + w 0 * d (n + 2)

/-- What a weight receives. -/
def gradTap (d z : Col) (k : ℕ) : EReal := ∑ n : Fin 16384, d n.val * late k z n.val

def prod (b x : Rows) (j : Fin 256) : Col := fun n => col b j n * col x j n

def outB (d x : Rows) (w : Taps) : Rows := fun i => gradIn (fun k => w (ix2 k (i 1))) (col d (i 1)) (i 0).val * x i
def outX (d b : Rows) (w : Taps) : Rows := fun i => gradIn (fun k => w (ix2 k (i 1))) (col d (i 1)) (i 0).val * b i
def outW (d b x : Rows) : Sums := fun i => if (i 0).val < 3 then gradTap (col d (i 1)) (prod b x (i 1)) (2 - (i 0).val) else 0

end Cert.Conv

end
-- ==== Proof.ConvPay.lean ====
/- The call of the convolution's gradient at a grid point: what it computes from its blocks, at an index. -/
module

public import proofs.«01_k».proof.Proof.Gen.Kernel5Ideal.Skeleton
public import proofs.«01_k».proof.Proof.Conv

@[expose] public section

set_option maxRecDepth 16384

noncomputable section

namespace Cert.Kernel5Ideal.Hand

open Cert.Kernel5Ideal Cert.Kernel5Ideal.Gen Idealize.ShloMosaic Idealize.ShloMosaic.TcCoe
open Cert.Conv (Col late gradIn)

theorem sel {α : Type} (p : Prop) [Decidable p] (x y : α) : Scalar.select (if p then 1#1 else 0#1) x y = if p then x else y := by
  split <;> rfl

theorem not_last : ∀ n : Fin 64, Scalar.cmpi .slt (BitVec.ofNat 32 n.val) 63#32 = if n.val < 63 then 1#1 else 0#1 := by decide +kernel
theorem not_first : ∀ n : Fin 64, Scalar.cmpi .sgt (BitVec.ofNat 32 n.val) 0#32 = if 0 < n.val then 1#1 else 0#1 := by decide +kernel
theorem row_255 : ∀ r : Fin 256, IntOp.cmpi .eq (BitVec.ofNat 32 r.val) 255#32 = if r.val = 255 then 1#1 else 0#1 := by decide +kernel
theorem row_254 : ∀ r : Fin 256, IntOp.cmpi .eq (BitVec.ofNat 32 r.val) 254#32 = if r.val = 254 then 1#1 else 0#1 := by decide +kernel
theorem row_0 : ∀ r : Fin 256, IntOp.cmpi .eq (BitVec.ofNat 32 r.val) 0#32 = if r.val = 0 then 1#1 else 0#1 := by decide +kernel
theorem row_1 : ∀ r : Fin 256, IntOp.cmpi .eq (BitVec.ofNat 32 r.val) 1#32 = if r.val = 1 then 1#1 else 0#1 := by decide +kernel

section rows

variable (i : grid0.Coords) (d : FVec Ideal S256x256 .f32) (da : FVec Ideal S8x256 .f32) (w : FVec Ideal S3x256 .f32) (r j : Fin 256)

theorem gradIn_at (n : Fin 64) (hi : (i 0).val = n.val) (f : Col) (h0 : ∀ r : Fin 256, d (ix2 r j) = f (256 * n.val + r.val))
    (h1 : n.val < 63 → da (ix2 0 j) = f (256 * n.val + 256)) (h2 : n.val < 63 → da (ix2 1 j) = f (256 * n.val + 257))
    (hf : ∀ k, 16384 ≤ k → f k = 0) :
    k0_pay5 (F := Ideal) i d da w (ix2 r j) = gradIn (fun k => w (ix2 k j)) f (256 * n.val + r.val) := by
  pointwise [k0_pay5]
  rw [hi, not_last]
  simp only [row_255, row_254, sel, h0]
  unfold gradIn
  have hn := n.isLt
  have hr := r.isLt
  refine congrArg₂ (· + ·) (congrArg₂ (· + ·) rfl (congrArg (w (ix2 1 j) * ·) ?_)) (congrArg (w (ix2 0 j) * ·) ?_)
  · split
    · split
      · rw [h1 ‹_›]; exact congrArg f (by omega)
      · exact (hf _ (by omega)).symm
    · exact congrArg f (by omega)
  · split
    · split
      · rw [h2 ‹_›]; exact congrArg f (by omega)
      · exact (hf _ (by omega)).symm
    · split
      · split
        · rw [h1 ‹_›]; exact congrArg f (by omega)
        · exact (hf _ (by omega)).symm
      · exact congrArg f (by omega)

theorem pay6_at (z : FVec Ideal S256x256 .f32) : k0_pay6 (F := Ideal) d z (ix2 r j) = d (ix2 r j) * z (ix2 r j) := by pointwise [k0_pay6]
theorem pay7_at (z : FVec Ideal S256x256 .f32) : k0_pay7 (F := Ideal) d z (ix2 r j) = d (ix2 r j) * z (ix2 r j) := by pointwise [k0_pay7]

end rows

section taps

variable (d b x : FVec Ideal S256x256 .f32) (bb xb : FVec Ideal S8x256 .f32) (acc : FVec Ideal S1x256 .f32) (j : Fin 256)
variable (n : Fin 64) (i : ℕ) (hi : i = n.val) (f g : Col) (h0 : ∀ r : Fin 256, d (ix2 r j) = f (256 * n.val + r.val))
variable (hz : ∀ r : Fin 256, (b (ix2 r j) : EReal) * x (ix2 r j) = g (256 * n.val + r.val))
variable (h6 : 0 < n.val → (bb (ix2 6 j) : EReal) * xb (ix2 6 j) = g (256 * n.val - 2))
variable (h7 : 0 < n.val → (bb (ix2 7 j) : EReal) * xb (ix2 7 j) = g (256 * n.val - 1))

include h0 hz in
theorem tap2_at : k0_pay3 (F := Ideal) d (k0_pay8 (F := Ideal) b x) acc (ix2 0 j)
    = acc (ix2 0 j) + ∑ r : Fin 256, f (256 * n.val + r.val) * late 0 g (256 * n.val + r.val) := by
  pointwise [k0_pay3, k0_pay8]
  refine congrArg (acc (ix2 0 j) + ·) (Finset.sum_congr rfl fun r _ => ?_)
  rw [h0, hz]
  rfl

include hi h0 hz h7 in
theorem tap1_at : k0_pay2 (F := Ideal) d (k0_pay10 (F := Ideal) (BitVec.ofNat 32 i) b x bb xb) acc (ix2 0 j)
    = acc (ix2 0 j) + ∑ r : Fin 256, f (256 * n.val + r.val) * late 1 g (256 * n.val + r.val) := by
  pointwise [k0_pay2, k0_pay10, k0_pay9, k0_pay8]
  rw [hi, not_first]
  simp only [row_0, sel, h0, hz]
  refine congrArg (acc (ix2 0 j) + ·) (Finset.sum_congr rfl fun r _ => congrArg (f (256 * n.val + r.val) * ·) ?_)
  unfold late
  have hr := r.isLt
  split
  · split
    · rw [h7 ‹_›, if_neg (by omega)]; exact congrArg g (by omega)
    · exact (if_pos (by omega)).symm
  · rw [if_neg (by omega)]; exact congrArg g (by omega)

include hi h0 hz h6 h7 in
theorem tap0_at : k0_pay1 (F := Ideal) (k0_pay11 (F := Ideal) acc) (k0_pay12 (F := Ideal) (BitVec.ofNat 32 i) d b x bb xb) (ix2 0 j)
    = acc (ix2 0 j) + ∑ r : Fin 256, f (256 * n.val + r.val) * late 2 g (256 * n.val + r.val) := by
  pointwise [k0_pay1, k0_pay11, k0_pay12, k0_pay9, k0_pay8]
  rw [hi, not_first]
  simp only [row_0, row_1, sel, h0, hz]
  refine congrArg (acc (ix2 0 j) + ·) (Finset.sum_congr rfl fun r _ => congrArg (f (256 * n.val + r.val) * ·) ?_)
  unfold late
  have hr := r.isLt
  split
  · split
    · rw [h6 ‹_›, if_neg (by omega)]; exact congrArg g (by omega)
    · exact (if_pos (by omega)).symm
  · split
    · split
      · rw [h7 ‹_›, if_neg (by omega)]; exact congrArg g (by omega)
      · exact (if_pos (by omega)).symm
    · rw [if_neg (by omega)]; exact congrArg g (by omega)

end taps

theorem zero_at (k : Fin 8) (j : Fin 256) : (k0_pay4 : FVec Ideal S8x256 .f32) (ix2 k j) = 0 := by pointwise [k0_pay4]

end Cert.Kernel5Ideal.Hand

end
-- ==== Proof.ConvOuts.lean ====
/- The call of the convolution's gradient: what its three blocks hold after each grid point. -/
module

public import proofs.«01_k».proof.Proof.Gen.Kernel5Ideal.Frame
public import Idealize.ShloMosaic.Lib.Pipeline.ValueKit
public import Idealize.ShloMosaic.Lib.Pipeline.ReadBack
public import Idealize.ShloMosaic.Lib.WritesUnit
public import Idealize.ShloMosaic.Lib.VecWindow
public import proofs.«01_k».proof.Proof.ConvPay

@[expose] public section

set_option maxRecDepth 16384

noncomputable section

namespace Cert.Kernel5Ideal.Hand

open Cert.Kernel5Ideal Cert.Kernel5Ideal.Gen Idealize.ShloMosaic Idealize.SL.Sem

variable (m : (ℓ : Loc nD τ sig) → Buf (Elt Ideal) ℓ) (c : Dev nD) (t : Fin cfg0.N)

theorem left7 : (outsAt0 m c t.val t.isLt).1
    = k0_pay6 (k0_pay5 (grid0.coords t) (iblk m c 0 t) (iblk m c 1 t) (iblk m c 6 t)) (iblk m c 3 t) := by
  by_cases h : t.val % 64 = 0
  · rw [outsAt0_A m c t h]; dsimp only; frame_out
  · rw [outsAt0_B m c t h]; dsimp only; frame_out

theorem left8 : (outsAt0 m c t.val t.isLt).2.1
    = k0_pay7 (k0_pay5 (grid0.coords t) (iblk m c 0 t) (iblk m c 1 t) (iblk m c 6 t)) (iblk m c 2 t) := by
  by_cases h : t.val % 64 = 0
  · rw [outsAt0_A m c t h]; dsimp only; frame_out
  · rw [outsAt0_B m c t h]; dsimp only; frame_out

/-- The rows a point leaves in the block of sums, over what it finds there. -/
def rows9 (X : Vec Ideal S8x256 .f32) : Vec Ideal S8x256 .f32 := fun y =>
  if (y 0).val = 2 then
    k0_pay3 (iblk m c 0 t) (k0_pay8 (iblk m c 2 t) (iblk m c 3 t)) (View.ld X (Rect.unit ![2, 0] ![1, 256] inb_S8x256_S1x256_2_0)) (ix2 0 (y 1))
  else if (y 0).val = 1 then
    k0_pay2 (iblk m c 0 t) (k0_pay10 (BitVec.ofNat 32 (grid0.coords t 0).val) (iblk m c 2 t) (iblk m c 3 t) (iblk m c 4 t) (iblk m c 5 t))
      (View.ld X (Rect.unit ![1, 0] ![1, 256] inb_S8x256_S1x256_1_0)) (ix2 0 (y 1))
  else if (y 0).val = 0 then
    k0_pay1 (k0_pay11 (View.ld X (Rect.unit ![0, 0] ![1, 256] inb_S8x256_S1x256_0_0)))
      (k0_pay12 (BitVec.ofNat 32 (grid0.coords t 0).val) (iblk m c 0 t) (iblk m c 2 t) (iblk m c 3 t) (iblk m c 4 t) (iblk m c 5 t)) (ix2 0 (y 1))
  else X y

theorem read_rows {κ : Kind} {sp : Space} (v : View sig κ sp S8x256 .f32) (f : v.ty.Contents (Elt Ideal))
    (w2 w1 w0 : FVec Ideal S1x256 .f32) (L : List (View.Piece (Elt Ideal) S8x256 .f32)) (y : S8x256.Idx) :
    View.read (Elt Ideal) v (v.writes (Elt Ideal) f
      (⟨Rect.unit ![2, 0] ![1, 256] inb_S8x256_S1x256_2_0, w2⟩ :: ⟨Rect.unit ![1, 0] ![1, 256] inb_S8x256_S1x256_1_0, w1⟩ ::
        ⟨Rect.unit ![0, 0] ![1, 256] inb_S8x256_S1x256_0_0, w0⟩ :: L)) y
    = if (y 0).val = 2 then w2 (ix2 0 (y 1)) else if (y 0).val = 1 then w1 (ix2 0 (y 1)) else if (y 0).val = 0 then w0 (ix2 0 (y 1))
      else View.read (Elt Ideal) v (v.writes (Elt Ideal) f L) y := by
  split
  · exact View.read_writes_cons_rows_of_mem v f _ w2 _ y (ix2 0 (y 1)) rfl (by assumption) rfl
  refine (View.read_writes_cons_rows_of_not_mem (o := 2) (W := 1) v f _ w2 _ y rfl rfl (by omega)).trans ?_
  split
  · exact View.read_writes_cons_rows_of_mem v f _ w1 _ y (ix2 0 (y 1)) rfl (by assumption) rfl
  refine (View.read_writes_cons_rows_of_not_mem (o := 1) (W := 1) v f _ w1 _ y rfl rfl (by omega)).trans ?_
  split
  · exact View.read_writes_cons_rows_of_mem v f _ w0 _ y (ix2 0 (y 1)) rfl (by assumption) rfl
  refine (View.read_writes_cons_rows_of_not_mem (o := 0) (W := 1) v f _ w0 _ y rfl rfl (by omega)).trans ?_
  rfl

theorem left9_first (h : t.val % 64 = 0) : (outsAt0 m c t.val t.isLt).2.2 = rows9 m c t (k0_pay4 (F := Ideal)) := by
  rw [outsAt0_A m c t h]; dsimp only
  frame_out
  simp (disch := decide) only [View.readCov_skip, View.readCov_fill]
  funext y
  refine (congrFun (View.read_writes_junk_eq_canon VO0_9 _) y).symm.trans ((read_rows _ _ _ _ _ _ y).trans ?_)
  unfold rows9
  refine ite_congr rfl (fun _ => rfl) fun _ => ite_congr rfl (fun _ => rfl) fun _ => ite_congr rfl (fun _ => rfl) fun _ => ?_
  exact congrFun (View.read_writes_full _ _ _ _ _) y

theorem left9_later (h : ¬t.val % 64 = 0) : (outsAt0 m c t.val t.isLt).2.2
    = rows9 m c t (outsAt0 m c (t.val - 1) (Nat.lt_of_le_of_lt (Nat.sub_le _ _) t.isLt)).2.2 := by
  rw [outsAt0_B m c t h]; dsimp only
  frame_out
  funext y
  refine (read_rows _ _ _ _ _ _ y).trans ?_
  unfold rows9
  refine ite_congr rfl (fun _ => rfl) fun _ => ite_congr rfl (fun _ => rfl) fun _ => ite_congr rfl (fun _ => rfl) fun _ => ?_
  exact congrFun (Memref.IsWhole.read_unread _ _) y

end Cert.Kernel5Ideal.Hand

end
-- ==== Proof.ConvRun.lean ====
/- The call of the convolution's gradient: what its three arrays hold at the end. -/
module

public import proofs.«01_k».proof.Proof.ConvOuts

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Conv (Col Rows Taps late gradIn gradTap prod outB outX outW)

abbrev place (t : ℕ) (ht : t < 64) (a : Fin 256) : Fin 16384 := ⟨256 * t + a, by omega⟩

theorem exists_ix2 {A B : ℕ} (y : (⟨2, ![A, B]⟩ : Shape).Idx) : ∃ (a : Fin A) (b : Fin B), y = ix2 a b :=
  ⟨y 0, y 1, funext fun p => by match p with | ⟨0, _⟩ => rfl | ⟨1, _⟩ => rfl⟩

theorem index_0 : ∀ t : Fin cfg0.N, win0_0.index t = ![t.val, 0] := (by decide +kernel : ∀ t : Fin grid0.N, _)
theorem index_1 : ∀ t : Fin cfg0.N, win0_1.index t = ![min ((t.val + 1) * 32) 2047, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val * 32 - 1, 0] := (by decide +kernel : ∀ t : Fin grid0.N, _)
theorem index_5 : ∀ t : Fin cfg0.N, win0_5.index t = ![t.val * 32 - 1, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![0, 0] := (by decide +kernel : ∀ t : Fin grid0.N, _)
theorem coord_0 : ∀ t : Fin cfg0.N, (grid0.coords t 0).val = t.val := (by decide +kernel : ∀ t : Fin grid0.N, _)

variable (m : (ℓ : Loc nD τ sig) → Buf (Elt Ideal) ℓ) (c : Dev nD)

abbrev argD : Rows := m ((c.tc : Thread nD τ).loc main_arg0)
abbrev argB : Rows := m ((c.tc : Thread nD τ).loc main_arg1)
abbrev argX : Rows := m ((c.tc : Thread nD τ).loc main_arg2)
abbrev argW : Taps := m ((c.tc : Thread nD τ).loc main_arg3)

section points

variable (t : Fin cfg0.N)

theorem lt_64 : t.val < 64 := Nat.lt_of_lt_of_eq t.isLt N_0

theorem blk_0 (a j : Fin 256) : iblk m c 0 t (ix2 a j) = argD m c (ix2 (place t.val (lt_64 t) a) j) := by
  blk_simp [iblk]
  refine congrArg (argD m c) ?_
  blk_ext [index_0]
theorem blk_2 (a j : Fin 256) : iblk m c 2 t (ix2 a j) = argB m c (ix2 (place t.val (lt_64 t) a) j) := by
  blk_simp [iblk]
  refine congrArg (argB m c) ?_
  blk_ext [index_2]
theorem blk_3 (a j : Fin 256) : iblk m c 3 t (ix2 a j) = argX m c (ix2 (place t.val (lt_64 t) a) j) := by
  blk_simp [iblk]
  refine congrArg (argX m c) ?_
  blk_ext [index_3]
theorem blk_1 (h : t.val < 63) (k : Fin 8) (j : Fin 256) : iblk m c 1 t (ix2 k j) = argD m c (ix2 (⟨256 * t.val + 256 + k.val, by omega⟩ : Fin 16384) j) := by
  blk_simp [iblk]
  refine congrArg (argD m c) ?_
  blk_ext [index_1]
theorem blk_4 (h : 0 < t.val) (k : Fin 8) (j : Fin 256) :
    iblk m c 4 t (ix2 k j) = argB m c (ix2 (⟨256 * t.val - 8 + k.val, by have := lt_64 t; omega⟩ : Fin 16384) j) := by
  blk_simp [iblk]
  refine congrArg (argB m c) ?_
  blk_ext [index_4]
theorem blk_5 (h : 0 < t.val) (k : Fin 8) (j : Fin 256) :
    iblk m c 5 t (ix2 k j) = argX m c (ix2 (⟨256 * t.val - 8 + k.val, by have := lt_64 t; omega⟩ : Fin 16384) j) := by
  blk_simp [iblk]
  refine congrArg (argX m c) ?_
  blk_ext [index_5]
theorem blk_6 (k : Fin 3) (j : Fin 256) : iblk m c 6 t (ix2 k j) = argW m c (ix2 k j) := by
  blk_simp [iblk]
  refine congrArg (argW m c) ?_
  blk_ext [index_6]

theorem place_7 (a j : Fin 256) : (win0_7.blk t).view.emb (ix2 a j) = ix2 (place t.val (lt_64 t) a) j := by
  blk_ext [index_7]
theorem place_8 (a j : Fin 256) : (win0_8.blk t).view.emb (ix2 a j) = ix2 (place t.val (lt_64 t) a) j := by
  blk_ext [index_8]
theorem place_9 (k : Fin 8) (j : Fin 256) : (win0_9.blk t).view.emb (ix2 k j) = ix2 k j := by
  blk_ext [index_9]

abbrev tile : Fin 64 := ⟨t.val, lt_64 t⟩

theorem col_0 (j a : Fin 256) : iblk m c 0 t (ix2 a j) = Conv.col (argD m c) j (256 * (tile t).val + a.val) :=
  (blk_0 m c t a j).trans (Conv.col_at _ j (place t.val (lt_64 t) a)).symm
theorem col_1 (j : Fin 256) (h : t.val < 63) (k : Fin 8) : iblk m c 1 t (ix2 k j) = Conv.col (argD m c) j (256 * (tile t).val + 256 + k.val) :=
  (blk_1 m c t h k j).trans (Conv.col_at _ j ⟨_, by omega⟩).symm
abbrev b2 : FVec Ideal S256x256 .f32 := iblk m c 2 t
abbrev b3 : FVec Ideal S256x256 .f32 := iblk m c 3 t
abbrev b4 : FVec Ideal S8x256 .f32 := iblk m c 4 t
abbrev b5 : FVec Ideal S8x256 .f32 := iblk m c 5 t
theorem prod_0 (j a : Fin 256) : (b2 m c t (ix2 a j) : EReal) * b3 m c t (ix2 a j) = prod (argB m c) (argX m c) j (256 * (tile t).val + a.val) :=
  congrArg₂ (· * ·) ((blk_2 m c t a j).trans (Conv.col_at _ j (place t.val (lt_64 t) a)).symm)
    ((blk_3 m c t a j).trans (Conv.col_at _ j (place t.val (lt_64 t) a)).symm)
theorem prod_1 (j : Fin 256) (h : 0 < t.val) (k : Fin 8) :
    (b4 m c t (ix2 k j) : EReal) * b5 m c t (ix2 k j) = prod (argB m c) (argX m c) j (256 * (tile t).val - 8 + k.val) :=
  congrArg₂ (· * ·) ((blk_4 m c t h k j).trans (Conv.col_at _ j ⟨_, by have := lt_64 t; omega⟩).symm)
    ((blk_5 m c t h k j).trans (Conv.col_at _ j ⟨_, by have := lt_64 t; omega⟩).symm)

theorem grad_0 (a j : Fin 256) : k0_pay5 (F := Ideal) (grid0.coords t) (iblk m c 0 t) (iblk m c 1 t) (iblk m c 6 t) (ix2 a j)
    = gradIn (fun k => argW m c (ix2 k j)) (Conv.col (argD m c) j) (256 * t.val + a.val) := by
  refine (gradIn_at _ _ _ _ a j (tile t) (coord_0 t) (Conv.col (argD m c) j) (fun r => col_0 m c t j r)
    (fun h => col_1 m c t j h 0) (fun h => col_1 m c t j h 1) (fun k h => Conv.col_end _ j h)).trans ?_
  exact congrArg (fun w => gradIn w (Conv.col (argD m c) j) (256 * t.val + a.val)) (funext fun k => blk_6 m c t k j)

end points

theorem final_7 : (dats m 0 c).arrAt 7 cfg0.N = outB (argD m c) (argX m c) (argW m c) := by
  refine (dats m 0 c).arrAt_eq_of_covers 7 _ (by decide +kernel) fun t hf y => ?_
  blk_simp
  rw [after0_7, left7]
  obtain ⟨a, j, rfl⟩ := exists_ix2 (A := 256) (B := 256) y
  refine (pay6_at _ a j _).trans (Eq.trans ?_ (congrArg (outB (argD m c) (argX m c) (argW m c)) (place_7 t a j)).symm)
  exact congrArg₂ (· * ·) (grad_0 m c t a j) (blk_3 m c t a j)

theorem final_8 : (dats m 0 c).arrAt 8 cfg0.N = outX (argD m c) (argB m c) (argW m c) := by
  refine (dats m 0 c).arrAt_eq_of_covers 8 _ (by decide +kernel) fun t hf y => ?_
  blk_simp
  rw [after0_8, left8]
  obtain ⟨a, j, rfl⟩ := exists_ix2 (A := 256) (B := 256) y
  refine (pay7_at _ a j _).trans (Eq.trans ?_ (congrArg (outX (argD m c) (argB m c) (argW m c)) (place_8 t a j)).symm)
  exact congrArg₂ (· * ·) (grad_0 m c t a j) (blk_2 m c t a j)

/-- What a point adds to the block of sums. -/
def add9 (t : Fin cfg0.N) (i : S8x256.Idx) : EReal :=
  if (i 0).val < 3 then ∑ r : Fin 256, Conv.col (argD m c) (i 1) (256 * t.val + r.val)
    * late (2 - (i 0).val) (prod (argB m c) (argX m c) (i 1)) (256 * t.val + r.val) else 0

theorem idx_row {o : ℕ} (ho : o < 8) (inb) (j : Fin 256) : (Rect.unit (s := S8x256) ![o, 0] ![1, 256] inb).idx (ix2 0 j) = ix2 ⟨o, ho⟩ j :=
  funext fun p => Fin.ext (by
    match p with
    | ⟨0, _⟩ => exact show o + 1 * 0 = o by omega
    | ⟨1, _⟩ => exact show 0 + 1 * j.val = j.val by omega)

theorem rows9_at (t : Fin cfg0.N) (X : Vec Ideal S8x256 .f32) (i : S8x256.Idx) : rows9 m c t X i = (X i + add9 m c t i : EReal) := by
  obtain ⟨k, j, rfl⟩ := exists_ix2 (A := 8) (B := 256) i
  have h6 : ∀ h : 0 < (tile t).val, _ := fun h => prod_1 m c t j h 6
  have h7 : ∀ h : 0 < (tile t).val, _ := fun h => prod_1 m c t j h 7
  have e6 : 0 < (tile t).val → 256 * (tile t).val - 8 + (6 : Fin 8).val = 256 * (tile t).val - 2 := fun h => by
    show 256 * t.val - 8 + 6 = 256 * t.val - 2
    have h : 0 < t.val := h
    omega
  have e7 : 0 < (tile t).val → 256 * (tile t).val - 8 + (7 : Fin 8).val = 256 * (tile t).val - 1 := fun h => by
    show 256 * t.val - 8 + 7 = 256 * t.val - 1
    have h : 0 < t.val := h
    omega
  unfold rows9 add9
  match k with
  | ⟨0, _⟩ =>
    refine (if_neg (by simp)).trans ((if_neg (by simp)).trans ((if_pos rfl).trans ?_))
    refine (tap0_at _ _ _ _ _ _ j (tile t) _ (coord_0 t) _ _ (col_0 m c t j) (prod_0 m c t j)
      (fun h => (h6 h).trans (congrArg _ (e6 h))) (fun h => (h7 h).trans (congrArg _ (e7 h)))).trans ?_
    exact congrArg₂ (· + ·) (congrArg X (idx_row (by omega) _ j)) (if_pos (show 0 < 3 by decide)).symm
  | ⟨1, _⟩ =>
    refine (if_neg (by simp)).trans ((if_pos rfl).trans ?_)
    refine (tap1_at _ _ _ _ _ _ j (tile t) _ (coord_0 t) _ _ (col_0 m c t j) (prod_0 m c t j)
      (fun h => (h7 h).trans (congrArg _ (e7 h)))).trans ?_
    exact congrArg₂ (· + ·) (congrArg X (idx_row (by omega) _ j)) (if_pos (show 1 < 3 by decide)).symm
  | ⟨2, _⟩ =>
    refine (if_pos rfl).trans ?_
    refine (tap2_at _ _ _ _ j (tile t) _ _ (col_0 m c t j) (prod_0 m c t j)).trans ?_
    exact congrArg₂ (· + ·) (congrArg X (idx_row (by omega) _ j)) (if_pos (show 2 < 3 by decide)).symm
  | ⟨n + 3, hn⟩ =>
    refine (if_neg (by simp)).trans ((if_neg (by simp)).trans ((if_neg (by simp)).trans ?_))
    refine (add_zero _).symm.trans (congrArg (X (ix2 ⟨n + 3, hn⟩ j) + ·) (if_neg ?_).symm)
    show ¬n + 3 < 3
    omega

theorem sum9 (t : Fin cfg0.N) (ht : t.val + 1 = cfg0.N) (i : S8x256.Idx) :
    (outsAt0 m c t.val t.isLt).2.2 i = 0 + ∑ p : Fin cfg0.N, add9 m c p i := by
  refine Pipeline.eq_sum_fin_of_reset_step_apply_last (M := EReal) (fun n h => (outsAt0 m c n h).2.2) 64 (fun _ => 0) (add9 m c)
    (fun t h i => ?_) (fun t h i => ?_) (Nat.le_of_eq N_0) t ht i
  · refine (congrFun (left9_first m c t h) i).trans ((rows9_at m c t _ i).trans ?_)
    obtain ⟨k, j, rfl⟩ := exists_ix2 (A := 8) (B := 256) i
    rw [zero_at]
  · exact (congrFun (left9_later m c t h) i).trans (rows9_at m c t _ i)

theorem final_9 : (dats m 0 c).arrAt 9 cfg0.N = outW (argD m c) (argB m c) (argX m c) := by
  refine (dats m 0 c).arrAt_eq_of_covers 9 _ (by decide +kernel) fun t hf y => ?_
  have ht : t.val + 1 = cfg0.N := by
    have h := (flush0_9 t).mp hf
    have h1 := lt_64 t
    have h2 : cfg0.N = 64 := N_0
    omega
  blk_simp
  rw [after0_9]
  obtain ⟨k, j, rfl⟩ := exists_ix2 (A := 8) (B := 256) y
  refine (sum9 m c t ht _).trans (Eq.trans ?_ (congrArg (outW (argD m c) (argB m c) (argX m c)) (place_9 t k j)).symm)
  rw [zero_add]
  unfold add9 outW
  by_cases hk : k.val < 3
  · refine (Finset.sum_congr rfl fun p _ => if_pos hk).trans (Eq.trans ?_ (if_pos hk).symm)
    refine Eq.trans ?_ (Fin.sum_mul_add_fin cfg0.N 256 (fun n : Fin 16384 => (Conv.col (argD m c) j n.val
      * late (2 - k.val) (prod (argB m c) (argX m c) j) n.val : EReal)) (by rw [show cfg0.N = 64 from N_0]))
    refine Finset.sum_congr rfl fun p _ => Finset.sum_congr rfl fun r _ => ?_
    exact congrArg (fun n => (Conv.col (argD m c) j n * late (2 - k.val) (prod (argB m c) (argX m c) j) n : EReal))
      (congrArg (· + r.val) (Nat.mul_comm 256 p.val))
  · exact (Finset.sum_eq_zero fun p _ => if_neg hk).trans (if_neg hk).symm

end Cert.Kernel5Ideal.Hand

end
-- ==== Proof.ConvRef.lean ====
/- The reference of the convolution's gradient: its results at an index. -/
module

public import proofs.«01_k».proof.Proof.Gen.Reference5Ideal.Run
public import proofs.«01_k».proof.Proof.Conv

@[expose] public section

set_option maxRecDepth 16384

noncomputable section

namespace Cert.Reference5Ideal.Hand

open Idealize.ShloMosaic Idealize.ShloMosaic.TcCoe
open Cert.Reference5Ideal Cert.Reference5Ideal.Gen
open Cert.Conv (Rows Taps Sums late gradIn gradTap prod outB outX outW)

abbrev Z : FVec Ideal S_ .f32 := constant (F := Ideal) S_ .f32 0x00000000#32
abbrev Long := FVec Ideal S16386x256 .f32
abbrev Tap := FVec Ideal S1x256 .f32

def wide (w : Tap) : Rows := broadcastInDim S16384x256 ![0, 1] bcast_S1x256_S16384x256_0_1
  (broadcastInDim S1x256 ![1] bcast_S256_S1x256_1 (shapeCast S256 w shapeCasts_S1x256_S256))
def same (d : Rows) : Rows := shapeCast S16384x256 d shapeCasts_S16384x256_S16384x256
def part2 (d : Rows) (w : Taps) : Long := pad S16386x256 ![2, 0] ![0, 0] ![0, 0]
  (mulf (wide (extractStridedSlice S1x256 ![2, 0] w slices_S3x256_S1x256_2_0)) (same d)) Z pads_S16384x256_S16386x256_200_000 h_S_
def part1 (d : Rows) (w : Taps) : Long := pad S16386x256 ![1, 0] ![1, 0] ![0, 0]
  (mulf (wide (extractStridedSlice S1x256 ![1, 0] w slices_S3x256_S1x256_1_0)) (same d)) Z pads_S16384x256_S16386x256_110_000 h_S_
def part0 (d : Rows) (w : Taps) : Long := pad S16386x256 ![0, 0] ![2, 0] ![0, 0]
  (mulf (wide (extractStridedSlice S1x256 ![0, 0] w slices_S3x256_S1x256_0_0)) (same d)) Z pads_S16384x256_S16386x256_020_000 h_S_
def grads (d : Rows) (w : Taps) : Rows :=
  extractStridedSlice S16384x256 ![2, 0] (addf (addf (part2 d w) (part1 d w)) (part0 d w)) slices_S16386x256_S16384x256_2_0

def long (b x : Rows) : Long :=
  concatenate S16386x256 0 [⟨S2x256, (broadcastInDim S2x256 ![] bcast_S_S2x256 Z)⟩, ⟨S16384x256, (mulf b x)⟩] concatenates_S2x256_S16384x256_S16386x256_d0
def tap (d z : Rows) : Tap := broadcastInDim S1x256 ![1] bcast_S256_S1x256_1
  (Host.reduceAdd (shapeCast S1x256 (Host.reduceAdd (mulf (same d) z) Z reducesTo_S16384x256_S256_d0 h_S_) shapeCasts_S256_S1x256) Z
    reducesTo_S1x256_S256_d0 h_S_)
def taps (t2 t1 t0 : Tap) : Sums :=
  pad S8x256 ![0, 0] ![5, 0] ![0, 0] (addf (addf (pad S3x256 ![2, 0] ![0, 0] ![0, 0] t2 Z pads_S1x256_S3x256_200_000 h_S_)
    (pad S3x256 ![1, 0] ![1, 0] ![0, 0] t1 Z pads_S1x256_S3x256_110_000 h_S_))
    (pad S3x256 ![0, 0] ![2, 0] ![0, 0] t0 Z pads_S1x256_S3x256_020_000 h_S_)) (sitofp (F := Ideal) .f32 (constantI S_ 32 0#32)) pads_S3x256_S8x256_050_000 h_S_

section reads

variable (d b x z : Rows) (w : Taps) (n : Fin 16384) (j : Fin 256)

theorem same_at : same d (ix2 n j) = d (ix2 n j) := by pointwise [same]
theorem wide_at (u : Tap) : wide u (ix2 n j) = u (ix2 0 j) := by pointwise [wide]
theorem cut (k : Fin 3) (h : S3x256.Slices ![k.val, 0] S1x256) : extractStridedSlice (α := EReal) S1x256 ![k.val, 0] w h (ix2 0 j) = w (ix2 k j) := by
  fin_cases k <;> pointwise

theorem Z_at (i : S_.Idx) : Z i = (0 : EReal) := by pointwise

/-- Rows set below and above with a value, at an index. -/
theorem pad_row {A B C lo hi : ℕ} (v : FVec Ideal S_ .f32) (X : FVec Ideal (⟨2, ![A, B]⟩ : Shape) .f32)
    (h : (⟨2, ![A, B]⟩ : Shape).Pads ![lo, 0] ![hi, 0] ![0, 0] (⟨2, ![C, B]⟩ : Shape)) (r : Fin C) (q : Fin B) :
    pad (⟨2, ![C, B]⟩ : Shape) ![lo, 0] ![hi, 0] ![0, 0] X v h h_S_ (ix2 r q)
      = if e : lo ≤ r.val ∧ r.val - lo < A then X (ix2 ⟨r.val - lo, e.2⟩ q) else v (Shape.Idx.first h_S_) := by
  rw [pad_apply]
  by_cases e : lo ≤ r.val ∧ r.val - lo < A
  · rw [dif_pos e, dif_pos (by
      intro a
      match a with
      | ⟨0, _⟩ => exact ⟨e.1, Nat.mod_one _, (Nat.div_one (r.val - lo)).symm ▸ e.2⟩
      | ⟨1, _⟩ => exact ⟨Nat.zero_le _, Nat.mod_one _, (Nat.div_one (q.val - 0)).symm ▸ q.isLt⟩)]
    refine congrArg X ?_
    funext p
    refine Fin.ext ?_
    match p with
    | ⟨0, _⟩ => exact Nat.div_one (r.val - lo)
    | ⟨1, _⟩ => exact Nat.div_one (q.val - 0)
  · rw [dif_neg e, dif_neg (by
      intro f
      obtain ⟨f1, -, f2⟩ := f ⟨0, Nat.zero_lt_two⟩
      exact e ⟨f1, (Nat.div_one (r.val - lo)) ▸ f2⟩)]

theorem prods_at (k : Fin 3) (h : S3x256.Slices ![k.val, 0] S1x256) :
    mulf (F := Ideal) (wide (extractStridedSlice S1x256 ![k.val, 0] w h)) (same d) (ix2 n j) = (w (ix2 k j) * d (ix2 n j) : EReal) :=
  congrArg₂ (· * ·) ((wide_at n j _).trans (cut w j k h)) (same_at d n j)

theorem part_at {lo hi : ℕ} (k : Fin 3) (h : S3x256.Slices ![k.val, 0] S1x256) (hp : S16384x256.Pads ![lo, 0] ![hi, 0] ![0, 0] S16386x256)
    (r : Fin 16386) (hr : lo ≤ r.val) :
    pad S16386x256 ![lo, 0] ![hi, 0] ![0, 0] (mulf (F := Ideal) (wide (extractStridedSlice S1x256 ![k.val, 0] w h)) (same d)) Z hp h_S_ (ix2 r j)
      = (w (ix2 k j) * Conv.col d j (r.val - lo) : EReal) := by
  refine (pad_row Z _ hp r j).trans ?_
  by_cases e : r.val - lo < 16384
  · rw [dif_pos ⟨hr, e⟩]
    exact (prods_at d w ⟨_, e⟩ j k h).trans (congrArg (w (ix2 k j) * ·) (Conv.col_at d j ⟨_, e⟩).symm)
  · rw [dif_neg (fun f => e f.2), Z_at, Conv.col_end _ _ (Nat.le_of_not_lt e), mul_zero]

theorem grads_at : grads d w (ix2 n j) = gradIn (fun k => w (ix2 k j)) (Conv.col d j) n.val := by
  have e : grads d w (ix2 n j) = (part2 d w (ix2 ⟨n.val + 2, by omega⟩ j) + part1 d w (ix2 ⟨n.val + 2, by omega⟩ j)
      + part0 d w (ix2 ⟨n.val + 2, by omega⟩ j) : EReal) := by
    pointwise [grads]
    rw [show (⟨2 + n.val, by omega⟩ : Fin 16386) = ⟨n.val + 2, by omega⟩ from Fin.ext (Nat.add_comm _ _)]
  rw [e]
  exact congrArg₂ (· + ·) (congrArg₂ (· + ·) (part_at d w j 2 slices_S3x256_S1x256_2_0 _ ⟨n.val + 2, by omega⟩ (by simp))
    (part_at d w j 1 slices_S3x256_S1x256_1_0 _ ⟨n.val + 2, by omega⟩ (by simp)))
    (part_at d w j 0 slices_S3x256_S1x256_0_0 _ ⟨n.val + 2, by omega⟩ (by simp))

theorem long_at (r : Fin 16386) : long b x (ix2 r j) = late 2 (prod b x j) r.val := by
  unfold late
  by_cases e : r.val < 2
  · rw [if_pos e]
    pointwise [long]
    simp [e]
  · rw [if_neg e, show r.val - 2 = (⟨r.val - 2, by omega⟩ : Fin 16384).val from rfl]
    unfold prod
    rw [Conv.col_at, Conv.col_at]
    pointwise [long]
    simp [e]

theorem late_shift (f : Conv.Col) (k n : ℕ) (hk : k ≤ 2) : late 2 f (n + k) = late (2 - k) f n := by
  unfold late
  by_cases e : n + k < 2
  · rw [if_pos e, if_pos (by omega)]
  · rw [if_neg e, if_neg (by omega), show n + k - 2 = n - (2 - k) by omega]

theorem tap_at : tap d z (ix2 0 j) = ∑ n : Fin 16384, (d (ix2 n j) * z (ix2 n j) : EReal) := by
  pointwise [tap, same]
  exact Fintype.sum_unique _

theorem tap_grad (k : Fin 3) (h : S16386x256.Slices ![k.val, 0] S16384x256) :
    tap d (extractStridedSlice S16384x256 ![k.val, 0] (long b x) h) (ix2 0 j) = gradTap (Conv.col d j) (prod b x j) (2 - k.val) := by
  rw [tap_at]
  refine Finset.sum_congr rfl fun n _ => ?_
  refine congrArg₂ (· * ·) (Conv.col_at d j n).symm ?_
  rw [← late_shift _ k.val n.val (by omega)]
  have hn : n.val + k.val < 16386 := by omega
  refine Eq.trans ?_ (long_at b x j ⟨n.val + k.val, hn⟩)
  show long b x _ = _
  refine congrArg (long b x) ?_
  funext p
  refine Fin.ext ?_
  match p with
  | ⟨0, _⟩ => exact Nat.add_comm k.val n.val
  | ⟨1, _⟩ => exact Nat.zero_add j.val

theorem taps_at (t2 t1 t0 : Tap) (k : Fin 8) : taps t2 t1 t0 (ix2 k j)
    = (if k.val = 2 then t2 (ix2 0 j) else if k.val = 1 then t1 (ix2 0 j) else if k.val = 0 then t0 (ix2 0 j) else 0 : EReal) := by
  unfold taps
  refine (pad_row _ _ _ k j).trans ?_
  by_cases e : k.val < 3
  · rw [dif_pos ⟨Nat.zero_le _, e⟩]
    refine (congrArg₂ (fun a b : EReal => a + b) (congrArg₂ (fun a b : EReal => a + b) (pad_row Z t2 _ _ j) (pad_row Z t1 _ _ j)) (pad_row Z t0 _ _ j)).trans ?_
    obtain ⟨k, hk⟩ := k
    match k, hk, e with
    | 0, _, _ => simp [Z_at]
    | 1, _, _ => simp [Z_at]
    | 2, _, _ => simp [Z_at]
  · rw [dif_neg (fun f => e f.2), if_neg (by omega), if_neg (by omega), if_neg (by omega)]
    show (((0#32).toInt : ℝ) : EReal) = 0
    simp

end reads

theorem exists_ix2 {A B : ℕ} (y : (⟨2, ![A, B]⟩ : Shape).Idx) : ∃ (a : Fin A) (b : Fin B), y = ix2 a b :=
  ⟨y 0, y 1, funext fun p => by match p with | ⟨0, _⟩ => rfl | ⟨1, _⟩ => rfl⟩

theorem res_B (d x : Rows) (w : Taps) : mulf (F := Ideal) (grads d w) x = outB d x w := by
  funext y
  obtain ⟨n, j, rfl⟩ := exists_ix2 (A := 16384) (B := 256) y
  exact congrArg (· * x (ix2 n j)) (grads_at d w n j)

theorem res_X (d b : Rows) (w : Taps) : mulf (F := Ideal) b (grads d w) = outX d b w := by
  funext y
  obtain ⟨n, j, rfl⟩ := exists_ix2 (A := 16384) (B := 256) y
  exact (congrArg (b (ix2 n j) * ·) (grads_at d w n j)).trans (mul_comm _ _)

theorem res_W (d b x : Rows) : taps (tap d (extractStridedSlice S16384x256 ![2, 0] (long b x) slices_S16386x256_S16384x256_2_0))
    (tap d (extractStridedSlice S16384x256 ![1, 0] (long b x) slices_S16386x256_S16384x256_1_0))
    (tap d (extractStridedSlice S16384x256 ![0, 0] (long b x) slices_S16386x256_S16384x256_0_0)) = outW d b x := by
  funext y
  obtain ⟨k, j, rfl⟩ := exists_ix2 (A := 8) (B := 256) y
  refine (taps_at j _ _ _ k).trans ?_
  have h2 := tap_grad d b x j 2 slices_S16386x256_S16384x256_2_0
  have h1 := tap_grad d b x j 1 slices_S16386x256_S16384x256_1_0
  have h0 := tap_grad d b x j 0 slices_S16386x256_S16384x256_0_0
  refine (congrArg₂ (fun a q : EReal => if k.val = 2 then a else q) h2
    (congrArg₂ (fun a q : EReal => if k.val = 1 then a else q) h1 (congrArg (fun a : EReal => if k.val = 0 then a else 0) h0))).trans ?_
  show _ = if k.val < 3 then gradTap (Conv.col d j) (prod b x j) (2 - k.val) else 0
  obtain ⟨k, hk⟩ := k
  match k, hk with
  | 0, _ => rfl
  | 1, _ => rfl
  | 2, _ => rfl
  | n + 3, _ => simp

end Cert.Reference5Ideal.Hand

end
-- ==== Proof.ConvValue.lean ====
/- Both runs end with the convolution's gradients. -/
module

public import proofs.«01_k».proof.Defs
public import proofs.«01_k».proof.Proof.ConvRun
public import proofs.«01_k».proof.Proof.ConvRef

@[expose] public section

set_option maxRecDepth 16384

noncomputable section

namespace Cert.Proof

open Idealize.ShloMosaic Idealize.SL Idealize.SL.Sem
open Cert.Conv (Rows Taps outB outX outW)
open Cert.Kernel5Ideal.Hand (argD argB argX argW)

theorem algebraic₅ : Cert.algebraic_Kernel5Ideal_Reference5Ideal := by
  intro m ρ m' ρ' _ same
  refine ⟨fun c => outB (argD m c) (argX m c) (argW m c), fun c => outX (argD m c) (argB m c) (argW m c),
    fun c => outW (argD m c) (argB m c) (argX m c), ?_, ?_⟩
  · refine (θ_run _ _ _).mono ?_ (θ_run_and (Kernel5Ideal.Gen.run_main m ρ) (Kernel5Ideal.Gen.frame m ρ))
    rintro r ⟨h, hf, -⟩ c
    exact ⟨((h c).1 7).trans (Kernel5Ideal.Hand.final_7 m c), ((h c).1 8).trans (Kernel5Ideal.Hand.final_8 m c),
      ((h c).1 9).trans (Kernel5Ideal.Hand.final_9 m c), hf c⟩
  · refine (θ_run _ _ _).mono ?_ (Reference5Ideal.Value.run m' ρ')
    rintro r h c
    obtain ⟨sD, sB, sX, sW⟩ := same c
    have eB := Reference5Ideal.Hand.res_B (argD m c) (argX m c) (argW m c)
    have eX := Reference5Ideal.Hand.res_X (argD m c) (argB m c) (argW m c)
    have eW := Reference5Ideal.Hand.res_W (argD m c) (argB m c) (argX m c)
    obtain ⟨h1, h2, h3, h4⟩ := h c
    rw [sD, sW, sX] at h1
    rw [sD, sW, sB] at h2
    rw [sD, sB, sX] at h3
    exact ⟨h1.trans eB, h2.trans eX, h3.trans eW, h4⟩

end Cert.Proof

end
-- ==== Proof.Loss.lean ====
/- The loss and its gradient, written once. -/
module

public import proofs.«01_k».proof.Proof.Mix
public import Idealize.ShloMosaic.PureOps.Ideal

@[expose] public section

noncomputable section

namespace Cert.Loss

open Idealize.ShloMosaic
open Cert.Ffn (width two width_eq div_coe sum_scale)
open Cert.Mix (one)

abbrev half : EReal := Ideal.ofBits .f32 0x3F000000#32
abbrev rate : EReal := Ideal.ofBits .f32 0x3A800000#32

theorem half_eq : half = ((1 / 2 : ℝ) : EReal) := by
  simp [half, Ideal.ofBits, Ideal.ieee]; rw [← EReal.coe_mul]; norm_num
theorem rate_eq : rate = ((1 / 1024 : ℝ) : EReal) := by
  simp [rate, Ideal.ofBits, Ideal.ieee]; rw [← EReal.coe_mul]; norm_num
theorem two_eq : two = ((2 : ℝ) : EReal) := by
  simp [two, Ideal.ofBits, Ideal.ieee]; rw [← EReal.coe_mul]; norm_num
theorem one_eq : one = ((1 : ℝ) : EReal) := by
  simp [one, Ideal.ofBits, Ideal.ieee]; rw [← EReal.coe_mul]; norm_num

abbrev Rows := FVec Ideal (⟨2, ![16384, 1024]⟩ : Shape) .f32
abbrev Block := FVec Ideal (⟨2, ![8, 128]⟩ : Shape) .f32

/-- The gradient: the difference, by the rate. -/
def grad (y t : Rows) : Rows := fun i => (y i - t i) * rate

/-- The mean of the squares of a row's differences. -/
def mean (y t : Rows) (n : Fin 16384) : EReal :=
  Ideal.div (∑ j : Fin 1024, (y (ix2 n j) - t (ix2 n j)) * (y (ix2 n j) - t (ix2 n j))) width

/-- The loss, at every place of its block. -/
def loss (y t : Rows) : Block := fun _ => half * ∑ n : Fin 16384, mean y t n

theorem half_sum {ι : Type} (s : Finset ι) (f : ι → EReal) : ∑ k ∈ s, half * f k = half * ∑ k ∈ s, f k := by
  rw [half_eq, mul_comm, ← sum_scale s f (by norm_num)]
  exact Finset.sum_congr rfl fun k _ => mul_comm _ _

theorem rate_by_rule (e : EReal) : Ideal.div (half * one) width * (two * e) = e * rate := by
  rw [half_eq, one_eq, width_eq, div_coe _ (by norm_num), two_eq, rate_eq, ← mul_assoc, ← EReal.coe_mul, ← EReal.coe_mul, ← EReal.coe_mul, mul_comm]
  congr 2
  norm_num

end Cert.Loss

end
-- ==== Proof.LossRun.lean ====
/- The call of the loss: what its two arrays hold at the end. -/
module

public import proofs.«01_k».proof.Proof.Gen.Kernel6Ideal.Frame
public import Idealize.ShloMosaic.Lib.Pipeline.ValueKit
public import proofs.«01_k».proof.Proof.Loss

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Ffn (width)
open Cert.Loss (Rows half rate grad mean loss)

abbrev place (t : ℕ) (ht : t < 64) (a : Fin 256) : Fin 16384 := ⟨256 * t + a, by omega⟩

theorem exists_ix2 {A B : ℕ} (y : (⟨2, ![A, B]⟩ : Shape).Idx) : ∃ (a : Fin A) (b : Fin B), y = ix2 a b :=
  ⟨y 0, y 1, funext fun p => by match p with | ⟨0, _⟩ => rfl | ⟨1, _⟩ => rfl⟩

section pay

variable (x0 x1 : FVec Ideal S256x1024 .f32)

theorem pay3_at (a : Fin 256) (j : Fin 1024) : k0_pay3 (F := Ideal) x0 x1 (ix2 a j) = ((x0 (ix2 a j) - x1 (ix2 a j)) * rate : EReal) := by
  pointwise [k0_pay3, k0_pay2]
theorem pay1_at (k : Fin 8) (j : Fin 128) : k0_pay1 (F := Ideal) (ix2 k j) = (0 : EReal) := by
  pointwise [k0_pay1]
theorem pay4_at (acc : FVec Ideal S8x128 .f32) (k : Fin 8) (j : Fin 128) : k0_pay4 (F := Ideal) x0 x1 acc (ix2 k j)
    = (acc (ix2 k j) + half * ∑ r : Fin 256, Ideal.div (∑ i : Fin 1024, (x0 (ix2 r i) - x1 (ix2 r i)) * (x0 (ix2 r i) - x1 (ix2 r i))) width : EReal) := by
  pointwise [k0_pay4, k0_pay2]

end pay

variable (m : (ℓ : Loc nD τ sig) → Buf (Elt Ideal) ℓ) (c : Dev nD)

abbrev argY : Rows := m ((c.tc : Thread nD τ).loc main_arg0)
abbrev argT : Rows := m ((c.tc : Thread nD τ).loc main_arg1)

section points

variable (t : Fin cfg0.N)

theorem left2 : (outsAt0 m c t.val t.isLt).1 = k0_pay3 (iblk m c 0 t) (iblk m c 1 t) := by
  by_cases h : t.val % 64 = 0
  · rw [outsAt0_A m c t h]; dsimp only; frame_out
  · rw [outsAt0_B m c t h]; dsimp only; frame_out
theorem left3_first (h : t.val % 64 = 0) : (outsAt0 m c t.val t.isLt).2 = k0_pay4 (iblk m c 0 t) (iblk m c 1 t) (k0_pay1 (F := Ideal)) := by
  rw [outsAt0_A m c t h]; dsimp only; frame_out
theorem left3_later (h : ¬t.val % 64 = 0) : (outsAt0 m c t.val t.isLt).2
    = k0_pay4 (iblk m c 0 t) (iblk m c 1 t) (outsAt0 m c (t.val - 1) (Nat.lt_of_le_of_lt (Nat.sub_le _ _) t.isLt)).2 := by
  rw [outsAt0_B m c t h]; dsimp only; frame_out

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)

theorem lt_64 : t.val < 64 := Nat.lt_of_lt_of_eq t.isLt N_0

theorem blk_0 (a : Fin 256) (j : Fin 1024) : iblk m c 0 t (ix2 a j) = argY m c (ix2 (place t.val (lt_64 t) a) j) := by
  blk_simp [iblk]
  refine congrArg (argY m c) ?_
  blk_ext [index_0]
theorem blk_1 (a : Fin 256) (j : Fin 1024) : iblk m c 1 t (ix2 a j) = argT m c (ix2 (place t.val (lt_64 t) a) j) := by
  blk_simp [iblk]
  refine congrArg (argT m c) ?_
  blk_ext [index_1]
theorem place_2 (a : Fin 256) (j : Fin 1024) : (win0_2.blk t).view.emb (ix2 a j) = ix2 (place t.val (lt_64 t) a) j := by
  blk_ext [index_2]

abbrev b0 : FVec Ideal S256x1024 .f32 := iblk m c 0 t
abbrev b1 : FVec Ideal S256x1024 .f32 := iblk m c 1 t

theorem diff (a : Fin 256) (j : Fin 1024) : (b0 m c t (ix2 a j) - b1 m c t (ix2 a j) : EReal)
    = argY m c (ix2 (place t.val (lt_64 t) a) j) - argT m c (ix2 (place t.val (lt_64 t) a) j) :=
  congrArg₂ (fun p q : EReal => p - q) (blk_0 m c t a j) (blk_1 m c t a j)

/-- What a point adds to the loss. -/
def add3 (_ : S8x128.Idx) : EReal := half * ∑ r : Fin 256, mean (argY m c) (argT m c) (place t.val (lt_64 t) r)

theorem pay4_add (acc : FVec Ideal S8x128 .f32) (i : S8x128.Idx) : k0_pay4 (F := Ideal) (iblk m c 0 t) (iblk m c 1 t) acc i = (acc i + add3 m c t i : EReal) := by
  obtain ⟨k, j, rfl⟩ := exists_ix2 (A := 8) (B := 128) i
  refine (pay4_at (b0 m c t) (b1 m c t) acc k j).trans ?_
  refine congrArg (fun s : EReal => acc (ix2 k j) + half * s) (Finset.sum_congr rfl fun r _ => ?_)
  refine congrArg (fun s : EReal => Ideal.div s width) (Finset.sum_congr rfl fun i _ => ?_)
  exact congrArg (fun s : EReal => s * s) (diff m c t r i)

end points

theorem final_2 : (dats m 0 c).arrAt 2 cfg0.N = grad (argY m c) (argT m c) := by
  refine (dats m 0 c).arrAt_eq_of_covers 2 _ (by decide +kernel) fun t hf y => ?_
  blk_simp
  rw [after0_2, left2]
  obtain ⟨a, j, rfl⟩ := exists_ix2 (A := 256) (B := 1024) y
  refine (pay3_at (b0 m c t) (b1 m c t) a j).trans (Eq.trans ?_ (congrArg (grad (argY m c) (argT m c)) (place_2 t a j)).symm)
  exact congrArg (fun s : EReal => s * rate) (diff m c t a j)

theorem sum3 (t : Fin cfg0.N) (ht : t.val + 1 = cfg0.N) (i : S8x128.Idx) :
    (outsAt0 m c t.val t.isLt).2 i = 0 + ∑ p : Fin cfg0.N, add3 m c p i := by
  refine Pipeline.eq_sum_fin_of_reset_step_apply_last (M := EReal) (fun n h => (outsAt0 m c n h).2) 64 (fun _ => 0) (add3 m c)
    (fun t h i => ?_) (fun t h i => ?_) (Nat.le_of_eq N_0) t ht i
  · refine (congrFun (left3_first m c t h) i).trans ((pay4_add m c t _ i).trans ?_)
    obtain ⟨k, j, rfl⟩ := exists_ix2 (A := 8) (B := 128) i
    rw [pay1_at]
  · exact (congrFun (left3_later m c t h) i).trans (pay4_add m c t _ i)

theorem final_3 : (dats m 0 c).arrAt 3 cfg0.N = loss (argY m c) (argT m c) := by
  refine (dats m 0 c).arrAt_eq_of_covers 3 _ (by decide +kernel) fun t hf y => ?_
  have ht : t.val + 1 = cfg0.N := by
    have h := (flush0_3 t).mp hf
    have h1 := lt_64 t
    have h2 : cfg0.N = 64 := N_0
    omega
  blk_simp
  rw [after0_3]
  refine (sum3 m c t ht _).trans ?_
  rw [zero_add]
  unfold add3 loss
  rw [Loss.half_sum]
  refine congrArg (half * ·) ?_
  refine Eq.trans ?_ (Fin.sum_mul_add_fin cfg0.N 256 (fun n : Fin 16384 => mean (argY m c) (argT m c) n) (by rw [show cfg0.N = 64 from N_0]))
  refine Finset.sum_congr rfl fun p _ => Finset.sum_congr rfl fun r _ => ?_
  exact congrArg (mean (argY m c) (argT m c)) (Fin.ext (congrArg (· + r.val) (Nat.mul_comm 256 p.val)))

end Cert.Kernel6Ideal.Hand

end
-- ==== Proof.LossValue.lean ====
/- Both runs end with the loss and its gradient. -/
module

public import proofs.«01_k».proof.Defs
public import proofs.«01_k».proof.Proof.LossRun
public import proofs.«01_k».proof.Proof.Gen.Reference6Ideal.Run

@[expose] public section

set_option maxRecDepth 16384

noncomputable section

namespace Cert.Reference6Ideal.Hand

open Idealize.ShloMosaic Idealize.ShloMosaic.TcCoe
open Cert.Reference6Ideal Cert.Reference6Ideal.Gen
open Cert.Loss (Rows Block grad mean loss)

def num (b : BitVec 32) : FVec Ideal S_ .f32 := constant (F := Ideal) S_ .f32 b
def grads (y t : Rows) : Rows :=
  mulf (broadcastInDim S16384x1024 ![0] bcast_S16384_S16384x1024_0 (Host.divf (broadcastInDim S16384 ![] bcast_S_S16384 (mulf (num 0x3F000000#32) (num 0x3F800000#32)))
    (broadcastInDim S16384 ![] bcast_S_S16384 (num 0x44800000#32)))) (mulf (broadcastInDim S16384x1024 ![] bcast_S_S16384x1024 (num 0x40000000#32)) (subf y t))
def losses (y t : Rows) : Block :=
  broadcastInDim S8x128 ![] bcast_S_S8x128 (mulf (num 0x3F000000#32) (Host.reduceAdd (Host.divf (Host.reduceAdd (mulf (subf y t) (subf y t)) (num 0x00000000#32)
    reducesTo_S16384x1024_S16384_d1 h_S_) (broadcastInDim S16384 ![] bcast_S_S16384 (num 0x44800000#32))) (num 0x00000000#32) reducesTo_S16384_S_d0 h_S_))

theorem grads_eq (y t : Rows) : grads y t = grad y t := by
  funext i
  obtain ⟨n, j, rfl⟩ := Kernel6Ideal.Hand.exists_ix2 (A := 16384) (B := 1024) i
  refine Eq.trans ?_ (Loss.rate_by_rule (y (ix2 n j) - t (ix2 n j)))
  pointwise [grads, num]

theorem losses_eq (y t : Rows) : losses y t = loss y t := by
  funext i
  obtain ⟨k, j, rfl⟩ := Kernel6Ideal.Hand.exists_ix2 (A := 8) (B := 128) i
  unfold loss mean
  pointwise [losses, num]

end Cert.Reference6Ideal.Hand

namespace Cert.Proof

open Idealize.ShloMosaic Idealize.SL Idealize.SL.Sem
open Cert.Loss (grad loss)
open Cert.Kernel6Ideal.Hand (argY argT)

theorem algebraic₆ : Cert.algebraic_Kernel6Ideal_Reference6Ideal := by
  intro m ρ m' ρ' _ same
  refine ⟨fun c => grad (argY m c) (argT m c), fun c => loss (argY m c) (argT m c), ?_, ?_⟩
  · refine (θ_run _ _ _).mono ?_ (θ_run_and (Kernel6Ideal.Gen.run_main m ρ) (Kernel6Ideal.Gen.frame m ρ))
    rintro r ⟨h, hf, -⟩ c
    exact ⟨((h c).1 2).trans (Kernel6Ideal.Hand.final_2 m c), ((h c).1 3).trans (Kernel6Ideal.Hand.final_3 m c), hf c⟩
  · refine (θ_run _ _ _).mono ?_ (Reference6Ideal.Value.run m' ρ')
    rintro r h c
    obtain ⟨sY, sT⟩ := same c
    obtain ⟨h1, h2, h3⟩ := h c
    rw [sY, sT] at h1 h2
    exact ⟨h1.trans (Reference6Ideal.Hand.grads_eq (argY m c) (argT m c)), h2.trans (Reference6Ideal.Hand.losses_eq (argY m c) (argT m c)), h3⟩

end Cert.Proof

end
-- ==== Proof.lean ====
/- The gradient of the stick-breaking attention, the feed-forward layer with its gradients, the products into the mixers with
   theirs, the forward attention, the convolution's gradient and the loss with its gradient: the frames, the kernels over the extended reals, and their values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Same
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Value
public import proofs.«01_k».proof.Proof.FfnValue
public import proofs.«01_k».proof.Proof.MixValue
public import proofs.«01_k».proof.Proof.FwdValue
public import proofs.«01_k».proof.Proof.ConvValue
public import proofs.«01_k».proof.Proof.LossValue

@[expose] public section

noncomputable section

namespace Cert.Proof

open Idealize.ShloMosaic Idealize.SL Idealize.SL.Sem

set_option maxHeartbeats 0 in
theorem frame_kernel : Cert.quiescent_Kernel := fun m ρ _ =>
  have key : ∀ D M, D = Cert.KernelIdeal.defs (F := Bits) → M = Cert.KernelIdeal.main (F := Bits) →
      θ_run D (onTc (τ := Cert.KernelIdeal.τ) M) ⟨m, fun _ => 0, ρ⟩ _ := by
    rintro _ _ rfl rfl
    exact Cert.KernelIdeal.Hand.frame (F := Bits) m ρ
  key Cert.Kernel.defs Cert.Kernel.main Cert.Same.defs_eq Cert.Same.main_eq

theorem frame_kernelIdeal : Cert.quiescent_KernelIdeal := fun m ρ _ => Cert.KernelIdeal.Hand.frame m ρ

theorem frame_referenceIdeal : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run m ρ)

theorem frame_reference2Ideal : Cert.quiescent_Reference2Ideal := fun m ρ _ =>
  (θ_run Cert.Reference2Ideal.defs _ _).mono (fun r h => ⟨fun c => (h c).2.2.2.2.2.2, sem_eq_zero_of_no_sems rfl r.2⟩)
    (Cert.Reference2Ideal.Value.run m ρ)

theorem frame_reference3Ideal : Cert.quiescent_Reference3Ideal := fun m ρ _ =>
  (θ_run Cert.Reference3Ideal.defs _ _).mono (fun r h => ⟨fun c => (h c).2.2.2.2.2.2.2.2.2.2.2.2, sem_eq_zero_of_no_sems rfl r.2⟩)
    (Cert.Reference3Ideal.Value.run m ρ)

theorem frame_reference4Ideal : Cert.quiescent_Reference4Ideal := fun m ρ _ =>
  (θ_run Cert.Reference4Ideal.defs _ _).mono (fun r h => ⟨fun c => (h c).2, sem_eq_zero_of_no_sems rfl r.2⟩)
    (Cert.Reference4Ideal.Value.run m ρ)

theorem frame_reference5Ideal : Cert.quiescent_Reference5Ideal := fun m ρ _ =>
  (θ_run Cert.Reference5Ideal.defs _ _).mono (fun r h => ⟨fun c => (h c).2.2.2, sem_eq_zero_of_no_sems rfl r.2⟩)
    (Cert.Reference5Ideal.Value.run m ρ)

theorem frame_reference6Ideal : Cert.quiescent_Reference6Ideal := fun m ρ _ =>
  (θ_run Cert.Reference6Ideal.defs _ _).mono (fun r h => ⟨fun c => (h c).2.2, sem_eq_zero_of_no_sems rfl r.2⟩)
    (Cert.Reference6Ideal.Value.run m ρ)

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, Cert.Stick.preFacts, Cert.Stick.preFactsScores,
   frame_kernel, frame_kernelIdeal, fun m ρ _ => Cert.KernelIdeal.Hand.frame m ρ,
   frame_referenceIdeal, fun m ρ _ => frame_referenceIdeal m ρ trivial,
   fun m ρ _ => Cert.Kernel2.Gen.frame m ρ, fun m ρ _ => Cert.Kernel2Ideal.Gen.frame m ρ, frame_reference2Ideal,
   fun m ρ _ => Cert.Kernel3.Gen.frame m ρ, fun m ρ _ => Cert.Kernel3Ideal.Gen.frame m ρ, frame_reference3Ideal,
   fun m ρ _ => Cert.Kernel4.Gen.frame m ρ, fun m ρ _ => Cert.Kernel4Ideal.Gen.frame m ρ, fun m ρ _ => Cert.Kernel4Ideal.Gen.frame m ρ,
   frame_reference4Ideal, fun m ρ _ => frame_reference4Ideal m ρ trivial,
   fun m ρ _ => Cert.Kernel5.Gen.frame m ρ, fun m ρ _ => Cert.Kernel5Ideal.Gen.frame m ρ, frame_reference5Ideal,
   fun m ρ _ => Cert.Kernel6.Gen.frame m ρ, fun m ρ _ => Cert.Kernel6Ideal.Gen.frame m ρ, frame_reference6Ideal,
   trivial, letI := Cert.Stick.preFacts; algebraic, trivial, algebraic₂, trivial, algebraic₃,
   trivial, letI := Cert.Stick.preFactsScores; algebraic₄, trivial, algebraic₅, trivial, algebraic₆⟩

end Cert.Proof

end
